-- ==== Defs.lean ====
def Pre_Up [hPre_up_routed : Cert.Pre_up_routed.Facts] (m : (ℓ : Loc Cert.Up.nD Cert.Up.τ Cert.Up.sig) → Buf (Elt Bits) ℓ) : Prop :=
  ∀ c : Dev Cert.Up.nD,
    (Cert.Pre_up_routed.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_routed : Cert.Pre_up_routed.Facts] (m : (ℓ : Loc Cert.UpIdeal.nD Cert.UpIdeal.τ Cert.UpIdeal.sig) → Buf (Elt Ideal) ℓ) : Prop :=
  ∀ c : Dev Cert.UpIdeal.nD,
    (Cert.Pre_up_routed.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_routed [hPre_up_routed : Cert.Pre_up_routed.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_routed.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_down_routed : Cert.Pre_down_routed.Facts] (m : (ℓ : Loc Cert.Down.nD Cert.Down.τ Cert.Down.sig) → Buf (Elt Bits) ℓ) : Prop :=
  ∀ c : Dev Cert.Down.nD,
    (Cert.Pre_down_routed.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_routed : Cert.Pre_down_routed.Facts] (m : (ℓ : Loc Cert.DownIdeal.nD Cert.DownIdeal.τ Cert.DownIdeal.sig) → Buf (Elt Ideal) ℓ) : Prop :=
  ∀ c : Dev Cert.DownIdeal.nD,
    (Cert.Pre_down_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_routed [hPre_down_routed : Cert.Pre_down_routed.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_routed.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutRefIdeal (m : (ℓ : Loc Cert.GmlpOutRefIdeal.nD Cert.GmlpOutRefIdeal.τ Cert.GmlpOutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormRefIdeal (m : (ℓ : Loc Cert.KvNormRefIdeal.nD Cert.KvNormRefIdeal.τ Cert.KvNormRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def quiescent_Up [hUp : Cert.Up.Facts] [hPre_up_routed : Cert.Pre_up_routed.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_routed : Cert.Pre_up_routed.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_routed [hUpRefIdeal : Cert.UpRefIdeal.Facts] [hPre_up_routed : Cert.Pre_up_routed.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_routed m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_down_routed : Cert.Pre_down_routed.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_routed : Cert.Pre_down_routed.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_down_routed [hDownRefIdeal : Cert.DownRefIdeal.Facts] [hPre_down_routed : Cert.Pre_down_routed.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_routed m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1)
      ∧ r.2.mem ((c.tc : Thread Cert.GmlpInRefIdeal.nD Cert.GmlpInRefIdeal.τ).loc Cert.GmlpInRefIdeal.main_arg2) = m ((c.tc : Thread Cert.GmlpInRefIdeal.nD Cert.GmlpInRefIdeal.τ).loc Cert.GmlpInRefIdeal.main_arg2))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1))
      ∧ r.2.sem = fun _ => 0)

def quiescent_GmlpOutRefIdeal [hGmlpOutRefIdeal : Cert.GmlpOutRefIdeal.Facts] : Prop :=
  ∀ (m : (ℓ : Loc Cert.GmlpOutRefIdeal.nD Cert.GmlpOutRefIdeal.τ Cert.GmlpOutRefIdeal.sig) → Buf (Elt Ideal) ℓ) (g : Dev Cert.GmlpOutRefIdeal.nD → PrngReg), Pre_GmlpOutRefIdeal m →
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1)
      ∧ r.2.mem ((c.tc : Thread Cert.KvNorm.nD Cert.KvNorm.τ).loc Cert.KvNorm.main_arg2) = m ((c.tc : Thread Cert.KvNorm.nD Cert.KvNorm.τ).loc Cert.KvNorm.main_arg2)
      ∧ r.2.mem ((c.tc : Thread Cert.KvNorm.nD Cert.KvNorm.τ).loc Cert.KvNorm.main_arg3) = m ((c.tc : Thread Cert.KvNorm.nD Cert.KvNorm.τ).loc Cert.KvNorm.main_arg3))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
      ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
      ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1)
      ∧ r.2.mem ((c.tc : Thread Cert.KvNormRefIdeal.nD Cert.KvNormRefIdeal.τ).loc Cert.KvNormRefIdeal.main_arg2) = m ((c.tc : Thread Cert.KvNormRefIdeal.nD Cert.KvNormRefIdeal.τ).loc Cert.KvNormRefIdeal.main_arg2)
      ∧ r.2.mem ((c.tc : Thread Cert.KvNormRefIdeal.nD Cert.KvNormRefIdeal.τ).loc Cert.KvNormRefIdeal.main_arg3) = m ((c.tc : Thread Cert.KvNormRefIdeal.nD Cert.KvNormRefIdeal.τ).loc Cert.KvNormRefIdeal.main_arg3))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4)
      ∧ r.2.mem ((c.tc : Thread Cert.FfnNorm.nD Cert.FfnNorm.τ).loc Cert.FfnNorm.main_arg5) = m ((c.tc : Thread Cert.FfnNorm.nD Cert.FfnNorm.τ).loc Cert.FfnNorm.main_arg5)
      ∧ r.2.mem ((c.tc : Thread Cert.FfnNorm.nD Cert.FfnNorm.τ).loc Cert.FfnNorm.main_arg6) = m ((c.tc : Thread Cert.FfnNorm.nD Cert.FfnNorm.τ).loc Cert.FfnNorm.main_arg6))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
      ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
      ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4)
      ∧ r.2.mem ((c.tc : Thread Cert.FfnNormRefIdeal.nD Cert.FfnNormRefIdeal.τ).loc Cert.FfnNormRefIdeal.main_arg5) = m ((c.tc : Thread Cert.FfnNormRefIdeal.nD Cert.FfnNormRefIdeal.τ).loc Cert.FfnNormRefIdeal.main_arg5)
      ∧ r.2.mem ((c.tc : Thread Cert.FfnNormRefIdeal.nD Cert.FfnNormRefIdeal.τ).loc Cert.FfnNormRefIdeal.main_arg6) = m ((c.tc : Thread Cert.FfnNormRefIdeal.nD Cert.FfnNormRefIdeal.τ).loc Cert.FfnNormRefIdeal.main_arg6))
      ∧ r.2.sem = fun _ => 0)

def preserves_Up_UpIdeal : Prop :=
  True

def algebraic_UpIdeal_UpRefIdeal [hUpIdeal : Cert.UpIdeal.Facts] [hUpRefIdeal : Cert.UpRefIdeal.Facts] [hPre_up_routed : Cert.Pre_up_routed.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v12)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v12) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v31) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_down_routed : Cert.Pre_down_routed.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v12)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v12) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v20) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_GmlpIn_GmlpInIdeal : Prop :=
  True

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)
      ∧ m' ((c.tc : Thread Cert.GmlpInRefIdeal.nD Cert.GmlpInRefIdeal.τ).loc Cert.GmlpInRefIdeal.main_arg2) = m ((c.tc : Thread Cert.GmlpInIdeal.nD Cert.GmlpInIdeal.τ).loc Cert.GmlpInIdeal.main_arg2)) →
    ∃ (v0 : (c : Dev Cert.GmlpInIdeal.nD) → Buf (Elt Ideal) ((c.tc : Thread Cert.GmlpInIdeal.nD Cert.GmlpInIdeal.τ).loc Cert.GmlpInIdeal.main_v3)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v3) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v19) = v0 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1)
          ∧ r.2.mem ((c.tc : Thread Cert.GmlpInRefIdeal.nD Cert.GmlpInRefIdeal.τ).loc Cert.GmlpInRefIdeal.main_arg2) = m' ((c.tc : Thread Cert.GmlpInRefIdeal.nD Cert.GmlpInRefIdeal.τ).loc Cert.GmlpInRefIdeal.main_arg2))

def preserves_GmlpOut_GmlpOutIdeal : Prop :=
  True

def algebraic_GmlpOutIdeal_GmlpOutRefIdeal [hGmlpOutIdeal : Cert.GmlpOutIdeal.Facts] [hGmlpOutRefIdeal : Cert.GmlpOutRefIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutRefIdeal.nD Cert.GmlpOutRefIdeal.τ Cert.GmlpOutRefIdeal.sig) → Buf (Elt Ideal) ℓ) (g' : Dev Cert.GmlpOutRefIdeal.nD → PrngReg), Pre_GmlpOutIdeal m →
    (∀ c : Dev Cert.GmlpOutIdeal.nD,
      m' ((c.tc : Thread Cert.GmlpOutRefIdeal.nD Cert.GmlpOutRefIdeal.τ).loc Cert.GmlpOutRefIdeal.main_arg0) = m ((c.tc : Thread Cert.GmlpOutIdeal.nD Cert.GmlpOutIdeal.τ).loc Cert.GmlpOutIdeal.main_arg0)
      ∧ m' ((c.tc : Thread Cert.GmlpOutRefIdeal.nD Cert.GmlpOutRefIdeal.τ).loc Cert.GmlpOutRefIdeal.main_arg1) = m ((c.tc : Thread Cert.GmlpOutIdeal.nD Cert.GmlpOutIdeal.τ).loc Cert.GmlpOutIdeal.main_arg1)) →
    ∃ (v0 : (c : Dev Cert.GmlpOutIdeal.nD) → Buf (Elt Ideal) ((c.tc : Thread Cert.GmlpOutIdeal.nD Cert.GmlpOutIdeal.τ).loc Cert.GmlpOutIdeal.main_v2)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v2) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1))
      ∧ θ_run (Cert.GmlpOutRefIdeal.defs (F := Ideal)) (onTc (τ := Cert.GmlpOutRefIdeal.τ) (Cert.GmlpOutRefIdeal.main (F := Ideal))) ⟨m', fun _ => 0, g'⟩ (fun r => ∀ c : Dev Cert.GmlpOutRefIdeal.nD,
          r.2.mem ((c.tc : Thread Cert.GmlpOutRefIdeal.nD Cert.GmlpOutRefIdeal.τ).loc Cert.GmlpOutRefIdeal.main_v2) = v0 c
          ∧ r.2.mem ((c.tc : Thread Cert.GmlpOutRefIdeal.nD Cert.GmlpOutRefIdeal.τ).loc Cert.GmlpOutRefIdeal.main_arg0) = m' ((c.tc : Thread Cert.GmlpOutRefIdeal.nD Cert.GmlpOutRefIdeal.τ).loc Cert.GmlpOutRefIdeal.main_arg0)
          ∧ r.2.mem ((c.tc : Thread Cert.GmlpOutRefIdeal.nD Cert.GmlpOutRefIdeal.τ).loc Cert.GmlpOutRefIdeal.main_arg1) = m' ((c.tc : Thread Cert.GmlpOutRefIdeal.nD Cert.GmlpOutRefIdeal.τ).loc Cert.GmlpOutRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v5) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v20) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v34_0)) (v1 : (c : Dev Cert.SguIdeal.nD) → Buf (Elt Ideal) ((c.tc : Thread Cert.SguIdeal.nD Cert.SguIdeal.τ).loc Cert.SguIdeal.main_v34_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v34_0) = v0 c
          ∧ r.2.mem ((c.tc : Thread Cert.SguIdeal.nD Cert.SguIdeal.τ).loc Cert.SguIdeal.main_v34_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v55) = v0 c
          ∧ r.2.mem ((c.tc : Thread Cert.SguRefIdeal.nD Cert.SguRefIdeal.τ).loc Cert.SguRefIdeal.main_v25) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v5)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v5) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v2) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_KvNorm_KvNormIdeal : Prop :=
  True

def algebraic_KvNormIdeal_KvNormRefIdeal [hKvNormIdeal : Cert.KvNormIdeal.Facts] [hKvNormRefIdeal : Cert.KvNormRefIdeal.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)
      ∧ m' ((c.tc : Thread Cert.KvNormRefIdeal.nD Cert.KvNormRefIdeal.τ).loc Cert.KvNormRefIdeal.main_arg2) = m ((c.tc : Thread Cert.KvNormIdeal.nD Cert.KvNormIdeal.τ).loc Cert.KvNormIdeal.main_arg2)
      ∧ m' ((c.tc : Thread Cert.KvNormRefIdeal.nD Cert.KvNormRefIdeal.τ).loc Cert.KvNormRefIdeal.main_arg3) = m ((c.tc : Thread Cert.KvNormIdeal.nD Cert.KvNormIdeal.τ).loc Cert.KvNormIdeal.main_arg3)) →
    ∃ (v0 : (c : Dev Cert.KvNormIdeal.nD) → Buf (Elt Ideal) ((c.tc : Thread Cert.KvNormIdeal.nD Cert.KvNormIdeal.τ).loc Cert.KvNormIdeal.main_v3)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v3) = v0 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1)
          ∧ r.2.mem ((c.tc : Thread Cert.KvNormIdeal.nD Cert.KvNormIdeal.τ).loc Cert.KvNormIdeal.main_arg2) = m ((c.tc : Thread Cert.KvNormIdeal.nD Cert.KvNormIdeal.τ).loc Cert.KvNormIdeal.main_arg2)
          ∧ r.2.mem ((c.tc : Thread Cert.KvNormIdeal.nD Cert.KvNormIdeal.τ).loc Cert.KvNormIdeal.main_arg3) = m ((c.tc : Thread Cert.KvNormIdeal.nD Cert.KvNormIdeal.τ).loc Cert.KvNormIdeal.main_arg3))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v27) = v0 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1)
          ∧ r.2.mem ((c.tc : Thread Cert.KvNormRefIdeal.nD Cert.KvNormRefIdeal.τ).loc Cert.KvNormRefIdeal.main_arg2) = m' ((c.tc : Thread Cert.KvNormRefIdeal.nD Cert.KvNormRefIdeal.τ).loc Cert.KvNormRefIdeal.main_arg2)
          ∧ r.2.mem ((c.tc : Thread Cert.KvNormRefIdeal.nD Cert.KvNormRefIdeal.τ).loc Cert.KvNormRefIdeal.main_arg3) = m' ((c.tc : Thread Cert.KvNormRefIdeal.nD Cert.KvNormRefIdeal.τ).loc Cert.KvNormRefIdeal.main_arg3))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)
      ∧ m' ((c.tc : Thread Cert.FfnNormRefIdeal.nD Cert.FfnNormRefIdeal.τ).loc Cert.FfnNormRefIdeal.main_arg5) = m ((c.tc : Thread Cert.FfnNormIdeal.nD Cert.FfnNormIdeal.τ).loc Cert.FfnNormIdeal.main_arg5)
      ∧ m' ((c.tc : Thread Cert.FfnNormRefIdeal.nD Cert.FfnNormRefIdeal.τ).loc Cert.FfnNormRefIdeal.main_arg6) = m ((c.tc : Thread Cert.FfnNormIdeal.nD Cert.FfnNormIdeal.τ).loc Cert.FfnNormIdeal.main_arg6)) →
    ∃ (v0 : (c : Dev Cert.FfnNormIdeal.nD) → Buf (Elt Ideal) ((c.tc : Thread Cert.FfnNormIdeal.nD Cert.FfnNormIdeal.τ).loc Cert.FfnNormIdeal.main_v4_0)) (v1 : (c : Dev Cert.FfnNormIdeal.nD) → Buf (Elt Ideal) ((c.tc : Thread Cert.FfnNormIdeal.nD Cert.FfnNormIdeal.τ).loc Cert.FfnNormIdeal.main_v4_1)) (v2 : (c : Dev Cert.FfnNormIdeal.nD) → Buf (Elt Ideal) ((c.tc : Thread Cert.FfnNormIdeal.nD Cert.FfnNormIdeal.τ).loc Cert.FfnNormIdeal.main_v4_2)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v4_0) = v0 c
          ∧ r.2.mem ((c.tc : Thread Cert.FfnNormIdeal.nD Cert.FfnNormIdeal.τ).loc Cert.FfnNormIdeal.main_v4_1) = v1 c
          ∧ r.2.mem ((c.tc : Thread Cert.FfnNormIdeal.nD Cert.FfnNormIdeal.τ).loc Cert.FfnNormIdeal.main_v4_2) = v2 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
          ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5)
          ∧ r.2.mem ((c.tc : Thread Cert.FfnNormIdeal.nD Cert.FfnNormIdeal.τ).loc Cert.FfnNormIdeal.main_arg6) = m ((c.tc : Thread Cert.FfnNormIdeal.nD Cert.FfnNormIdeal.τ).loc Cert.FfnNormIdeal.main_arg6))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v16) = v0 c
          ∧ r.2.mem ((c.tc : Thread Cert.FfnNormRefIdeal.nD Cert.FfnNormRefIdeal.τ).loc Cert.FfnNormRefIdeal.main_v34) = v1 c
          ∧ r.2.mem ((c.tc : Thread Cert.FfnNormRefIdeal.nD Cert.FfnNormRefIdeal.τ).loc Cert.FfnNormRefIdeal.main_v35) = v2 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4)
          ∧ r.2.mem ((c.tc : Thread Cert.FfnNormRefIdeal.nD Cert.FfnNormRefIdeal.τ).loc Cert.FfnNormRefIdeal.main_arg5) = m' ((c.tc : Thread Cert.FfnNormRefIdeal.nD Cert.FfnNormRefIdeal.τ).loc Cert.FfnNormRefIdeal.main_arg5)
          ∧ r.2.mem ((c.tc : Thread Cert.FfnNormRefIdeal.nD Cert.FfnNormRefIdeal.τ).loc Cert.FfnNormRefIdeal.main_arg6) = m' ((c.tc : Thread Cert.FfnNormRefIdeal.nD Cert.FfnNormRefIdeal.τ).loc Cert.FfnNormRefIdeal.main_arg6))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGmlpIn : Cert.GmlpIn.Facts) (hGmlpInIdeal : Cert.GmlpInIdeal.Facts) (hGmlpInRefIdeal : Cert.GmlpInRefIdeal.Facts) (hGmlpOut : Cert.GmlpOut.Facts) (hGmlpOutIdeal : Cert.GmlpOutIdeal.Facts) (hGmlpOutRefIdeal : Cert.GmlpOutRefIdeal.Facts) (hKv : Cert.Kv.Facts) (hKvIdeal : Cert.KvIdeal.Facts) (hKvRefIdeal : Cert.KvRefIdeal.Facts) (hFinal : Cert.Final.Facts) (hFinalIdeal : Cert.FinalIdeal.Facts) (hFinalRefIdeal : Cert.FinalRefIdeal.Facts) (hSgu : Cert.Sgu.Facts) (hSguIdeal : Cert.SguIdeal.Facts) (hSguRefIdeal : Cert.SguRefIdeal.Facts) (hQuery : Cert.Query.Facts) (hQueryIdeal : Cert.QueryIdeal.Facts) (hQueryRefIdeal : Cert.QueryRefIdeal.Facts) (hAttnOut : Cert.AttnOut.Facts) (hAttnOutIdeal : Cert.AttnOutIdeal.Facts) (hAttnOutRefIdeal : Cert.AttnOutRefIdeal.Facts) (hKvNorm : Cert.KvNorm.Facts) (hKvNormIdeal : Cert.KvNormIdeal.Facts) (hKvNormRefIdeal : Cert.KvNormRefIdeal.Facts) (hFfnNorm : Cert.FfnNorm.Facts) (hFfnNormIdeal : Cert.FfnNormIdeal.Facts) (hFfnNormRefIdeal : Cert.FfnNormRefIdeal.Facts) (hPre_up_routed : Cert.Pre_up_routed.Facts) (hPre_down_routed : Cert.Pre_down_routed.Facts),
    quiescent_Up (hUp := hUp) (hPre_up_routed := hPre_up_routed)
    ∧ quiescent_UpIdeal (hUpIdeal := hUpIdeal) (hPre_up_routed := hPre_up_routed)
    ∧ quiescent_UpRefIdeal (hUpRefIdeal := hUpRefIdeal)
    ∧ quiescent_UpRefIdeal_pre_up_routed (hUpRefIdeal := hUpRefIdeal) (hPre_up_routed := hPre_up_routed)
    ∧ quiescent_Down (hDown := hDown) (hPre_down_routed := hPre_down_routed)
    ∧ quiescent_DownIdeal (hDownIdeal := hDownIdeal) (hPre_down_routed := hPre_down_routed)
    ∧ quiescent_DownRefIdeal (hDownRefIdeal := hDownRefIdeal)
    ∧ quiescent_DownRefIdeal_pre_down_routed (hDownRefIdeal := hDownRefIdeal) (hPre_down_routed := hPre_down_routed)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_GmlpOut (hGmlpOut := hGmlpOut)
    ∧ quiescent_GmlpOutIdeal (hGmlpOutIdeal := hGmlpOutIdeal)
    ∧ quiescent_GmlpOutRefIdeal (hGmlpOutRefIdeal := hGmlpOutRefIdeal)
    ∧ quiescent_Kv (hKv := hKv)
    ∧ quiescent_KvIdeal (hKvIdeal := hKvIdeal)
    ∧ quiescent_KvRefIdeal (hKvRefIdeal := hKvRefIdeal)
    ∧ quiescent_Final (hFinal := hFinal)
    ∧ quiescent_FinalIdeal (hFinalIdeal := hFinalIdeal)
    ∧ quiescent_FinalRefIdeal (hFinalRefIdeal := hFinalRefIdeal)
    ∧ quiescent_Sgu (hSgu := hSgu)
    ∧ quiescent_SguIdeal (hSguIdeal := hSguIdeal)
    ∧ quiescent_SguRefIdeal (hSguRefIdeal := hSguRefIdeal)
    ∧ quiescent_Query (hQuery := hQuery)
    ∧ quiescent_QueryIdeal (hQueryIdeal := hQueryIdeal)
    ∧ quiescent_QueryRefIdeal (hQueryRefIdeal := hQueryRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_KvNorm (hKvNorm := hKvNorm)
    ∧ quiescent_KvNormIdeal (hKvNormIdeal := hKvNormIdeal)
    ∧ quiescent_KvNormRefIdeal (hKvNormRefIdeal := hKvNormRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ preserves_Up_UpIdeal
    ∧ algebraic_UpIdeal_UpRefIdeal (hUpIdeal := hUpIdeal) (hUpRefIdeal := hUpRefIdeal) (hPre_up_routed := hPre_up_routed)
    ∧ preserves_Down_DownIdeal
    ∧ algebraic_DownIdeal_DownRefIdeal (hDownIdeal := hDownIdeal) (hDownRefIdeal := hDownRefIdeal) (hPre_down_routed := hPre_down_routed)
    ∧ preserves_GmlpIn_GmlpInIdeal
    ∧ algebraic_GmlpInIdeal_GmlpInRefIdeal (hGmlpInIdeal := hGmlpInIdeal) (hGmlpInRefIdeal := hGmlpInRefIdeal)
    ∧ preserves_GmlpOut_GmlpOutIdeal
    ∧ algebraic_GmlpOutIdeal_GmlpOutRefIdeal (hGmlpOutIdeal := hGmlpOutIdeal) (hGmlpOutRefIdeal := hGmlpOutRefIdeal)
    ∧ preserves_Kv_KvIdeal
    ∧ algebraic_KvIdeal_KvRefIdeal (hKvIdeal := hKvIdeal) (hKvRefIdeal := hKvRefIdeal)
    ∧ preserves_Final_FinalIdeal
    ∧ algebraic_FinalIdeal_FinalRefIdeal (hFinalIdeal := hFinalIdeal) (hFinalRefIdeal := hFinalRefIdeal)
    ∧ preserves_Sgu_SguIdeal
    ∧ algebraic_SguIdeal_SguRefIdeal (hSguIdeal := hSguIdeal) (hSguRefIdeal := hSguRefIdeal)
    ∧ preserves_Query_QueryIdeal
    ∧ algebraic_QueryIdeal_QueryRefIdeal (hQueryIdeal := hQueryIdeal) (hQueryRefIdeal := hQueryRefIdeal)
    ∧ preserves_AttnOut_AttnOutIdeal
    ∧ algebraic_AttnOutIdeal_AttnOutRefIdeal (hAttnOutIdeal := hAttnOutIdeal) (hAttnOutRefIdeal := hAttnOutRefIdeal)
    ∧ preserves_KvNorm_KvNormIdeal
    ∧ algebraic_KvNormIdeal_KvNormRefIdeal (hKvNormIdeal := hKvNormIdeal) (hKvNormRefIdeal := hKvNormRefIdeal)
    ∧ preserves_FfnNorm_FfnNormIdeal
    ∧ algebraic_FfnNormIdeal_FfnNormRefIdeal (hFfnNormIdeal := hFfnNormIdeal) (hFfnNormRefIdeal := hFfnNormRefIdeal)
-- ==== Pre_down_routed.lean ====
abbrev S98304x1024 : Shape := ⟨2, ![98304, 1024]⟩
abbrev S98304x1 : Shape := ⟨2, ![98304, 1]⟩
abbrev S192 : Shape := ⟨1, ![192]⟩
abbrev S1 : Shape := ⟨1, ![1]⟩
abbrev S2x64x1024x4096 : Shape := ⟨4, ![2, 64, 1024, 4096]⟩
abbrev S_ : Shape := ⟨0, ![]⟩

class Facts : Prop where
  bcast_S_S192 : S_.BroadcastsInDim S192 (![] : Fin 0 → Fin S192.rank)
  bcast_S_S1 : S_.BroadcastsInDim S1 (![] : Fin 0 → Fin S1.rank)
  bcast_S1_S192_0 : S1.BroadcastsInDim S192 (![0] : Fin 1 → Fin S192.rank)

variable [Facts]

def fn {F : FTy → Type} [FloatOps F] (main_arg0 : FVec F S98304x1024 .bf16) (main_arg1 : FVec F S98304x1 .f32) (main_arg2 : IVec S192 32) (main_arg3 : IVec S1 32) (main_arg4 : FVec F S2x64x1024x4096 .f32) : IVec S192 1 :=
  let main_c : IVec S_ 32 := constantI S_ 32 0#32
  let main_v0 : IVec S192 32 := broadcastInDim S192 ![] bcast_S_S192 main_c
  let main_v1 : IVec S192 1 := cmpi .sge main_arg2 main_v0
  let main_c_0 : IVec S_ 32 := constantI S_ 32 64#32
  let main_v2 : IVec S192 32 := broadcastInDim S192 ![] bcast_S_S192 main_c_0
  let main_v3 : IVec S192 1 := cmpi .slt main_arg2 main_v2
  let main_v4 : IVec S192 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_v7 : IVec S192 1 := broadcastInDim S192 ![0] bcast_S1_S192_0 main_v6
  let main_v8 : IVec S192 1 := andi main_v4 main_v7
  let main_c_2 : IVec S_ 32 := constantI S_ 32 192#32
  let main_v9 : IVec S1 32 := broadcastInDim S1 ![] bcast_S_S1 main_c_2
  let main_v10 : IVec S1 1 := cmpi .sle main_arg3 main_v9
  let main_v11 : IVec S192 1 := broadcastInDim S192 ![0] bcast_S1_S192_0 main_v10
  let main_v12 : IVec S192 1 := andi main_v8 main_v11
  main_v12
-- ==== Pre_up_routed.lean ====
abbrev S98304x4096 : Shape := ⟨2, ![98304, 4096]⟩
abbrev S192 : Shape := ⟨1, ![192]⟩
abbrev S1 : Shape := ⟨1, ![1]⟩
abbrev S2x64x4096x1024 : Shape := ⟨4, ![2, 64, 4096, 1024]⟩
abbrev S_ : Shape := ⟨0, ![]⟩

class Facts : Prop where
  bcast_S_S192 : S_.BroadcastsInDim S192 (![] : Fin 0 → Fin S192.rank)
  bcast_S_S1 : S_.BroadcastsInDim S1 (![] : Fin 0 → Fin S1.rank)
  bcast_S1_S192_0 : S1.BroadcastsInDim S192 (![0] : Fin 1 → Fin S192.rank)

variable [Facts]

def fn {F : FTy → Type} [FloatOps F] (main_arg0 : FVec F S98304x4096 .bf16) (main_arg1 : IVec S192 32) (main_arg2 : IVec S1 32) (main_arg3 : FVec F S2x64x4096x1024 .f32) (main_arg4 : FVec F S2x64x4096x1024 .f32) : IVec S192 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 32 := constantI S_ 32 64#32
  let main_v2 : IVec S192 32 := broadcastInDim S192 ![] bcast_S_S192 main_c_0
  let main_v3 : IVec S192 1 := cmpi .slt main_arg1 main_v2
  let main_v4 : IVec S192 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S192 1 := broadcastInDim S192 ![0] bcast_S1_S192_0 main_v6
  let main_v8 : IVec S192 1 := andi main_v4 main_v7
  let main_c_2 : IVec S_ 32 := constantI S_ 32 192#32
  let main_v9 : IVec S1 32 := broadcastInDim S1 ![] bcast_S_S1 main_c_2
  let main_v10 : IVec S1 1 := cmpi .sle main_arg2 main_v9
  let main_v11 : IVec S192 1 := broadcastInDim S192 ![0] bcast_S1_S192_0 main_v10
  let main_v12 : IVec S192 1 := andi main_v8 main_v11
  main_v12
-- ==== Up.lean ====
abbrev S98304x4096 : Shape := ⟨2, ![98304, 4096]⟩
abbrev S192 : Shape := ⟨1, ![192]⟩
abbrev S1 : Shape := ⟨1, ![1]⟩
abbrev S2x64x4096x1024 : Shape := ⟨4, ![2, 64, 4096, 1024]⟩
abbrev S_ : Shape := ⟨0, ![]⟩
abbrev S192x1 : Shape := ⟨2, ![192, 1]⟩
abbrev S98304x1024 : Shape := ⟨2, ![98304, 1024]⟩
abbrev S512x4096 : Shape := ⟨2, ![512, 4096]⟩
abbrev S1x1x4096x256 : Shape := ⟨4, ![1, 1, 4096, 256]⟩
abbrev S512x256 : Shape := ⟨2, ![512, 256]⟩
abbrev S2x4096x256 : Shape := ⟨3, ![2, 4096, 256]⟩
abbrev S4096x256 : Shape := ⟨2, ![4096, 256]⟩
abbrev S1x4096x256 : Shape := ⟨3, ![1, 4096, 256]⟩

abbrev nBuf : Space → Nat
  | .hbm => 19
  | .vmem => 9
  | .smem => 2
  | _ => 0

abbrev bufTy : (tb : Table) → Fin (tcTables nBuf tb) → BufTy
  | .hbm, ⟨0, _⟩ => ⟨S98304x4096, .bf16⟩
  | .hbm, ⟨1, _⟩ => ⟨S192, .i32⟩
  | .hbm, ⟨2, _⟩ => ⟨S2x64x4096x1024, .f32⟩
  | .hbm, ⟨3, _⟩ => ⟨S2x64x4096x1024, .f32⟩
  | .hbm, ⟨4, _⟩ => ⟨S192, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S192, .i32⟩
  | .hbm, ⟨9, _⟩ => ⟨S192, .i32⟩
  | .hbm, ⟨10, _⟩ => ⟨S_, .i32⟩
  | .hbm, ⟨11, _⟩ => ⟨S192, .i32⟩
  | .hbm, ⟨12, _⟩ => ⟨S192, .i1⟩
  | .hbm, ⟨13, _⟩ => ⟨S_, .i32⟩
  | .hbm, ⟨14, _⟩ => ⟨S192, .i32⟩
  | .hbm, ⟨15, _⟩ => ⟨S192, .i32⟩
  | .hbm, ⟨16, _⟩ => ⟨S192, .i32⟩
  | .hbm, ⟨17, _⟩ => ⟨S192x1, .i32⟩
  | .hbm, ⟨18, _⟩ => ⟨S98304x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S512x256, .bf16⟩
  | .local _ .vmem, ⟨7, _⟩ => ⟨S512x256, .bf16⟩
  | .local _ .vmem, ⟨8, _⟩ => ⟨S2x4096x256, .bf16⟩
  | .local _ .smem, ⟨0, _⟩ => ⟨S192, .i32⟩
  | .local _ .smem, ⟨1, _⟩ => ⟨S1, .i32⟩
  | _, _ => ⟨S98304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 192], ![false, false]⟩

abbrev pre0 : Pipeline.Prefetch sig := ⟨2, ![main_v11.idx, main_arg2.idx], fun | 0 => main_v11.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S98304x4096 : Shape := ⟨2, ![98304, 4096]⟩
abbrev S192 : Shape := ⟨1, ![192]⟩
abbrev S1 : Shape := ⟨1, ![1]⟩
abbrev S2x64x4096x1024 : Shape := ⟨4, ![2, 64, 4096, 1024]⟩
abbrev S192x512x4096 : Shape := ⟨3, ![192, 512, 4096]⟩
abbrev S1x64x4096x1024 : Shape := ⟨4, ![1, 64, 4096, 1024]⟩
abbrev S64x4096x1024 : Shape := ⟨3, ![64, 4096, 1024]⟩
abbrev S_ : Shape := ⟨0, ![]⟩
abbrev S192x1 : Shape := ⟨2, ![192, 1]⟩
abbrev S192x4096x1024 : Shape := ⟨3, ![192, 4096, 1024]⟩
abbrev S192x512x1024 : Shape := ⟨3, ![192, 512, 1024]⟩
abbrev S192x1x1 : Shape := ⟨3, ![192, 1, 1]⟩
abbrev S98304x1024 : Shape := ⟨2, ![98304, 1024]⟩

abbrev nBuf : Space → Nat
  | .hbm => 53
  | .vmem => 0
  | .smem => 0
  | _ => 0

abbrev bufTy : (tb : Table) → Fin (tcTables nBuf tb) → BufTy
  | .hbm, ⟨0, _⟩ => ⟨S98304x4096, .bf16⟩
  | .hbm, ⟨1, _⟩ => ⟨S192, .i32⟩
  | .hbm, ⟨2, _⟩ => ⟨S1, .i32⟩
  | .hbm, ⟨3, _⟩ => ⟨S2x64x4096x1024, .f32⟩
  | .hbm, ⟨4, _⟩ => ⟨S2x64x4096x1024, .f32⟩
  | .hbm, ⟨5, _⟩ => ⟨S98304x4096, .f32⟩
  | .hbm, ⟨6, _⟩ => ⟨S192x512x4096, .f32⟩
  | .hbm, ⟨7, _⟩ => ⟨S1x64x4096x1024, .f32⟩
  | .hbm, ⟨8, _⟩ => ⟨S64x4096x1024, .f32⟩
  | .hbm, ⟨9, _⟩ => ⟨S_, .i32⟩
  | .hbm, ⟨10, _⟩ => ⟨S192, .i32⟩
  | .hbm, ⟨11, _⟩ => ⟨S192, .i1⟩
  | .hbm, ⟨12, _⟩ => ⟨S_, .i32⟩
  | .hbm, ⟨13, _⟩ => ⟨S192, .i32⟩
  | .hbm, ⟨14, _⟩ => ⟨S192, .i32⟩
  | .hbm, ⟨15, _⟩ => ⟨S192, .i32⟩
  | .hbm, ⟨16, _⟩ => ⟨S192x1, .i32⟩
  | .hbm, ⟨17, _⟩ => ⟨S192x4096x1024, .f32⟩
  | .hbm, ⟨18, _⟩ => ⟨S192x512x1024, .f32⟩
  | .hbm, ⟨19, _⟩ => ⟨S192x512x1024, .f32⟩
  | .hbm, ⟨20, _⟩ => ⟨S192x512x1024, .f32⟩
  | .hbm, ⟨21, _⟩ => ⟨S_, .f32⟩
  | .hbm, ⟨22, _⟩ => ⟨S192x512x1024, .f32⟩
  | .hbm, ⟨23, _⟩ => ⟨S192x512x1024, .f32⟩
  | .hbm, ⟨24, _⟩ => ⟨S_, .f32⟩
  | .hbm, ⟨25, _⟩ => ⟨S192x512x1024, .f32⟩
  | .hbm, ⟨26, _⟩ => ⟨S192x512x1024, .f32⟩
  | .hbm, ⟨27, _⟩ => ⟨S192x512x1024, .f32⟩
  | .hbm, ⟨28, _⟩ => ⟨S1x64x4096x1024, .f32⟩
  | .hbm, ⟨29, _⟩ => ⟨S64x4096x1024, .f32⟩
  | .hbm, ⟨30, _⟩ => ⟨S_, .i32⟩
  | .hbm, ⟨31, _⟩ => ⟨S192, .i32⟩
  | .hbm, ⟨32, _⟩ => ⟨S192, .i1⟩
  | .hbm, ⟨33, _⟩ => ⟨S_, .i32⟩
  | .hbm, ⟨34, _⟩ => ⟨S192, .i32⟩
  | .hbm, ⟨35, _⟩ => ⟨S192, .i32⟩
  | .hbm, ⟨36, _⟩ => ⟨S192, .i32⟩
  | .hbm, ⟨37, _⟩ => ⟨S192x1, .i32⟩
  | .hbm, ⟨38, _⟩ => ⟨S192x4096x1024, .f32⟩
  | .hbm, ⟨39, _⟩ => ⟨S192x512x1024, .f32⟩
  | .hbm, ⟨40, _⟩ => ⟨S192x512x1024, .f32⟩
  | .hbm, ⟨41, _⟩ => ⟨S192, .i32⟩
  | .hbm, ⟨42, _⟩ => ⟨S_, .i32⟩
  | .hbm, ⟨43, _⟩ => ⟨S192, .i32⟩
  | .hbm, ⟨44, _⟩ => ⟨S192, .i1⟩
  | .hbm, ⟨45, _⟩ => ⟨S192x1x1, .i1⟩
  | .hbm, ⟨46, _⟩ => ⟨S_, .f32⟩
  | .hbm, ⟨47, _⟩ => ⟨S_, .f32⟩
  | .hbm, ⟨48, _⟩ => ⟨S192x512x1024, .i1⟩
  | .hbm, ⟨49, _⟩ => ⟨S192x512x1024, .f32⟩
  | .hbm, ⟨50, _⟩ => ⟨S192x512x1024, .f32⟩
  | .hbm, ⟨51, _⟩ => ⟨S98304x1024, .f32⟩
  | .hbm, ⟨52, _⟩ => ⟨S98304x1024, .bf16⟩
  | _, _ => ⟨S98304x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Down.lean ====
abbrev S98304x1024 : Shape := ⟨2, ![98304, 1024]⟩
abbrev S98304x1 : Shape := ⟨2, ![98304, 1]⟩
abbrev S192 : Shape := ⟨1, ![192]⟩
abbrev S1 : Shape := ⟨1, ![1]⟩
abbrev S2x64x1024x4096 : Shape := ⟨4, ![2, 64, 1024, 4096]⟩
abbrev S_ : Shape := ⟨0, ![]⟩
abbrev S192x1 : Shape := ⟨2, ![192, 1]⟩
abbrev S98304x4096 : Shape := ⟨2, ![98304, 4096]⟩
abbrev S512x1024 : Shape := ⟨2, ![512, 1024]⟩
abbrev S512x1 : Shape := ⟨2, ![512, 1]⟩
abbrev S1x1x1024x1024 : Shape := ⟨4, ![1, 1, 1024, 1024]⟩
abbrev S1024x1024 : Shape := ⟨2, ![1024, 1024]⟩

abbrev nBuf : Space → Nat
  | .hbm => 19
  | .vmem => 9
  | .smem => 2
  | _ => 0

abbrev bufTy : (tb : Table) → Fin (tcTables nBuf tb) → BufTy
  | .hbm, ⟨0, _⟩ => ⟨S98304x1024, .bf16⟩
  | .hbm, ⟨1, _⟩ => ⟨S98304x1, .f32⟩
  | .hbm, ⟨2, _⟩ => ⟨S192, .i32⟩
  | .hbm, ⟨3, _⟩ => ⟨S2x64x1024x4096, .f32⟩
  | .hbm, ⟨4, _⟩ => ⟨S192, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S192, .i32⟩
  | .hbm, ⟨9, _⟩ => ⟨S192, .i32⟩
  | .hbm, ⟨10, _⟩ => ⟨S_, .i32⟩
  | .hbm, ⟨11, _⟩ => ⟨S192, .i32⟩
  | .hbm, ⟨12, _⟩ => ⟨S192, .i1⟩
  | .hbm, ⟨13, _⟩ => ⟨S_, .i32⟩
  | .hbm, ⟨14, _⟩ => ⟨S192, .i32⟩
  | .hbm, ⟨15, _⟩ => ⟨S192, .i32⟩
  | .hbm, ⟨16, _⟩ => ⟨S192, .i32⟩
  | .hbm, ⟨17, _⟩ => ⟨S192x1, .i32⟩
  | .hbm, ⟨18, _⟩ => ⟨S98304x4096, .f32⟩
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .smem, ⟨0, _⟩ => ⟨S192, .i32⟩
  | .local _ .smem, ⟨1, _⟩ => ⟨S1, .i32⟩
  | _, _ => ⟨S98304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 192], ![false, false]⟩

abbrev pre0 : Pipeline.Prefetch sig := ⟨2, ![main_v11.idx, main_arg3.idx], fun | 0 => main_v11.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg1 : BitVec 32 := BitVec.ofNat 32 (i 1).val
  let v12 : Index := Scalar.indexCast arg1
  ![v12.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S98304x1024 : Shape := ⟨2, ![98304, 1024]⟩
abbrev S98304x1 : Shape := ⟨2, ![98304, 1]⟩
abbrev S192 : Shape := ⟨1, ![192]⟩
abbrev S1 : Shape := ⟨1, ![1]⟩
abbrev S2x64x1024x4096 : Shape := ⟨4, ![2, 64, 1024, 4096]⟩
abbrev S192x512x1024 : Shape := ⟨3, ![192, 512, 1024]⟩
abbrev S1x64x1024x4096 : Shape := ⟨4, ![1, 64, 1024, 4096]⟩
abbrev S64x1024x4096 : Shape := ⟨3, ![64, 1024, 4096]⟩
abbrev S_ : Shape := ⟨0, ![]⟩
abbrev S192x1 : Shape := ⟨2, ![192, 1]⟩
abbrev S192x1024x4096 : Shape := ⟨3, ![192, 1024, 4096]⟩
abbrev S192x512x4096 : Shape := ⟨3, ![192, 512, 4096]⟩
abbrev S192x1x1 : Shape := ⟨3, ![192, 1, 1]⟩
abbrev S98304x4096 : Shape := ⟨2, ![98304, 4096]⟩

abbrev nBuf : Space → Nat
  | .hbm => 32
  | .vmem => 0
  | .smem => 0
  | _ => 0

abbrev bufTy : (tb : Table) → Fin (tcTables nBuf tb) → BufTy
  | .hbm, ⟨0, _⟩ => ⟨S98304x1024, .bf16⟩
  | .hbm, ⟨1, _⟩ => ⟨S98304x1, .f32⟩
  | .hbm, ⟨2, _⟩ => ⟨S192, .i32⟩
  | .hbm, ⟨3, _⟩ => ⟨S1, .i32⟩
  | .hbm, ⟨4, _⟩ => ⟨S2x64x1024x4096, .f32⟩
  | .hbm, ⟨5, _⟩ => ⟨S98304x1024, .f32⟩
  | .hbm, ⟨6, _⟩ => ⟨S192x512x1024, .f32⟩
  | .hbm, ⟨7, _⟩ => ⟨S1x64x1024x4096, .f32⟩
  | .hbm, ⟨8, _⟩ => ⟨S64x1024x4096, .f32⟩
  | .hbm, ⟨9, _⟩ => ⟨S_, .i32⟩
  | .hbm, ⟨10, _⟩ => ⟨S192, .i32⟩
  | .hbm, ⟨11, _⟩ => ⟨S192, .i1⟩
  | .hbm, ⟨12, _⟩ => ⟨S_, .i32⟩
  | .hbm, ⟨13, _⟩ => ⟨S192, .i32⟩
  | .hbm, ⟨14, _⟩ => ⟨S192, .i32⟩
  | .hbm, ⟨15, _⟩ => ⟨S192, .i32⟩
  | .hbm, ⟨16, _⟩ => ⟨S192x1, .i32⟩
  | .hbm, ⟨17, _⟩ => ⟨S192x1024x4096, .f32⟩
  | .hbm, ⟨18, _⟩ => ⟨S192x512x4096, .f32⟩
  | .hbm, ⟨19, _⟩ => ⟨S192, .i32⟩
  | .hbm, ⟨20, _⟩ => ⟨S_, .i32⟩
  | .hbm, ⟨21, _⟩ => ⟨S192, .i32⟩
  | .hbm, ⟨22, _⟩ => ⟨S192, .i1⟩
  | .hbm, ⟨23, _⟩ => ⟨S192x1x1, .i1⟩
  | .hbm, ⟨24, _⟩ => ⟨S_, .f32⟩
  | .hbm, ⟨25, _⟩ => ⟨S_, .f32⟩
  | .hbm, ⟨26, _⟩ => ⟨S192x512x4096, .i1⟩
  | .hbm, ⟨27, _⟩ => ⟨S192x512x4096, .f32⟩
  | .hbm, ⟨28, _⟩ => ⟨S192x512x4096, .f32⟩
  | .hbm, ⟨29, _⟩ => ⟨S98304x4096, .f32⟩
  | .hbm, ⟨30, _⟩ => ⟨S98304x4096, .f32⟩
  | .hbm, ⟨31, _⟩ => ⟨S98304x4096, .f32⟩
  | _, _ => ⟨S98304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== GmlpIn.lean ====
abbrev S8200x4096 : Shape := ⟨2, ![8200, 4096]⟩
abbrev S1x4096x16384 : Shape := ⟨3, ![1, 4096, 16384]⟩
abbrev S1x16384 : Shape := ⟨2, ![1, 16384]⟩
abbrev S16384 : Shape := ⟨1, ![16384]⟩
abbrev S8200x16384 : Shape := ⟨2, ![8200, 16384]⟩
abbrev S912x4096 : Shape := ⟨2, ![912, 4096]⟩
abbrev S1x4096x512 : Shape := ⟨3, ![1, 4096, 512]⟩
abbrev S1x512 : Shape := ⟨2, ![1, 512]⟩
abbrev S912x512 : Shape := ⟨2, ![912, 512]⟩
abbrev S4096x512 : Shape := ⟨2, ![4096, 512]⟩

abbrev nBuf : Space → Nat
  | .hbm => 7
  | .vmem => 8
  | .smem => 0
  | _ => 0

abbrev bufTy : (tb : Table) → Fin (tcTables nBuf tb) → BufTy
  | .hbm, ⟨0, _⟩ => ⟨S8200x4096, .bf16⟩
  | .hbm, ⟨1, _⟩ => ⟨S1x4096x16384, .f32⟩
  | .hbm, ⟨2, _⟩ => ⟨S1x16384, .f32⟩
  | .hbm, ⟨3, _⟩ => ⟨S16384, .f32⟩
  | .hbm, ⟨4, _⟩ => ⟨S1x4096x16384, .bf16⟩
  | .hbm, ⟨5, _⟩ => ⟨S1x16384, .f32⟩
  | .hbm, ⟨6, _⟩ => ⟨S8200x16384, .f32⟩
  | .local _ .vmem, ⟨0, _⟩ => ⟨S912x4096, .bf16⟩
  | .local _ .vmem, ⟨1, _⟩ => ⟨S912x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512, .f32⟩
  | .local _ .vmem, ⟨5, _⟩ => ⟨S1x512, .f32⟩
  | .local _ .vmem, ⟨6, _⟩ => ⟨S912x512, .f32⟩
  | .local _ .vmem, ⟨7, _⟩ => ⟨S912x512, .f32⟩
  | _, _ => ⟨S8200x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GmlpInRefIdeal.lean ====
abbrev S8200x4096 : Shape := ⟨2, ![8200, 4096]⟩
abbrev S1x4096x16384 : Shape := ⟨3, ![1, 4096, 16384]⟩
abbrev S1x16384 : Shape := ⟨2, ![1, 16384]⟩
abbrev S4096x16384 : Shape := ⟨2, ![4096, 16384]⟩
abbrev S8200x16384 : Shape := ⟨2, ![8200, 16384]⟩
abbrev S16384 : Shape := ⟨1, ![16384]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8200x4096, .bf16⟩
  | .hbm, ⟨1, _⟩ => ⟨S1x4096x16384, .f32⟩
  | .hbm, ⟨2, _⟩ => ⟨S1x16384, .f32⟩
  | .hbm, ⟨3, _⟩ => ⟨S8200x4096, .f32⟩
  | .hbm, ⟨4, _⟩ => ⟨S4096x16384, .f32⟩
  | .hbm, ⟨5, _⟩ => ⟨S8200x16384, .f32⟩
  | .hbm, ⟨6, _⟩ => ⟨S16384, .f32⟩
  | .hbm, ⟨7, _⟩ => ⟨S1x16384, .f32⟩
  | .hbm, ⟨8, _⟩ => ⟨S8200x16384, .f32⟩
  | .hbm, ⟨9, _⟩ => ⟨S8200x16384, .f32⟩
  | .hbm, ⟨10, _⟩ => ⟨S8200x16384, .f32⟩
  | .hbm, ⟨11, _⟩ => ⟨S8200x16384, .f32⟩
  | .hbm, ⟨12, _⟩ => ⟨S_, .f32⟩
  | .hbm, ⟨13, _⟩ => ⟨S8200x16384, .f32⟩
  | .hbm, ⟨14, _⟩ => ⟨S8200x16384, .f32⟩
  | .hbm, ⟨15, _⟩ => ⟨S8200x16384, .f32⟩
  | .hbm, ⟨16, _⟩ => ⟨S_, .f32⟩
  | .hbm, ⟨17, _⟩ => ⟨S8200x16384, .f32⟩
  | .hbm, ⟨18, _⟩ => ⟨S8200x16384, .f32⟩
  | .hbm, ⟨19, _⟩ => ⟨S8200x16384, .f32⟩
  | .hbm, ⟨20, _⟩ => ⟨S_, .f32⟩
  | .hbm, ⟨21, _⟩ => ⟨S8200x16384, .f32⟩
  | .hbm, ⟨22, _⟩ => ⟨S8200x16384, .f32⟩
  | .hbm, ⟨23, _⟩ => ⟨S_, .f32⟩
  | .hbm, ⟨24, _⟩ => ⟨S8200x16384, .f32⟩
  | .hbm, ⟨25, _⟩ => ⟨S8200x16384, .f32⟩
  | .hbm, ⟨26, _⟩ => ⟨S8200x16384, .f32⟩
  | _, _ => ⟨S8200x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== GmlpOut.lean ====
abbrev S8200x8192 : Shape := ⟨2, ![8200, 8192]⟩
abbrev S1x8192x4096 : Shape := ⟨3, ![1, 8192, 4096]⟩
abbrev S_ : Shape := ⟨0, ![]⟩
abbrev S1x4096 : Shape := ⟨2, ![1, 4096]⟩
abbrev S8200x4096 : Shape := ⟨2, ![8200, 4096]⟩
abbrev S496x8192 : Shape := ⟨2, ![496, 8192]⟩
abbrev S1x8192x512 : Shape := ⟨3, ![1, 8192, 512]⟩
abbrev S1x512 : Shape := ⟨2, ![1, 512]⟩
abbrev S496x512 : Shape := ⟨2, ![496, 512]⟩
abbrev S8192x512 : Shape := ⟨2, ![8192, 512]⟩

abbrev nBuf : Space → Nat
  | .hbm => 6
  | .vmem => 8
  | .smem => 0
  | _ => 0

abbrev bufTy : (tb : Table) → Fin (tcTables nBuf tb) → BufTy
  | .hbm, ⟨0, _⟩ => ⟨S8200x8192, .bf16⟩
  | .hbm, ⟨1, _⟩ => ⟨S1x8192x4096, .f32⟩
  | .hbm, ⟨2, _⟩ => ⟨S1x8192x4096, .bf16⟩
  | .hbm, ⟨3, _⟩ => ⟨S_, .f32⟩
  | .hbm, ⟨4, _⟩ => ⟨S1x4096, .f32⟩
  | .hbm, ⟨5, _⟩ => ⟨S8200x4096, .f32⟩
  | .local _ .vmem, ⟨0, _⟩ => ⟨S496x8192, .bf16⟩
  | .local _ .vmem, ⟨1, _⟩ => ⟨S496x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x512, .f32⟩
  | .local _ .vmem, ⟨5, _⟩ => ⟨S1x512, .f32⟩
  | .local _ .vmem, ⟨6, _⟩ => ⟨S496x512, .f32⟩
  | .local _ .vmem, ⟨7, _⟩ => ⟨S496x512, .f32⟩
  | _, _ => ⟨S8200x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S496x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S496x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GmlpOutRefIdeal.lean ====
abbrev S8200x8192 : Shape := ⟨2, ![8200, 8192]⟩
abbrev S1x8192x4096 : Shape := ⟨3, ![1, 8192, 4096]⟩
abbrev S8192x4096 : Shape := ⟨2, ![8192, 4096]⟩
abbrev S8200x4096 : Shape := ⟨2, ![8200, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8200x8192, .bf16⟩
  | .hbm, ⟨1, _⟩ => ⟨S1x8192x4096, .f32⟩
  | .hbm, ⟨2, _⟩ => ⟨S8200x8192, .f32⟩
  | .hbm, ⟨3, _⟩ => ⟨S8192x4096, .f32⟩
  | .hbm, ⟨4, _⟩ => ⟨S8200x4096, .f32⟩
  | _, _ => ⟨S8200x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S8200x4096 : Shape := ⟨2, ![8200, 4096]⟩
abbrev S4096x3072 : Shape := ⟨2, ![4096, 3072]⟩
abbrev S1x4096x3072 : Shape := ⟨3, ![1, 4096, 3072]⟩
abbrev S_ : Shape := ⟨0, ![]⟩
abbrev S1x3072 : Shape := ⟨2, ![1, 3072]⟩
abbrev S8200x3072 : Shape := ⟨2, ![8200, 3072]⟩
abbrev S912x4096 : Shape := ⟨2, ![912, 4096]⟩
abbrev S1x4096x512 : Shape := ⟨3, ![1, 4096, 512]⟩
abbrev S1x512 : Shape := ⟨2, ![1, 512]⟩
abbrev S912x512 : Shape := ⟨2, ![912, 512]⟩
abbrev S4096x512 : Shape := ⟨2, ![4096, 512]⟩

abbrev nBuf : Space → Nat
  | .hbm => 7
  | .vmem => 8
  | .smem => 0
  | _ => 0

abbrev bufTy : (tb : Table) → Fin (tcTables nBuf tb) → BufTy
  | .hbm, ⟨0, _⟩ => ⟨S8200x4096, .bf16⟩
  | .hbm, ⟨1, _⟩ => ⟨S4096x3072, .f32⟩
  | .hbm, ⟨2, _⟩ => ⟨S1x4096x3072, .f32⟩
  | .hbm, ⟨3, _⟩ => ⟨S1x4096x3072, .bf16⟩
  | .hbm, ⟨4, _⟩ => ⟨S_, .f32⟩
  | .hbm, ⟨5, _⟩ => ⟨S1x3072, .f32⟩
  | .hbm, ⟨6, _⟩ => ⟨S8200x3072, .f32⟩
  | .local _ .vmem, ⟨0, _⟩ => ⟨S912x4096, .bf16⟩
  | .local _ .vmem, ⟨1, _⟩ => ⟨S912x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512, .f32⟩
  | .local _ .vmem, ⟨5, _⟩ => ⟨S1x512, .f32⟩
  | .local _ .vmem, ⟨6, _⟩ => ⟨S912x512, .f32⟩
  | .local _ .vmem, ⟨7, _⟩ => ⟨S912x512, .f32⟩
  | _, _ => ⟨S8200x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S8200x4096 : Shape := ⟨2, ![8200, 4096]⟩
abbrev S4096x3072 : Shape := ⟨2, ![4096, 3072]⟩
abbrev S8200x3072 : Shape := ⟨2, ![8200, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8200x4096, .bf16⟩
  | .hbm, ⟨1, _⟩ => ⟨S4096x3072, .f32⟩
  | .hbm, ⟨2, _⟩ => ⟨S8200x4096, .f32⟩
  | .hbm, ⟨3, _⟩ => ⟨S8200x3072, .f32⟩
  | _, _ => ⟨S8200x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Final.lean ====
abbrev S8200x4096 : Shape := ⟨2, ![8200, 4096]⟩
abbrev S12x4096 : Shape := ⟨2, ![12, 4096]⟩
abbrev S4096 : Shape := ⟨1, ![4096]⟩
abbrev S_ : Shape := ⟨0, ![]⟩
abbrev S132x4096 : Shape := ⟨2, ![132, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 18
  | .vmem => 12
  | .smem => 0
  | _ => 0

abbrev bufTy : (tb : Table) → Fin (tcTables nBuf tb) → BufTy
  | .hbm, ⟨0, _⟩ => ⟨S8200x4096, .f32⟩
  | .hbm, ⟨1, _⟩ => ⟨S8200x4096, .f32⟩
  | .hbm, ⟨2, _⟩ => ⟨S8200x4096, .f32⟩
  | .hbm, ⟨3, _⟩ => ⟨S12x4096, .f32⟩
  | .hbm, ⟨4, _⟩ => ⟨S4096, .f32⟩
  | .hbm, ⟨5, _⟩ => ⟨S_, .f32⟩
  | .hbm, ⟨6, _⟩ => ⟨S12x4096, .f32⟩
  | .hbm, ⟨7, _⟩ => ⟨S_, .i32⟩
  | .hbm, ⟨8, _⟩ => ⟨S_, .f32⟩
  | .hbm, ⟨9, _⟩ => ⟨S132x4096, .f32⟩
  | .hbm, ⟨10, _⟩ => ⟨S_, .i32⟩
  | .hbm, ⟨11, _⟩ => ⟨S_, .f32⟩
  | .hbm, ⟨12, _⟩ => ⟨S132x4096, .f32⟩
  | .hbm, ⟨13, _⟩ => ⟨S_, .i32⟩
  | .hbm, ⟨14, _⟩ => ⟨S_, .f32⟩
  | .hbm, ⟨15, _⟩ => ⟨S132x4096, .f32⟩
  | .hbm, ⟨16, _⟩ => ⟨S1x4096, .f32⟩
  | .hbm, ⟨17, _⟩ => ⟨S8200x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S132x4096, .f32⟩
  | .local _ .vmem, ⟨7, _⟩ => ⟨S1x4096, .f32⟩
  | .local _ .vmem, ⟨8, _⟩ => ⟨S132x4096, .f32⟩
  | .local _ .vmem, ⟨9, _⟩ => ⟨S132x4096, .f32⟩
  | .local _ .vmem, ⟨10, _⟩ => ⟨S128x4096, .f32⟩
  | .local _ .vmem, ⟨11, _⟩ => ⟨S128x4096, .f32⟩
  | _, _ => ⟨S8200x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_c_1 : Ref sig .tc := ⟨.hbm, 13, rfl⟩
abbrev main_call2_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi arg0 c16_i32
  let c0_i32_6 : BitVec 32 := 0#32
  let v19 : BitVec 1 := Scalar.cmpi .ne v18 c0_i32_6
  let v20 : BitVec 1 := Scalar.andi v17 v19
  let v6 : BitVec 32 := Scalar.divsi arg0 c16_i32
  let c1_i32 : BitVec 32 := 1#32
  let v21 : BitVec 32 := Scalar.subi v6 c1_i32
  let v22 : BitVec 32 := Scalar.select v20 v21 v6
  let v27 : Index := Scalar.indexCast v22
  let c0_12 : Index := 0#32
  ![v27.toNat, 0]
def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S132x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S132x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S132x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalRefIdeal.lean ====
abbrev S8200x4096 : Shape := ⟨2, ![8200, 4096]⟩
abbrev S12x4096 : Shape := ⟨2, ![12, 4096]⟩
abbrev S4096 : Shape := ⟨1, ![4096]⟩
abbrev S4x4096 : Shape := ⟨2, ![4, 4096]⟩
abbrev S4x2048x4096 : Shape := ⟨3, ![4, 2048, 4096]⟩
abbrev S8192x4096 : Shape := ⟨2, ![8192, 4096]⟩
abbrev S8x4096 : Shape := ⟨2, ![8, 4096]⟩
abbrev S_ : Shape := ⟨0, ![]⟩
abbrev S8200 : Shape := ⟨1, ![8200]⟩
abbrev S8200x1 : Shape := ⟨2, ![8200, 1]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8200x4096, .f32⟩
  | .hbm, ⟨1, _⟩ => ⟨S8200x4096, .f32⟩
  | .hbm, ⟨2, _⟩ => ⟨S8200x4096, .f32⟩
  | .hbm, ⟨3, _⟩ => ⟨S12x4096, .f32⟩
  | .hbm, ⟨4, _⟩ => ⟨S4096, .f32⟩
  | .hbm, ⟨5, _⟩ => ⟨S4x4096, .f32⟩
  | .hbm, ⟨6, _⟩ => ⟨S4x2048x4096, .f32⟩
  | .hbm, ⟨7, _⟩ => ⟨S8192x4096, .f32⟩
  | .hbm, ⟨8, _⟩ => ⟨S8x4096, .f32⟩
  | .hbm, ⟨9, _⟩ => ⟨S8200x4096, .f32⟩
  | .hbm, ⟨10, _⟩ => ⟨S8200x4096, .f32⟩
  | .hbm, ⟨11, _⟩ => ⟨S8200x4096, .f32⟩
  | .hbm, ⟨12, _⟩ => ⟨S8200x4096, .f32⟩
  | .hbm, ⟨13, _⟩ => ⟨S8200x4096, .f32⟩
  | .hbm, ⟨14, _⟩ => ⟨S_, .f32⟩
  | .hbm, ⟨15, _⟩ => ⟨S8200, .f32⟩
  | .hbm, ⟨16, _⟩ => ⟨S8200x1, .f32⟩
  | .hbm, ⟨17, _⟩ => ⟨S_, .f32⟩
  | .hbm, ⟨18, _⟩ => ⟨S8200x1, .f32⟩
  | .hbm, ⟨19, _⟩ => ⟨S8200x1, .f32⟩
  | .hbm, ⟨20, _⟩ => ⟨S_, .f32⟩
  | .hbm, ⟨21, _⟩ => ⟨S8200x1, .f32⟩
  | .hbm, ⟨22, _⟩ => ⟨S8200x1, .f32⟩
  | .hbm, ⟨23, _⟩ => ⟨S8200x1, .f32⟩
  | .hbm, ⟨24, _⟩ => ⟨S8200x4096, .f32⟩
  | .hbm, ⟨25, _⟩ => ⟨S8200x4096, .f32⟩
  | .hbm, ⟨26, _⟩ => ⟨S1x4096, .f32⟩
  | .hbm, ⟨27, _⟩ => ⟨S8200x4096, .f32⟩
  | .hbm, ⟨28, _⟩ => ⟨S8200x4096, .f32⟩
  | _, _ => ⟨S8200x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Sgu.lean ====
abbrev S8200x16384 : Shape := ⟨2, ![8200, 16384]⟩
abbrev S1x8192 : Shape := ⟨2, ![1, 8192]⟩
abbrev S1x16x128x128 : Shape := ⟨4, ![1, 16, 128, 128]⟩
abbrev S1x16x128 : Shape := ⟨3, ![1, 16, 128]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S16x1x1 : Shape := ⟨3, ![16, 1, 1]⟩
abbrev S16 : Shape := ⟨1, ![16]⟩
abbrev S2x16x128x128 : Shape := ⟨4, ![2, 16, 128, 128]⟩
abbrev S128x16 : Shape := ⟨2, ![128, 16]⟩
abbrev S16x1 : Shape := ⟨2, ![16, 1]⟩
abbrev S1x16 : Shape := ⟨2, ![1, 16]⟩
abbrev S1x128x16 : Shape := ⟨3, ![1, 128, 16]⟩
abbrev S2x128x16 : Shape := ⟨3, ![2, 128, 16]⟩
abbrev S8192 : Shape := ⟨1, ![8192]⟩
abbrev S8200x8192 : Shape := ⟨2, ![8200, 8192]⟩
abbrev S128x8192 : Shape := ⟨2, ![128, 8192]⟩
abbrev S128 : Shape := ⟨1, ![128]⟩
abbrev S128x1 : Shape := ⟨2, ![128, 1]⟩
abbrev S1x1x128x128 : Shape := ⟨4, ![1, 1, 128, 128]⟩
abbrev S128x512 : Shape := ⟨2, ![128, 512]⟩

abbrev nBuf : Space → Nat
  | .hbm => 55
  | .vmem => 14
  | .smem => 0
  | _ => 0

abbrev bufTy : (tb : Table) → Fin (tcTables nBuf tb) → BufTy
  | .hbm, ⟨0, _⟩ => ⟨S8200x16384, .f32⟩
  | .hbm, ⟨1, _⟩ => ⟨S1x8192, .f32⟩
  | .hbm, ⟨2, _⟩ => ⟨S1x8192, .f32⟩
  | .hbm, ⟨3, _⟩ => ⟨S1x16x128x128, .f32⟩
  | .hbm, ⟨4, _⟩ => ⟨S1x16x128, .f32⟩
  | .hbm, ⟨5, _⟩ => ⟨S16x128x128, .f32⟩
  | .hbm, ⟨6, _⟩ => ⟨S16x128, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S_, .f32⟩
  | .hbm, ⟨19, _⟩ => ⟨S_, .f32⟩
  | .hbm, ⟨20, _⟩ => ⟨S16x128x128, .i1⟩
  | .hbm, ⟨21, _⟩ => ⟨S16x128x128, .f32⟩
  | .hbm, ⟨22, _⟩ => ⟨S16x128x128, .f32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .f32⟩
  | .hbm, ⟨30, _⟩ => ⟨S1x128x128, .f32⟩
  | .hbm, ⟨31, _⟩ => ⟨S16x1x1, .f32⟩
  | .hbm, ⟨32, _⟩ => ⟨S16, .f32⟩
  | .hbm, ⟨33, _⟩ => ⟨S16x1x1, .f32⟩
  | .hbm, ⟨34, _⟩ => ⟨S16x128x128, .f32⟩
  | .hbm, ⟨35, _⟩ => ⟨S16x128x128, .f32⟩
  | .hbm, ⟨36, _⟩ => ⟨S16x128x128, .f32⟩
  | .hbm, ⟨37, _⟩ => ⟨S1x16x128x128, .f32⟩
  | .hbm, ⟨38, _⟩ => ⟨S1x16x128x128, .f32⟩
  | .hbm, ⟨39, _⟩ => ⟨S2x16x128x128, .f32⟩
  | .hbm, ⟨40, _⟩ => ⟨S2x16x128x128, .bf16⟩
  | .hbm, ⟨41, _⟩ => ⟨S128x16, .f32⟩
  | .hbm, ⟨42, _⟩ => ⟨S16x1, .f32⟩
  | .hbm, ⟨43, _⟩ => ⟨S16, .f32⟩
  | .hbm, ⟨44, _⟩ => ⟨S1x16, .f32⟩
  | .hbm, ⟨45, _⟩ => ⟨S128x16, .f32⟩
  | .hbm, ⟨46, _⟩ => ⟨S1x128x16, .f32⟩
  | .hbm, ⟨47, _⟩ => ⟨S1x128x16, .f32⟩
  | .hbm, ⟨48, _⟩ => ⟨S2x128x16, .f32⟩
  | .hbm, ⟨49, _⟩ => ⟨S8192, .f32⟩
  | .hbm, ⟨50, _⟩ => ⟨S1x8192, .f32⟩
  | .hbm, ⟨51, _⟩ => ⟨S8192, .f32⟩
  | .hbm, ⟨52, _⟩ => ⟨S1x8192, .f32⟩
  | .hbm, ⟨53, _⟩ => ⟨S8200x8192, .bf16⟩
  | .hbm, ⟨54, _⟩ => ⟨S8200x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x8192, .f32⟩
  | .local _ .vmem, ⟨5, _⟩ => ⟨S1x8192, .f32⟩
  | .local _ .vmem, ⟨6, _⟩ => ⟨S1x16x128x128, .bf16⟩
  | .local _ .vmem, ⟨7, _⟩ => ⟨S1x16x128x128, .bf16⟩
  | .local _ .vmem, ⟨8, _⟩ => ⟨S1x128x16, .f32⟩
  | .local _ .vmem, ⟨9, _⟩ => ⟨S1x128x16, .f32⟩
  | .local _ .vmem, ⟨10, _⟩ => ⟨S128x8192, .bf16⟩
  | .local _ .vmem, ⟨11, _⟩ => ⟨S128x8192, .bf16⟩
  | .local _ .vmem, ⟨12, _⟩ => ⟨S128x8192, .f32⟩
  | .local _ .vmem, ⟨13, _⟩ => ⟨S128x8192, .f32⟩
  | _, _ => ⟨S8200x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v3 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguRefIdeal.lean ====
abbrev S8200x16384 : Shape := ⟨2, ![8200, 16384]⟩
abbrev S1x8192 : Shape := ⟨2, ![1, 8192]⟩
abbrev S1x16x128x128 : Shape := ⟨4, ![1, 16, 128, 128]⟩
abbrev S1x16x128 : Shape := ⟨3, ![1, 16, 128]⟩
abbrev S8200x8192 : Shape := ⟨2, ![8200, 8192]⟩
abbrev S_ : Shape := ⟨0, ![]⟩
abbrev S8200 : Shape := ⟨1, ![8200]⟩
abbrev S8200x1 : Shape := ⟨2, ![8200, 1]⟩
abbrev S8192 : Shape := ⟨1, ![8192]⟩
abbrev S16x128x128 : Shape := ⟨3, ![16, 128, 128]⟩
abbrev S16x128 : Shape := ⟨2, ![16, 128]⟩
abbrev S128x128 : Shape := ⟨2, ![128, 128]⟩
abbrev S8192x8192 : Shape := ⟨2, ![8192, 8192]⟩
abbrev S64x128x16x512 : Shape := ⟨4, ![64, 128, 16, 512]⟩
abbrev S16x64x512x128 : Shape := ⟨4, ![16, 64, 512, 128]⟩
abbrev S128x16 : Shape := ⟨2, ![128, 16]⟩
abbrev S1x128x16x1 : Shape := ⟨4, ![1, 128, 16, 1]⟩
abbrev S8x8192 : Shape := ⟨2, ![8, 8192]⟩
abbrev S8x16x512 : Shape := ⟨3, ![8, 16, 512]⟩
abbrev S16x1x1 : Shape := ⟨3, ![16, 1, 1]⟩
abbrev S16 : Shape := ⟨1, ![16]⟩
abbrev S1x16x1 : Shape := ⟨3, ![1, 16, 1]⟩
abbrev S16x1 : Shape := ⟨2, ![16, 1]⟩

abbrev nBuf : Space → Nat
  | .hbm => 79
  | .vmem => 0
  | .smem => 0
  | _ => 0

abbrev bufTy : (tb : Table) → Fin (tcTables nBuf tb) → BufTy
  | .hbm, ⟨0, _⟩ => ⟨S8200x16384, .f32⟩
  | .hbm, ⟨1, _⟩ => ⟨S1x8192, .f32⟩
  | .hbm, ⟨2, _⟩ => ⟨S1x8192, .f32⟩
  | .hbm, ⟨3, _⟩ => ⟨S1x16x128x128, .f32⟩
  | .hbm, ⟨4, _⟩ => ⟨S1x16x128, .f32⟩
  | .hbm, ⟨5, _⟩ => ⟨S8200x8192, .f32⟩
  | .hbm, ⟨6, _⟩ => ⟨S8200x8192, .f32⟩
  | .hbm, ⟨7, _⟩ => ⟨S_, .f32⟩
  | .hbm, ⟨8, _⟩ => ⟨S8200, .f32⟩
  | .hbm, ⟨9, _⟩ => ⟨S8200x1, .f32⟩
  | .hbm, ⟨10, _⟩ => ⟨S_, .f32⟩
  | .hbm, ⟨11, _⟩ => ⟨S8200x1, .f32⟩
  | .hbm, ⟨12, _⟩ => ⟨S8200x1, .f32⟩
  | .hbm, ⟨13, _⟩ => ⟨S8200x8192, .f32⟩
  | .hbm, ⟨14, _⟩ => ⟨S8200x8192, .f32⟩
  | .hbm, ⟨15, _⟩ => ⟨S8200x8192, .f32⟩
  | .hbm, ⟨16, _⟩ => ⟨S_, .f32⟩
  | .hbm, ⟨17, _⟩ => ⟨S8200, .f32⟩
  | .hbm, ⟨18, _⟩ => ⟨S8200x1, .f32⟩
  | .hbm, ⟨19, _⟩ => ⟨S_, .f32⟩
  | .hbm, ⟨20, _⟩ => ⟨S8200x1, .f32⟩
  | .hbm, ⟨21, _⟩ => ⟨S8200x1, .f32⟩
  | .hbm, ⟨22, _⟩ => ⟨S_, .f32⟩
  | .hbm, ⟨23, _⟩ => ⟨S8200x1, .f32⟩
  | .hbm, ⟨24, _⟩ => ⟨S8200x1, .f32⟩
  | .hbm, ⟨25, _⟩ => ⟨S8200x1, .f32⟩
  | .hbm, ⟨26, _⟩ => ⟨S8200x8192, .f32⟩
  | .hbm, ⟨27, _⟩ => ⟨S8200x8192, .f32⟩
  | .hbm, ⟨28, _⟩ => ⟨S8192, .f32⟩
  | .hbm, ⟨29, _⟩ => ⟨S1x8192, .f32⟩
  | .hbm, ⟨30, _⟩ => ⟨S8200x8192, .f32⟩
  | .hbm, ⟨31, _⟩ => ⟨S8200x8192, .f32⟩
  | .hbm, ⟨32, _⟩ => ⟨S8192, .f32⟩
  | .hbm, ⟨33, _⟩ => ⟨S1x8192, .f32⟩
  | .hbm, ⟨34, _⟩ => ⟨S8200x8192, .f32⟩
  | .hbm, ⟨35, _⟩ => ⟨S8200x8192, .f32⟩
  | .hbm, ⟨36, _⟩ => ⟨S16x128x128, .f32⟩
  | .hbm, ⟨37, _⟩ => ⟨S16x128, .f32⟩
  | .hbm, ⟨38, _⟩ => ⟨S_, .i1⟩
  | .hbm, ⟨39, _⟩ => ⟨S128x128, .i1⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .i1⟩
  | .hbm, ⟨47, _⟩ => ⟨S128x128, .i1⟩
  | .hbm, ⟨48, _⟩ => ⟨S128x128, .i1⟩
  | .hbm, ⟨49, _⟩ => ⟨S8192x8192, .f32⟩
  | .hbm, ⟨50, _⟩ => ⟨S64x128x16x512, .f32⟩
  | .hbm, ⟨51, _⟩ => ⟨S_, .f32⟩
  | .hbm, ⟨52, _⟩ => ⟨S_, .f32⟩
  | .hbm, ⟨53, _⟩ => ⟨S16x128x128, .i1⟩
  | .hbm, ⟨54, _⟩ => ⟨S16x128x128, .f32⟩
  | .hbm, ⟨55, _⟩ => ⟨S16x128x128, .f32⟩
  | .hbm, ⟨56, _⟩ => ⟨S16x64x512x128, .f32⟩
  | .hbm, ⟨57, _⟩ => ⟨S64x128x16x512, .f32⟩
  | .hbm, ⟨58, _⟩ => ⟨S128x16, .f32⟩
  | .hbm, ⟨59, _⟩ => ⟨S1x128x16x1, .f32⟩
  | .hbm, ⟨60, _⟩ => ⟨S64x128x16x512, .f32⟩
  | .hbm, ⟨61, _⟩ => ⟨S64x128x16x512, .f32⟩
  | .hbm, ⟨62, _⟩ => ⟨S8x8192, .f32⟩
  | .hbm, ⟨63, _⟩ => ⟨S8x16x512, .f32⟩
  | .hbm, ⟨64, _⟩ => ⟨S16x1x1, .f32⟩
  | .hbm, ⟨65, _⟩ => ⟨S16, .f32⟩
  | .hbm, ⟨66, _⟩ => ⟨S1x16x1, .f32⟩
  | .hbm, ⟨67, _⟩ => ⟨S8x16x512, .f32⟩
  | .hbm, ⟨68, _⟩ => ⟨S8x16x512, .f32⟩
  | .hbm, ⟨69, _⟩ => ⟨S16x1, .f32⟩
  | .hbm, ⟨70, _⟩ => ⟨S16, .f32⟩
  | .hbm, ⟨71, _⟩ => ⟨S1x16x1, .f32⟩
  | .hbm, ⟨72, _⟩ => ⟨S8x16x512, .f32⟩
  | .hbm, ⟨73, _⟩ => ⟨S8x16x512, .f32⟩
  | .hbm, ⟨74, _⟩ => ⟨S8192x8192, .f32⟩
  | .hbm, ⟨75, _⟩ => ⟨S8x8192, .f32⟩
  | .hbm, ⟨76, _⟩ => ⟨S8200x8192, .f32⟩
  | .hbm, ⟨77, _⟩ => ⟨S8200x8192, .f32⟩
  | .hbm, ⟨78, _⟩ => ⟨S8200x8192, .bf16⟩
  | _, _ => ⟨S8200x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Query.lean ====
abbrev S8200x4096 : Shape := ⟨2, ![8200, 4096]⟩
abbrev S1x4096x4192 : Shape := ⟨3, ![1, 4096, 4192]⟩
abbrev S4096x4192 : Shape := ⟨2, ![4096, 4192]⟩
abbrev S4096x4096 : Shape := ⟨2, ![4096, 4096]⟩
abbrev S1x4096x4096 : Shape := ⟨3, ![1, 4096, 4096]⟩
abbrev S_ : Shape := ⟨0, ![]⟩
abbrev S1x4096 : Shape := ⟨2, ![1, 4096]⟩
abbrev S912x4096 : Shape := ⟨2, ![912, 4096]⟩
abbrev S1x4096x512 : Shape := ⟨3, ![1, 4096, 512]⟩
abbrev S1x512 : Shape := ⟨2, ![1, 512]⟩
abbrev S912x512 : Shape := ⟨2, ![912, 512]⟩
abbrev S4096x512 : Shape := ⟨2, ![4096, 512]⟩

abbrev nBuf : Space → Nat
  | .hbm => 9
  | .vmem => 8
  | .smem => 0
  | _ => 0

abbrev bufTy : (tb : Table) → Fin (tcTables nBuf tb) → BufTy
  | .hbm, ⟨0, _⟩ => ⟨S8200x4096, .bf16⟩
  | .hbm, ⟨1, _⟩ => ⟨S1x4096x4192, .f32⟩
  | .hbm, ⟨2, _⟩ => ⟨S4096x4192, .f32⟩
  | .hbm, ⟨3, _⟩ => ⟨S4096x4096, .f32⟩
  | .hbm, ⟨4, _⟩ => ⟨S1x4096x4096, .f32⟩
  | .hbm, ⟨5, _⟩ => ⟨S1x4096x4096, .bf16⟩
  | .hbm, ⟨6, _⟩ => ⟨S_, .f32⟩
  | .hbm, ⟨7, _⟩ => ⟨S1x4096, .f32⟩
  | .hbm, ⟨8, _⟩ => ⟨S8200x4096, .bf16⟩
  | .local _ .vmem, ⟨0, _⟩ => ⟨S912x4096, .bf16⟩
  | .local _ .vmem, ⟨1, _⟩ => ⟨S912x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512, .f32⟩
  | .local _ .vmem, ⟨5, _⟩ => ⟨S1x512, .f32⟩
  | .local _ .vmem, ⟨6, _⟩ => ⟨S912x512, .bf16⟩
  | .local _ .vmem, ⟨7, _⟩ => ⟨S912x512, .bf16⟩
  | _, _ => ⟨S8200x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryRefIdeal.lean ====
abbrev S8200x4096 : Shape := ⟨2, ![8200, 4096]⟩
abbrev S1x4096x4192 : Shape := ⟨3, ![1, 4096, 4192]⟩
abbrev S4096x4192 : Shape := ⟨2, ![4096, 4192]⟩
abbrev S8200x4192 : Shape := ⟨2, ![8200, 4192]⟩

abbrev nBuf : Space → Nat
  | .hbm => 7
  | .vmem => 0
  | .smem => 0
  | _ => 0

abbrev bufTy : (tb : Table) → Fin (tcTables nBuf tb) → BufTy
  | .hbm, ⟨0, _⟩ => ⟨S8200x4096, .bf16⟩
  | .hbm, ⟨1, _⟩ => ⟨S1x4096x4192, .f32⟩
  | .hbm, ⟨2, _⟩ => ⟨S8200x4096, .f32⟩
  | .hbm, ⟨3, _⟩ => ⟨S4096x4192, .f32⟩
  | .hbm, ⟨4, _⟩ => ⟨S8200x4192, .f32⟩
  | .hbm, ⟨5, _⟩ => ⟨S8200x4096, .f32⟩
  | .hbm, ⟨6, _⟩ => ⟨S8200x4096, .bf16⟩
  | _, _ => ⟨S8200x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnOut.lean ====
abbrev S8200x4096 : Shape := ⟨2, ![8200, 4096]⟩
abbrev S1x4096x4096 : Shape := ⟨3, ![1, 4096, 4096]⟩
abbrev S_ : Shape := ⟨0, ![]⟩
abbrev S1x4096 : Shape := ⟨2, ![1, 4096]⟩
abbrev S912x4096 : Shape := ⟨2, ![912, 4096]⟩
abbrev S1x4096x512 : Shape := ⟨3, ![1, 4096, 512]⟩
abbrev S1x512 : Shape := ⟨2, ![1, 512]⟩
abbrev S912x512 : Shape := ⟨2, ![912, 512]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S8200x4096, .bf16⟩
  | .hbm, ⟨1, _⟩ => ⟨S1x4096x4096, .f32⟩
  | .hbm, ⟨2, _⟩ => ⟨S1x4096x4096, .bf16⟩
  | .hbm, ⟨3, _⟩ => ⟨S_, .f32⟩
  | .hbm, ⟨4, _⟩ => ⟨S1x4096, .f32⟩
  | .hbm, ⟨5, _⟩ => ⟨S8200x4096, .f32⟩
  | .local _ .vmem, ⟨0, _⟩ => ⟨S912x4096, .bf16⟩
  | .local _ .vmem, ⟨1, _⟩ => ⟨S912x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512, .f32⟩
  | .local _ .vmem, ⟨5, _⟩ => ⟨S1x512, .f32⟩
  | .local _ .vmem, ⟨6, _⟩ => ⟨S912x512, .f32⟩
  | .local _ .vmem, ⟨7, _⟩ => ⟨S912x512, .f32⟩
  | _, _ => ⟨S8200x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnOutRefIdeal.lean ====
abbrev S8200x4096 : Shape := ⟨2, ![8200, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8200x4096, .bf16⟩
  | .hbm, ⟨1, _⟩ => ⟨S1x4096x4096, .f32⟩
  | .hbm, ⟨2, _⟩ => ⟨S8200x4096, .f32⟩
  | .hbm, ⟨3, _⟩ => ⟨S4096x4096, .f32⟩
  | .hbm, ⟨4, _⟩ => ⟨S8200x4096, .f32⟩
  | _, _ => ⟨S8200x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvNorm.lean ====
abbrev S8200x4096 : Shape := ⟨2, ![8200, 4096]⟩
abbrev S4096 : Shape := ⟨1, ![4096]⟩
abbrev S12x4096 : Shape := ⟨2, ![12, 4096]⟩
abbrev S_ : Shape := ⟨0, ![]⟩
abbrev S132x4096 : Shape := ⟨2, ![132, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 12
  | .vmem => 7
  | .smem => 0
  | _ => 0

abbrev bufTy : (tb : Table) → Fin (tcTables nBuf tb) → BufTy
  | .hbm, ⟨0, _⟩ => ⟨S8200x4096, .f32⟩
  | .hbm, ⟨1, _⟩ => ⟨S4096, .f32⟩
  | .hbm, ⟨2, _⟩ => ⟨S12x4096, .f32⟩
  | .hbm, ⟨3, _⟩ => ⟨S12x4096, .f32⟩
  | .hbm, ⟨4, _⟩ => ⟨S_, .i32⟩
  | .hbm, ⟨5, _⟩ => ⟨S_, .f32⟩
  | .hbm, ⟨6, _⟩ => ⟨S132x4096, .f32⟩
  | .hbm, ⟨7, _⟩ => ⟨S_, .i32⟩
  | .hbm, ⟨8, _⟩ => ⟨S_, .f32⟩
  | .hbm, ⟨9, _⟩ => ⟨S132x4096, .f32⟩
  | .hbm, ⟨10, _⟩ => ⟨S1x4096, .f32⟩
  | .hbm, ⟨11, _⟩ => ⟨S8200x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S132x4096, .f32⟩
  | .local _ .vmem, ⟨4, _⟩ => ⟨S132x4096, .f32⟩
  | .local _ .vmem, ⟨5, _⟩ => ⟨S128x4096, .bf16⟩
  | .local _ .vmem, ⟨6, _⟩ => ⟨S128x4096, .bf16⟩
  | _, _ => ⟨S8200x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi arg0 c16_i32
  let c0_i32_6 : BitVec 32 := 0#32
  let v19 : BitVec 1 := Scalar.cmpi .ne v18 c0_i32_6
  let v20 : BitVec 1 := Scalar.andi v17 v19
  let v6 : BitVec 32 := Scalar.divsi arg0 c16_i32
  let c1_i32 : BitVec 32 := 1#32
  let v21 : BitVec 32 := Scalar.subi v6 c1_i32
  let v22 : BitVec 32 := Scalar.select v20 v21 v6
  let v38 : Index := Scalar.indexCast v22
  let c0_12 : Index := 0#32
  ![v38.toNat, 0]
def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S132x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S132x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvNormRefIdeal.lean ====
abbrev S8200x4096 : Shape := ⟨2, ![8200, 4096]⟩
abbrev S4096 : Shape := ⟨1, ![4096]⟩
abbrev S12x4096 : Shape := ⟨2, ![12, 4096]⟩
abbrev S4x4096 : Shape := ⟨2, ![4, 4096]⟩
abbrev S4x2048x4096 : Shape := ⟨3, ![4, 2048, 4096]⟩
abbrev S8192x4096 : Shape := ⟨2, ![8192, 4096]⟩
abbrev S8x4096 : Shape := ⟨2, ![8, 4096]⟩
abbrev S_ : Shape := ⟨0, ![]⟩
abbrev S8200 : Shape := ⟨1, ![8200]⟩
abbrev S8200x1 : Shape := ⟨2, ![8200, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8200x4096, .f32⟩
  | .hbm, ⟨1, _⟩ => ⟨S4096, .f32⟩
  | .hbm, ⟨2, _⟩ => ⟨S12x4096, .f32⟩
  | .hbm, ⟨3, _⟩ => ⟨S12x4096, .f32⟩
  | .hbm, ⟨4, _⟩ => ⟨S4x4096, .f32⟩
  | .hbm, ⟨5, _⟩ => ⟨S4x2048x4096, .f32⟩
  | .hbm, ⟨6, _⟩ => ⟨S8192x4096, .f32⟩
  | .hbm, ⟨7, _⟩ => ⟨S8x4096, .f32⟩
  | .hbm, ⟨8, _⟩ => ⟨S8200x4096, .f32⟩
  | .hbm, ⟨9, _⟩ => ⟨S4x4096, .f32⟩
  | .hbm, ⟨10, _⟩ => ⟨S4x2048x4096, .f32⟩
  | .hbm, ⟨11, _⟩ => ⟨S8192x4096, .f32⟩
  | .hbm, ⟨12, _⟩ => ⟨S8x4096, .f32⟩
  | .hbm, ⟨13, _⟩ => ⟨S8200x4096, .f32⟩
  | .hbm, ⟨14, _⟩ => ⟨S8200x4096, .f32⟩
  | .hbm, ⟨15, _⟩ => ⟨S_, .f32⟩
  | .hbm, ⟨16, _⟩ => ⟨S8200, .f32⟩
  | .hbm, ⟨17, _⟩ => ⟨S8200x1, .f32⟩
  | .hbm, ⟨18, _⟩ => ⟨S_, .f32⟩
  | .hbm, ⟨19, _⟩ => ⟨S8200x1, .f32⟩
  | .hbm, ⟨20, _⟩ => ⟨S8200x1, .f32⟩
  | .hbm, ⟨21, _⟩ => ⟨S_, .f32⟩
  | .hbm, ⟨22, _⟩ => ⟨S8200x1, .f32⟩
  | .hbm, ⟨23, _⟩ => ⟨S8200x1, .f32⟩
  | .hbm, ⟨24, _⟩ => ⟨S8200x1, .f32⟩
  | .hbm, ⟨25, _⟩ => ⟨S8200x4096, .f32⟩
  | .hbm, ⟨26, _⟩ => ⟨S8200x4096, .f32⟩
  | .hbm, ⟨27, _⟩ => ⟨S1x4096, .f32⟩
  | .hbm, ⟨28, _⟩ => ⟨S8200x4096, .f32⟩
  | .hbm, ⟨29, _⟩ => ⟨S8200x4096, .f32⟩
  | .hbm, ⟨30, _⟩ => ⟨S_, .f32⟩
  | .hbm, ⟨31, _⟩ => ⟨S8200x4096, .f32⟩
  | .hbm, ⟨32, _⟩ => ⟨S8200x4096, .f32⟩
  | .hbm, ⟨33, _⟩ => ⟨S8200x4096, .f32⟩
  | .hbm, ⟨34, _⟩ => ⟨S8200x4096, .f32⟩
  | .hbm, ⟨35, _⟩ => ⟨S8200x4096, .bf16⟩
  | _, _ => ⟨S8200x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== FfnNorm.lean ====
abbrev S8200x4096 : Shape := ⟨2, ![8200, 4096]⟩
abbrev S12x4096 : Shape := ⟨2, ![12, 4096]⟩
abbrev S4096 : Shape := ⟨1, ![4096]⟩
abbrev S4096x64 : Shape := ⟨2, ![4096, 64]⟩
abbrev S_ : Shape := ⟨0, ![]⟩
abbrev S132x4096 : Shape := ⟨2, ![132, 4096]⟩
abbrev S1x4096 : Shape := ⟨2, ![1, 4096]⟩
abbrev S8200x64 : Shape := ⟨2, ![8200, 64]⟩
abbrev S128x4096 : Shape := ⟨2, ![128, 4096]⟩
abbrev S128x64 : Shape := ⟨2, ![128, 64]⟩
abbrev S128 : Shape := ⟨1, ![128]⟩
abbrev S128x1 : Shape := ⟨2, ![128, 1]⟩

abbrev nBuf : Space → Nat
  | .hbm => 20
  | .vmem => 15
  | .smem => 0
  | _ => 0

abbrev bufTy : (tb : Table) → Fin (tcTables nBuf tb) → BufTy
  | .hbm, ⟨0, _⟩ => ⟨S8200x4096, .f32⟩
  | .hbm, ⟨1, _⟩ => ⟨S8200x4096, .f32⟩
  | .hbm, ⟨2, _⟩ => ⟨S12x4096, .f32⟩
  | .hbm, ⟨3, _⟩ => ⟨S4096, .f32⟩
  | .hbm, ⟨4, _⟩ => ⟨S12x4096, .f32⟩
  | .hbm, ⟨5, _⟩ => ⟨S12x4096, .f32⟩
  | .hbm, ⟨6, _⟩ => ⟨S4096x64, .f32⟩
  | .hbm, ⟨7, _⟩ => ⟨S_, .i32⟩
  | .hbm, ⟨8, _⟩ => ⟨S_, .f32⟩
  | .hbm, ⟨9, _⟩ => ⟨S132x4096, .f32⟩
  | .hbm, ⟨10, _⟩ => ⟨S_, .i32⟩
  | .hbm, ⟨11, _⟩ => ⟨S_, .f32⟩
  | .hbm, ⟨12, _⟩ => ⟨S132x4096, .f32⟩
  | .hbm, ⟨13, _⟩ => ⟨S_, .i32⟩
  | .hbm, ⟨14, _⟩ => ⟨S_, .f32⟩
  | .hbm, ⟨15, _⟩ => ⟨S132x4096, .f32⟩
  | .hbm, ⟨16, _⟩ => ⟨S1x4096, .f32⟩
  | .hbm, ⟨17, _⟩ => ⟨S8200x4096, .f32⟩
  | .hbm, ⟨18, _⟩ => ⟨S8200x4096, .bf16⟩
  | .hbm, ⟨19, _⟩ => ⟨S8200x64, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S132x4096, .f32⟩
  | .local _ .vmem, ⟨5, _⟩ => ⟨S1x4096, .f32⟩
  | .local _ .vmem, ⟨6, _⟩ => ⟨S132x4096, .f32⟩
  | .local _ .vmem, ⟨7, _⟩ => ⟨S132x4096, .f32⟩
  | .local _ .vmem, ⟨8, _⟩ => ⟨S4096x64, .f32⟩
  | .local _ .vmem, ⟨9, _⟩ => ⟨S128x4096, .f32⟩
  | .local _ .vmem, ⟨10, _⟩ => ⟨S128x4096, .f32⟩
  | .local _ .vmem, ⟨11, _⟩ => ⟨S128x4096, .bf16⟩
  | .local _ .vmem, ⟨12, _⟩ => ⟨S128x4096, .bf16⟩
  | .local _ .vmem, ⟨13, _⟩ => ⟨S128x64, .f32⟩
  | .local _ .vmem, ⟨14, _⟩ => ⟨S128x64, .f32⟩
  | _, _ => ⟨S8200x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi arg0 c16_i32
  let c0_i32_6 : BitVec 32 := 0#32
  let v19 : BitVec 1 := Scalar.cmpi .ne v18 c0_i32_6
  let v20 : BitVec 1 := Scalar.andi v17 v19
  let v6 : BitVec 32 := Scalar.divsi arg0 c16_i32
  let c1_i32 : BitVec 32 := 1#32
  let v21 : BitVec 32 := Scalar.subi v6 c1_i32
  let v22 : BitVec 32 := Scalar.select v20 v21 v6
  let v25 : Index := Scalar.indexCast v22
  let c0_10 : Index := 0#32
  ![v25.toNat, 0]
def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S132x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S132x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S132x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnNormRefIdeal.lean ====
abbrev S8200x4096 : Shape := ⟨2, ![8200, 4096]⟩
abbrev S12x4096 : Shape := ⟨2, ![12, 4096]⟩
abbrev S4096 : Shape := ⟨1, ![4096]⟩
abbrev S4096x64 : Shape := ⟨2, ![4096, 64]⟩
abbrev S4x4096 : Shape := ⟨2, ![4, 4096]⟩
abbrev S4x2048x4096 : Shape := ⟨3, ![4, 2048, 4096]⟩
abbrev S8192x4096 : Shape := ⟨2, ![8192, 4096]⟩
abbrev S8x4096 : Shape := ⟨2, ![8, 4096]⟩
abbrev S_ : Shape := ⟨0, ![]⟩
abbrev S8200 : Shape := ⟨1, ![8200]⟩
abbrev S8200x1 : Shape := ⟨2, ![8200, 1]⟩
abbrev S1x4096 : Shape := ⟨2, ![1, 4096]⟩
abbrev S8200x64 : Shape := ⟨2, ![8200, 64]⟩

abbrev nBuf : Space → Nat
  | .hbm => 47
  | .vmem => 0
  | .smem => 0
  | _ => 0

abbrev bufTy : (tb : Table) → Fin (tcTables nBuf tb) → BufTy
  | .hbm, ⟨0, _⟩ => ⟨S8200x4096, .f32⟩
  | .hbm, ⟨1, _⟩ => ⟨S8200x4096, .f32⟩
  | .hbm, ⟨2, _⟩ => ⟨S12x4096, .f32⟩
  | .hbm, ⟨3, _⟩ => ⟨S4096, .f32⟩
  | .hbm, ⟨4, _⟩ => ⟨S12x4096, .f32⟩
  | .hbm, ⟨5, _⟩ => ⟨S12x4096, .f32⟩
  | .hbm, ⟨6, _⟩ => ⟨S4096x64, .f32⟩
  | .hbm, ⟨7, _⟩ => ⟨S4x4096, .f32⟩
  | .hbm, ⟨8, _⟩ => ⟨S4x2048x4096, .f32⟩
  | .hbm, ⟨9, _⟩ => ⟨S8192x4096, .f32⟩
  | .hbm, ⟨10, _⟩ => ⟨S8x4096, .f32⟩
  | .hbm, ⟨11, _⟩ => ⟨S8200x4096, .f32⟩
  | .hbm, ⟨12, _⟩ => ⟨S4x4096, .f32⟩
  | .hbm, ⟨13, _⟩ => ⟨S4x2048x4096, .f32⟩
  | .hbm, ⟨14, _⟩ => ⟨S8192x4096, .f32⟩
  | .hbm, ⟨15, _⟩ => ⟨S8x4096, .f32⟩
  | .hbm, ⟨16, _⟩ => ⟨S8200x4096, .f32⟩
  | .hbm, ⟨17, _⟩ => ⟨S4x4096, .f32⟩
  | .hbm, ⟨18, _⟩ => ⟨S4x2048x4096, .f32⟩
  | .hbm, ⟨19, _⟩ => ⟨S8192x4096, .f32⟩
  | .hbm, ⟨20, _⟩ => ⟨S8x4096, .f32⟩
  | .hbm, ⟨21, _⟩ => ⟨S8200x4096, .f32⟩
  | .hbm, ⟨22, _⟩ => ⟨S8200x4096, .f32⟩
  | .hbm, ⟨23, _⟩ => ⟨S8200x4096, .f32⟩
  | .hbm, ⟨24, _⟩ => ⟨S8200x4096, .f32⟩
  | .hbm, ⟨25, _⟩ => ⟨S_, .f32⟩
  | .hbm, ⟨26, _⟩ => ⟨S8200, .f32⟩
  | .hbm, ⟨27, _⟩ => ⟨S8200x1, .f32⟩
  | .hbm, ⟨28, _⟩ => ⟨S_, .f32⟩
  | .hbm, ⟨29, _⟩ => ⟨S8200x1, .f32⟩
  | .hbm, ⟨30, _⟩ => ⟨S8200x1, .f32⟩
  | .hbm, ⟨31, _⟩ => ⟨S_, .f32⟩
  | .hbm, ⟨32, _⟩ => ⟨S8200x1, .f32⟩
  | .hbm, ⟨33, _⟩ => ⟨S8200x1, .f32⟩
  | .hbm, ⟨34, _⟩ => ⟨S8200x1, .f32⟩
  | .hbm, ⟨35, _⟩ => ⟨S8200x4096, .f32⟩
  | .hbm, ⟨36, _⟩ => ⟨S8200x4096, .f32⟩
  | .hbm, ⟨37, _⟩ => ⟨S1x4096, .f32⟩
  | .hbm, ⟨38, _⟩ => ⟨S8200x4096, .f32⟩
  | .hbm, ⟨39, _⟩ => ⟨S8200x4096, .f32⟩
  | .hbm, ⟨40, _⟩ => ⟨S_, .f32⟩
  | .hbm, ⟨41, _⟩ => ⟨S8200x4096, .f32⟩
  | .hbm, ⟨42, _⟩ => ⟨S8200x4096, .f32⟩
  | .hbm, ⟨43, _⟩ => ⟨S8200x4096, .f32⟩
  | .hbm, ⟨44, _⟩ => ⟨S8200x4096, .f32⟩
  | .hbm, ⟨45, _⟩ => ⟨S8200x4096, .bf16⟩
  | .hbm, ⟨46, _⟩ => ⟨S8200x64, .f32⟩
  | _, _ => ⟨S8200x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Up.Body.lean ====
/-
  The up projection's kernel body at one grid point, on any staging buffers, at any float values.

  A point of the grid is (column tile, row block). The body has three ways through:
  * the block is used and its expert differs from the block before (or it is the first of its column tile): the two
    weight tiles are cast and kept in the scratch, then the block is computed from them;
  * the block is used and has the expert of the block before: the weights are read back from the scratch;
  * the block is past the used ones: zeros are stored.
  `run_fresh`, `run_kept` and `run_unused` are the three, each naming what the output's buffer holds afterwards and what
  the two halves of the scratch hold.
-/
module

public import proofs.«01_k».proof.Proof.Gen.UpIdeal.Launch
public import proofs.«01_k».proof.Proof.Gen.UpIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.UpIdeal.Routed

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables, the scratch, and the words the body reads -/

/-- The table of the blocks' experts, as the body is handed it. -/
abbrev experts : Memref sig .tc .smem S192 .i32 := Memref.whole main_v11
abbrev experts_whole : experts.IsWhole := Memref.isWhole_whole _
/-- The table of one word, the number of used blocks. -/
abbrev count : Memref sig .tc .smem S1 .i32 := Memref.whole main_arg2
abbrev count_whole : count.IsWhole := Memref.isWhole_whole _

/-- A table's contents on core `c`, and half of the table held at them. -/
abbrev Words (c : Dev nD) {S : Shape} {e : EltTy} (M : Memref sig .tc .smem S e) : Type := Buf (Elt F) (M.view.loc (c : Thread nD τ))
abbrev holds (c : Dev nD) {S : Shape} {e : EltTy} (M : Memref sig .tc .smem S e) (f : Words (F := F) c M) : sProp 𝕄 :=
  M.view.loc (c : Thread nD τ) ↦{fullShare.right} f

/-- The number of used blocks, the expert of the block before and the expert of this block, as the body loads them. -/
abbrev usedWord {c : Dev nD} (xt1 : Words (F := F) c count) : BitVec 32 :=
  count.view.readAt (Elt F) (Rect.unit (s := S1) ![0] S1.size inb_S1_S1_0).toLoadRect xt1 (Shape.Idx.first (numel1_S1.symm ▸ Nat.one_pos))
abbrev prevWord {c : Dev nD} (i : grid0.Coords) (xt0 : Words (F := F) c experts) : BitVec 32 :=
  experts.view.readAt (Elt F) (Rect.unit (s := S192) (k0_off2 i) S1.size (k0_off2_inb i)).toLoadRect xt0 (Shape.Idx.first (numel1_S1.symm ▸ Nat.one_pos))
abbrev thisWord {c : Dev nD} (i : grid0.Coords) (xt0 : Words (F := F) c experts) : BitVec 32 :=
  experts.view.readAt (Elt F) (Rect.unit (s := S192) (k0_off3 i) S1.size (k0_off3_inb i)).toLoadRect xt0 (Shape.Idx.first (numel1_S1.symm ▸ Nat.one_pos))

/-- The block is the first of its column tile or its expert is not the one before: the weights are cast again. -/
abbrev freshBit (i : grid0.Coords) (this prev : BitVec 32) : BitVec 1 :=
  Scalar.cmpi .ne (Scalar.extui (Scalar.ori (Scalar.cmpi .eq (BitVec.ofNat 32 (i 1).val) 0#32) (Scalar.cmpi .ne this prev)) : BitVec 32) 0#32

/-- The half of the scratch that holds the gate's weights, and the one that holds the other projection's. -/
abbrev gateHalf (d : Vec F S2x4096x256 .bf16) : Vec F S1x4096x256 .bf16 :=
  VecWindow.window d ![0, 0, 0] S1x4096x256.size inb_S2x4096x256_S1x4096x256_0_0_0
abbrev linHalf (d : Vec F S2x4096x256 .bf16) : Vec F S1x4096x256 .bf16 :=
  VecWindow.window d ![1, 0, 0] S1x4096x256.size inb_S2x4096x256_S1x4096x256_1_0_0

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- After both halves are stored, each holds what was stored in it, whatever was in the scratch before. -/
theorem halves_of_writes {κ : Kind} {sp : Space} (v : View sig κ sp S2x4096x256 .bf16) (f : v.ty.Contents (Elt F))
    (p q : Vec F S1x4096x256 .bf16) :
    gateHalf (v.read (Elt F) (v.writes (Elt F) f
        [⟨Rect.unit (s := S2x4096x256) ![1, 0, 0] S1x4096x256.size inb_S2x4096x256_S1x4096x256_1_0_0, q⟩,
         ⟨Rect.unit (s := S2x4096x256) ![0, 0, 0] S1x4096x256.size inb_S2x4096x256_S1x4096x256_0_0_0, p⟩])) = p
    ∧ linHalf (v.read (Elt F) (v.writes (Elt F) f
        [⟨Rect.unit (s := S2x4096x256) ![1, 0, 0] S1x4096x256.size inb_S2x4096x256_S1x4096x256_1_0_0, q⟩,
         ⟨Rect.unit (s := S2x4096x256) ![0, 0, 0] S1x4096x256.size inb_S2x4096x256_S1x4096x256_0_0_0, p⟩])) = q := by
  rw [View.read_writes_cons_put _ _ _ _ _ rfl, View.read_writes_cons_put _ _ _ _ _ rfl]
  exact ⟨(VecWindow.window_put_of_disjoint _ _ _ _ _ _ _ 0 (by decide)).trans (VecWindow.window_put_same ..),
    VecWindow.window_put_same ..⟩

/-- The body's loads of a whole staging buffer read what it holds. -/
theorem read_x {M : Memref sig .tc .vmem S512x4096 .bf16} (h : M.IsWhole) (x : Vec F S512x4096 .bf16) :
    M.view.readAt (Elt F) (Rect.unit (s := S512x4096) ![0, 0] S512x4096.size inb_S512x4096_S512x4096_0_0).toLoadRect (h.unread x) = x :=
  (View.readAt_full (s := S512x4096) _ _ _).trans (h.read_unread x)
theorem read_w {M : Memref sig .tc .vmem S1x1x4096x256 .f32} (h : M.IsWhole) (x : Vec F S1x1x4096x256 .f32) :
    M.view.readAt (Elt F) (Rect.unit (s := S1x1x4096x256) ![0, 0, 0, 0] S1x1x4096x256.size inb_S1x1x4096x256_S1x1x4096x256_0_0_0_0).toLoadRect (h.unread x) = x :=
  (View.readAt_full (s := S1x1x4096x256) _ _ _).trans (h.read_unread x)

/-- The body's first and last conditions are each other's negation. -/
theorem unused_of_not_used (i : grid0.Coords) (v : BitVec 32) (h : ¬ k0_cond1 i v = 1#1) : k0_cond3 i v = 1#1 := by
  unfold k0_cond1 at h; unfold k0_cond3
  dsimp only at h ⊢
  generalize Scalar.cmpi .slt (BitVec.ofNat 32 (i 1).val) v = b at h ⊢
  revert h; revert b; decide
theorem not_unused_of_used (i : grid0.Coords) (v : BitVec 32) (h : k0_cond1 i v = 1#1) : ¬ k0_cond3 i v = 1#1 := by
  unfold k0_cond1 at h; unfold k0_cond3
  dsimp only at h ⊢
  generalize Scalar.cmpi .slt (BitVec.ofNat 32 (i 1).val) v = b at h ⊢
  revert h; revert b; decide

variable (c : Dev nD) (i : grid0.Coords)
  (arg4 : Memref sig .tc .vmem S512x4096 .bf16) (harg4 : arg4.IsWhole)
  (arg5 : Memref sig .tc .vmem S1x1x4096x256 .f32) (harg5 : arg5.IsWhole)
  (arg6 : Memref sig .tc .vmem S1x1x4096x256 .f32) (harg6 : arg6.IsWhole)
  (arg7 : Memref sig .tc .vmem S512x256 .bf16) (harg7 : arg7.IsWhole)
  (arg8 : Memref sig .tc .vmem S2x4096x256 .bf16) (harg8 : arg8.IsWhole)
  (x0 : Vec F S512x4096 .bf16) (x1 x2 : Vec F S1x1x4096x256 .f32)
  (xt0 : Words (F := F) c experts) (xt1 : Words (F := F) c count)

set_option maxHeartbeats 1000000 in
/-- A used block of a new expert: the weights are cast into the scratch, and the block is computed from them. -/
theorem run_fresh (h1 : k0_cond1 i (usedWord xt1) = 1#1) (h2 : freshBit i (thisWord i xt0) (prevWord i xt0) = 1#1)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ (∃ d, owns (c : Thread nD τ) arg8 fullShare d)
        ∗ holds c experts xt0 ∗ holds c count xt1
        ∗ (iprop(owns (c : Thread nD τ) arg4 fullShare x0 ∗ owns (c : Thread nD τ) arg5 fullShare x1 ∗ owns (c : Thread nD τ) arg6 fullShare x2
            ∗ owns (c : Thread nD τ) arg7 fullShare (k0_pay3 x0 (k0_pay1 x1) (k0_pay2 x2))
            ∗ (∃ d, ⌜gateHalf d = k0_pay1 x1 ∧ linHalf d = k0_pay2 x2⌝ ∗ owns (c : Thread nD τ) arg8 fullShare d)
            ∗ holds c experts xt0 ∗ holds c count xt1) -∗ K ⟨⟩))
      ⊢ wp frame (wpE (defs₀ (F := F)) Variants.none c none) E
          (cc0_moe_up i experts experts_whole count count_whole arg4 harg4 arg5 harg5 arg6 harg6 arg7 harg7 arg8 harg8) K := by
  have h3 := not_unused_of_used i _ h1
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, ⟨%ds, %fs, -, HS⟩, HT0, HT1, Hk⟩
  obtain rfl := harg4.eq_unread hf0; obtain rfl := harg5.eq_unread hf1; obtain rfl := harg6.eq_unread hf2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    sl_unfold_words
    refine (View.read_writes_full (s := S512x256) _ _ _ _ _).trans (congr (congr (congrArg k0_pay3 (read_x harg4 x0)) ?_) ?_)
    · exact ((View.readAt_unit _ _ _ rfl _).trans (halves_of_writes _ _ _ _).1).trans (congrArg k0_pay1 (read_w harg5 x1))
    · exact ((View.readAt_unit _ _ _ rfl _).trans (halves_of_writes _ _ _ _).2).trans (congrArg k0_pay2 (read_w harg6 x2))
  isplitl [HS]
  · iexists _; isplitr; swap
    · iexists _; isplitr; swap; · iexact HS
      ipureintro; rfl
    ipureintro
    sl_unfold_words
    exact ⟨(halves_of_writes _ _ _ _).1.trans (congrArg k0_pay1 (read_w harg5 x1)),
      (halves_of_writes _ _ _ _).2.trans (congrArg k0_pay2 (read_w harg6 x2))⟩
  isplitl [HT0]; · iexact HT0
  iexact HT1

set_option maxHeartbeats 1000000 in
/-- A used block of the expert before: the block is computed from the weights found in the scratch, which keeps them. -/
theorem run_kept (h1 : k0_cond1 i (usedWord xt1) = 1#1) (h2 : ¬ freshBit i (thisWord i xt0) (prevWord i xt0) = 1#1) (d : Vec F S2x4096x256 .bf16)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare d
        ∗ holds c experts xt0 ∗ holds c count xt1
        ∗ (iprop(owns (c : Thread nD τ) arg4 fullShare x0 ∗ owns (c : Thread nD τ) arg5 fullShare x1 ∗ owns (c : Thread nD τ) arg6 fullShare x2
            ∗ owns (c : Thread nD τ) arg7 fullShare (k0_pay3 x0 (gateHalf d) (linHalf d))
            ∗ owns (c : Thread nD τ) arg8 fullShare d
            ∗ holds c experts xt0 ∗ holds c count xt1) -∗ K ⟨⟩))
      ⊢ wp frame (wpE (defs₀ (F := F)) Variants.none c none) E
          (cc0_moe_up i experts experts_whole count count_whole arg4 harg4 arg5 harg5 arg6 harg6 arg7 harg7 arg8 harg8) K := by
  have h3 := not_unused_of_used i _ h1
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, ⟨%fs, %hfs, HS⟩, HT0, HT1, Hk⟩
  obtain rfl := harg4.eq_unread hf0; obtain rfl := harg5.eq_unread hf1; obtain rfl := harg6.eq_unread hf2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full (s := S512x256) _ _ _ _ _).trans (congr (congr (congrArg k0_pay3 (read_x harg4 x0))
      ((View.readAt_unit _ _ _ rfl _).trans (congrArg gateHalf hfs))) ((View.readAt_unit _ _ _ rfl _).trans (congrArg linHalf hfs)))
  isplitl [HS]
  · iexists _; isplitr; · ipureintro; exact hfs
    iexact HS
  isplitl [HT0]; · iexact HT0
  iexact HT1

set_option maxHeartbeats 1000000 in
/-- A block past the used ones: zeros are stored, and the scratch is left alone. -/
theorem run_unused (h1 : ¬ k0_cond1 i (usedWord xt1) = 1#1) (d : Vec F S2x4096x256 .bf16)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare d
        ∗ holds c experts xt0 ∗ holds c count xt1
        ∗ (iprop(owns (c : Thread nD τ) arg4 fullShare x0 ∗ owns (c : Thread nD τ) arg5 fullShare x1 ∗ owns (c : Thread nD τ) arg6 fullShare x2
            ∗ owns (c : Thread nD τ) arg7 fullShare k0_pay4
            ∗ owns (c : Thread nD τ) arg8 fullShare d
            ∗ holds c experts xt0 ∗ holds c count xt1) -∗ K ⟨⟩))
      ⊢ wp frame (wpE (defs₀ (F := F)) Variants.none c none) E
          (cc0_moe_up i experts experts_whole count count_whole arg4 harg4 arg5 harg5 arg6 harg6 arg7 harg7 arg8 harg8) K := by
  have h3 := unused_of_not_used i _ h1
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, ⟨%fs, %hfs, HS⟩, HT0, HT1, Hk⟩
  obtain rfl := harg4.eq_unread hf0; obtain rfl := harg5.eq_unread hf1; obtain rfl := harg6.eq_unread hf2
  sl_exec (disch := first | sl_exact h1 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact View.read_writes_full (s := S512x256) _ _ _ _ _
  isplitl [HS]
  · iexists _; isplitr; · ipureintro; exact hfs
    iexact HS
  isplitl [HT0]; · iexact HT0
  iexact HT1

end Cert.UpIdeal.Routed

end
-- ==== Proof.Up.Entry.lean ====
/-
  What the up projection's pallas_call finds when it is entered, at any float values: the host's fifteen operations run,
  the arguments untouched, the two tables' contents, each window's block as a function of those tables, and the words the
  body compares in closed form.
-/
module

public import proofs.«01_k».proof.Proof.Up.Body

@[expose] public section

set_option maxRecDepth 16384

noncomputable section

namespace Cert.UpIdeal.Routed

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Memory at the call -/

/-- A buffer's contents when the call is entered: the host's operations applied to the launch memory. -/
abbrev entry (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem reaches_call (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub host_fresh main_chain

/-- The buffers the host's operations write. -/
abbrev hostWrites : List (Ref sig .tc) :=
  [main_v0, main_v1, main_c, main_v2, main_v3, main_v4, main_c_0, main_v5, main_v6, main_c_1, main_v7, main_v8, main_v9, main_v10, main_v11]

/-- A buffer the host does not write is as it was launched. -/
theorem entry_of_not_written (c : Dev nD) {b : Ref sig .tc} (h : ∀ r ∈ hostWrites, b ≠ r) : entry m c b = m ((c : Thread nD τ).loc b) :=
  StableHlo.after_of_forall_not_mem (b := Proc.devRef .tc b) _ _ (List.forall_iff_forall_mem.mp (by
    simp only [hostWrites, List.forall_mem_cons] at h
    simp only [hostOps0, List.Forall, StableHlo.nullary_writes, StableHlo.unary_writes, StableHlo.binary_writes, StableHlo.ternary_writes,
      StableHlo.reshape_writes, Finset.mem_singleton]
    obtain ⟨h0, h1, h2, h3, h4, h5, h6, h7, h8, h9, h10, h11, h12, h13, h14, -⟩ := h
    refine ⟨?_, ?_, ?_, ?_, ?_, ?_, ?_, ?_, ?_, ?_, ?_, ?_, ?_, ?_, ?_⟩ <;> exact StableHlo.devRef_ne_of_ne (by assumption)))

/-! ## The tables -/

/-- The tables' contents when the call is entered. There is one device. -/
def tables : pre0.Contents (Elt F) := fun j => entry m (0 : Dev nD) (pre0.ref j)
theorem entry_table (c : Dev nD) (j : Fin 2) : entry m c (pre0.ref j) = tables m j := by
  obtain rfl : c = 0 := Subsingleton.elim _ _; rfl

/-- Every block the tables name is inside its array. -/
abbrev Inside : Prop := ok0 (F := F) (tables m)
abbrev admitted (hO : Inside m) : (pcfg0 (F := F)).Adm := ⟨tables m, hO⟩
abbrev launched (hO : Inside m) : Pipeline.Cfg sig Λ₀ := cfg0 (admitted m hO)

/-- The number of used blocks, a block's expert and the expert before it, as words of those tables. -/
abbrev used : BitVec 32 := usedWord (F := F) (c := (0 : Dev nD)) (tables m 1)
abbrev this (i : grid0.Coords) : BitVec 32 := thisWord (F := F) (c := (0 : Dev nD)) i (tables m 0)
abbrev prev (i : grid0.Coords) : BitVec 32 := prevWord (F := F) (c := (0 : Dev nD)) i (tables m 0)

/-- The table of experts at a block's number. -/
def expertAt (k : ℕ) (h : k < 192) : BitVec 32 := tables m 0 (fun a => ⟨![k] a, by fin_cases a; exact h⟩)

theorem this_eq (i : grid0.Coords) : this m i = expertAt m (i 1).val (i 1).isLt := by
  refine congrArg (tables m 0) (funext fun a => Fin.ext ?_)
  fin_cases a
  show k0_off3 i 0 + 1 * 0 = _
  rw [k0_off3_eq]; rfl

theorem off2_eq (i : grid0.Coords) : k0_off2 i 0 = (i 1).val - 1 := by
  have h := (i 1).isLt
  revert h; show ∀ _ : (i 1).val < 192, _
  unfold k0_off2
  generalize (i 1).val = n
  intro h
  show (Scalar.indexCast (Scalar.maxsi (Scalar.subi (BitVec.ofNat 32 n) 1#32) 0#32)).toNat = n - 1
  revert n
  decide +kernel

theorem prev_eq (i : grid0.Coords) : prev m i = expertAt m ((i 1).val - 1) (lt_of_le_of_lt (Nat.sub_le _ _) (i 1).isLt) := by
  refine congrArg (tables m 0) (funext fun a => Fin.ext ?_)
  fin_cases a
  show k0_off2 i 0 + 1 * 0 = _
  rw [off2_eq]; rfl

theorem expertAt_congr {k l : ℕ} (e : k = l) (h : k < 192) (h' : l < 192) : expertAt m k h = expertAt m l h' := by subst e; rfl

/-! ## The words the body compares -/

theorem used_iff (i : grid0.Coords) (v : BitVec 32) : k0_cond1 i v = 1#1 ↔ ((i 1).val : ℤ) < v.toInt := by
  have h : (i 1).val < 192 := (i 1).isLt
  have e : (BitVec.ofNat 32 (i 1).val).toInt = ((i 1).val : ℤ) := by
    rw [BitVec.toInt_ofNat']; simp only [Int.bmod]; omega
  have q : ∀ b : BitVec 1, Scalar.cmpi .ne (Scalar.extui b : BitVec 32) 0#32 = b := by decide
  unfold k0_cond1
  dsimp only
  rw [q]
  show IntOp.cmpi .slt _ _ = 1#1 ↔ _
  rw [WordCmp.cmpi_slt_eq, e]
  by_cases hl : ((i 1).val : ℤ) < v.toInt <;> simp [hl]

/-- Weights are kept only past the first block of a column tile, when the expert is the one before. -/
theorem of_not_fresh (i : grid0.Coords) (a b : BitVec 32) (h : ¬ freshBit i a b = 1#1) : 0 < (i 1).val ∧ a = b := by
  have q : ∀ b : BitVec 1, Scalar.cmpi .ne (Scalar.extui b : BitVec 32) 0#32 = b := by decide
  have hi : (i 1).val < 192 := (i 1).isLt
  unfold freshBit at h
  rw [q] at h
  have h' : ¬ (IntOp.ori (IntOp.cmpi .eq (BitVec.ofNat 32 (i 1).val) 0#32) (IntOp.cmpi .ne a b)) = 1#1 := h
  rw [WordCmp.cmpi_eq_eq, WordCmp.cmpi_ne_eq] at h'
  by_cases e1 : BitVec.ofNat 32 (i 1).val = 0#32
  · exact absurd (by simp only [e1, decide_true]; by_cases e2 : a = b <;> simp [e2] <;> decide) h'
  · by_cases e2 : a = b
    · refine ⟨Nat.pos_of_ne_zero fun h0 => e1 (by rw [h0]), e2⟩
    · exact absurd (by rw [decide_eq_false e1, decide_eq_true e2]; rfl) h'

/-! ## Points and coordinates -/

theorem coord_block (t : Fin grid0.N) : (grid0.coords t 1).val = t.val % 192 := by
  rw [Pipeline.Grid.coords_val t 1 (S := 1) (B := 192) (by decide) rfl, Nat.div_one]
theorem coord_tile (t : Fin grid0.N) : (grid0.coords t 0).val = t.val / 192 % 4 :=
  Pipeline.Grid.coords_val t 0 (S := 192) (B := 4) (by decide) rfl

/-! ## The windows' blocks -/

/-- A window's block at a point, read off its array as the call finds it. -/
def blockAt (hO : Inside m) (c : Dev nD) (w : Fin (launched m hO).W) (t : Fin (launched m hO).N) :
    (((launched m hO).win w).xblock ((launched m hO).grid.coords t)).Idx → Elt F ((launched m hO).win w).elt :=
  (((launched m hO).win w).blk t).view.read (Elt F) (entry m c (Pipeline.arrRef spec0 w))

/-- One expert's tile of a weight array, by the block index. -/
def weights (A : Vec F S2x64x4096x1024 .f32) (ix : Fin 4 → ℕ) (h : ∀ a, (ix a + 1) * S1x1x4096x256.size a ≤ S2x64x4096x1024.size a) :
    Vec F S1x1x4096x256 .f32 :=
  fun y => A ((Rect.block (s := S2x64x4096x1024) S1x1x4096x256.size ix h).emb y)

theorem weights_congr (A : Vec F S2x64x4096x1024 .f32) {ix ix' : Fin 4 → ℕ} (e : ix = ix')
    (h : ∀ a, (ix a + 1) * S1x1x4096x256.size a ≤ S2x64x4096x1024.size a)
    (h' : ∀ a, (ix' a + 1) * S1x1x4096x256.size a ≤ S2x64x4096x1024.size a) : weights A ix h = weights A ix' h' := by
  subst e; rfl

/-- The index map of the two weight windows. -/
theorem transform_1_eq (i : grid0.Coords) :
    cc0_transform_1 k0_off1_inb numel1_S1 (tables m) i = ![0, (this m i).toNat, 0, (i 0).val] := by
  have h : (i 0).val < 4 := (i 0).isLt
  have e : (BitVec.ofNat 32 (i 0).val).toNat = (i 0).val := by rw [BitVec.toNat_ofNat]; omega
  show ![0, (this m i).toNat, 0, (BitVec.ofNat 32 (i 0).val).toNat] = _
  rw [e]
theorem transform_2_eq (i : grid0.Coords) :
    cc0_transform_2 k0_off1_inb numel1_S1 (tables m) i = ![0, (this m i).toNat, 0, (i 0).val] := transform_1_eq m i

theorem weights_inside (hO : Inside m) (i : grid0.Coords) :
    ∀ a, ((![0, (this m i).toNat, 0, (i 0).val] : Fin 4 → ℕ) a + 1) * S1x1x4096x256.size a ≤ S2x64x4096x1024.size a := by
  rw [← transform_1_eq]; exact (hO.2.1 i).1

theorem blockAt_1 (hO : Inside m) (c : Dev nD) (t : Fin (launched m hO).N) :
    blockAt m hO c 1 t = weights (entry m c main_arg3) _ (weights_inside m hO (grid0.coords t)) :=
  weights_congr (entry m c main_arg3) (transform_1_eq m (grid0.coords t)) (hO.2.1 _).1 _
theorem blockAt_2 (hO : Inside m) (c : Dev nD) (t : Fin (launched m hO).N) :
    blockAt m hO c 2 t = weights (entry m c main_arg4) _ (weights_inside m hO (grid0.coords t)) :=
  weights_congr (entry m c main_arg4) (transform_2_eq m (grid0.coords t)) (hO.2.2 _).1 _

/-- At a block whose expert is the one before, in the same column tile, the two weight windows show what they showed before. -/
theorem blocks_kept (hO : Inside m) (c : Dev nD) (t t' : Fin (launched m hO).N) (ht : t'.val + 1 = t.val)
    (h2 : ¬ freshBit (grid0.coords t) (this m (grid0.coords t)) (prev m (grid0.coords t)) = 1#1) :
    (grid0.coords t' 1).val + 1 = (grid0.coords t 1).val
    ∧ blockAt m hO c 1 t = blockAt m hO c 1 t' ∧ blockAt m hO c 2 t = blockAt m hO c 2 t' := by
  obtain ⟨hpos, he⟩ := of_not_fresh _ _ _ h2
  have b := coord_block t; have b' := coord_block t'
  have j := coord_tile t; have j' := coord_tile t'
  have hb : (grid0.coords t' 1).val + 1 = (grid0.coords t 1).val := by omega
  have hj : (grid0.coords t 0).val = (grid0.coords t' 0).val := by omega
  have hw : this m (grid0.coords t) = this m (grid0.coords t') := by
    rw [he, prev_eq, this_eq]; exact expertAt_congr m (by omega) _ _
  have hix : (![0, (this m (grid0.coords t)).toNat, 0, (grid0.coords t 0).val] : Fin 4 → ℕ)
      = ![0, (this m (grid0.coords t')).toNat, 0, (grid0.coords t' 0).val] := by rw [hw, hj]
  exact ⟨hb, by rw [blockAt_1, blockAt_1]; exact weights_congr _ hix _ _, by rw [blockAt_2, blockAt_2]; exact weights_congr _ hix _ _⟩

/-! ## What the pipeline hands the body -/

theorem before_in (hO : Inside m) {c : Dev nD} (dat : Dat τ (Elt F) Unit ℕ (UR sig nD τ) ℕ (launched m hO) c) (w : Fin 4) (hin : w ≠ 3)
    (hA : dat.A w = entry m c (Pipeline.arrRef spec0 w)) (hafter : ∀ t, dat.after w t = blockAt m hO c w t) (t : Fin (launched m hO).N) (d) :
    dat.before w t d = blockAt m hO c w t := by
  fin_cases w
  case «3» => exact absurd rfl hin
  all_goals
    exact (dat.before_in_eq_fetched _ rfl (fun _ => rfl) (fun _ _ _ => rfl) (fun t => by rw [hafter]; unfold Dat.blockOf blockAt; rw [hA]; try rfl) t d).trans
      (by unfold Dat.fetched Dat.blockOf blockAt; rw [hA]; try rfl)

/-- The result's window is written back at every point. -/
theorem flushed (a : (pcfg0 (F := F)).Adm) : ∀ t : Fin (cfg0 a).N, ((cfg0 a).win 3).flush t = true :=
  (fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _) :
      ∀ t : Fin grid0.N, Pipeline.Window.flushOf grid0 true cc0_transform_3 t = true)

/-- The body stores the result's block at every point: one of its two conditions holds. -/
theorem never_idle (pf : pre0.Contents (Elt F)) (i : grid0.Coords) : idle0 pf 3 i = false := by
  show (!(k0_cond1 i (pf.atD 1 ![0]) == 1#1) && !(k0_cond3 i (pf.atD 1 ![0]) == 1#1)) = false
  by_cases h : k0_cond1 i (pf.atD 1 ![0]) = 1#1
  · rw [h]; rfl
  · rw [unused_of_not_used i _ h, Bool.and_eq_false_iff]; exact Or.inr rfl

/-- The scratch as the body is handed it. -/
abbrev kept : Memref sig .tc .vmem S2x4096x256 .bf16 := Memref.whole cc0_scratch0

theorem tables_held (c : Dev nD) :
    (Pipeline.ΦT pre0 (tables m) c : sProp 𝕄) = iprop(holds c experts (tables m 0) ∗ holds c count (tables m 1)) := by
  unfold Pipeline.ΦT Pipeline.prefHeld
  rw [show (Finset.univ : Finset (Fin 2)) = insert (0 : Fin 2) {(1 : Fin 2)} from by decide, bigSep_insert (by decide), bigSep_singleton]
  rfl

theorem scratch_held (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

end Cert.UpIdeal.Routed

end
-- ==== Proof.Up.Frame.lean ====
/-
  The up projection's body at every point of the grid, at any float values: it leaves in the result's buffer what `leaves`
  names. What is carried from point to point is that the scratch holds the cast weights of the last used block.
-/
module

public import proofs.«01_k».proof.Proof.Up.Entry

@[expose] public section

set_option maxRecDepth 16384

noncomputable section

namespace Cert.UpIdeal.Routed

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Inside m)

/-- What a point leaves in the result's staging buffer: the block computed with its expert's weights, or zeros. -/
def leaves (c : Dev nD) (t : Fin (launched m hO).N) : Vec F S512x256 .bf16 :=
  if k0_cond1 (grid0.coords t) (used m) = 1#1 then
    k0_pay3 (blockAt m hO c 0 t) (k0_pay1 (blockAt m hO c 1 t)) (k0_pay2 (blockAt m hO c 2 t))
  else k0_pay4

/-- Before point `n`, if the point before it was a used block, the scratch `d` holds that block's cast weights. -/
def Holds (c : Dev nD) (n : ℕ) (d : Vec F S2x4096x256 .bf16) : Prop :=
  ∀ t : Fin (launched m hO).N, t.val + 1 = n → k0_cond1 (grid0.coords t) (used m) = 1#1 →
    gateHalf d = k0_pay1 (blockAt m hO c 1 t) ∧ linHalf d = k0_pay2 (blockAt m hO c 2 t)

/-- What is carried from point to point. -/
def carried (c : Dev nD) (n : ℕ) : sProp 𝕄 :=
  iprop((∃ d, ⌜Holds m hO c n d⌝ ∗ owns (c : Thread nD τ) kept fullShare d) ∗ (∃ r, prngReg c r) ∗ Pipeline.ΦT pre0 (tables m) c)

def dats (_ : Fin 1) (c : Dev nD) : Dat τ (Elt F) Unit ℕ (UR sig nD τ) ℕ (launched m hO) c where
  A w := entry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => leaves m hO c t
  Φ t := (fun n (_ : n ≤ (launched m hO).N) => carried m hO c n) t.val (Nat.le_of_lt_succ t.isLt)
  q _ := fullShare
  owed _ := 0

theorem dats_A (c : Dev nD) (w : Fin (launched m hO).W) : (dats m hO 0 c).A w = entry m c (Pipeline.arrRef spec0 w) := by
  dsimp only [dats]
theorem after_0 (c : Dev nD) (t : Fin (launched m hO).N) : (dats m hO 0 c).after 0 t = blockAt m hO c 0 t := by dsimp only [dats]; try rfl
theorem after_1 (c : Dev nD) (t : Fin (launched m hO).N) : (dats m hO 0 c).after 1 t = blockAt m hO c 1 t := by dsimp only [dats]; try rfl
theorem after_2 (c : Dev nD) (t : Fin (launched m hO).N) : (dats m hO 0 c).after 2 t = blockAt m hO c 2 t := by dsimp only [dats]; try rfl
theorem after_3 (c : Dev nD) (t : Fin (launched m hO).N) : (dats m hO 0 c).after 3 t = leaves m hO c t := by dsimp only [dats]; try rfl
theorem before_0 (c : Dev nD) (t : Fin (launched m hO).N) (d) : (dats m hO 0 c).before 0 t d = blockAt m hO c 0 t :=
  before_in m hO (dats m hO 0 c) 0 (by decide) (dats_A m hO c 0) (after_0 m hO c) t d
theorem before_1 (c : Dev nD) (t : Fin (launched m hO).N) (d) : (dats m hO 0 c).before 1 t d = blockAt m hO c 1 t :=
  before_in m hO (dats m hO 0 c) 1 (by decide) (dats_A m hO c 1) (after_1 m hO c) t d
theorem before_2 (c : Dev nD) (t : Fin (launched m hO).N) (d) : (dats m hO 0 c).before 2 t d = blockAt m hO c 2 t :=
  before_in m hO (dats m hO 0 c) 2 (by decide) (dats_A m hO c 2) (after_2 m hO c) t d
theorem carried_before (c : Dev nD) (t : Fin (launched m hO).N) : (dats m hO 0 c).Φ t.castSucc = carried m hO c t.val := by
  dsimp only [dats]; exact Pipeline.Dat.Φ_castSucc (fun n _ => carried m hO c n) t
theorem carried_after (c : Dev nD) (t : Fin (launched m hO).N) : (dats m hO 0 c).Φ t.succ = carried m hO c (t.val + 1) := by
  dsimp only [dats]; exact congrArg (carried m hO c) (Fin.val_succ t)

/-! ## The body at a point -/

abbrev bufX (t : Fin (launched m hO).N) : Memref sig .tc .vmem S512x4096 .bf16 := spec0_0.stage ((launched m hO).slots t 0)
abbrev bufW1 (t : Fin (launched m hO).N) : Memref sig .tc .vmem S1x1x4096x256 .f32 := spec0_1.stage ((launched m hO).slots t 1)
abbrev bufW3 (t : Fin (launched m hO).N) : Memref sig .tc .vmem S1x1x4096x256 .f32 := spec0_2.stage ((launched m hO).slots t 2)
abbrev bufY (t : Fin (launched m hO).N) : Memref sig .tc .vmem S512x256 .bf16 := spec0_3.stage ((launched m hO).slots t 3)
abbrev bufX_whole (t : Fin (launched m hO).N) : (bufX m hO t).IsWhole := hstage0_0 (((launched m hO).slots t 0).cast nbuf0_0)
abbrev bufW1_whole (t : Fin (launched m hO).N) : (bufW1 m hO t).IsWhole := hstage0_1 (((launched m hO).slots t 1).cast nbuf0_1)
abbrev bufW3_whole (t : Fin (launched m hO).N) : (bufW3 m hO t).IsWhole := hstage0_2 (((launched m hO).slots t 2).cast nbuf0_2)
abbrev bufY_whole (t : Fin (launched m hO).N) : (bufY m hO t).IsWhole := hstage0_3 (((launched m hO).slots t 3).cast nbuf0_3)

/-- The body, on what the pipeline calls it with. -/
abbrev bodyAt (t : Fin (launched m hO).N) : Prog (TpuEff nD τ sig (Elt F) Λ₀ .tc) PUnit :=
  cc0_moe_up (grid0.coords t) experts experts_whole count count_whole (bufX m hO t) (bufX_whole m hO t) (bufW1 m hO t) (bufW1_whole m hO t)
    (bufW3 m hO t) (bufW3_whole m hO t) (bufY m hO t) (bufY_whole m hO t) kept (Memref.isWhole_whole _)

def pointPre (c : Dev nD) (t : Fin (launched m hO).N) : sProp 𝕄 :=
  iprop((dats m hO 0 c).Φ t.castSucc ∗ (dats m hO 0 c).owesAt () t.castSucc
    ∗ (∃ d, owns (c : Thread nD τ) (bufX m hO t) fullShare ((dats m hO 0 c).before 0 t d))
    ∗ (∃ d, owns (c : Thread nD τ) (bufW1 m hO t) fullShare ((dats m hO 0 c).before 1 t d))
    ∗ (∃ d, owns (c : Thread nD τ) (bufW3 m hO t) fullShare ((dats m hO 0 c).before 2 t d))
    ∗ (∃ d, owns (c : Thread nD τ) (bufY m hO t) fullShare ((dats m hO 0 c).before 3 t d)))

def pointPost (c : Dev nD) (t : Fin (launched m hO).N) : sProp 𝕄 :=
  iprop((dats m hO 0 c).Φ t.succ ∗ (dats m hO 0 c).owesAt () t.succ
    ∗ owns (c : Thread nD τ) (bufX m hO t) fullShare ((dats m hO 0 c).after 0 t)
    ∗ owns (c : Thread nD τ) (bufW1 m hO t) fullShare ((dats m hO 0 c).after 1 t)
    ∗ owns (c : Thread nD τ) (bufW3 m hO t) fullShare ((dats m hO 0 c).after 2 t)
    ∗ owns (c : Thread nD τ) (bufY m hO t) fullShare ((dats m hO 0 c).after 3 t))

/-- The scratch's invariant after a used block of a new expert, after one of the expert before, and after an unused one. -/
theorem holds_fresh (c : Dev nD) (t : Fin (launched m hO).N) (d : Vec F S2x4096x256 .bf16)
    (h : gateHalf d = k0_pay1 (blockAt m hO c 1 t) ∧ linHalf d = k0_pay2 (blockAt m hO c 2 t)) : Holds m hO c (t.val + 1) d := by
  intro t' ht' _
  obtain rfl : t' = t := Fin.ext (by omega)
  exact h
theorem holds_unused (c : Dev nD) (t : Fin (launched m hO).N) (d : Vec F S2x4096x256 .bf16)
    (h : ¬ k0_cond1 (grid0.coords t) (used m) = 1#1) : Holds m hO c (t.val + 1) d := by
  intro t' ht' hu
  obtain rfl : t' = t := Fin.ext (by omega)
  exact absurd hu h
theorem found_kept (c : Dev nD) (t : Fin (launched m hO).N) (d : Vec F S2x4096x256 .bf16) (h : Holds m hO c t.val d)
    (h1 : k0_cond1 (grid0.coords t) (used m) = 1#1)
    (h2 : ¬ freshBit (grid0.coords t) (this m (grid0.coords t)) (prev m (grid0.coords t)) = 1#1) :
    gateHalf d = k0_pay1 (blockAt m hO c 1 t) ∧ linHalf d = k0_pay2 (blockAt m hO c 2 t) := by
  have hb := coord_block t
  obtain ⟨hpos, -⟩ := of_not_fresh _ _ _ h2
  have ht : t.val ≠ 0 := by intro h0; rw [h0] at hb; omega
  let t' : Fin (launched m hO).N := ⟨t.val - 1, lt_of_le_of_lt (Nat.sub_le _ _) t.isLt⟩
  have ht' : t'.val + 1 = t.val := Nat.succ_pred_eq_of_ne_zero ht
  obtain ⟨hc, e1, e2⟩ := blocks_kept m hO c t t' ht' h2
  rw [e1, e2]
  refine h t' ht' ((used_iff _ _).mpr ?_)
  have := (used_iff _ _).mp h1
  omega

set_option maxHeartbeats 800000 in
theorem body_sound (c : Dev nD) (t : Fin (launched m hO).N) :
    pointPre m hO c t ⊢ wp frame (wpE (defs₀ (F := F)) Variants.none c none) Set.univ (bodyAt m hO t) (fun _ => pointPost m hO c t) := by
  obtain rfl : c = 0 := Subsingleton.elim _ _
  unfold pointPre pointPost bodyAt
  simp only [before_0, before_1, before_2]
  rw [carried_before, carried_after, show (dats m hO 0 0).owesAt () t.succ = (dats m hO 0 0).owesAt () t.castSucc from rfl,
    after_0, after_1, after_2, after_3]
  unfold carried
  rw [tables_held]
  unfold leaves
  by_cases h1 : k0_cond1 (grid0.coords t) (used m) = 1#1
  · rw [if_pos h1]
    by_cases h2 : freshBit (grid0.coords t) (this m (grid0.coords t)) (prev m (grid0.coords t)) = 1#1
    · iintro ⟨⟨⟨%d, %hd, HS⟩, Hg, HT0, HT1⟩, Ho, ⟨%d0, H0⟩, ⟨%d1, H1⟩, ⟨%d2, H2⟩, ⟨%d3, H3⟩⟩
      iapply (run_fresh 0 (grid0.coords t) _ _ _ _ _ _ _ _ _ _ (blockAt m hO 0 0 t) (blockAt m hO 0 1 t) (blockAt m hO 0 2 t) (tables m 0) (tables m 1) h1 h2 Set.univ _)
      isplitl [H0]; · iexact H0
      isplitl [H1]; · iexact H1
      isplitl [H2]; · iexact H2
      isplitl [H3]; · iexists _; iexact H3
      isplitl [HS]; · iexists _; iexact HS
      isplitl [HT0]; · iexact HT0
      isplitl [HT1]; · iexact HT1
      iintro ⟨H0, H1, H2, H3, ⟨%d', %hd', HS⟩, HT0, HT1⟩
      isplitl [HS Hg HT0 HT1]
      · isplitl [HS]
        · iexists d'; isplitr; · ipureintro; exact holds_fresh m hO 0 t d' hd'
          iexact HS
        isplitl [Hg]; · iexact Hg
        isplitl [HT0]; · iexact HT0
        iexact HT1
      isplitl [Ho]; · iexact Ho
      isplitl [H0]; · iexact H0
      isplitl [H1]; · iexact H1
      isplitl [H2]; · iexact H2
      iexact H3
    · iintro ⟨⟨⟨%d, %hd, HS⟩, Hg, HT0, HT1⟩, Ho, ⟨%d0, H0⟩, ⟨%d1, H1⟩, ⟨%d2, H2⟩, ⟨%d3, H3⟩⟩
      have hk := found_kept m hO 0 t d hd h1 h2
      iapply (run_kept 0 (grid0.coords t) _ _ _ _ _ _ _ _ _ _ (blockAt m hO 0 0 t) (blockAt m hO 0 1 t) (blockAt m hO 0 2 t) (tables m 0) (tables m 1) h1 h2 d Set.univ _)
      isplitl [H0]; · iexact H0
      isplitl [H1]; · iexact H1
      isplitl [H2]; · iexact H2
      isplitl [H3]; · iexists _; iexact H3
      isplitl [HS]; · iexact HS
      isplitl [HT0]; · iexact HT0
      isplitl [HT1]; · iexact HT1
      rw [hk.1, hk.2]
      iintro ⟨H0, H1, H2, H3, HS, HT0, HT1⟩
      isplitl [HS Hg HT0 HT1]
      · isplitl [HS]
        · iexists d; isplitr; · ipureintro; exact holds_fresh m hO 0 t d hk
          iexact HS
        isplitl [Hg]; · iexact Hg
        isplitl [HT0]; · iexact HT0
        iexact HT1
      isplitl [Ho]; · iexact Ho
      isplitl [H0]; · iexact H0
      isplitl [H1]; · iexact H1
      isplitl [H2]; · iexact H2
      iexact H3
  · rw [if_neg h1]
    iintro ⟨⟨⟨%d, %hd, HS⟩, Hg, HT0, HT1⟩, Ho, ⟨%d0, H0⟩, ⟨%d1, H1⟩, ⟨%d2, H2⟩, ⟨%d3, H3⟩⟩
    iapply (run_unused 0 (grid0.coords t) _ _ _ _ _ _ _ _ _ _ (blockAt m hO 0 0 t) (blockAt m hO 0 1 t) (blockAt m hO 0 2 t) (tables m 0) (tables m 1) h1 d Set.univ _)
    isplitl [H0]; · iexact H0
    isplitl [H1]; · iexact H1
    isplitl [H2]; · iexact H2
    isplitl [H3]; · iexists _; iexact H3
    isplitl [HS]; · iexact HS
    isplitl [HT0]; · iexact HT0
    isplitl [HT1]; · iexact HT1
    iintro ⟨H0, H1, H2, H3, HS, HT0, HT1⟩
    isplitl [HS Hg HT0 HT1]
    · isplitl [HS]
      · iexists d; isplitr; · ipureintro; exact holds_unused m hO 0 t d h1
        iexact HS
      isplitl [Hg]; · iexact Hg
      isplitl [HT0]; · iexact HT0
      iexact HT1
    isplitl [Ho]; · iexact Ho
    isplitl [H0]; · iexact H0
    isplitl [H1]; · iexact H1
    isplitl [H2]; · iexact H2
    iexact H3

end Cert.UpIdeal.Routed

end
-- ==== Proof.Up.Run.lean ====
/-
  The up projection's run, at any float values: from any memory whose tables name blocks inside their arrays, the call
  terminates with its counters at zero and its result written block by block with what `leaves` names.
-/
module

public import proofs.«01_k».proof.Proof.Up.Frame
public import Idealize.ShloMosaic.Lib.Pipeline.ValueKit.Geometry

@[expose] public section

set_option maxRecDepth 16384

noncomputable section

namespace Cert.UpIdeal.Routed

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Inside m)

/-! ## The run -/

theorem body_row (t : Fin (launched m hO).N) :
    defs₀ (F := F) .tc (launched m hO).body ((launched m hO).bodyArgs t ((launched m hO).slots t)) = bodyAt m hO t := by
  unfold defs₀; rw [Defs.onTc_tc]

/-- The pipeline's obligation on the body when no window is ever idle: every window is left as the body leaves it. -/
theorem obligation_of_live {cfg : Cfg sig Λ₀} {c : Dev nD} (dat : Dat τ (Elt F) Unit ℕ (UR sig nD τ) ℕ cfg c)
    (live : ∀ w i, cfg.idle w i = false) (defs' : Defs nD τ sig (Elt F) Λ₀)
    (h : ∀ t : Fin cfg.N,
      iprop(dat.Φ t.castSucc ∗ dat.owesAt () t.castSucc
          ∗ bigSep Finset.univ fun w : Fin cfg.W =>
              iprop(∃ d, owns (c : Thread nD τ) ((cfg.win w).stage (cfg.slots t w)) fullShare (dat.before w t d)))
        ⊢ wp frame (wpE defs' Variants.none c none) Set.univ (defs' .tc cfg.body (cfg.bodyArgs t (cfg.slots t))) fun _ =>
            iprop(dat.Φ t.succ ∗ dat.owesAt () t.succ
              ∗ bigSep Finset.univ fun w : Fin cfg.W =>
                  owns (c : Thread nD τ) ((cfg.win w).stage (cfg.slots t w)) fullShare (dat.after w t))) :
    BodyObligation dat defs' Variants.none () Set.univ := fun t => by
  refine triple_restated (h t) rfl .rfl fun _ => sep_mono .rfl (sep_mono .rfl (bigSep_mono fun w _ => ?_))
  dsimp only
  rw [live w]
  exact Idealize.SL.BI.Entails.refl _

theorem all_live (pf : pre0.Contents (Elt F)) (w : Fin 4) (i : grid0.Coords) : idle0 pf w i = false := by
  fin_cases w
  · rfl
  · rfl
  · rfl
  · exact never_idle pf i

theorem obligation (c : Dev nD) : BodyObligation (dats (F := F) m hO 0 c) (defs₀ (F := F)) Variants.none () Set.univ :=
  obligation_of_live (dats m hO 0 c) (all_live (tables m)) defs₀ fun t => by
    rw [bigSep_W0, bigSep_W0, body_row m hO]
    exact triple_restated (body_sound m hO c t) rfl .rfl fun _ => .rfl

set_option backward.isDefEq.respectTransparency.types false in
/-- Every execution terminates with the call's arrays at what the blocks written back make of them, and every counter at zero. -/
theorem run : θ_run defs (onTc (τ := τ) (main (F := F))) (s₀ m ρ)
    (fun r => Pipeline.FramePost (Pipeline.pin pcfgs fun _ => admitted m hO) (dats m hO) 0 (entry m) r ∧ r.2.sem = fun _ => 0) :=
  Pipeline.θ_run_frameP_track (Q' := _) pcfgs (fun _ => admitted m hO) (dats m hO) (0 : Fin 1) launch0 defs₀ Variants.none m ρ main
    (hbody := fun c => (obligation m hO c).loose) (hshare := fun c => (dats m hO 0 c).share_full fun _ => rfl)
    (howed := fun _ _ => rfl) (V := entry m) (hmain := reaches_call m Variants.none) (hA := dats_A m hO) (hpf := entry_table m)
    (hin := fun c => by
      show iprop(Pipeline.ΦA spec0 c ∗ Pipeline.ΦT pre0 (tables m) c) ⊢ carried m hO c 0
      rw [scratch_held]; unfold carried
      iintro ⟨⟨⟨%d, HS⟩, Hg⟩, HT⟩
      isplitl [HS]
      · iexists d; isplitr; · ipureintro; exact fun t ht => absurd ht (Nat.succ_ne_zero _)
        iexact HS
      isplitl [Hg]; · iexact Hg
      iexact HT)
    (hout := fun c => by
      show carried m hO c _ ⊢ Pipeline.ΦA spec0 c
      rw [scratch_held]; unfold carried
      iintro ⟨⟨%d, %hd, HS⟩, Hg, HT⟩
      isplitl [HS]; · iexists d; iexact HS
      iexact Hg)

/-- The arguments end as they were launched. -/
theorem arguments_kept (r : PUnit × MemSt nD τ sig (Elt F))
    (h : Pipeline.FramePost (Pipeline.pin pcfgs fun _ => admitted m hO) (dats m hO) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(Pipeline.FramePost.in_eq h c 0 rfl).trans ((dats_A m hO c 0).trans (entry_of_not_written m c (b := main_arg0) (by decide))),
    (Pipeline.FramePost.rest_eq h c main_arg1 (by decide : main_arg1 ∈ Pipeline.restRefs sig spec0)).trans (entry_of_not_written m c (by decide)),
    (Pipeline.FramePost.rest_eq h c main_arg2 (by decide : main_arg2 ∈ Pipeline.restRefs sig spec0)).trans (entry_of_not_written m c (by decide)),
    (Pipeline.FramePost.in_eq h c 1 rfl).trans ((dats_A m hO c 1).trans (entry_of_not_written m c (b := main_arg3) (by decide))),
    (Pipeline.FramePost.in_eq h c 2 rfl).trans ((dats_A m hO c 2).trans (entry_of_not_written m c (b := main_arg4) (by decide)))⟩

include hO in
/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨arguments_kept m hO r h.1, h.2⟩) (run m ρ hO)

/-- The result's array ends at what the blocks written back make of it. -/
theorem result_ends : θ_run defs (onTc (τ := τ) (main (F := F))) ⟨m, fun _ => 0, ρ⟩
    (fun r => ∀ c : Dev nD, r.2.mem ((c.tc : Thread nD τ).loc main_v12) = (dats m hO 0 c).arrAt 3 (launched m hO).N) :=
  (θ_run defs _ _).mono (fun r h c => Pipeline.FramePost.out_eq h.1 c 3) (run m ρ hO)

end Cert.UpIdeal.Routed

end
-- ==== Proof.Words.lean ====
/-
  The words and the indices the two routed calls share: the range of the table of experts, the table clamped to the last
  used block, the choice of an expert's matrix, and the mask of the used blocks.
-/
module

public import Idealize.ShloMosaic.Lib.StableHlo.Predicate
public import Idealize.ShloMosaic.Lib.WordArith
public import Idealize.ShloMosaic.Lib.WordCmp
public import Idealize.ShloMosaic.Lib.ValueIdx

@[expose] public section

noncomputable section

namespace Cert.Routed

open Idealize.ShloMosaic Idealize.ShloMosaic.StableHlo.Predicate Idealize.ShloMosaic.ValueIdx

/-! ## Words -/

theorem both_bits {a b : BitVec 1} (h : IntOp.andi a b = 1#1) : a = 1#1 ∧ b = 1#1 := by
  revert a b; decide

/-- The precondition at one block, read: its expert is one of the 64, and between 1 and 192 blocks are used. -/
theorem in_range (e n : BitVec 32)
    (h : IntOp.andi (IntOp.andi (IntOp.andi (IntOp.cmpi .sge e 0#32) (IntOp.cmpi .slt e 64#32)) (IntOp.cmpi .sge n 1#32))
      (IntOp.cmpi .sle n 192#32) = 1#1) : e.toNat < 64 ∧ 1 ≤ n.toNat ∧ n.toNat ≤ 192 := by
  obtain ⟨h, h4⟩ := both_bits h
  obtain ⟨h, h3⟩ := both_bits h
  obtain ⟨h1, h2⟩ := both_bits h
  rw [WordCmp.cmpi_sge_eq, ofBool_eq_one_iff, decide_eq_true_eq] at h1 h3
  rw [WordCmp.cmpi_slt_eq, ofBool_eq_one_iff, decide_eq_true_eq] at h2
  rw [WordCmp.cmpi_sle_eq, ofBool_eq_one_iff, decide_eq_true_eq] at h4
  have e0 : (0#32).toInt = 0 := by decide
  have e1 : (1#32).toInt = 1 := by decide
  have e2 : (64#32).toInt = 64 := by decide
  have e3 : (192#32).toInt = 192 := by decide
  rw [e0] at h1; rw [e1] at h3; rw [e2] at h2; rw [e3] at h4
  have k1 := e.isLt; have k2 := n.isLt
  rw [BitVec.toInt_eq_toNat_cond] at h1 h2 h3 h4
  split at h1 <;> split at h3 <;> simp_all <;> omega

/-- A block's number, or the last used block's when it lies past it. -/
theorem clamp_toNat (k : ℕ) (hk : k < 192) (n : BitVec 32) (h1 : 1 ≤ n.toNat) (h2 : n.toNat ≤ 192) :
    (IntOp.minsi (BitVec.ofNat 32 k) (IntOp.subi n 1#32)).toNat = min k (n.toNat - 1) := by
  have e : (IntOp.subi n 1#32).toNat = n.toNat - 1 := by
    show (n - 1#32).toNat = _
    rw [BitVec.toNat_sub]; have := n.isLt
    show (2 ^ 32 - 1 + n.toNat) % 2 ^ 32 = _
    omega
  have e' : (BitVec.ofNat 32 k).toNat = k := by rw [BitVec.toNat_ofNat]; omega
  have q := WordArith.toNat_minsi_of_lt (BitVec.ofNat 32 k) (IntOp.subi n 1#32) (by rw [e']; omega) (by rw [e]; omega)
  rw [q, e, e']

/-- A word that is small is not negative, so it is not counted from the end. -/
theorem wrapped_small (w c : BitVec 32) (h : w.toNat < 2 ^ 31) :
    Scalar.select (IntOp.cmpi .slt w 0#32) (IntOp.addi w c) w = w := by
  have e : IntOp.cmpi .slt w 0#32 = 0#1 := by
    rw [WordCmp.cmpi_slt_eq, toInt_eq_toNat_of_lt h]
    have e0 : (0#32).toInt = 0 := by decide
    rw [e0, decide_eq_false (by omega)]; rfl
  rw [e]; rfl

/-- A vector of small words as a column of indices, a negative one counted from the end, read at a row. -/
theorem column_apply {n : ℕ} (hb0 : (⟨0, ![]⟩ : Shape).BroadcastsInDim ⟨1, ![n]⟩ ![])
    (hb1 : (⟨1, ![n]⟩ : Shape).BroadcastsInDim ⟨2, ![n, 1]⟩ ![0]) (v : IVec ⟨1, ![n]⟩ 32) (c : BitVec 32) (p : Fin n)
    (h : (v (Shape.Idx.ofFin p)).toNat < 2 ^ 31) :
    broadcastInDim ⟨2, ![n, 1]⟩ ![0] hb1
      (select (cmpi .slt v (broadcastInDim ⟨1, ![n]⟩ ![] hb0 (constantI ⟨0, ![]⟩ 32 0#32)))
        (addi v (broadcastInDim ⟨1, ![n]⟩ ![] hb0 (constantI ⟨0, ![]⟩ 32 c))) v) (ixP p) = v (Shape.Idx.ofFin p) := by
  rw [bcast_col1]
  exact wrapped_small _ _ h

/-- The one element of a vector of one, as a scalar. -/
theorem scalar_apply {α : Type} (hs : (⟨1, ![1]⟩ : Shape).ShapeCasts ⟨0, ![]⟩) (n : (⟨1, ![1]⟩ : Shape).Idx → α) (i : (⟨0, ![]⟩ : Shape).Idx) :
    shapeCast ⟨0, ![]⟩ n hs i = n (Shape.Idx.ofFin 0) := by
  unfold shapeCast
  refine congrArg n (funext fun a => Fin.ext ?_)
  obtain rfl : a = 0 := Subsingleton.elim _ _
  have h1 := (Shape.reshapeEquiv hs i 0).isLt
  have h2 : ((Shape.Idx.ofFin (n := 1) 0 : (⟨1, ![1]⟩ : Shape).Idx) 0).isLt = ((Shape.Idx.ofFin (n := 1) 0 : (⟨1, ![1]⟩ : Shape).Idx) 0).isLt := rfl
  have h3 := ((Shape.Idx.ofFin (n := 1) 0 : (⟨1, ![1]⟩ : Shape).Idx) 0).isLt
  change _ < 1 at h1
  change _ < 1 at h3
  omega

theorem minsi_apply {s : Shape} {w : ℕ} (x y : IVec s w) (i : s.Idx) : minsi x y i = IntOp.minsi (x i) (y i) := rfl
theorem subi_apply {s : Shape} {w : ℕ} (x y : IVec s w) (i : s.Idx) : subi x y i = IntOp.subi (x i) (y i) := rfl
theorem cmpi_apply {s : Shape} {w : ℕ} (q : CmpIPredicate) (x y : IVec s w) (i : s.Idx) : cmpi q x y i = IntOp.cmpi q (x i) (y i) := rfl

/-- The table the host hands the kernel, at a block: the expert of that block, or of the last used one. -/
theorem clamped_apply (d : GatherDims ⟨1, ![192]⟩ ⟨2, ![192, 1]⟩ ⟨1, ![192]⟩)
    (hcoll : d.collapsedSliceDims = [0]) (hob : d.operandBatchingDims = []) (hsim : d.startIndexMap = [0]) (hivd : d.indexVectorDim = 1)
    (hb0 : (⟨0, ![]⟩ : Shape).BroadcastsInDim ⟨1, ![192]⟩ ![]) (hb1 : (⟨1, ![192]⟩ : Shape).BroadcastsInDim ⟨2, ![192, 1]⟩ ![0])
    (hs : (⟨1, ![1]⟩ : Shape).ShapeCasts ⟨0, ![]⟩) (e : IVec ⟨1, ![192]⟩ 32) (n : IVec ⟨1, ![1]⟩ 32) (v : IVec ⟨1, ![192]⟩ 32)
    (hv : v = minsi (iotaInDim ⟨1, ![192]⟩ 32 0) (broadcastInDim ⟨1, ![192]⟩ ![] hb0 (subi (shapeCast ⟨0, ![]⟩ n hs) (constantI ⟨0, ![]⟩ 32 1#32))))
    (h1 : 1 ≤ (n (Shape.Idx.ofFin 0)).toNat) (h2 : (n (Shape.Idx.ofFin 0)).toNat ≤ 192) (p : Fin 192) :
    Host.gather d e (broadcastInDim ⟨2, ![192, 1]⟩ ![0] hb1
      (select (cmpi .slt v (broadcastInDim ⟨1, ![192]⟩ ![] hb0 (constantI ⟨0, ![]⟩ 32 0#32)))
        (addi v (broadcastInDim ⟨1, ![192]⟩ ![] hb0 (constantI ⟨0, ![]⟩ 32 192#32))) v)) (Shape.Idx.ofFin p)
      = e (Shape.Idx.ofFin ⟨min p.val ((n (Shape.Idx.ofFin 0)).toNat - 1), lt_of_le_of_lt (Nat.min_le_left _ _) p.isLt⟩) := by
  have hw : (v (Shape.Idx.ofFin p)).toNat = min p.val ((n (Shape.Idx.ofFin 0)).toNat - 1) := by
    rw [← clamp_toNat p.val p.isLt _ h1 h2, hv, minsi_apply, bcast_scalar _ (by decide), subi_apply, scalar_apply, iota_apply]
    rfl
  have hp := p.isLt
  refine (gather_take d hcoll hob hsim hivd _ _ _ (by decide)).trans (congrArg e (congrArg Shape.Idx.ofFin (Fin.ext ?_)))
  dsimp only
  rw [column_apply _ _ _ _ _ (by rw [hw]; omega), toInt_eq_toNat_of_lt (by rw [hw]; omega), hw]
  show min (min p.val _) 191 = _
  omega

/-- A vector of one copied into every place. -/
theorem copied_apply {α : Type} {n : ℕ} (h : (⟨1, ![1]⟩ : Shape).BroadcastsInDim ⟨1, ![n]⟩ ![0]) (v : (⟨1, ![1]⟩ : Shape).Idx → α)
    (j : (⟨1, ![n]⟩ : Shape).Idx) : broadcastInDim ⟨1, ![n]⟩ ![0] h v j = v (Shape.Idx.ofFin 0) := by
  simp only [broadcastInDim]
  refine congrArg v (funext fun a => Fin.ext ?_)
  obtain rfl : a = 0 := Subsingleton.elim _ _
  rfl

theorem andi_apply {s : Shape} {w : ℕ} (x y : IVec s w) (i : s.Idx) : andi x y i = IntOp.andi (x i) (y i) := rfl

/-! ## The choice of an expert's matrix -/

section Choice
variable {α : Type}

/-- The dimension numbers of a stack of matrices indexed by a column of members. -/
abbrev chooseDims (E R C n : Nat)
    (wf : GatherDims.WF ⟨3, ![E, R, C]⟩ ⟨2, ![n, 1]⟩ ⟨3, ![n, R, C]⟩ [1, 2] [0] [] [0] [] 1 ![1, R, C]) :
    GatherDims ⟨3, ![E, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- Member `b` of the chosen stack is the matrix its index names. -/
theorem choose_apply {E R C n : Nat} (hE : 0 < E)
    (wf : GatherDims.WF ⟨3, ![E, R, C]⟩ ⟨2, ![n, 1]⟩ ⟨3, ![n, R, C]⟩ [1, 2] [0] [] [0] [] 1 ![1, R, C])
    (x : (⟨3, ![E, R, C]⟩ : Shape).Idx → α) (idx : IVec ⟨2, ![n, 1]⟩ 32) (b : Fin n) (r : Fin R) (c : Fin C) :
    Host.gather (chooseDims E R C n wf) x idx (ix3 b r c) = x (ix3 ⟨min (idx (ixP b)).toInt.toNat (E - 1), by omega⟩ r c) := by
  unfold Host.gather
  congr 1
  funext a
  refine Fin.ext ?_
  show (chooseDims E R C n wf).start (ix3 b r c) idx a + (chooseDims E R C n wf).batchCoord (ix3 b r c) a
      + (chooseDims E R C n wf).offCoord (ix3 b r c) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (chooseDims E R C n wf).startIndexMap from List.mem_singleton.mpr rfl)]
    have hsi : (chooseDims E R C n wf).siIdx (ix3 b r c) ⟨List.idxOf (0 : Fin 3) (chooseDims E R C n wf).startIndexMap,
        List.idxOf_lt_length_iff.2 (List.mem_singleton.mpr rfl)⟩ = ixP b := by
      funext k; refine Fin.ext ?_
      match k with
      | ⟨0, _⟩ => rfl
      | ⟨1, _⟩ => rfl
    rw [hsi]
    rfl
  · unfold GatherDims.start
    rw [dif_neg (show ¬ (1 : Fin 3) ∈ (chooseDims E R C n wf).startIndexMap from fun h => by simp at h), Nat.zero_add]
    rfl
  · unfold GatherDims.start
    rw [dif_neg (show ¬ (2 : Fin 3) ∈ (chooseDims E R C n wf).startIndexMap from fun h => by simp at h), Nat.zero_add]
    rfl

end Choice

/-! ## The mask of the used blocks -/

/-- The host's mask at a block: whether it is used. -/
theorem mask_apply {R C : ℕ} (hb0 : (⟨0, ![]⟩ : Shape).BroadcastsInDim ⟨1, ![192]⟩ ![])
    (hb1 : (⟨1, ![192]⟩ : Shape).BroadcastsInDim ⟨3, ![192, 1, 1]⟩ ![0])
    (hb2 : (⟨3, ![192, 1, 1]⟩ : Shape).BroadcastsInDim ⟨3, ![192, R, C]⟩ ![0, 1, 2])
    (hs : (⟨1, ![1]⟩ : Shape).ShapeCasts ⟨0, ![]⟩) (n : IVec ⟨1, ![1]⟩ 32) (b : Fin 192) (r : Fin R) (c : Fin C) :
    broadcastInDim ⟨3, ![192, R, C]⟩ ![0, 1, 2] hb2 (broadcastInDim ⟨3, ![192, 1, 1]⟩ ![0] hb1
      (cmpi .slt (iotaInDim ⟨1, ![192]⟩ 32 0) (broadcastInDim ⟨1, ![192]⟩ ![] hb0 (shapeCast ⟨0, ![]⟩ n hs)))) (ix3 b r c)
      = IntOp.cmpi .slt (BitVec.ofNat 32 b.val) (n (Shape.Idx.ofFin 0)) := by
  have e : ∀ v : IVec ⟨1, ![192]⟩ 1, broadcastInDim ⟨3, ![192, R, C]⟩ ![0, 1, 2] hb2 (broadcastInDim ⟨3, ![192, 1, 1]⟩ ![0] hb1 v) (ix3 b r c)
      = v (Shape.Idx.ofFin b) := by
    intro v
    simp only [broadcastInDim]
    refine congrArg v (funext fun a => Fin.ext ?_)
    obtain rfl : a = 0 := Subsingleton.elim _ _
    rfl
  rw [e]
  rw [cmpi_apply, bcast_scalar _ (by decide), scalar_apply, iota_apply]

end Cert.Routed

end
-- ==== Proof.Up.Table.lean ====
/-
  What the precondition gives: the two tables' contents in closed form, and that every block they name is inside its array.
-/
module

public import proofs.«01_k».proof.Proof.Up.Entry
public import proofs.«01_k».proof.Proof.Words
public import proofs.«01_k».proof.Proof.Gen.Pre_up_routed
public import Idealize.ShloMosaic.Lib.StableHlo.RunRead

@[expose] public section

set_option maxRecDepth 16384

noncomputable section

namespace Cert.UpIdeal.Routed

open Cert.UpIdeal Cert.UpIdeal.Gen Cert.Routed
open Idealize.ShloMosaic Idealize.ShloMosaic.TcCoe
open Idealize.ShloMosaic.StableHlo.Predicate

variable {F : FTy → Type} [FloatOps F]

variable (m : (ℓ : Loc nD τ sig) → Buf (Elt F) ℓ)

/-- The table of experts and the number of used blocks, as launched. -/
abbrev expertsGiven : IVec S192 32 := m (((0 : Dev nD) : Thread nD τ).loc main_arg1)
abbrev countGiven : IVec S1 32 := m (((0 : Dev nD) : Thread nD τ).loc main_arg2)

/-- The number of used blocks. -/
abbrev usedCount : ℕ := (countGiven m (Shape.Idx.ofFin 0)).toNat

/-- Every block's expert is one of the 64; between 1 and 192 blocks are used. -/
structure Valid : Prop where
  expert : ∀ p : Fin 192, (expertsGiven m (Shape.Idx.ofFin p)).toNat < 64
  pos : 1 ≤ usedCount m
  le : usedCount m ≤ 192

theorem valid_of_pre (x : FVec F S98304x4096 .bf16) (w1 w3 : FVec F S2x64x4096x1024 .f32)
    (h : Cert.Pre_up_routed.fn (F := F) x (expertsGiven m) (countGiven m) w1 w3 = fun _ => 1#1) : Valid m := by
  have q : ∀ p : Fin 192, (expertsGiven m (Shape.Idx.ofFin p)).toNat < 64 ∧ 1 ≤ usedCount m ∧ usedCount m ≤ 192 := by
    intro p
    refine in_range _ _ ?_
    refine Eq.trans ?_ (congrFun h (Shape.Idx.ofFin p))
    unfold Cert.Pre_up_routed.fn
    dsimp only
    rw [andi_apply, andi_apply, andi_apply, copied_apply, copied_apply]
    rfl
  exact ⟨fun p => (q p).1, (q 0).2.1, (q 0).2.2⟩

theorem table_entry (hv : Valid m) (p : Fin 192) : tables m 0 (Shape.Idx.ofFin p)
    = expertsGiven m (Shape.Idx.ofFin ⟨min p.val (usedCount m - 1), lt_of_le_of_lt (Nat.min_le_left _ _) p.isLt⟩) := by
  refine Eq.trans (congrFun (?_ : entry m (0 : Dev nD) main_v11 = _) _)
    (clamped_apply gather_S192_S192x1_S192_n_0_n_n_0_1_1 rfl rfl rfl rfl bcast_S_S192 bcast_S192_S192x1_0 shapeCasts_S1_S_
      (expertsGiven m) (countGiven m) _ rfl hv.pos hv.le p)
  unfold entry
  after_reads_simp
  rfl

theorem count_entry : tables m 1 = countGiven m := entry_of_not_written m 0 (b := main_arg2) (by decide)

theorem expertAt_ofFin (p : Fin 192) : expertAt m p.val p.isLt = tables m 0 (Shape.Idx.ofFin p) :=
  congrArg (tables m 0) (funext fun (a : Fin 1) => Fin.ext (by obtain rfl : a = 0 := Subsingleton.elim _ _; rfl))

theorem expertAt_eq (hv : Valid m) (p : Fin 192) : expertAt m p.val p.isLt
    = expertsGiven m (Shape.Idx.ofFin ⟨min p.val (usedCount m - 1), lt_of_le_of_lt (Nat.min_le_left _ _) p.isLt⟩) :=
  (expertAt_ofFin m p).trans (table_entry m hv p)

theorem this_lt (hv : Valid m) (i : grid0.Coords) : (this m i).toNat < 64 := by
  rw [this_eq, expertAt_eq m hv ⟨(i 1).val, (i 1).isLt⟩]; exact hv.expert _

theorem used_eq : used m = countGiven m (Shape.Idx.ofFin 0) := by
  refine (congrArg (fun x => usedWord (F := F) (c := (0 : Dev nD)) x) (count_entry m)).trans ?_
  refine congrArg (countGiven m) (funext fun (a : Fin 1) => Fin.ext ?_)
  obtain rfl : a = 0 := Subsingleton.elim _ _
  rfl

/-- The row block the first window shows. -/
theorem transform_0_eq (hv : Valid m) (i : grid0.Coords) :
    cc0_transform_0 inb_S1_S1_0 numel1_S1 (tables m) i = ![min (i 1).val (usedCount m - 1), 0] := by
  have e : (Scalar.minsi (BitVec.ofNat 32 (i 1).val) (Scalar.subi (used m) 1#32)).toNat = min (i 1).val (usedCount m - 1) := by
    rw [used_eq]; exact clamp_toNat _ (i 1).isLt _ hv.pos hv.le
  show ![(Scalar.minsi (BitVec.ofNat 32 (i 1).val) (Scalar.subi (used m) 1#32)).toNat, 0] = _
  rw [e]

theorem inside (hv : Valid m) : Inside m := by
  have w1 : ∀ i : grid0.Coords, ∃ h : (∀ a, (cc0_transform_1 k0_off1_inb numel1_S1 (tables m) i a + 1) * S1x1x4096x256.size a ≤ S2x64x4096x1024.size a),
      EltTy.bits .f32 = 32 ∨ (Rect.block (s := S2x64x4096x1024) S1x1x4096x256.size (cc0_transform_1 k0_off1_inb numel1_S1 (tables m) i) h).WholeWords (EltTy.packing .f32) := by
    intro i
    refine ⟨?_, Or.inl rfl⟩
    rw [transform_1_eq]
    have h := this_lt m hv i
    have h' : (i 0).val < 4 := (i 0).isLt
    intro a
    match a with
    | ⟨0, _⟩ => show (0 + 1) * 1 ≤ 2; omega
    | ⟨1, _⟩ => show ((this m i).toNat + 1) * 1 ≤ 64; omega
    | ⟨2, _⟩ => show (0 + 1) * 4096 ≤ 4096; omega
    | ⟨3, _⟩ => show ((i 0).val + 1) * 256 ≤ 1024; omega
  refine ⟨fun i => ?_, w1, w1⟩
  refine ⟨?_, .inr (Affine.block_words_dvd (of_decide_eq_true rfl) (by decide))⟩
  rw [transform_0_eq m hv]
  have h' : (i 1).val < 192 := (i 1).isLt
  intro a
  match a with
  | ⟨0, _⟩ => show (min (i 1).val (usedCount m - 1) + 1) * 512 ≤ 98304; omega
  | ⟨1, _⟩ => show (0 + 1) * 4096 ≤ 4096; omega

end Cert.UpIdeal.Routed

end
-- ==== Proof.Up.Frames.lean ====
/-
  The frames of the up projection's kernel: at the ideal float values, and at the machine's. The two programs are one
  text, so the second frame is the first theorem at other float values.
-/
module

public import proofs.«01_k».proof.Defs
public import proofs.«01_k».proof.Proof.Up.Run
public import proofs.«01_k».proof.Proof.Up.Table
public import proofs.«01_k».proof.Proof.Gen.Up

@[expose] public section

set_option maxRecDepth 16384

noncomputable section

namespace Cert.UpIdeal.Routed

open Cert.UpIdeal Cert.UpIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg),
    (∀ c : Dev nD, (Cert.Pre_up_routed.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem framed : Framed F := fun m g h => quiescent m g (inside m (valid_of_pre m _ _ _ (h 0)))

theorem frame_ideal : Cert.quiescent_UpIdeal := framed (F := Ideal)

theorem same_frame : Framed Bits = Cert.quiescent_Up := by chain_rfl

theorem frame_machine : Cert.quiescent_Up := Eq.mp same_frame (framed (F := Bits))

end Cert.UpIdeal.Routed

end
-- ==== Proof.Up.Reference.lean ====
/-
  The up projection's host reference, run: a straight line of host operations, its result read back as one expression of
  the arguments.
-/
module

public import proofs.«01_k».proof.Proof.Gen.UpRefIdeal
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.UpRefIdeal.Plain

open Cert.UpRefIdeal Cert.UpRefIdeal.Gen Idealize.ShloMosaic.StableHlo

variable {F : FTy → Type} [FloatOps F]

/-- The operations of @main, its two functions' bodies in place, in order. -/
abbrev ops : List (HloOp τ sig (Elt F)) :=
  [ unary main_arg0 main_v0 ((extf .f32 · bitsLt_bf16_f32)),
    reshape main_v0 main_v1 (rfl : (.f32 : EltTy) = .f32) shapeCasts_S98304x4096_S192x512x4096,
    unary main_arg3 main_v2 ((extractStridedSlice S1x64x4096x1024 ![0, 0, 0, 0] · slices_S2x64x4096x1024_S1x64x4096x1024_0_0_0_0)),
    reshape main_v2 main_v3 (rfl : (.f32 : EltTy) = .f32) shapeCasts_S1x64x4096x1024_S64x4096x1024,
    nullary main_c (constantI S_ 32 0#32),
    unary main_c main_v4 (broadcastInDim S192 ![] bcast_S_S192),
    binary main_arg1 main_v4 main_v5 (cmpi .slt),
    nullary main_c_0 (constantI S_ 32 64#32),
    unary main_c_0 main_v6 (broadcastInDim S192 ![] bcast_S_S192),
    binary main_arg1 main_v6 main_v7 (addi),
    ternary main_v5 main_v7 main_arg1 main_v8 (select),
    unary main_v8 main_v9 (broadcastInDim S192x1 ![0] bcast_S192_S192x1_0),
    binary main_v3 main_v9 main_v10 ((fun x i => Host.gather gather_S64x4096x1024_S192x1_S192x4096x1024_12_0_n_n_0_1_140961024 x i)),
    binary main_v1 main_v10 main_v11 ((fun l r => Host.dotGeneral dot_S192x512x4096_S192x4096x1024_S192x512x1024_2_1_1_2_0_0 none l r)),
    unary main_v11 main_call0_v0 Host.negf,
    unary main_call0_v0 main_call0_v1 Host.exp,
    nullary main_call0_cst (constant S_ .f32 0x3F800000#32),
    unary main_call0_cst main_call0_v2 (broadcastInDim S192x512x1024 ![] bcast_S_S192x512x1024),
    binary main_call0_v2 main_call0_v1 main_call0_v3 addf,
    nullary main_call0_cst_0 (constant S_ .f32 0x3F800000#32),
    unary main_call0_cst_0 main_call0_v4 (broadcastInDim S192x512x1024 ![] bcast_S_S192x512x1024),
    binary main_call0_v4 main_call0_v3 main_call0_v5 Host.divf,
    binary main_v11 main_call0_v5 main_v12 mulf,
    unary main_arg4 main_v13 ((extractStridedSlice S1x64x4096x1024 ![0, 0, 0, 0] · slices_S2x64x4096x1024_S1x64x4096x1024_0_0_0_0)),
    reshape main_v13 main_v14 (rfl : (.f32 : EltTy) = .f32) shapeCasts_S1x64x4096x1024_S64x4096x1024,
    nullary main_c_1 (constantI S_ 32 0#32),
    unary main_c_1 main_v15 (broadcastInDim S192 ![] bcast_S_S192),
    binary main_arg1 main_v15 main_v16 (cmpi .slt),
    nullary main_c_2 (constantI S_ 32 64#32),
    unary main_c_2 main_v17 (broadcastInDim S192 ![] bcast_S_S192),
    binary main_arg1 main_v17 main_v18 (addi),
    ternary main_v16 main_v18 main_arg1 main_v19 (select),
    unary main_v19 main_v20 (broadcastInDim S192x1 ![0] bcast_S192_S192x1_0),
    binary main_v14 main_v20 main_v21 ((fun x i => Host.gather gather_S64x4096x1024_S192x1_S192x4096x1024_12_0_n_n_0_1_140961024 x i)),
    binary main_v1 main_v21 main_v22 ((fun l r => Host.dotGeneral dot_S192x512x4096_S192x4096x1024_S192x512x1024_2_1_1_2_0_0 none l r)),
    binary main_v12 main_v22 main_v23 (mulf),
    nullary main_v24 (iotaInDim S192 32 0),
    reshape main_arg2 main_v25 (rfl : (.i32 : EltTy) = .i32) shapeCasts_S1_S_,
    unary main_v25 main_v26 (broadcastInDim S192 ![] bcast_S_S192),
    binary main_v24 main_v26 main_v27 (cmpi .slt),
    unary main_v27 main_v28 (broadcastInDim S192x1x1 ![0] bcast_S192_S192x1x1_0),
    nullary main_cst (constant S_ .f32 0x00000000#32),
    unary main_cst main_call1_v0 id,
    unary main_v28 main_call1_v1 (broadcastInDim S192x512x1024 ![0, 1, 2] bcast_S192x1x1_S192x512x1024_0_1_2),
    unary main_call1_v0 main_call1_v2 (broadcastInDim S192x512x1024 ![] bcast_S_S192x512x1024),
    ternary main_call1_v1 main_v23 main_call1_v2 main_v29 select,
    reshape main_v29 main_v30 (rfl : (.f32 : EltTy) = .f32) shapeCasts_S192x512x1024_S98304x1024,
    unary main_v30 main_v31 ((truncf .bf16 · bitsLt_bf16_f32)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub
    .., nullary_bufs_sub .., unary_bufs_sub .., binary_bufs_sub .., ternary_bufs_sub .., unary_bufs_sub .., binary_bufs_sub ..,
    binary_bufs_sub .., unary_bufs_sub .., unary_bufs_sub .., nullary_bufs_sub .., unary_bufs_sub .., binary_bufs_sub .., nullary_bufs_sub
    .., unary_bufs_sub .., binary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub .., unary_bufs_sub
    .., binary_bufs_sub .., binary_bufs_sub .., binary_bufs_sub .., nullary_bufs_sub .., reshape_bufs_sub .., unary_bufs_sub ..,
    binary_bufs_sub .., unary_bufs_sub .., nullary_bufs_sub .., unary_bufs_sub .., unary_bufs_sub .., unary_bufs_sub .., ternary_bufs_sub
    .., reshape_bufs_sub .., unary_bufs_sub ..⟩

/-! ## The result as an expression -/

/-- Each block's expert as a column of indices, a negative one counted from the end. -/
def column (e : IVec S192 32) : IVec S192x1 32 :=
  broadcastInDim S192x1 ![0] bcast_S192_S192x1_0
    (select (cmpi .slt e (broadcastInDim S192 ![] bcast_S_S192 (constantI S_ 32 0#32)))
      (addi e (broadcastInDim S192 ![] bcast_S_S192 (constantI S_ 32 64#32))) e)

/-- The first layer of a weight array. -/
def layer (w : Vec F S2x64x4096x1024 .f32) : Vec F S64x4096x1024 .f32 :=
  shapeCast S64x4096x1024 (extractStridedSlice S1x64x4096x1024 ![0, 0, 0, 0] w slices_S2x64x4096x1024_S1x64x4096x1024_0_0_0_0)
    shapeCasts_S1x64x4096x1024_S64x4096x1024

/-- Every block of rows times its expert's weights. -/
def product (x : Vec F S98304x4096 .bf16) (e : IVec S192 32) (w : Vec F S2x64x4096x1024 .f32) : Vec F S192x512x1024 .f32 :=
  Host.dotGeneral dot_S192x512x4096_S192x4096x1024_S192x512x1024_2_1_1_2_0_0 none
    (shapeCast S192x512x4096 (extf .f32 x bitsLt_bf16_f32) shapeCasts_S98304x4096_S192x512x4096)
    (Host.gather gather_S64x4096x1024_S192x1_S192x4096x1024_12_0_n_n_0_1_140961024 (layer w) (column e))

/-- The host's `x / (1 + exp(-x))`. -/
def silu (a : Vec F S192x512x1024 .f32) : Vec F S192x512x1024 .f32 :=
  mulf a (Host.divf (broadcastInDim S192x512x1024 ![] bcast_S_S192x512x1024 (constant S_ .f32 0x3F800000#32))
    (addf (broadcastInDim S192x512x1024 ![] bcast_S_S192x512x1024 (constant S_ .f32 0x3F800000#32)) (Host.exp (Host.negf a))))

/-- Which blocks are used. -/
def usedBlocks (n : IVec S1 32) : IVec S192x512x1024 1 :=
  broadcastInDim S192x512x1024 ![0, 1, 2] bcast_S192x1x1_S192x512x1024_0_1_2
    (broadcastInDim S192x1x1 ![0] bcast_S192_S192x1x1_0
      (cmpi .slt (iotaInDim S192 32 0) (broadcastInDim S192 ![] bcast_S_S192 (shapeCast S_ n shapeCasts_S1_S_))))

/-- What the reference returns. -/
def value (x : Vec F S98304x4096 .bf16) (e : IVec S192 32) (n : IVec S1 32) (w1 w3 : Vec F S2x64x4096x1024 .f32) :
    Vec F S98304x1024 .bf16 :=
  truncf .bf16 (shapeCast S98304x1024
    (select (usedBlocks n) (mulf (silu (product x e w1)) (product x e w3))
      (broadcastInDim S192x512x1024 ![] bcast_S_S192x512x1024 (constant S_ .f32 0x00000000#32)))
    shapeCasts_S192x512x1024_S98304x1024) bitsLt_bf16_f32

variable (m : (ℓ : Loc nD τ sig) → Buf (Elt F) ℓ) (ρ : Dev nD → PrngReg)

theorem result_read (c : Dev nD) (V : Valuation τ sig (Elt F)) :
    after ops V main_v31 = value (V main_arg0) (V main_arg1) (V main_arg2) (V main_arg3) (V main_arg4) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v31)
        = value (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (result_read c _),
      (h c main_arg0).trans (by after_reads_simp), (h c main_arg1).trans (by after_reads_simp),
      (h c main_arg2).trans (by after_reads_simp), (h c main_arg3).trans (by after_reads_simp),
      (h c main_arg4).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (run m ρ)

end Cert.UpRefIdeal.Plain

end
-- ==== Proof.Maths.lean ====
/-
  Arrays of rows cut into blocks of 512, a layer taken from a stack of layers, and the product of every block with the
  matrix of its expert, each read at an index.
-/
module

public import proofs.«01_k».proof.Proof.Words
public import Idealize.ShloMosaic.Lib.MatmulPlain
public import Idealize.ShloMosaic.Lib.StackMember
public import Idealize.ShloMosaic.Lib.IdealHost
public import Idealize.ShloMosaic.Lib.Pipeline.Value
public import Idealize.ShloMosaic.Lib.ValueLayout

@[expose] public section

noncomputable section

open Idealize.ShloMosaic Idealize.ShloMosaic.StableHlo.Predicate Idealize.ShloMosaic.ValueIdx

namespace Cert.Routed

/-- Row `i` of block `b`. -/
def rowOf (b : Fin 192) (i : Fin 512) : Fin 98304 := ⟨512 * b.val + i.val, by omega⟩

theorem block_of_rows {α : Type} {K : ℕ} (x : (⟨2, ![98304, K]⟩ : Shape).Idx → α)
    (h : (⟨2, ![98304, K]⟩ : Shape).ShapeCasts ⟨3, ![192, 512, K]⟩) (b : Fin 192) (i : Fin 512) (k : Fin K) :
    shapeCast ⟨3, ![192, 512, K]⟩ x h (ix3 b i k) = x (ix2 (rowOf b i) k) :=
  shapeCast_apply x h _ _ (by
    rw [Shape.rowMajor_val_two, Shape.rowMajor_val_three]
    show (512 * b.val + i.val) * K + k.val = (b.val * 512 + i.val) * K + k.val
    rw [Nat.mul_comm 512])

theorem rows_of_block {α : Type} {K : ℕ} (x : (⟨3, ![192, 512, K]⟩ : Shape).Idx → α)
    (h : (⟨3, ![192, 512, K]⟩ : Shape).ShapeCasts ⟨2, ![98304, K]⟩) (b : Fin 192) (i : Fin 512) (k : Fin K) :
    shapeCast ⟨2, ![98304, K]⟩ x h (ix2 (rowOf b i) k) = x (ix3 b i k) :=
  shapeCast_apply x h _ _ (by
    rw [Shape.rowMajor_val_two, Shape.rowMajor_val_three]
    show (b.val * 512 + i.val) * K + k.val = (512 * b.val + i.val) * K + k.val
    rw [Nat.mul_comm 512])

/-- The first of two layers. -/
theorem first_layer {α : Type} {E R C : ℕ} (w : (⟨4, ![2, E, R, C]⟩ : Shape).Idx → α)
    (h : (⟨4, ![2, E, R, C]⟩ : Shape).Slices ![0, 0, 0, 0] ⟨4, ![1, E, R, C]⟩)
    (h' : (⟨4, ![1, E, R, C]⟩ : Shape).ShapeCasts ⟨3, ![E, R, C]⟩) (e : Fin E) (r : Fin R) (c : Fin C) :
    shapeCast ⟨3, ![E, R, C]⟩ (extractStridedSlice ⟨4, ![1, E, R, C]⟩ ![0, 0, 0, 0] w h) h' (ix3 e r c) = w (ix4 0 e r c) := by
  refine (shapeCast_1abc_abc_apply _ h' e r c).trans ?_
  unfold extractStridedSlice
  refine congrArg w (funext fun (a : Fin 4) => Fin.ext ?_)
  fin_cases a
  · rfl
  · exact Nat.zero_add _
  · exact Nat.zero_add _
  · exact Nat.zero_add _

/-- Every block of rows times its expert's matrix: at row `i` of block `b` and column `c`, the sum over the row. -/
theorem product_apply {K N : ℕ} {φ : FTy} (x : FVec Ideal ⟨2, ![98304, K]⟩ φ) (w : FVec Ideal ⟨4, ![2, 64, K, N]⟩ .f32)
    (idx : IVec ⟨2, ![192, 1]⟩ 32)
    (h1 : (⟨2, ![98304, K]⟩ : Shape).ShapeCasts ⟨3, ![192, 512, K]⟩)
    (h2 : (⟨4, ![2, 64, K, N]⟩ : Shape).Slices ![0, 0, 0, 0] ⟨4, ![1, 64, K, N]⟩)
    (h3 : (⟨4, ![1, 64, K, N]⟩ : Shape).ShapeCasts ⟨3, ![64, K, N]⟩)
    (wf : GatherDims.WF ⟨3, ![64, K, N]⟩ ⟨2, ![192, 1]⟩ ⟨3, ![192, K, N]⟩ [1, 2] [0] [] [0] [] 1 ![1, K, N])
    (wd : DotDims.WF ⟨3, ![192, 512, K]⟩ ⟨3, ![192, K, N]⟩ ⟨3, ![192, 512, N]⟩ [2] [1] [1] [2] [0] [0])
    (e : Fin 64) (b : Fin 192) (he : (idx (ixP b)).toNat = e.val) (i : Fin 512) (c : Fin N) :
    Host.dotGeneral (⟨[2], [1], [1], [2], [0], [0], wd⟩ : DotDims _ _ _) none (shapeCast ⟨3, ![192, 512, K]⟩ x h1)
      (Host.gather (chooseDims 64 K N 192 wf)
        (shapeCast ⟨3, ![64, K, N]⟩ (extractStridedSlice ⟨4, ![1, 64, K, N]⟩ ![0, 0, 0, 0] w h2) h3) idx) (ix3 b i c)
      = ∑ k : Fin K, x (ix2 (rowOf b i) k) * w (ix4 0 e k c) := by
  rw [StackMember.dotGeneral_stack_apply]
  refine Finset.sum_congr rfl fun k _ => ?_
  rw [block_of_rows, choose_apply (by decide), first_layer]
  refine congrArg (x (ix2 (rowOf b i) k) * ·) (congrArg w (congrArg (fun z : Fin 64 => ix4 (0 : Fin 2) z k c) (Fin.ext ?_)))
  have hl := e.isLt
  have q : (idx (ixP b)).toInt = ((idx (ixP b)).toNat : ℤ) := toInt_eq_toNat_of_lt (by omega)
  show min (idx (ixP b)).toInt.toNat (64 - 1) = e.val
  rw [q, Int.toNat_natCast, he]
  omega

end Cert.Routed

end
-- ==== Proof.Up.Formula.lean ====
/-
  What the up projection's reference returns, read at a row and a column.
-/
module

public import proofs.«01_k».proof.Proof.Up.Reference
public import proofs.«01_k».proof.Proof.Maths

@[expose] public section

set_option maxRecDepth 16384

noncomputable section

open Idealize.ShloMosaic Idealize.ShloMosaic.StableHlo.Predicate Idealize.ShloMosaic.ValueIdx

namespace Cert.UpRefIdeal.Plain

open Cert.UpRefIdeal Cert.UpRefIdeal.Gen Cert.Routed

/-- One entry of a product: a row times a column of the first layer of an expert's matrix. -/
def along (x : Vec Ideal S98304x4096 .bf16) (w : Vec Ideal S2x64x4096x1024 .f32) (e : Fin 64) (b : Fin 192) (i : Fin 512) (k : Fin 1024) : EReal :=
  ∑ j : Fin 4096, x (ix2 (rowOf b i) j) * w (ix4 0 e j k)

/-- One entry of the result of a used block. -/
def gated (p q : EReal) : EReal := p * Ideal.logistic p * q

variable (x : Vec Ideal S98304x4096 .bf16) (e : IVec S192 32) (n : IVec S1 32) (w w1 w3 : Vec Ideal S2x64x4096x1024 .f32)

theorem column_at (b : Fin 192) (h : (e (Shape.Idx.ofFin b)).toNat < 64) : column e (ixP b) = e (Shape.Idx.ofFin b) :=
  column_apply bcast_S_S192 bcast_S192_S192x1_0 e 64#32 b (by omega)

theorem product_at (ex : Fin 64) (b : Fin 192) (he : (e (Shape.Idx.ofFin b)).toNat = ex.val) (i : Fin 512) (k : Fin 1024) :
    product x e w (ix3 b i k) = along x w ex b i k :=
  product_apply x w (column e) _ _ _ _ _ ex b ((congrArg BitVec.toNat (column_at e b (he ▸ ex.isLt))).trans he) i k

theorem silu_apply (a : Vec Ideal S192x512x1024 .f32) (y : S192x512x1024.Idx) : silu a y = a y * Ideal.logistic (a y) := by
  show a y * Ideal.div (Ideal.ofBits .f32 0x3F800000#32) (Ideal.ofBits .f32 0x3F800000#32 + Ideal.exp (-(a y))) = _
  rw [Ideal.ofBits_one_f32]
  rfl

theorem used_at (b : Fin 192) (i : Fin 512) (k : Fin 1024) :
    usedBlocks n (ix3 b i k) = IntOp.cmpi .slt (BitVec.ofNat 32 b.val) (n (Shape.Idx.ofFin 0)) :=
  mask_apply _ _ _ _ n b i k

theorem value_rows (b : Fin 192) (i : Fin 512) (k : Fin 1024) :
    value x e n w1 w3 (ix2 (rowOf b i) k) = Scalar.select (usedBlocks n (ix3 b i k))
      (silu (product x e w1) (ix3 b i k) * product x e w3 (ix3 b i k)) (Ideal.ofBits .f32 0x00000000#32) := by
  unfold value
  exact rows_of_block (select (usedBlocks n) (mulf (silu (product x e w1)) (product x e w3))
    (broadcastInDim S192x512x1024 ![] bcast_S_S192x512x1024 (constant S_ .f32 0x00000000#32))) shapeCasts_S192x512x1024_S98304x1024 b i k

theorem value_used (ex : Fin 64) (b : Fin 192) (he : (e (Shape.Idx.ofFin b)).toNat = ex.val)
    (hu : IntOp.cmpi .slt (BitVec.ofNat 32 b.val) (n (Shape.Idx.ofFin 0)) = 1#1) (i : Fin 512) (k : Fin 1024) :
    value x e n w1 w3 (ix2 (rowOf b i) k) = gated (along x w1 ex b i k) (along x w3 ex b i k) := by
  rw [value_rows, used_at, hu, silu_apply, product_at x e w1 ex b he, product_at x e w3 ex b he]
  rfl

theorem value_unused (b : Fin 192) (hu : ¬ IntOp.cmpi .slt (BitVec.ofNat 32 b.val) (n (Shape.Idx.ofFin 0)) = 1#1) (i : Fin 512) (k : Fin 1024) :
    value x e n w1 w3 (ix2 (rowOf b i) k) = 0 := by
  rw [value_rows, used_at]
  exact (if_neg hu).trans Ideal.ofBits_zero_f32

end Cert.UpRefIdeal.Plain

end
-- ==== Proof.Up.Tile.lean ====
/-
  What the up projection's body computes of one block of rows and one tile of weights, at the ideal values.
-/
module

public import proofs.«01_k».proof.Proof.Up.Frame
public import proofs.«01_k».proof.Proof.Up.Formula

@[expose] public section

set_option maxRecDepth 16384

noncomputable section

open Idealize.ShloMosaic Idealize.ShloMosaic.ValueIdx

namespace Cert.UpIdeal.Routed

open Cert.UpIdeal Cert.UpIdeal.Gen

theorem tile_at {α : Type} (P : S1x1x4096x256.Idx → α) (j : Fin 4096) (l : Fin 256) :
    shapeCast S4096x256 P shapeCasts_S1x1x4096x256_S4096x256 (ix2 j l) = P (ix4 0 0 j l) :=
  congrArg P (reshapeEquiv_ix2_11ab _ j l)

theorem gate_at (P : Vec Ideal S1x1x4096x256 .f32) (j : Fin 4096) (l : Fin 256) :
    shapeCast S4096x256 (k0_pay1 P) shapeCasts_S1x4096x256_S4096x256 (ix2 j l) = P (ix4 0 0 j l) :=
  (congrFun (shapeCast_shapeCast (shapeCast S4096x256 P shapeCasts_S1x1x4096x256_S4096x256) shapeCasts_S4096x256_S1x4096x256
    shapeCasts_S1x4096x256_S4096x256) (ix2 j l)).trans (tile_at P j l)

theorem lin_at (P : Vec Ideal S1x1x4096x256 .f32) (j : Fin 4096) (l : Fin 256) :
    shapeCast S4096x256 (k0_pay2 P) shapeCasts_S1x4096x256_S4096x256 (ix2 j l) = P (ix4 0 0 j l) := gate_at P j l

theorem matmul_at (X : FVec Ideal S512x4096 .bf16) (B : FVec Ideal S4096x256 .bf16) (i : Fin 512) (l : Fin 256) :
    matmul dot_S512x4096_S4096x256_S512x256_1_0_0_1_n_n none X B (constant S512x256 .f32 0x00000000#32) (ix2 i l)
      = (∑ j : Fin 4096, X (ix2 i j) * B (ix2 j l) : EReal) := by
  refine (Ideal.matmul_plain_apply none X B (constant S512x256 .f32 0x00000000#32) i l).trans ?_
  show Ideal.ofBits .f32 0x00000000#32 + _ = _
  rw [Ideal.ofBits_zero_f32, zero_add]

theorem computed_at (X : Vec Ideal S512x4096 .bf16) (P Q : Vec Ideal S1x1x4096x256 .f32) (i : Fin 512) (l : Fin 256) :
    k0_pay3 X (k0_pay1 P) (k0_pay2 Q) (ix2 i l)
      = UpRefIdeal.Plain.gated (∑ j : Fin 4096, X (ix2 i j) * P (ix4 0 0 j l)) (∑ j : Fin 4096, X (ix2 i j) * Q (ix4 0 0 j l)) := by
  have a := (matmul_at X (shapeCast S4096x256 (k0_pay1 P) shapeCasts_S1x4096x256_S4096x256) i l).trans
    (Finset.sum_congr rfl fun j _ => congrArg (X (ix2 i j) * ·) (gate_at P j l))
  have b := (matmul_at X (shapeCast S4096x256 (k0_pay2 Q) shapeCasts_S1x4096x256_S4096x256) i l).trans
    (Finset.sum_congr rfl fun j _ => congrArg (X (ix2 i j) * ·) (lin_at Q j l))
  exact congrArg₂ UpRefIdeal.Plain.gated a b

theorem zeros_at (i : Fin 512) (l : Fin 256) : k0_pay4 (F := Ideal) (ix2 i l) = 0 := Ideal.ofBits_zero_bf16

end Cert.UpIdeal.Routed

end
-- ==== Proof.Up.Value.lean ====
/-
  The up projection's result at the ideal values is what its reference returns: every row of a used block against its
  expert's matrices, and zero in a block that is not used.
-/
module

public import proofs.«01_k».proof.Proof.Up.Table
public import proofs.«01_k».proof.Proof.Up.Run
public import proofs.«01_k».proof.Proof.Up.Tile

@[expose] public section

set_option maxRecDepth 16384

noncomputable section

namespace Cert.UpIdeal.Routed

open Cert.UpIdeal Cert.UpIdeal.Gen Cert.Routed
open Idealize.ShloMosaic Idealize.ShloMosaic.TcCoe Idealize.ShloMosaic.ValueIdx
open Idealize.ShloMosaic.Pipeline (Dat Cfg Window)

variable (m : (ℓ : Loc nD τ sig) → Buf (Elt Ideal) ℓ) (hv : Valid m)

/-! ## The blocks at an index -/

/-- The block and the column tile of a point. -/
def blockOf (t : Fin grid0.N) : Fin 192 := ⟨(grid0.coords t 1).val, (grid0.coords t 1).isLt⟩
def tileOf (t : Fin grid0.N) : Fin 4 := ⟨(grid0.coords t 0).val, (grid0.coords t 0).isLt⟩
/-- Column `l` of tile `j`. -/
def colOf (j : Fin 4) (l : Fin 256) : Fin 1024 := ⟨256 * j.val + l.val, by omega⟩

/-- The expert of a block. -/
def expertOf (b : Fin 192) : Fin 64 := ⟨(expertsGiven m (Shape.Idx.ofFin b)).toNat, hv.expert b⟩

theorem weights_apply (A : Vec Ideal S2x64x4096x1024 .f32) (e : Fin 64) (j : Fin 4)
    (h : ∀ a, ((![0, e.val, 0, j.val] : Fin 4 → ℕ) a + 1) * S1x1x4096x256.size a ≤ S2x64x4096x1024.size a) (k : Fin 4096) (l : Fin 256) :
    weights A ![0, e.val, 0, j.val] h (ix4 0 0 k l) = A (ix4 0 e k (colOf j l)) := by
  refine congrArg A (funext fun (a : Fin 4) => Fin.ext ?_)
  fin_cases a
  · rfl
  · show e.val * 1 + 1 * 0 = e.val; omega
  · show 0 * 4096 + 1 * k.val = k.val; omega
  · show j.val * 256 + 1 * l.val = 256 * j.val + l.val; omega

/-- Block `r` of rows. -/
def rowsAt (A : Vec Ideal S98304x4096 .bf16) (ix : Fin 2 → ℕ) (h : ∀ a, (ix a + 1) * S512x4096.size a ≤ S98304x4096.size a) :
    Vec Ideal S512x4096 .bf16 := fun y => A ((Rect.block (s := S98304x4096) S512x4096.size ix h).emb y)
theorem rowsAt_congr (A : Vec Ideal S98304x4096 .bf16) {ix ix' : Fin 2 → ℕ} (e : ix = ix')
    (h : ∀ a, (ix a + 1) * S512x4096.size a ≤ S98304x4096.size a) (h' : ∀ a, (ix' a + 1) * S512x4096.size a ≤ S98304x4096.size a) :
    rowsAt A ix h = rowsAt A ix' h' := by subst e; rfl
theorem rowsAt_apply (A : Vec Ideal S98304x4096 .bf16) (b : Fin 192)
    (h : ∀ a, ((![b.val, 0] : Fin 2 → ℕ) a + 1) * S512x4096.size a ≤ S98304x4096.size a) (i : Fin 512) (k : Fin 4096) :
    rowsAt A ![b.val, 0] h (ix2 i k) = A (ix2 (rowOf b i) k) := by
  refine congrArg A (funext fun (a : Fin 2) => Fin.ext ?_)
  fin_cases a
  · show b.val * 512 + 1 * i.val = 512 * b.val + i.val; omega
  · show 0 * 4096 + 1 * k.val = k.val; omega

theorem rows_inside (b : Fin 192) : ∀ a, ((![b.val, 0] : Fin 2 → ℕ) a + 1) * S512x4096.size a ≤ S98304x4096.size a := by
  have hb := b.isLt
  intro (a : Fin 2)
  fin_cases a
  · show (b.val + 1) * 512 ≤ 98304; omega
  · show (0 + 1) * 4096 ≤ 4096; omega

variable (t : Fin (launched m (inside m hv)).N) (c : Dev nD)

/-- In a used block the clamp does nothing. -/
theorem used_below (hu : k0_cond1 (grid0.coords t) (used m) = 1#1) : (blockOf t).val < usedCount m := by
  have q := (used_iff (grid0.coords t) (used m)).mp hu
  rw [used_eq, StableHlo.Predicate.toInt_eq_toNat_of_lt (lt_of_le_of_lt hv.le (by decide))] at q
  exact_mod_cast q

theorem rows_at (hu : k0_cond1 (grid0.coords t) (used m) = 1#1) (i : Fin 512) (k : Fin 4096) :
    blockAt m (inside m hv) c 0 t (ix2 i k) = m ((c : Thread nD τ).loc main_arg0) (ix2 (rowOf (blockOf t) i) k) := by
  have hb := used_below m hv t hu
  have e : cc0_transform_0 inb_S1_S1_0 numel1_S1 (tables m) (grid0.coords t) = ![(blockOf t).val, 0] := by
    rw [transform_0_eq m hv]
    exact congrArg (fun z => ![z, 0]) (Nat.min_eq_left (Nat.le_sub_one_of_lt hb))
  have q := rowsAt_congr (entry m c main_arg0) e ((inside m hv).1 _).1 (rows_inside (blockOf t))
  rw [entry_of_not_written m c (b := main_arg0) (by decide)] at q
  refine (congrFun (?_ : blockAt m (inside m hv) c 0 t = _) (ix2 i k)).trans ((congrFun q (ix2 i k)).trans (rowsAt_apply _ _ _ i k))
  exact congrArg (fun A => rowsAt A _ ((inside m hv).1 _).1) (entry_of_not_written m c (b := main_arg0) (by decide))

theorem expert_at (hu : k0_cond1 (grid0.coords t) (used m) = 1#1) : (this m (grid0.coords t)).toNat = (expertOf m hv (blockOf t)).val := by
  have hb := used_below m hv t hu
  refine (congrArg BitVec.toNat ((this_eq m (grid0.coords t)).trans (expertAt_eq m hv (blockOf t)))).trans ?_
  exact congrArg (fun z => (expertsGiven m (Shape.Idx.ofFin z)).toNat) (Fin.ext (Nat.min_eq_left (Nat.le_sub_one_of_lt hb)))

theorem weights_at (hu : k0_cond1 (grid0.coords t) (used m) = 1#1) (A : Vec Ideal S2x64x4096x1024 .f32) (k : Fin 4096) (l : Fin 256) :
    weights A _ (weights_inside m (inside m hv) (grid0.coords t)) (ix4 0 0 k l)
      = A (ix4 0 (expertOf m hv (blockOf t)) k (colOf (tileOf t) l)) := by
  have e : (![0, (this m (grid0.coords t)).toNat, 0, (grid0.coords t 0).val] : Fin 4 → ℕ)
      = ![0, (expertOf m hv (blockOf t)).val, 0, (tileOf t).val] := by rw [expert_at m hv t hu]; rfl
  exact (congrFun (weights_congr A e _ (e ▸ weights_inside m (inside m hv) (grid0.coords t))) _).trans (weights_apply A _ _ _ k l)

theorem gate_weights_at (hu : k0_cond1 (grid0.coords t) (used m) = 1#1) (k : Fin 4096) (l : Fin 256) :
    blockAt m (inside m hv) c 1 t (ix4 0 0 k l)
      = m ((c : Thread nD τ).loc main_arg3) (ix4 0 (expertOf m hv (blockOf t)) k (colOf (tileOf t) l)) :=
  (congrFun (blockAt_1 m (inside m hv) c t) (ix4 0 0 k l)).trans ((weights_at m hv t hu (entry m c main_arg3) k l).trans
    (congrFun (entry_of_not_written m c (b := main_arg3) (by decide)) _))
theorem lin_weights_at (hu : k0_cond1 (grid0.coords t) (used m) = 1#1) (k : Fin 4096) (l : Fin 256) :
    blockAt m (inside m hv) c 2 t (ix4 0 0 k l)
      = m ((c : Thread nD τ).loc main_arg4) (ix4 0 (expertOf m hv (blockOf t)) k (colOf (tileOf t) l)) :=
  (congrFun (blockAt_2 m (inside m hv) c t) (ix4 0 0 k l)).trans ((weights_at m hv t hu (entry m c main_arg4) k l).trans
    (congrFun (entry_of_not_written m c (b := main_arg4) (by decide)) _))

/-! ## The result -/

/-- The reference's value of this launch's arguments. -/
abbrev wanted : Vec Ideal S98304x1024 .bf16 :=
  UpRefIdeal.Plain.value (m ((c : Thread nD τ).loc main_arg0)) (m ((c : Thread nD τ).loc main_arg1)) (m ((c : Thread nD τ).loc main_arg2))
    (m ((c : Thread nD τ).loc main_arg3)) (m ((c : Thread nD τ).loc main_arg4))

theorem used_word : k0_cond1 (grid0.coords t) (used m) = 1#1
    ↔ IntOp.cmpi .slt (BitVec.ofNat 32 (blockOf t).val) (countGiven m (Shape.Idx.ofFin 0)) = 1#1 := by
  have hb := (blockOf t).isLt
  rw [used_iff, used_eq, WordCmp.cmpi_slt_eq, StableHlo.Predicate.ofBool_eq_one_iff, decide_eq_true_eq,
    StableHlo.Predicate.toInt_eq_toNat_of_lt (a := BitVec.ofNat 32 (blockOf t).val) (by rw [BitVec.toNat_ofNat]; omega), BitVec.toNat_ofNat,
    Nat.mod_eq_of_lt (by omega)]
  rfl

theorem leaves_at (i : Fin 512) (l : Fin 256) :
    leaves m (inside m hv) c t (ix2 i l) = wanted m c (ix2 (rowOf (blockOf t) i) (colOf (tileOf t) l)) := by
  obtain rfl : c = 0 := Subsingleton.elim _ _
  unfold leaves
  by_cases hu : k0_cond1 (grid0.coords t) (used m) = 1#1
  · rw [if_pos hu]
    refine (computed_at (blockAt m (inside m hv) 0 0 t) (blockAt m (inside m hv) 0 1 t) (blockAt m (inside m hv) 0 2 t) i l).trans ?_
    refine Eq.trans ?_ (UpRefIdeal.Plain.value_used _ _ _ _ _ (expertOf m hv (blockOf t)) (blockOf t) rfl ((used_word m hv t).mp hu) i _).symm
    exact congrArg₂ UpRefIdeal.Plain.gated
      (Finset.sum_congr rfl fun k _ => congrArg₂ (· * ·) (rows_at m hv t 0 hu i k) (gate_weights_at m hv t 0 hu k l))
      (Finset.sum_congr rfl fun k _ => congrArg₂ (· * ·) (rows_at m hv t 0 hu i k) (lin_weights_at m hv t 0 hu k l))
  · rw [if_neg hu, zeros_at]
    exact (UpRefIdeal.Plain.value_unused _ _ _ _ _ (blockOf t) (fun h => hu ((used_word m hv t).mpr h)) i _).symm

theorem placed (i : Fin 512) (l : Fin 256) :
    (((launched m (inside m hv)).win 3).blk t).view.emb (ix2 i l) = (ix2 (rowOf (blockOf t) i) (colOf (tileOf t) l) : S98304x1024.Idx) := by
  have h0 := (blockOf t).isLt
  have h1 := (tileOf t).isLt
  have e0 : (BitVec.ofNat 32 (blockOf t).val).toNat = (blockOf t).val := by rw [BitVec.toNat_ofNat]; omega
  have e1 : (BitVec.ofNat 32 (tileOf t).val).toNat = (tileOf t).val := by rw [BitVec.toNat_ofNat]; omega
  refine funext fun (a : Fin 2) => Fin.ext ?_
  fin_cases a
  · show (BitVec.ofNat 32 (blockOf t).val).toNat * 512 + 1 * i.val = 512 * (blockOf t).val + i.val
    rw [e0]; omega
  · show (BitVec.ofNat 32 (tileOf t).val).toNat * 256 + 1 * l.val = 256 * (tileOf t).val + l.val
    rw [e1]; omega

/-- The point of a block and a tile. -/
def pointOf (b : Fin 192) (j : Fin 4) : Fin grid0.N := ⟨192 * j.val + b.val, by rw [N_0]; omega⟩
theorem blockOf_point (b : Fin 192) (j : Fin 4) : blockOf (pointOf b j) = b :=
  Fin.ext ((coord_block _).trans (by show (192 * j.val + b.val) % 192 = b.val; omega))
theorem tileOf_point (b : Fin 192) (j : Fin 4) : tileOf (pointOf b j) = j :=
  Fin.ext ((coord_tile _).trans (by show (192 * j.val + b.val) / 192 % 4 = j.val; omega))

theorem covered (r : Fin 98304) (k : Fin 1024) : ∃ t : Fin (launched m (inside m hv)).N, ((launched m (inside m hv)).win 3).flush t = true
    ∧ (ix2 r k : S98304x1024.Idx) ∈ (((launched m (inside m hv)).win 3).blk t).view.set := by
  refine ⟨pointOf ⟨r.val / 512, by omega⟩ ⟨k.val / 256, by omega⟩, flushed _ _, ?_⟩
  have q := placed m hv (pointOf ⟨r.val / 512, by omega⟩ ⟨k.val / 256, by omega⟩) ⟨r.val % 512, by omega⟩ ⟨k.val % 256, by omega⟩
  rw [blockOf_point, tileOf_point] at q
  have e : (ix2 (rowOf ⟨r.val / 512, by omega⟩ ⟨r.val % 512, by omega⟩) (colOf ⟨k.val / 256, by omega⟩ ⟨k.val % 256, by omega⟩) : S98304x1024.Idx)
      = ix2 r k := congrArg₂ ix2 (Fin.ext (Nat.div_add_mod _ _)) (Fin.ext (Nat.div_add_mod _ _))
  rw [← e, ← q]
  exact View.emb_mem_set _ _

theorem result_eq : (dats m (inside m hv) 0 c).arrAt 3 (launched m (inside m hv)).N = wanted m c := by
  refine (dats m (inside m hv) 0 c).arrAt_eq_of_emb 3 (wanted m c) (fun t _ y => ?_) (fun i => ?_)
  · have q : ∀ y : S512x256.Idx, (dats m (inside m hv) 0 c).after 3 t y
        = wanted m c ((((launched m (inside m hv)).win 3).blk t).view.emb y) := by
      intro y
      obtain ⟨i, l, rfl⟩ : ∃ i l, y = ix2 i l := ⟨y 0, y 1, eq_ix2 y⟩
      refine Eq.trans ?_ ((leaves_at m hv t c i l).trans (congrArg (wanted m c) (placed m hv t i l).symm))
      exact congrFun (after_3 m (inside m hv) c t) _
    exact q y
  · have q : ∀ i : S98304x1024.Idx, ∃ t : Fin (launched m (inside m hv)).N, ((launched m (inside m hv)).win 3).flush t = true
        ∧ i ∈ (((launched m (inside m hv)).win 3).blk t).view.set := by
      intro i
      obtain ⟨r, k, rfl⟩ : ∃ r k, i = ix2 r k := ⟨i 0, i 1, eq_ix2 i⟩
      exact covered m hv r k
    exact q i

end Cert.UpIdeal.Routed

end
-- ==== Proof.Up.Claims.lean ====
/-
  The claims about the up projection besides its frames: its reference's frames, and the two results equal at the ideal values.
-/
module

public import proofs.«01_k».proof.Proof.Up.Frames
public import proofs.«01_k».proof.Proof.Up.Value

@[expose] public section

set_option maxRecDepth 16384

noncomputable section

namespace Cert.UpIdeal.Routed

open Idealize.ShloMosaic Idealize.ShloMosaic.TcCoe Idealize.SL.Sem

theorem frame_reference : Cert.quiescent_UpRefIdeal := fun m g _ => UpRefIdeal.Plain.quiescent m g
theorem frame_reference_routed : Cert.quiescent_UpRefIdeal_pre_up_routed := fun m g _ => UpRefIdeal.Plain.quiescent m g

theorem equal_results : Cert.algebraic_UpIdeal_UpRefIdeal := by
  intro m g m' g' hp ha
  have hv : Valid m := valid_of_pre m _ _ _ (hp 0)
  refine ⟨fun c => wanted m c, ?_, ?_⟩
  · exact (θ_run UpIdeal.defs _ _).mono
      (fun r h c => ⟨(Pipeline.FramePost.out_eq h.1 c 3).trans (result_eq m hv c), arguments_kept m (inside m hv) r h.1 c⟩)
      (run m g (inside m hv))
  · refine (θ_run UpRefIdeal.defs _ _).mono (fun r h c => ⟨(h c).1.trans ?_, (h c).2⟩) (UpRefIdeal.Plain.run m' g')
    obtain ⟨a0, a1, a2, a3, a4⟩ := ha c
    exact congr (congr (congr (congr (congrArg UpRefIdeal.Plain.value a0) a1) a2) a3) a4

end Cert.UpIdeal.Routed

end
-- ==== Proof.Down.Body.lean ====
/-
  The down projection's kernel body at one grid point, on any staging buffers, at any float values.

  Its three ways through are the up projection's: a used block of a new expert casts that expert's weight tile into the
  scratch first, a used block of the expert before finds it there, and a block past the used ones is stored as zeros.
  A used block is the rows times the weights, each row times its gate.
-/
module

public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DownIdeal.Routed

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables, the scratch, and the words the body reads -/

/-- The table of the blocks' experts, as the body is handed it. -/
abbrev experts : Memref sig .tc .smem S192 .i32 := Memref.whole main_v11
abbrev experts_whole : experts.IsWhole := Memref.isWhole_whole _
/-- The table of one word, the number of used blocks. -/
abbrev count : Memref sig .tc .smem S1 .i32 := Memref.whole main_arg3
abbrev count_whole : count.IsWhole := Memref.isWhole_whole _

/-- A table's contents on core `c`, and half of the table held at them. -/
abbrev Words (c : Dev nD) {S : Shape} {e : EltTy} (M : Memref sig .tc .smem S e) : Type := Buf (Elt F) (M.view.loc (c : Thread nD τ))
abbrev holds (c : Dev nD) {S : Shape} {e : EltTy} (M : Memref sig .tc .smem S e) (f : Words (F := F) c M) : sProp 𝕄 :=
  M.view.loc (c : Thread nD τ) ↦{fullShare.right} f

/-- The number of used blocks, the expert of the block before and the expert of this block, as the body loads them. -/
abbrev usedWord {c : Dev nD} (xt1 : Words (F := F) c count) : BitVec 32 :=
  count.view.readAt (Elt F) (Rect.unit (s := S1) ![0] S1.size inb_S1_S1_0).toLoadRect xt1 (Shape.Idx.first (numel1_S1.symm ▸ Nat.one_pos))
abbrev prevWord {c : Dev nD} (i : grid0.Coords) (xt0 : Words (F := F) c experts) : BitVec 32 :=
  experts.view.readAt (Elt F) (Rect.unit (s := S192) (k0_off2 i) S1.size (k0_off2_inb i)).toLoadRect xt0 (Shape.Idx.first (numel1_S1.symm ▸ Nat.one_pos))
abbrev thisWord {c : Dev nD} (i : grid0.Coords) (xt0 : Words (F := F) c experts) : BitVec 32 :=
  experts.view.readAt (Elt F) (Rect.unit (s := S192) (k0_off3 i) S1.size (k0_off3_inb i)).toLoadRect xt0 (Shape.Idx.first (numel1_S1.symm ▸ Nat.one_pos))

/-- The block is the first of its column tile or its expert is not the one before: the weights are cast again. -/
abbrev freshBit (i : grid0.Coords) (this prev : BitVec 32) : BitVec 1 :=
  Scalar.cmpi .ne (Scalar.extui (Scalar.ori (Scalar.cmpi .eq (BitVec.ofNat 32 (i 1).val) 0#32) (Scalar.cmpi .ne this prev)) : BitVec 32) 0#32

theorem zeros2 : (![0, 0] : Fin 2 → Nat) = fun _ => 0 := funext fun a => by fin_cases a <;> rfl

/-- The body's loads of a whole staging buffer read what it holds. -/
theorem read_x {M : Memref sig .tc .vmem S512x1024 .bf16} (h : M.IsWhole) (x : Vec F S512x1024 .bf16) :
    M.view.readAt (Elt F) (Rect.unit (s := S512x1024) ![0, 0] S512x1024.size inb_S512x1024_S512x1024_0_0).toLoadRect (h.unread x) = x :=
  (View.readAt_full (s := S512x1024) _ _ _).trans (h.read_unread x)
theorem read_g {M : Memref sig .tc .vmem S512x1 .f32} (h : M.IsWhole) (x : Vec F S512x1 .f32) :
    M.view.readAt (Elt F) (Rect.unit (s := S512x1) ![0, 0] S512x1.size inb_S512x1_S512x1_0_0).toLoadRect (h.unread x) = x :=
  (View.readAt_full (s := S512x1) _ _ _).trans (h.read_unread x)
theorem read_w {M : Memref sig .tc .vmem S1x1x1024x1024 .f32} (h : M.IsWhole) (x : Vec F S1x1x1024x1024 .f32) :
    M.view.readAt (Elt F) (Rect.unit (s := S1x1x1024x1024) ![0, 0, 0, 0] S1x1x1024x1024.size inb_S1x1x1024x1024_S1x1x1024x1024_0_0_0_0).toLoadRect (h.unread x) = x :=
  (View.readAt_full (s := S1x1x1024x1024) _ _ _).trans (h.read_unread x)

/-- The body's first and last conditions are each other's negation. -/
theorem unused_of_not_used (i : grid0.Coords) (v : BitVec 32) (h : ¬ k0_cond1 i v = 1#1) : k0_cond3 i v = 1#1 := by
  unfold k0_cond1 at h; unfold k0_cond3
  dsimp only at h ⊢
  generalize Scalar.cmpi .slt (BitVec.ofNat 32 (i 1).val) v = b at h ⊢
  revert h; revert b; decide
theorem not_unused_of_used (i : grid0.Coords) (v : BitVec 32) (h : k0_cond1 i v = 1#1) : ¬ k0_cond3 i v = 1#1 := by
  unfold k0_cond1 at h; unfold k0_cond3
  dsimp only at h ⊢
  generalize Scalar.cmpi .slt (BitVec.ofNat 32 (i 1).val) v = b at h ⊢
  revert h; revert b; decide

variable (c : Dev nD) (i : grid0.Coords)
  (arg4 : Memref sig .tc .vmem S512x1024 .bf16) (harg4 : arg4.IsWhole)
  (arg5 : Memref sig .tc .vmem S512x1 .f32) (harg5 : arg5.IsWhole)
  (arg6 : Memref sig .tc .vmem S1x1x1024x1024 .f32) (harg6 : arg6.IsWhole)
  (arg7 : Memref sig .tc .vmem S512x1024 .f32) (harg7 : arg7.IsWhole)
  (arg8 : Memref sig .tc .vmem S1024x1024 .bf16) (harg8 : arg8.IsWhole)
  (x0 : Vec F S512x1024 .bf16) (x1 : Vec F S512x1 .f32) (x2 : Vec F S1x1x1024x1024 .f32)
  (xt0 : Words (F := F) c experts) (xt1 : Words (F := F) c count)

set_option maxHeartbeats 1000000 in
/-- A used block of a new expert: its weights are cast into the scratch, and the block is computed from them. -/
theorem run_fresh (h1 : k0_cond1 i (usedWord xt1) = 1#1) (h2 : freshBit i (thisWord i xt0) (prevWord i xt0) = 1#1)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ (∃ d, owns (c : Thread nD τ) arg8 fullShare d)
        ∗ holds c experts xt0 ∗ holds c count xt1
        ∗ (iprop(owns (c : Thread nD τ) arg4 fullShare x0 ∗ owns (c : Thread nD τ) arg5 fullShare x1 ∗ owns (c : Thread nD τ) arg6 fullShare x2
            ∗ owns (c : Thread nD τ) arg7 fullShare (k0_pay2 x0 (k0_pay1 x2) x1)
            ∗ owns (c : Thread nD τ) arg8 fullShare (k0_pay1 x2)
            ∗ holds c experts xt0 ∗ holds c count xt1) -∗ K ⟨⟩))
      ⊢ wp frame (wpE (defs₀ (F := F)) Variants.none c none) E
          (cc0_moe_down i experts experts_whole count count_whole arg4 harg4 arg5 harg5 arg6 harg6 arg7 harg7 arg8 harg8) K := by
  have h3 := not_unused_of_used i _ h1
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, ⟨%ds, %fs, -, HS⟩, HT0, HT1, Hk⟩
  obtain rfl := harg4.eq_unread hf0; obtain rfl := harg5.eq_unread hf1; obtain rfl := harg6.eq_unread hf2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    sl_unfold_words
    exact (View.read_writes_full (s := S512x1024) _ _ _ _ _).trans (congr (congr (congrArg k0_pay2 (read_x harg4 x0))
      (((View.readAt_full (s := S1024x1024) _ _ _).trans (View.read_writes_full (s := S1024x1024) _ _ _ _ _)).trans (congrArg k0_pay1 (read_w harg6 x2))))
      (read_g harg5 x1))
  isplitl [HS]
  · iexists _; isplitr; swap; · iexact HS
    ipureintro
    sl_unfold_words
    exact (View.read_writes_full (s := S1024x1024) _ _ _ _ _).trans (congrArg k0_pay1 (read_w harg6 x2))
  isplitl [HT0]; · iexact HT0
  iexact HT1

set_option maxHeartbeats 1000000 in
/-- A used block of the expert before: the block is computed from the weights found in the scratch, which keeps them. -/
theorem run_kept (h1 : k0_cond1 i (usedWord xt1) = 1#1) (h2 : ¬ freshBit i (thisWord i xt0) (prevWord i xt0) = 1#1) (d : Vec F S1024x1024 .bf16)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare d
        ∗ holds c experts xt0 ∗ holds c count xt1
        ∗ (iprop(owns (c : Thread nD τ) arg4 fullShare x0 ∗ owns (c : Thread nD τ) arg5 fullShare x1 ∗ owns (c : Thread nD τ) arg6 fullShare x2
            ∗ owns (c : Thread nD τ) arg7 fullShare (k0_pay2 x0 d x1)
            ∗ owns (c : Thread nD τ) arg8 fullShare d
            ∗ holds c experts xt0 ∗ holds c count xt1) -∗ K ⟨⟩))
      ⊢ wp frame (wpE (defs₀ (F := F)) Variants.none c none) E
          (cc0_moe_down i experts experts_whole count count_whole arg4 harg4 arg5 harg5 arg6 harg6 arg7 harg7 arg8 harg8) K := by
  have h3 := not_unused_of_used i _ h1
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, ⟨%fs, %hfs, HS⟩, HT0, HT1, Hk⟩
  obtain rfl := harg4.eq_unread hf0; obtain rfl := harg5.eq_unread hf1; obtain rfl := harg6.eq_unread hf2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact (View.read_writes_full (s := S512x1024) _ _ _ _ _).trans (congr (congr (congrArg k0_pay2 (read_x harg4 x0))
      ((View.readAt_full (s := S1024x1024) _ _ _).trans hfs)) (read_g harg5 x1))
  isplitl [HS]
  · iexists _; isplitr; · ipureintro; exact hfs
    iexact HS
  isplitl [HT0]; · iexact HT0
  iexact HT1

set_option maxHeartbeats 1000000 in
/-- A block past the used ones: zeros are stored, and the scratch is left alone. -/
theorem run_unused (h1 : ¬ k0_cond1 i (usedWord xt1) = 1#1) (d : Vec F S1024x1024 .bf16)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare d
        ∗ holds c experts xt0 ∗ holds c count xt1
        ∗ (iprop(owns (c : Thread nD τ) arg4 fullShare x0 ∗ owns (c : Thread nD τ) arg5 fullShare x1 ∗ owns (c : Thread nD τ) arg6 fullShare x2
            ∗ owns (c : Thread nD τ) arg7 fullShare k0_pay3
            ∗ owns (c : Thread nD τ) arg8 fullShare d
            ∗ holds c experts xt0 ∗ holds c count xt1) -∗ K ⟨⟩))
      ⊢ wp frame (wpE (defs₀ (F := F)) Variants.none c none) E
          (cc0_moe_down i experts experts_whole count count_whole arg4 harg4 arg5 harg5 arg6 harg6 arg7 harg7 arg8 harg8) K := by
  have h3 := unused_of_not_used i _ h1
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, ⟨%fs, %hfs, HS⟩, HT0, HT1, Hk⟩
  obtain rfl := harg4.eq_unread hf0; obtain rfl := harg5.eq_unread hf1; obtain rfl := harg6.eq_unread hf2
  sl_exec (disch := first | sl_exact h1 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    exact View.read_writes_full (s := S512x1024) _ _ _ _ _
  isplitl [HS]
  · iexists _; isplitr; · ipureintro; exact hfs
    iexact HS
  isplitl [HT0]; · iexact HT0
  iexact HT1

end Cert.DownIdeal.Routed

end
-- ==== Proof.Down.Entry.lean ====
/-
  What the down projection's pallas_call finds when it is entered, at any float values: the host's fifteen operations run,
  the arguments untouched, the two tables' contents, each window's block as a function of those tables, and the words the
  body compares in closed form.
-/
module

public import proofs.«01_k».proof.Proof.Down.Body

@[expose] public section

set_option maxRecDepth 16384

noncomputable section

namespace Cert.DownIdeal.Routed

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Memory at the call -/

/-- A buffer's contents when the call is entered: the host's operations applied to the launch memory. -/
abbrev entry (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem reaches_call (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub host_fresh main_chain

/-- The buffers the host's operations write. -/
abbrev hostWrites : List (Ref sig .tc) :=
  [main_v0, main_v1, main_c, main_v2, main_v3, main_v4, main_c_0, main_v5, main_v6, main_c_1, main_v7, main_v8, main_v9, main_v10, main_v11]

/-- A buffer the host does not write is as it was launched. -/
theorem entry_of_not_written (c : Dev nD) {b : Ref sig .tc} (h : ∀ r ∈ hostWrites, b ≠ r) : entry m c b = m ((c : Thread nD τ).loc b) :=
  StableHlo.after_of_forall_not_mem (b := Proc.devRef .tc b) _ _ (List.forall_iff_forall_mem.mp (by
    simp only [hostWrites, List.forall_mem_cons] at h
    simp only [hostOps0, List.Forall, StableHlo.nullary_writes, StableHlo.unary_writes, StableHlo.binary_writes, StableHlo.ternary_writes,
      StableHlo.reshape_writes, Finset.mem_singleton]
    obtain ⟨h0, h1, h2, h3, h4, h5, h6, h7, h8, h9, h10, h11, h12, h13, h14, -⟩ := h
    refine ⟨?_, ?_, ?_, ?_, ?_, ?_, ?_, ?_, ?_, ?_, ?_, ?_, ?_, ?_, ?_⟩ <;> exact StableHlo.devRef_ne_of_ne (by assumption)))

/-! ## The tables -/

/-- The tables' contents when the call is entered. There is one device. -/
def tables : pre0.Contents (Elt F) := fun j => entry m (0 : Dev nD) (pre0.ref j)
theorem entry_table (c : Dev nD) (j : Fin 2) : entry m c (pre0.ref j) = tables m j := by
  obtain rfl : c = 0 := Subsingleton.elim _ _; rfl

/-- Every block the tables name is inside its array. -/
abbrev Inside : Prop := ok0 (F := F) (tables m)
abbrev admitted (hO : Inside m) : (pcfg0 (F := F)).Adm := ⟨tables m, hO⟩
abbrev launched (hO : Inside m) : Pipeline.Cfg sig Λ₀ := cfg0 (admitted m hO)

/-- The number of used blocks, a block's expert and the expert before it, as words of those tables. -/
abbrev used : BitVec 32 := usedWord (F := F) (c := (0 : Dev nD)) (tables m 1)
abbrev this (i : grid0.Coords) : BitVec 32 := thisWord (F := F) (c := (0 : Dev nD)) i (tables m 0)
abbrev prev (i : grid0.Coords) : BitVec 32 := prevWord (F := F) (c := (0 : Dev nD)) i (tables m 0)

/-- The table of experts at a block's number. -/
def expertAt (k : ℕ) (h : k < 192) : BitVec 32 := tables m 0 (fun a => ⟨![k] a, by fin_cases a; exact h⟩)

theorem this_eq (i : grid0.Coords) : this m i = expertAt m (i 1).val (i 1).isLt := by
  refine congrArg (tables m 0) (funext fun a => Fin.ext ?_)
  fin_cases a
  show k0_off3 i 0 + 1 * 0 = _
  rw [k0_off3_eq]; rfl

theorem off2_eq (i : grid0.Coords) : k0_off2 i 0 = (i 1).val - 1 := by
  have h := (i 1).isLt
  revert h; show ∀ _ : (i 1).val < 192, _
  unfold k0_off2
  generalize (i 1).val = n
  intro h
  show (Scalar.indexCast (Scalar.maxsi (Scalar.subi (BitVec.ofNat 32 n) 1#32) 0#32)).toNat = n - 1
  revert n
  decide +kernel

theorem prev_eq (i : grid0.Coords) : prev m i = expertAt m ((i 1).val - 1) (lt_of_le_of_lt (Nat.sub_le _ _) (i 1).isLt) := by
  refine congrArg (tables m 0) (funext fun a => Fin.ext ?_)
  fin_cases a
  show k0_off2 i 0 + 1 * 0 = _
  rw [off2_eq]; rfl

theorem expertAt_congr {k l : ℕ} (e : k = l) (h : k < 192) (h' : l < 192) : expertAt m k h = expertAt m l h' := by subst e; rfl

/-! ## The words the body compares -/

theorem used_iff (i : grid0.Coords) (v : BitVec 32) : k0_cond1 i v = 1#1 ↔ ((i 1).val : ℤ) < v.toInt := by
  have h : (i 1).val < 192 := (i 1).isLt
  have e : (BitVec.ofNat 32 (i 1).val).toInt = ((i 1).val : ℤ) := by
    rw [BitVec.toInt_ofNat']; simp only [Int.bmod]; omega
  have q : ∀ b : BitVec 1, Scalar.cmpi .ne (Scalar.extui b : BitVec 32) 0#32 = b := by decide
  unfold k0_cond1
  dsimp only
  rw [q]
  show IntOp.cmpi .slt _ _ = 1#1 ↔ _
  rw [WordCmp.cmpi_slt_eq, e]
  by_cases hl : ((i 1).val : ℤ) < v.toInt <;> simp [hl]

/-- Weights are kept only past the first block of a column tile, when the expert is the one before. -/
theorem of_not_fresh (i : grid0.Coords) (a b : BitVec 32) (h : ¬ freshBit i a b = 1#1) : 0 < (i 1).val ∧ a = b := by
  have q : ∀ b : BitVec 1, Scalar.cmpi .ne (Scalar.extui b : BitVec 32) 0#32 = b := by decide
  have hi : (i 1).val < 192 := (i 1).isLt
  unfold freshBit at h
  rw [q] at h
  have h' : ¬ (IntOp.ori (IntOp.cmpi .eq (BitVec.ofNat 32 (i 1).val) 0#32) (IntOp.cmpi .ne a b)) = 1#1 := h
  rw [WordCmp.cmpi_eq_eq, WordCmp.cmpi_ne_eq] at h'
  by_cases e1 : BitVec.ofNat 32 (i 1).val = 0#32
  · exact absurd (by simp only [e1, decide_true]; by_cases e2 : a = b <;> simp [e2] <;> decide) h'
  · by_cases e2 : a = b
    · refine ⟨Nat.pos_of_ne_zero fun h0 => e1 (by rw [h0]), e2⟩
    · exact absurd (by rw [decide_eq_false e1, decide_eq_true e2]; rfl) h'

/-! ## Points and coordinates -/

theorem coord_block (t : Fin grid0.N) : (grid0.coords t 1).val = t.val % 192 := by
  rw [Pipeline.Grid.coords_val t 1 (S := 1) (B := 192) (by decide) rfl, Nat.div_one]
theorem coord_tile (t : Fin grid0.N) : (grid0.coords t 0).val = t.val / 192 % 4 :=
  Pipeline.Grid.coords_val t 0 (S := 192) (B := 4) (by decide) rfl

/-! ## The windows' blocks -/

/-- A window's block at a point, read off its array as the call finds it. -/
def blockAt (hO : Inside m) (c : Dev nD) (w : Fin (launched m hO).W) (t : Fin (launched m hO).N) :
    (((launched m hO).win w).xblock ((launched m hO).grid.coords t)).Idx → Elt F ((launched m hO).win w).elt :=
  (((launched m hO).win w).blk t).view.read (Elt F) (entry m c (Pipeline.arrRef spec0 w))

/-- One expert's tile of a weight array, by the block index. -/
def weights (A : Vec F S2x64x1024x4096 .f32) (ix : Fin 4 → ℕ) (h : ∀ a, (ix a + 1) * S1x1x1024x1024.size a ≤ S2x64x1024x4096.size a) :
    Vec F S1x1x1024x1024 .f32 :=
  fun y => A ((Rect.block (s := S2x64x1024x4096) S1x1x1024x1024.size ix h).emb y)

theorem weights_congr (A : Vec F S2x64x1024x4096 .f32) {ix ix' : Fin 4 → ℕ} (e : ix = ix')
    (h : ∀ a, (ix a + 1) * S1x1x1024x1024.size a ≤ S2x64x1024x4096.size a)
    (h' : ∀ a, (ix' a + 1) * S1x1x1024x1024.size a ≤ S2x64x1024x4096.size a) : weights A ix h = weights A ix' h' := by
  subst e; rfl

/-- The index map of the weight window. -/
theorem transform_2_eq (i : grid0.Coords) :
    cc0_transform_2 k0_off1_inb numel1_S1 (tables m) i = ![0, (this m i).toNat, 0, (i 0).val] := by
  have h : (i 0).val < 4 := (i 0).isLt
  have e : (BitVec.ofNat 32 (i 0).val).toNat = (i 0).val := by rw [BitVec.toNat_ofNat]; omega
  show ![0, (this m i).toNat, 0, (BitVec.ofNat 32 (i 0).val).toNat] = _
  rw [e]
theorem weights_inside (hO : Inside m) (i : grid0.Coords) :
    ∀ a, ((![0, (this m i).toNat, 0, (i 0).val] : Fin 4 → ℕ) a + 1) * S1x1x1024x1024.size a ≤ S2x64x1024x4096.size a := by
  rw [← transform_2_eq]; exact (hO.2.2 i).1

theorem blockAt_2 (hO : Inside m) (c : Dev nD) (t : Fin (launched m hO).N) :
    blockAt m hO c 2 t = weights (entry m c main_arg4) _ (weights_inside m hO (grid0.coords t)) :=
  weights_congr (entry m c main_arg4) (transform_2_eq m (grid0.coords t)) (hO.2.2 _).1 _

/-- At a block whose expert is the one before, in the same column tile, the weight window shows what it showed before. -/
theorem blocks_kept (hO : Inside m) (c : Dev nD) (t t' : Fin (launched m hO).N) (ht : t'.val + 1 = t.val)
    (h2 : ¬ freshBit (grid0.coords t) (this m (grid0.coords t)) (prev m (grid0.coords t)) = 1#1) :
    (grid0.coords t' 1).val + 1 = (grid0.coords t 1).val
    ∧ blockAt m hO c 2 t = blockAt m hO c 2 t' := by
  obtain ⟨hpos, he⟩ := of_not_fresh _ _ _ h2
  have b := coord_block t; have b' := coord_block t'
  have j := coord_tile t; have j' := coord_tile t'
  have hb : (grid0.coords t' 1).val + 1 = (grid0.coords t 1).val := by omega
  have hj : (grid0.coords t 0).val = (grid0.coords t' 0).val := by omega
  have hw : this m (grid0.coords t) = this m (grid0.coords t') := by
    rw [he, prev_eq, this_eq]; exact expertAt_congr m (by omega) _ _
  have hix : (![0, (this m (grid0.coords t)).toNat, 0, (grid0.coords t 0).val] : Fin 4 → ℕ)
      = ![0, (this m (grid0.coords t')).toNat, 0, (grid0.coords t' 0).val] := by rw [hw, hj]
  exact ⟨hb, by rw [blockAt_2, blockAt_2]; exact weights_congr _ hix _ _⟩

/-! ## What the pipeline hands the body -/

theorem before_in (hO : Inside m) {c : Dev nD} (dat : Dat τ (Elt F) Unit ℕ (UR sig nD τ) ℕ (launched m hO) c) (w : Fin 4) (hin : w ≠ 3)
    (hA : dat.A w = entry m c (Pipeline.arrRef spec0 w)) (hafter : ∀ t, dat.after w t = blockAt m hO c w t) (t : Fin (launched m hO).N) (d) :
    dat.before w t d = blockAt m hO c w t := by
  fin_cases w
  case «3» => exact absurd rfl hin
  all_goals
    exact (dat.before_in_eq_fetched _ rfl (fun _ => rfl) (fun _ _ _ => rfl) (fun t => by rw [hafter]; unfold Dat.blockOf blockAt; rw [hA]; try rfl) t d).trans
      (by unfold Dat.fetched Dat.blockOf blockAt; rw [hA]; try rfl)

/-- The result's window is written back at every point. -/
theorem flushed (a : (pcfg0 (F := F)).Adm) : ∀ t : Fin (cfg0 a).N, ((cfg0 a).win 3).flush t = true :=
  (fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _) :
      ∀ t : Fin grid0.N, Pipeline.Window.flushOf grid0 true cc0_transform_3 t = true)

/-- The body stores the result's block at every point: one of its two conditions holds. -/
theorem never_idle (pf : pre0.Contents (Elt F)) (i : grid0.Coords) : idle0 pf 3 i = false := by
  show (!(k0_cond1 i (pf.atD 1 ![0]) == 1#1) && !(k0_cond3 i (pf.atD 1 ![0]) == 1#1)) = false
  by_cases h : k0_cond1 i (pf.atD 1 ![0]) = 1#1
  · rw [h]; rfl
  · rw [unused_of_not_used i _ h, Bool.and_eq_false_iff]; exact Or.inr rfl

/-- The scratch as the body is handed it. -/
abbrev kept : Memref sig .tc .vmem S1024x1024 .bf16 := Memref.whole cc0_scratch0

theorem tables_held (c : Dev nD) :
    (Pipeline.ΦT pre0 (tables m) c : sProp 𝕄) = iprop(holds c experts (tables m 0) ∗ holds c count (tables m 1)) := by
  unfold Pipeline.ΦT Pipeline.prefHeld
  rw [show (Finset.univ : Finset (Fin 2)) = insert (0 : Fin 2) {(1 : Fin 2)} from by decide, bigSep_insert (by decide), bigSep_singleton]
  rfl

theorem scratch_held (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

end Cert.DownIdeal.Routed

end
-- ==== Proof.Down.Frame.lean ====
/-
  The down projection's body at every point of the grid, at any float values: it leaves in the result's buffer what `leaves`
  names. What is carried from point to point is that the scratch holds the cast weights of the last used block.
-/
module

public import proofs.«01_k».proof.Proof.Down.Entry

@[expose] public section

set_option maxRecDepth 16384

noncomputable section

namespace Cert.DownIdeal.Routed

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Inside m)

/-- What a point leaves in the result's staging buffer: the block computed with its expert's weights, or zeros. -/
def leaves (c : Dev nD) (t : Fin (launched m hO).N) : Vec F S512x1024 .f32 :=
  if k0_cond1 (grid0.coords t) (used m) = 1#1 then
    k0_pay2 (blockAt m hO c 0 t) (k0_pay1 (blockAt m hO c 2 t)) (blockAt m hO c 1 t)
  else k0_pay3

/-- Before point `n`, if the point before it was a used block, the scratch `d` holds that block's cast weights. -/
def Holds (c : Dev nD) (n : ℕ) (d : Vec F S1024x1024 .bf16) : Prop :=
  ∀ t : Fin (launched m hO).N, t.val + 1 = n → k0_cond1 (grid0.coords t) (used m) = 1#1 →
    d = k0_pay1 (blockAt m hO c 2 t)

/-- What is carried from point to point. -/
def carried (c : Dev nD) (n : ℕ) : sProp 𝕄 :=
  iprop((∃ d, ⌜Holds m hO c n d⌝ ∗ owns (c : Thread nD τ) kept fullShare d) ∗ (∃ r, prngReg c r) ∗ Pipeline.ΦT pre0 (tables m) c)

def dats (_ : Fin 1) (c : Dev nD) : Dat τ (Elt F) Unit ℕ (UR sig nD τ) ℕ (launched m hO) c where
  A w := entry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => leaves m hO c t
  Φ t := (fun n (_ : n ≤ (launched m hO).N) => carried m hO c n) t.val (Nat.le_of_lt_succ t.isLt)
  q _ := fullShare
  owed _ := 0

theorem dats_A (c : Dev nD) (w : Fin (launched m hO).W) : (dats m hO 0 c).A w = entry m c (Pipeline.arrRef spec0 w) := by
  dsimp only [dats]
theorem after_0 (c : Dev nD) (t : Fin (launched m hO).N) : (dats m hO 0 c).after 0 t = blockAt m hO c 0 t := by dsimp only [dats]; try rfl
theorem after_1 (c : Dev nD) (t : Fin (launched m hO).N) : (dats m hO 0 c).after 1 t = blockAt m hO c 1 t := by dsimp only [dats]; try rfl
theorem after_2 (c : Dev nD) (t : Fin (launched m hO).N) : (dats m hO 0 c).after 2 t = blockAt m hO c 2 t := by dsimp only [dats]; try rfl
theorem after_3 (c : Dev nD) (t : Fin (launched m hO).N) : (dats m hO 0 c).after 3 t = leaves m hO c t := by dsimp only [dats]; try rfl
theorem before_0 (c : Dev nD) (t : Fin (launched m hO).N) (d) : (dats m hO 0 c).before 0 t d = blockAt m hO c 0 t :=
  before_in m hO (dats m hO 0 c) 0 (by decide) (dats_A m hO c 0) (after_0 m hO c) t d
theorem before_1 (c : Dev nD) (t : Fin (launched m hO).N) (d) : (dats m hO 0 c).before 1 t d = blockAt m hO c 1 t :=
  before_in m hO (dats m hO 0 c) 1 (by decide) (dats_A m hO c 1) (after_1 m hO c) t d
theorem before_2 (c : Dev nD) (t : Fin (launched m hO).N) (d) : (dats m hO 0 c).before 2 t d = blockAt m hO c 2 t :=
  before_in m hO (dats m hO 0 c) 2 (by decide) (dats_A m hO c 2) (after_2 m hO c) t d
theorem carried_before (c : Dev nD) (t : Fin (launched m hO).N) : (dats m hO 0 c).Φ t.castSucc = carried m hO c t.val := by
  dsimp only [dats]; exact Pipeline.Dat.Φ_castSucc (fun n _ => carried m hO c n) t
theorem carried_after (c : Dev nD) (t : Fin (launched m hO).N) : (dats m hO 0 c).Φ t.succ = carried m hO c (t.val + 1) := by
  dsimp only [dats]; exact congrArg (carried m hO c) (Fin.val_succ t)

/-! ## The body at a point -/

abbrev bufX (t : Fin (launched m hO).N) : Memref sig .tc .vmem S512x1024 .bf16 := spec0_0.stage ((launched m hO).slots t 0)
abbrev bufG (t : Fin (launched m hO).N) : Memref sig .tc .vmem S512x1 .f32 := spec0_1.stage ((launched m hO).slots t 1)
abbrev bufW (t : Fin (launched m hO).N) : Memref sig .tc .vmem S1x1x1024x1024 .f32 := spec0_2.stage ((launched m hO).slots t 2)
abbrev bufY (t : Fin (launched m hO).N) : Memref sig .tc .vmem S512x1024 .f32 := spec0_3.stage ((launched m hO).slots t 3)
abbrev bufX_whole (t : Fin (launched m hO).N) : (bufX m hO t).IsWhole := hstage0_0 (((launched m hO).slots t 0).cast nbuf0_0)
abbrev bufG_whole (t : Fin (launched m hO).N) : (bufG m hO t).IsWhole := hstage0_1 (((launched m hO).slots t 1).cast nbuf0_1)
abbrev bufW_whole (t : Fin (launched m hO).N) : (bufW m hO t).IsWhole := hstage0_2 (((launched m hO).slots t 2).cast nbuf0_2)
abbrev bufY_whole (t : Fin (launched m hO).N) : (bufY m hO t).IsWhole := hstage0_3 (((launched m hO).slots t 3).cast nbuf0_3)

/-- The body, on what the pipeline calls it with. -/
abbrev bodyAt (t : Fin (launched m hO).N) : Prog (TpuEff nD τ sig (Elt F) Λ₀ .tc) PUnit :=
  cc0_moe_down (grid0.coords t) experts experts_whole count count_whole (bufX m hO t) (bufX_whole m hO t) (bufG m hO t) (bufG_whole m hO t)
    (bufW m hO t) (bufW_whole m hO t) (bufY m hO t) (bufY_whole m hO t) kept (Memref.isWhole_whole _)

def pointPre (c : Dev nD) (t : Fin (launched m hO).N) : sProp 𝕄 :=
  iprop((dats m hO 0 c).Φ t.castSucc ∗ (dats m hO 0 c).owesAt () t.castSucc
    ∗ (∃ d, owns (c : Thread nD τ) (bufX m hO t) fullShare ((dats m hO 0 c).before 0 t d))
    ∗ (∃ d, owns (c : Thread nD τ) (bufG m hO t) fullShare ((dats m hO 0 c).before 1 t d))
    ∗ (∃ d, owns (c : Thread nD τ) (bufW m hO t) fullShare ((dats m hO 0 c).before 2 t d))
    ∗ (∃ d, owns (c : Thread nD τ) (bufY m hO t) fullShare ((dats m hO 0 c).before 3 t d)))

def pointPost (c : Dev nD) (t : Fin (launched m hO).N) : sProp 𝕄 :=
  iprop((dats m hO 0 c).Φ t.succ ∗ (dats m hO 0 c).owesAt () t.succ
    ∗ owns (c : Thread nD τ) (bufX m hO t) fullShare ((dats m hO 0 c).after 0 t)
    ∗ owns (c : Thread nD τ) (bufG m hO t) fullShare ((dats m hO 0 c).after 1 t)
    ∗ owns (c : Thread nD τ) (bufW m hO t) fullShare ((dats m hO 0 c).after 2 t)
    ∗ owns (c : Thread nD τ) (bufY m hO t) fullShare ((dats m hO 0 c).after 3 t))

/-- The scratch's invariant after a used block of a new expert, after one of the expert before, and after an unused one. -/
theorem holds_fresh (c : Dev nD) (t : Fin (launched m hO).N) (d : Vec F S1024x1024 .bf16)
    (h : d = k0_pay1 (blockAt m hO c 2 t)) : Holds m hO c (t.val + 1) d := by
  intro t' ht' _
  obtain rfl : t' = t := Fin.ext (by omega)
  exact h
theorem holds_unused (c : Dev nD) (t : Fin (launched m hO).N) (d : Vec F S1024x1024 .bf16)
    (h : ¬ k0_cond1 (grid0.coords t) (used m) = 1#1) : Holds m hO c (t.val + 1) d := by
  intro t' ht' hu
  obtain rfl : t' = t := Fin.ext (by omega)
  exact absurd hu h
theorem found_kept (c : Dev nD) (t : Fin (launched m hO).N) (d : Vec F S1024x1024 .bf16) (h : Holds m hO c t.val d)
    (h1 : k0_cond1 (grid0.coords t) (used m) = 1#1)
    (h2 : ¬ freshBit (grid0.coords t) (this m (grid0.coords t)) (prev m (grid0.coords t)) = 1#1) :
    d = k0_pay1 (blockAt m hO c 2 t) := by
  have hb := coord_block t
  obtain ⟨hpos, -⟩ := of_not_fresh _ _ _ h2
  have ht : t.val ≠ 0 := by intro h0; rw [h0] at hb; omega
  let t' : Fin (launched m hO).N := ⟨t.val - 1, lt_of_le_of_lt (Nat.sub_le _ _) t.isLt⟩
  have ht' : t'.val + 1 = t.val := Nat.succ_pred_eq_of_ne_zero ht
  obtain ⟨hc, e2⟩ := blocks_kept m hO c t t' ht' h2
  rw [e2]
  refine h t' ht' ((used_iff _ _).mpr ?_)
  have := (used_iff _ _).mp h1
  omega

set_option maxHeartbeats 800000 in
theorem body_sound (c : Dev nD) (t : Fin (launched m hO).N) :
    pointPre m hO c t ⊢ wp frame (wpE (defs₀ (F := F)) Variants.none c none) Set.univ (bodyAt m hO t) (fun _ => pointPost m hO c t) := by
  obtain rfl : c = 0 := Subsingleton.elim _ _
  unfold pointPre pointPost bodyAt
  simp only [before_0, before_1, before_2]
  rw [carried_before, carried_after, show (dats m hO 0 0).owesAt () t.succ = (dats m hO 0 0).owesAt () t.castSucc from rfl,
    after_0, after_1, after_2, after_3]
  unfold carried
  rw [tables_held]
  unfold leaves
  by_cases h1 : k0_cond1 (grid0.coords t) (used m) = 1#1
  · rw [if_pos h1]
    by_cases h2 : freshBit (grid0.coords t) (this m (grid0.coords t)) (prev m (grid0.coords t)) = 1#1
    · iintro ⟨⟨⟨%d, %hd, HS⟩, Hg, HT0, HT1⟩, Ho, ⟨%d0, H0⟩, ⟨%d1, H1⟩, ⟨%d2, H2⟩, ⟨%d3, H3⟩⟩
      iapply (run_fresh 0 (grid0.coords t) _ _ _ _ _ _ _ _ _ _ (blockAt m hO 0 0 t) (blockAt m hO 0 1 t) (blockAt m hO 0 2 t) (tables m 0) (tables m 1) h1 h2 Set.univ _)
      isplitl [H0]; · iexact H0
      isplitl [H1]; · iexact H1
      isplitl [H2]; · iexact H2
      isplitl [H3]; · iexists _; iexact H3
      isplitl [HS]; · iexists _; iexact HS
      isplitl [HT0]; · iexact HT0
      isplitl [HT1]; · iexact HT1
      iintro ⟨H0, H1, H2, H3, HS, HT0, HT1⟩
      isplitl [HS Hg HT0 HT1]
      · isplitl [HS]
        · iexists _; isplitr; · ipureintro; exact holds_fresh m hO 0 t _ rfl
          iexact HS
        isplitl [Hg]; · iexact Hg
        isplitl [HT0]; · iexact HT0
        iexact HT1
      isplitl [Ho]; · iexact Ho
      isplitl [H0]; · iexact H0
      isplitl [H1]; · iexact H1
      isplitl [H2]; · iexact H2
      iexact H3
    · iintro ⟨⟨⟨%d, %hd, HS⟩, Hg, HT0, HT1⟩, Ho, ⟨%d0, H0⟩, ⟨%d1, H1⟩, ⟨%d2, H2⟩, ⟨%d3, H3⟩⟩
      have hk := found_kept m hO 0 t d hd h1 h2
      iapply (run_kept 0 (grid0.coords t) _ _ _ _ _ _ _ _ _ _ (blockAt m hO 0 0 t) (blockAt m hO 0 1 t) (blockAt m hO 0 2 t) (tables m 0) (tables m 1) h1 h2 d Set.univ _)
      isplitl [H0]; · iexact H0
      isplitl [H1]; · iexact H1
      isplitl [H2]; · iexact H2
      isplitl [H3]; · iexists _; iexact H3
      isplitl [HS]; · iexact HS
      isplitl [HT0]; · iexact HT0
      isplitl [HT1]; · iexact HT1
      subst hk
      iintro ⟨H0, H1, H2, H3, HS, HT0, HT1⟩
      isplitl [HS Hg HT0 HT1]
      · isplitl [HS]
        · iexists _; isplitr; · ipureintro; exact holds_fresh m hO 0 t _ rfl
          iexact HS
        isplitl [Hg]; · iexact Hg
        isplitl [HT0]; · iexact HT0
        iexact HT1
      isplitl [Ho]; · iexact Ho
      isplitl [H0]; · iexact H0
      isplitl [H1]; · iexact H1
      isplitl [H2]; · iexact H2
      iexact H3
  · rw [if_neg h1]
    iintro ⟨⟨⟨%d, %hd, HS⟩, Hg, HT0, HT1⟩, Ho, ⟨%d0, H0⟩, ⟨%d1, H1⟩, ⟨%d2, H2⟩, ⟨%d3, H3⟩⟩
    iapply (run_unused 0 (grid0.coords t) _ _ _ _ _ _ _ _ _ _ (blockAt m hO 0 0 t) (blockAt m hO 0 1 t) (blockAt m hO 0 2 t) (tables m 0) (tables m 1) h1 d Set.univ _)
    isplitl [H0]; · iexact H0
    isplitl [H1]; · iexact H1
    isplitl [H2]; · iexact H2
    isplitl [H3]; · iexists _; iexact H3
    isplitl [HS]; · iexact HS
    isplitl [HT0]; · iexact HT0
    isplitl [HT1]; · iexact HT1
    iintro ⟨H0, H1, H2, H3, HS, HT0, HT1⟩
    isplitl [HS Hg HT0 HT1]
    · isplitl [HS]
      · iexists d; isplitr; · ipureintro; exact holds_unused m hO 0 t d h1
        iexact HS
      isplitl [Hg]; · iexact Hg
      isplitl [HT0]; · iexact HT0
      iexact HT1
    isplitl [Ho]; · iexact Ho
    isplitl [H0]; · iexact H0
    isplitl [H1]; · iexact H1
    isplitl [H2]; · iexact H2
    iexact H3

end Cert.DownIdeal.Routed

end
-- ==== Proof.Down.Run.lean ====
/-
  The down projection's run, at any float values: from any memory whose tables name blocks inside their arrays, the call
  terminates with its counters at zero and its result written block by block with what `leaves` names.
-/
module

public import proofs.«01_k».proof.Proof.Down.Frame
public import Idealize.ShloMosaic.Lib.Pipeline.ValueKit.Geometry

@[expose] public section

set_option maxRecDepth 16384

noncomputable section

namespace Cert.DownIdeal.Routed

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Inside m)

/-! ## The run -/

theorem body_row (t : Fin (launched m hO).N) :
    defs₀ (F := F) .tc (launched m hO).body ((launched m hO).bodyArgs t ((launched m hO).slots t)) = bodyAt m hO t := by
  unfold defs₀; rw [Defs.onTc_tc]

/-- The pipeline's obligation on the body when no window is ever idle: every window is left as the body leaves it. -/
theorem obligation_of_live {cfg : Cfg sig Λ₀} {c : Dev nD} (dat : Dat τ (Elt F) Unit ℕ (UR sig nD τ) ℕ cfg c)
    (live : ∀ w i, cfg.idle w i = false) (defs' : Defs nD τ sig (Elt F) Λ₀)
    (h : ∀ t : Fin cfg.N,
      iprop(dat.Φ t.castSucc ∗ dat.owesAt () t.castSucc
          ∗ bigSep Finset.univ fun w : Fin cfg.W =>
              iprop(∃ d, owns (c : Thread nD τ) ((cfg.win w).stage (cfg.slots t w)) fullShare (dat.before w t d)))
        ⊢ wp frame (wpE defs' Variants.none c none) Set.univ (defs' .tc cfg.body (cfg.bodyArgs t (cfg.slots t))) fun _ =>
            iprop(dat.Φ t.succ ∗ dat.owesAt () t.succ
              ∗ bigSep Finset.univ fun w : Fin cfg.W =>
                  owns (c : Thread nD τ) ((cfg.win w).stage (cfg.slots t w)) fullShare (dat.after w t))) :
    BodyObligation dat defs' Variants.none () Set.univ := fun t => by
  refine triple_restated (h t) rfl .rfl fun _ => sep_mono .rfl (sep_mono .rfl (bigSep_mono fun w _ => ?_))
  dsimp only
  rw [live w]
  exact Idealize.SL.BI.Entails.refl _

theorem all_live (pf : pre0.Contents (Elt F)) (w : Fin 4) (i : grid0.Coords) : idle0 pf w i = false := by
  fin_cases w
  · rfl
  · rfl
  · rfl
  · exact never_idle pf i

theorem obligation (c : Dev nD) : BodyObligation (dats (F := F) m hO 0 c) (defs₀ (F := F)) Variants.none () Set.univ :=
  obligation_of_live (dats m hO 0 c) (all_live (tables m)) defs₀ fun t => by
    rw [bigSep_W0, bigSep_W0, body_row m hO]
    exact triple_restated (body_sound m hO c t) rfl .rfl fun _ => .rfl

set_option backward.isDefEq.respectTransparency.types false in
/-- Every execution terminates with the call's arrays at what the blocks written back make of them, and every counter at zero. -/
theorem run : θ_run defs (onTc (τ := τ) (main (F := F))) (s₀ m ρ)
    (fun r => Pipeline.FramePost (Pipeline.pin pcfgs fun _ => admitted m hO) (dats m hO) 0 (entry m) r ∧ r.2.sem = fun _ => 0) :=
  Pipeline.θ_run_frameP_track (Q' := _) pcfgs (fun _ => admitted m hO) (dats m hO) (0 : Fin 1) launch0 defs₀ Variants.none m ρ main
    (hbody := fun c => (obligation m hO c).loose) (hshare := fun c => (dats m hO 0 c).share_full fun _ => rfl)
    (howed := fun _ _ => rfl) (V := entry m) (hmain := reaches_call m Variants.none) (hA := dats_A m hO) (hpf := entry_table m)
    (hin := fun c => by
      show iprop(Pipeline.ΦA spec0 c ∗ Pipeline.ΦT pre0 (tables m) c) ⊢ carried m hO c 0
      rw [scratch_held]; unfold carried
      iintro ⟨⟨⟨%d, HS⟩, Hg⟩, HT⟩
      isplitl [HS]
      · iexists d; isplitr; · ipureintro; exact fun t ht => absurd ht (Nat.succ_ne_zero _)
        iexact HS
      isplitl [Hg]; · iexact Hg
      iexact HT)
    (hout := fun c => by
      show carried m hO c _ ⊢ Pipeline.ΦA spec0 c
      rw [scratch_held]; unfold carried
      iintro ⟨⟨%d, %hd, HS⟩, Hg, HT⟩
      isplitl [HS]; · iexists d; iexact HS
      iexact Hg)

/-- The arguments end as they were launched. -/
theorem arguments_kept (r : PUnit × MemSt nD τ sig (Elt F))
    (h : Pipeline.FramePost (Pipeline.pin pcfgs fun _ => admitted m hO) (dats m hO) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(Pipeline.FramePost.in_eq h c 0 rfl).trans ((dats_A m hO c 0).trans (entry_of_not_written m c (b := main_arg0) (by decide))),
    (Pipeline.FramePost.in_eq h c 1 rfl).trans ((dats_A m hO c 1).trans (entry_of_not_written m c (b := main_arg1) (by decide))),
    (Pipeline.FramePost.rest_eq h c main_arg2 (by decide : main_arg2 ∈ Pipeline.restRefs sig spec0)).trans (entry_of_not_written m c (by decide)),
    (Pipeline.FramePost.rest_eq h c main_arg3 (by decide : main_arg3 ∈ Pipeline.restRefs sig spec0)).trans (entry_of_not_written m c (by decide)),
    (Pipeline.FramePost.in_eq h c 2 rfl).trans ((dats_A m hO c 2).trans (entry_of_not_written m c (b := main_arg4) (by decide)))⟩

include hO in
/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨arguments_kept m hO r h.1, h.2⟩) (run m ρ hO)

/-- The result's array ends at what the blocks written back make of it. -/
theorem result_ends : θ_run defs (onTc (τ := τ) (main (F := F))) ⟨m, fun _ => 0, ρ⟩
    (fun r => ∀ c : Dev nD, r.2.mem ((c.tc : Thread nD τ).loc main_v12) = (dats m hO 0 c).arrAt 3 (launched m hO).N) :=
  (θ_run defs _ _).mono (fun r h c => Pipeline.FramePost.out_eq h.1 c 3) (run m ρ hO)

end Cert.DownIdeal.Routed

end
-- ==== Proof.Down.Table.lean ====
/-
  What the precondition gives: the two tables' contents in closed form, and that every block they name is inside its array.
-/
module

public import proofs.«01_k».proof.Proof.Down.Entry
public import proofs.«01_k».proof.Proof.Words
public import proofs.«01_k».proof.Proof.Gen.Pre_down_routed
public import Idealize.ShloMosaic.Lib.StableHlo.RunRead

@[expose] public section

set_option maxRecDepth 16384

noncomputable section

namespace Cert.DownIdeal.Routed

open Cert.DownIdeal Cert.DownIdeal.Gen Cert.Routed
open Idealize.ShloMosaic Idealize.ShloMosaic.TcCoe
open Idealize.ShloMosaic.StableHlo.Predicate

variable {F : FTy → Type} [FloatOps F]

variable (m : (ℓ : Loc nD τ sig) → Buf (Elt F) ℓ)

/-- The table of experts and the number of used blocks, as launched. -/
abbrev expertsGiven : IVec S192 32 := m (((0 : Dev nD) : Thread nD τ).loc main_arg2)
abbrev countGiven : IVec S1 32 := m (((0 : Dev nD) : Thread nD τ).loc main_arg3)

/-- The number of used blocks. -/
abbrev usedCount : ℕ := (countGiven m (Shape.Idx.ofFin 0)).toNat

/-- Every block's expert is one of the 64; between 1 and 192 blocks are used. -/
structure Valid : Prop where
  expert : ∀ p : Fin 192, (expertsGiven m (Shape.Idx.ofFin p)).toNat < 64
  pos : 1 ≤ usedCount m
  le : usedCount m ≤ 192

theorem valid_of_pre (x : FVec F S98304x1024 .bf16) (g : FVec F S98304x1 .f32) (w : FVec F S2x64x1024x4096 .f32)
    (h : Cert.Pre_down_routed.fn (F := F) x g (expertsGiven m) (countGiven m) w = fun _ => 1#1) : Valid m := by
  have q : ∀ p : Fin 192, (expertsGiven m (Shape.Idx.ofFin p)).toNat < 64 ∧ 1 ≤ usedCount m ∧ usedCount m ≤ 192 := by
    intro p
    refine in_range _ _ ?_
    refine Eq.trans ?_ (congrFun h (Shape.Idx.ofFin p))
    unfold Cert.Pre_down_routed.fn
    dsimp only
    rw [andi_apply, andi_apply, andi_apply, copied_apply, copied_apply]
    rfl
  exact ⟨fun p => (q p).1, (q 0).2.1, (q 0).2.2⟩

theorem table_entry (hv : Valid m) (p : Fin 192) : tables m 0 (Shape.Idx.ofFin p)
    = expertsGiven m (Shape.Idx.ofFin ⟨min p.val (usedCount m - 1), lt_of_le_of_lt (Nat.min_le_left _ _) p.isLt⟩) := by
  refine Eq.trans (congrFun (?_ : entry m (0 : Dev nD) main_v11 = _) _)
    (clamped_apply gather_S192_S192x1_S192_n_0_n_n_0_1_1 rfl rfl rfl rfl bcast_S_S192 bcast_S192_S192x1_0 shapeCasts_S1_S_
      (expertsGiven m) (countGiven m) _ rfl hv.pos hv.le p)
  unfold entry
  after_reads_simp
  rfl

theorem count_entry : tables m 1 = countGiven m := entry_of_not_written m 0 (b := main_arg3) (by decide)

theorem expertAt_ofFin (p : Fin 192) : expertAt m p.val p.isLt = tables m 0 (Shape.Idx.ofFin p) :=
  congrArg (tables m 0) (funext fun (a : Fin 1) => Fin.ext (by obtain rfl : a = 0 := Subsingleton.elim _ _; rfl))

theorem expertAt_eq (hv : Valid m) (p : Fin 192) : expertAt m p.val p.isLt
    = expertsGiven m (Shape.Idx.ofFin ⟨min p.val (usedCount m - 1), lt_of_le_of_lt (Nat.min_le_left _ _) p.isLt⟩) :=
  (expertAt_ofFin m p).trans (table_entry m hv p)

theorem this_lt (hv : Valid m) (i : grid0.Coords) : (this m i).toNat < 64 := by
  rw [this_eq, expertAt_eq m hv ⟨(i 1).val, (i 1).isLt⟩]; exact hv.expert _

theorem used_eq : used m = countGiven m (Shape.Idx.ofFin 0) := by
  refine (congrArg (fun x => usedWord (F := F) (c := (0 : Dev nD)) x) (count_entry m)).trans ?_
  refine congrArg (countGiven m) (funext fun (a : Fin 1) => Fin.ext ?_)
  obtain rfl : a = 0 := Subsingleton.elim _ _
  rfl

/-- The row block the first window shows. -/
theorem transform_0_eq (hv : Valid m) (i : grid0.Coords) :
    cc0_transform_0 inb_S1_S1_0 numel1_S1 (tables m) i = ![min (i 1).val (usedCount m - 1), 0] := by
  have e : (Scalar.minsi (BitVec.ofNat 32 (i 1).val) (Scalar.subi (used m) 1#32)).toNat = min (i 1).val (usedCount m - 1) := by
    rw [used_eq]; exact clamp_toNat _ (i 1).isLt _ hv.pos hv.le
  show ![(Scalar.minsi (BitVec.ofNat 32 (i 1).val) (Scalar.subi (used m) 1#32)).toNat, 0] = _
  rw [e]

/-- The gates' window shows the same block of rows. -/
theorem transform_1_eq (hv : Valid m) (i : grid0.Coords) :
    cc0_transform_1 inb_S1_S1_0 numel1_S1 (tables m) i = ![min (i 1).val (usedCount m - 1), 0] := transform_0_eq m hv i

theorem inside (hv : Valid m) : Inside m := by
  refine ⟨fun i => ?_, fun i => ?_, fun i => ?_⟩
  · refine ⟨?_, .inr (Affine.block_words_dvd (of_decide_eq_true rfl) (by decide))⟩
    rw [transform_0_eq m hv]
    have h' : (i 1).val < 192 := (i 1).isLt
    intro a
    match a with
    | ⟨0, _⟩ => show (min (i 1).val (usedCount m - 1) + 1) * 512 ≤ 98304; omega
    | ⟨1, _⟩ => show (0 + 1) * 1024 ≤ 1024; omega
  · refine ⟨?_, Or.inl rfl⟩
    rw [transform_1_eq m hv]
    have h' : (i 1).val < 192 := (i 1).isLt
    intro a
    match a with
    | ⟨0, _⟩ => show (min (i 1).val (usedCount m - 1) + 1) * 512 ≤ 98304; omega
    | ⟨1, _⟩ => show (0 + 1) * 1 ≤ 1; omega
  · refine ⟨?_, Or.inl rfl⟩
    rw [transform_2_eq]
    have h := this_lt m hv i
    have h' : (i 0).val < 4 := (i 0).isLt
    intro a
    match a with
    | ⟨0, _⟩ => show (0 + 1) * 1 ≤ 2; omega
    | ⟨1, _⟩ => show ((this m i).toNat + 1) * 1 ≤ 64; omega
    | ⟨2, _⟩ => show (0 + 1) * 1024 ≤ 1024; omega
    | ⟨3, _⟩ => show ((i 0).val + 1) * 1024 ≤ 4096; omega

end Cert.DownIdeal.Routed

end
-- ==== Proof.Down.Frames.lean ====
/-
  The frames of the down projection's kernel: at the ideal float values, and at the machine's. The two programs are one
  text, so the second frame is the first theorem at other float values.
-/
module

public import proofs.«01_k».proof.Defs
public import proofs.«01_k».proof.Proof.Down.Run
public import proofs.«01_k».proof.Proof.Down.Table
public import proofs.«01_k».proof.Proof.Gen.Down

@[expose] public section

set_option maxRecDepth 16384

noncomputable section

namespace Cert.DownIdeal.Routed

open Cert.DownIdeal Cert.DownIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg),
    (∀ c : Dev nD, (Cert.Pre_down_routed.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem framed : Framed F := fun m g h => quiescent m g (inside m (valid_of_pre m _ _ _ (h 0)))

theorem frame_ideal : Cert.quiescent_DownIdeal := framed (F := Ideal)

theorem same_frame : Framed Bits = Cert.quiescent_Down := by chain_rfl

theorem frame_machine : Cert.quiescent_Down := Eq.mp same_frame (framed (F := Bits))

end Cert.DownIdeal.Routed

end
-- ==== Proof.Down.Reference.lean ====
/-
  The down projection's host reference, run: a straight line of host operations, its result read back as one expression of
  the arguments.
-/
module

public import proofs.«01_k».proof.Proof.Gen.DownRefIdeal
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.DownRefIdeal.Plain

open Cert.DownRefIdeal Cert.DownRefIdeal.Gen Idealize.ShloMosaic.StableHlo

variable {F : FTy → Type} [FloatOps F]

/-- The operations of @main, its function's body in place, in order. -/
abbrev ops : List (HloOp τ sig (Elt F)) :=
  [ unary main_arg0 main_v0 ((extf .f32 · bitsLt_bf16_f32)),
    reshape main_v0 main_v1 (rfl : (.f32 : EltTy) = .f32) shapeCasts_S98304x1024_S192x512x1024,
    unary main_arg4 main_v2 ((extractStridedSlice S1x64x1024x4096 ![0, 0, 0, 0] · slices_S2x64x1024x4096_S1x64x1024x4096_0_0_0_0)),
    reshape main_v2 main_v3 (rfl : (.f32 : EltTy) = .f32) shapeCasts_S1x64x1024x4096_S64x1024x4096,
    nullary main_c (constantI S_ 32 0#32),
    unary main_c main_v4 (broadcastInDim S192 ![] bcast_S_S192),
    binary main_arg2 main_v4 main_v5 (cmpi .slt),
    nullary main_c_0 (constantI S_ 32 64#32),
    unary main_c_0 main_v6 (broadcastInDim S192 ![] bcast_S_S192),
    binary main_arg2 main_v6 main_v7 (addi),
    ternary main_v5 main_v7 main_arg2 main_v8 (select),
    unary main_v8 main_v9 (broadcastInDim S192x1 ![0] bcast_S192_S192x1_0),
    binary main_v3 main_v9 main_v10 ((fun x i => Host.gather gather_S64x1024x4096_S192x1_S192x1024x4096_12_0_n_n_0_1_110244096 x i)),
    binary main_v1 main_v10 main_v11 ((fun l r => Host.dotGeneral dot_S192x512x1024_S192x1024x4096_S192x512x4096_2_1_1_2_0_0 none l r)),
    nullary main_v12 (iotaInDim S192 32 0),
    reshape main_arg3 main_v13 (rfl : (.i32 : EltTy) = .i32) shapeCasts_S1_S_,
    unary main_v13 main_v14 (broadcastInDim S192 ![] bcast_S_S192),
    binary main_v12 main_v14 main_v15 (cmpi .slt),
    unary main_v15 main_v16 (broadcastInDim S192x1x1 ![0] bcast_S192_S192x1x1_0),
    nullary main_cst (constant S_ .f32 0x00000000#32),
    unary main_cst main_call0_v0 id,
    unary main_v16 main_call0_v1 (broadcastInDim S192x512x4096 ![0, 1, 2] bcast_S192x1x1_S192x512x4096_0_1_2),
    unary main_call0_v0 main_call0_v2 (broadcastInDim S192x512x4096 ![] bcast_S_S192x512x4096),
    ternary main_call0_v1 main_v11 main_call0_v2 main_v17 select,
    reshape main_v17 main_v18 (rfl : (.f32 : EltTy) = .f32) shapeCasts_S192x512x4096_S98304x4096,
    unary main_arg1 main_v19 (broadcastInDim S98304x4096 ![0, 1] bcast_S98304x1_S98304x4096_0_1),
    binary main_v18 main_v19 main_v20 (mulf) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub
    .., nullary_bufs_sub .., unary_bufs_sub .., binary_bufs_sub .., ternary_bufs_sub .., unary_bufs_sub .., binary_bufs_sub ..,
    binary_bufs_sub .., nullary_bufs_sub .., reshape_bufs_sub .., unary_bufs_sub .., binary_bufs_sub .., unary_bufs_sub .., nullary_bufs_sub
    .., unary_bufs_sub .., unary_bufs_sub .., unary_bufs_sub .., ternary_bufs_sub .., reshape_bufs_sub .., unary_bufs_sub ..,
    binary_bufs_sub ..⟩

/-! ## The result as an expression -/

/-- Each block's expert as a column of indices, a negative one counted from the end. -/
def column (e : IVec S192 32) : IVec S192x1 32 :=
  broadcastInDim S192x1 ![0] bcast_S192_S192x1_0
    (select (cmpi .slt e (broadcastInDim S192 ![] bcast_S_S192 (constantI S_ 32 0#32)))
      (addi e (broadcastInDim S192 ![] bcast_S_S192 (constantI S_ 32 64#32))) e)

/-- The first layer of a weight array. -/
def layer (w : Vec F S2x64x1024x4096 .f32) : Vec F S64x1024x4096 .f32 :=
  shapeCast S64x1024x4096 (extractStridedSlice S1x64x1024x4096 ![0, 0, 0, 0] w slices_S2x64x1024x4096_S1x64x1024x4096_0_0_0_0)
    shapeCasts_S1x64x1024x4096_S64x1024x4096

/-- Every block of rows times its expert's weights. -/
def product (x : Vec F S98304x1024 .bf16) (e : IVec S192 32) (w : Vec F S2x64x1024x4096 .f32) : Vec F S192x512x4096 .f32 :=
  Host.dotGeneral dot_S192x512x1024_S192x1024x4096_S192x512x4096_2_1_1_2_0_0 none
    (shapeCast S192x512x1024 (extf .f32 x bitsLt_bf16_f32) shapeCasts_S98304x1024_S192x512x1024)
    (Host.gather gather_S64x1024x4096_S192x1_S192x1024x4096_12_0_n_n_0_1_110244096 (layer w) (column e))

/-- Which blocks are used. -/
def usedBlocks (n : IVec S1 32) : IVec S192x512x4096 1 :=
  broadcastInDim S192x512x4096 ![0, 1, 2] bcast_S192x1x1_S192x512x4096_0_1_2
    (broadcastInDim S192x1x1 ![0] bcast_S192_S192x1x1_0
      (cmpi .slt (iotaInDim S192 32 0) (broadcastInDim S192 ![] bcast_S_S192 (shapeCast S_ n shapeCasts_S1_S_))))

/-- What the reference returns: each used block's product, every row times its gate. -/
def value (x : Vec F S98304x1024 .bf16) (g : Vec F S98304x1 .f32) (e : IVec S192 32) (n : IVec S1 32) (w : Vec F S2x64x1024x4096 .f32) :
    Vec F S98304x4096 .f32 :=
  mulf (shapeCast S98304x4096
    (select (usedBlocks n) (product x e w) (broadcastInDim S192x512x4096 ![] bcast_S_S192x512x4096 (constant S_ .f32 0x00000000#32)))
    shapeCasts_S192x512x4096_S98304x4096) (broadcastInDim S98304x4096 ![0, 1] bcast_S98304x1_S98304x4096_0_1 g)

variable (m : (ℓ : Loc nD τ sig) → Buf (Elt F) ℓ) (ρ : Dev nD → PrngReg)

theorem result_read (c : Dev nD) (V : Valuation τ sig (Elt F)) :
    after ops V main_v20 = value (V main_arg0) (V main_arg1) (V main_arg2) (V main_arg3) (V main_arg4) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v20)
        = value (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (result_read c _),
      (h c main_arg0).trans (by after_reads_simp), (h c main_arg1).trans (by after_reads_simp),
      (h c main_arg2).trans (by after_reads_simp), (h c main_arg3).trans (by after_reads_simp),
      (h c main_arg4).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (run m ρ)

end Cert.DownRefIdeal.Plain

end
-- ==== Proof.Down.Formula.lean ====
/-
  What the down projection's reference returns, read at a row and a column.
-/
module

public import proofs.«01_k».proof.Proof.Down.Reference
public import proofs.«01_k».proof.Proof.Maths

@[expose] public section

set_option maxRecDepth 16384

noncomputable section

open Idealize.ShloMosaic Idealize.ShloMosaic.StableHlo.Predicate Idealize.ShloMosaic.ValueIdx

namespace Cert.DownRefIdeal.Plain

open Cert.DownRefIdeal Cert.DownRefIdeal.Gen Cert.Routed

/-- One entry of a product: a row times a column of the first layer of an expert's matrix. -/
def along (x : Vec Ideal S98304x1024 .bf16) (w : Vec Ideal S2x64x1024x4096 .f32) (e : Fin 64) (b : Fin 192) (i : Fin 512) (k : Fin 4096) : EReal :=
  ∑ j : Fin 1024, x (ix2 (rowOf b i) j) * w (ix4 0 e j k)

variable (x : Vec Ideal S98304x1024 .bf16) (g : Vec Ideal S98304x1 .f32) (e : IVec S192 32) (n : IVec S1 32) (w : Vec Ideal S2x64x1024x4096 .f32)

theorem column_at (b : Fin 192) (h : (e (Shape.Idx.ofFin b)).toNat < 64) : column e (ixP b) = e (Shape.Idx.ofFin b) :=
  column_apply bcast_S_S192 bcast_S192_S192x1_0 e 64#32 b (by omega)

theorem product_at (ex : Fin 64) (b : Fin 192) (he : (e (Shape.Idx.ofFin b)).toNat = ex.val) (i : Fin 512) (k : Fin 4096) :
    product x e w (ix3 b i k) = along x w ex b i k :=
  product_apply x w (column e) _ _ _ _ _ ex b ((congrArg BitVec.toNat (column_at e b (he ▸ ex.isLt))).trans he) i k

theorem used_at (b : Fin 192) (i : Fin 512) (k : Fin 4096) :
    usedBlocks n (ix3 b i k) = IntOp.cmpi .slt (BitVec.ofNat 32 b.val) (n (Shape.Idx.ofFin 0)) :=
  mask_apply _ _ _ _ n b i k

/-- Every row's gate, copied along the row. -/
theorem gate_along (r : Fin 98304) (k : Fin 4096) :
    broadcastInDim S98304x4096 ![0, 1] bcast_S98304x1_S98304x4096_0_1 g (ix2 r k) = g (ix2 r 0) :=
  broadcastInDim_apply _ _ g _ _ (fun (a : Fin 2) => by fin_cases a <;> rfl)

theorem value_rows (b : Fin 192) (i : Fin 512) (k : Fin 4096) :
    value x g e n w (ix2 (rowOf b i) k) = (Scalar.select (usedBlocks n (ix3 b i k)) (product x e w (ix3 b i k))
      (Ideal.ofBits .f32 0x00000000#32) : EReal) * g (ix2 (rowOf b i) 0) := by
  unfold value
  refine congrArg₂ (fun a b : EReal => a * b) ?_ (gate_along g (rowOf b i) k)
  exact rows_of_block (select (usedBlocks n) (product x e w)
    (broadcastInDim S192x512x4096 ![] bcast_S_S192x512x4096 (constant (F := Ideal) S_ .f32 0x00000000#32))) shapeCasts_S192x512x4096_S98304x4096 b i k

theorem value_used (ex : Fin 64) (b : Fin 192) (he : (e (Shape.Idx.ofFin b)).toNat = ex.val)
    (hu : IntOp.cmpi .slt (BitVec.ofNat 32 b.val) (n (Shape.Idx.ofFin 0)) = 1#1) (i : Fin 512) (k : Fin 4096) :
    value x g e n w (ix2 (rowOf b i) k) = along x w ex b i k * g (ix2 (rowOf b i) 0) := by
  rw [value_rows, used_at, hu, product_at x e w ex b he]
  rfl

/-- Zero times a gate is zero, whatever the gate. -/
theorem value_unused (b : Fin 192) (hu : ¬ IntOp.cmpi .slt (BitVec.ofNat 32 b.val) (n (Shape.Idx.ofFin 0)) = 1#1) (i : Fin 512) (k : Fin 4096) :
    value x g e n w (ix2 (rowOf b i) k) = 0 := by
  rw [value_rows, used_at]
  exact (congrArg (· * _) ((if_neg hu).trans Ideal.ofBits_zero_f32)).trans (zero_mul _)

end Cert.DownRefIdeal.Plain

end
-- ==== Proof.Down.Tile.lean ====
/-
  What the down projection's body computes of one block of rows and one tile of weights, at the ideal values.
-/
module

public import proofs.«01_k».proof.Proof.Down.Frame
public import proofs.«01_k».proof.Proof.Down.Formula

@[expose] public section

set_option maxRecDepth 16384

noncomputable section

open Idealize.ShloMosaic Idealize.ShloMosaic.ValueIdx

namespace Cert.DownIdeal.Routed

open Cert.DownIdeal Cert.DownIdeal.Gen

theorem weights_cast_at (P : Vec Ideal S1x1x1024x1024 .f32) (j : Fin 1024) (l : Fin 1024) : k0_pay1 P (ix2 j l) = P (ix4 0 0 j l) :=
  (congrFun (shapeCast_self (shapeCast S1024x1024 P shapeCasts_S1x1x1024x1024_S1024x1024) _) (ix2 j l)).trans
    (congrArg P (reshapeEquiv_ix2_11ab _ j l))

theorem matmul_at (X : FVec Ideal S512x1024 .bf16) (B : FVec Ideal S1024x1024 .bf16) (i : Fin 512) (l : Fin 1024) :
    matmul dot_S512x1024_S1024x1024_S512x1024_1_0_0_1_n_n none X B (constant S512x1024 .f32 0x00000000#32) (ix2 i l)
      = (∑ j : Fin 1024, X (ix2 i j) * B (ix2 j l) : EReal) := by
  refine (Ideal.matmul_plain_apply none X B (constant S512x1024 .f32 0x00000000#32) i l).trans ?_
  show Ideal.ofBits .f32 0x00000000#32 + _ = _
  rw [Ideal.ofBits_zero_f32, zero_add]

theorem gate_at (G : Vec Ideal S512x1 .f32) (i : Fin 512) (l : Fin 1024) :
    broadcastTo S512x1024 G broadcasts_S512x1_S512x1024 (ix2 i l) = G (ix2 i 0) :=
  broadcastTo_apply G _ _ _ (fun (a : Fin 2) => by fin_cases a <;> rfl)

theorem computed_at (X : Vec Ideal S512x1024 .bf16) (P : Vec Ideal S1x1x1024x1024 .f32) (G : Vec Ideal S512x1 .f32) (i : Fin 512) (l : Fin 1024) :
    k0_pay2 X (k0_pay1 P) G (ix2 i l) = (∑ j : Fin 1024, X (ix2 i j) * P (ix4 0 0 j l) : EReal) * G (ix2 i 0) :=
  congrArg₂ (· * ·)
    ((matmul_at X (k0_pay1 P) i l).trans (Finset.sum_congr rfl fun j _ => congrArg (X (ix2 i j) * ·) (weights_cast_at P j l)))
    (gate_at G i l)

theorem zeros_at (i : Fin 512) (l : Fin 1024) : k0_pay3 (F := Ideal) (ix2 i l) = 0 := Ideal.ofBits_zero_f32

end Cert.DownIdeal.Routed

end
-- ==== Proof.Down.Value.lean ====
/-
  The down projection's result at the ideal values is what its reference returns: every row of a used block against its
  expert's matrix and times its gate, and zero in a block that is not used.
-/
module

public import proofs.«01_k».proof.Proof.Down.Table
public import proofs.«01_k».proof.Proof.Down.Run
public import proofs.«01_k».proof.Proof.Down.Tile

@[expose] public section

set_option maxRecDepth 16384

noncomputable section

namespace Cert.DownIdeal.Routed

open Cert.DownIdeal Cert.DownIdeal.Gen Cert.Routed
open Idealize.ShloMosaic Idealize.ShloMosaic.TcCoe Idealize.ShloMosaic.ValueIdx
open Idealize.ShloMosaic.Pipeline (Dat Cfg Window)

variable (m : (ℓ : Loc nD τ sig) → Buf (Elt Ideal) ℓ) (hv : Valid m)

/-! ## The blocks at an index -/

/-- The block and the column tile of a point. -/
def blockOf (t : Fin grid0.N) : Fin 192 := ⟨(grid0.coords t 1).val, (grid0.coords t 1).isLt⟩
def tileOf (t : Fin grid0.N) : Fin 4 := ⟨(grid0.coords t 0).val, (grid0.coords t 0).isLt⟩
/-- Column `l` of tile `j`. -/
def colOf (j : Fin 4) (l : Fin 1024) : Fin 4096 := ⟨1024 * j.val + l.val, by omega⟩

/-- The expert of a block. -/
def expertOf (b : Fin 192) : Fin 64 := ⟨(expertsGiven m (Shape.Idx.ofFin b)).toNat, hv.expert b⟩

theorem weights_apply (A : Vec Ideal S2x64x1024x4096 .f32) (e : Fin 64) (j : Fin 4)
    (h : ∀ a, ((![0, e.val, 0, j.val] : Fin 4 → ℕ) a + 1) * S1x1x1024x1024.size a ≤ S2x64x1024x4096.size a) (k : Fin 1024) (l : Fin 1024) :
    weights A ![0, e.val, 0, j.val] h (ix4 0 0 k l) = A (ix4 0 e k (colOf j l)) := by
  refine congrArg A (funext fun (a : Fin 4) => Fin.ext ?_)
  fin_cases a
  · rfl
  · show e.val * 1 + 1 * 0 = e.val; omega
  · show 0 * 1024 + 1 * k.val = k.val; omega
  · show j.val * 1024 + 1 * l.val = 1024 * j.val + l.val; omega

/-- Block `r` of rows. -/
def rowsAt (A : Vec Ideal S98304x1024 .bf16) (ix : Fin 2 → ℕ) (h : ∀ a, (ix a + 1) * S512x1024.size a ≤ S98304x1024.size a) :
    Vec Ideal S512x1024 .bf16 := fun y => A ((Rect.block (s := S98304x1024) S512x1024.size ix h).emb y)
theorem rowsAt_congr (A : Vec Ideal S98304x1024 .bf16) {ix ix' : Fin 2 → ℕ} (e : ix = ix')
    (h : ∀ a, (ix a + 1) * S512x1024.size a ≤ S98304x1024.size a) (h' : ∀ a, (ix' a + 1) * S512x1024.size a ≤ S98304x1024.size a) :
    rowsAt A ix h = rowsAt A ix' h' := by subst e; rfl
theorem rowsAt_apply (A : Vec Ideal S98304x1024 .bf16) (b : Fin 192)
    (h : ∀ a, ((![b.val, 0] : Fin 2 → ℕ) a + 1) * S512x1024.size a ≤ S98304x1024.size a) (i : Fin 512) (k : Fin 1024) :
    rowsAt A ![b.val, 0] h (ix2 i k) = A (ix2 (rowOf b i) k) := by
  refine congrArg A (funext fun (a : Fin 2) => Fin.ext ?_)
  fin_cases a
  · show b.val * 512 + 1 * i.val = 512 * b.val + i.val; omega
  · show 0 * 1024 + 1 * k.val = k.val; omega

theorem rows_inside (b : Fin 192) : ∀ a, ((![b.val, 0] : Fin 2 → ℕ) a + 1) * S512x1024.size a ≤ S98304x1024.size a := by
  have hb := b.isLt
  intro (a : Fin 2)
  fin_cases a
  · show (b.val + 1) * 512 ≤ 98304; omega
  · show (0 + 1) * 1024 ≤ 1024; omega

variable (t : Fin (launched m (inside m hv)).N) (c : Dev nD)

/-- In a used block the clamp does nothing. -/
theorem used_below (hu : k0_cond1 (grid0.coords t) (used m) = 1#1) : (blockOf t).val < usedCount m := by
  have q := (used_iff (grid0.coords t) (used m)).mp hu
  rw [used_eq, StableHlo.Predicate.toInt_eq_toNat_of_lt (lt_of_le_of_lt hv.le (by decide))] at q
  exact_mod_cast q

theorem rows_at (hu : k0_cond1 (grid0.coords t) (used m) = 1#1) (i : Fin 512) (k : Fin 1024) :
    blockAt m (inside m hv) c 0 t (ix2 i k) = m ((c : Thread nD τ).loc main_arg0) (ix2 (rowOf (blockOf t) i) k) := by
  have hb := used_below m hv t hu
  have e : cc0_transform_0 inb_S1_S1_0 numel1_S1 (tables m) (grid0.coords t) = ![(blockOf t).val, 0] := by
    rw [transform_0_eq m hv]
    exact congrArg (fun z => ![z, 0]) (Nat.min_eq_left (Nat.le_sub_one_of_lt hb))
  have q := rowsAt_congr (entry m c main_arg0) e ((inside m hv).1 _).1 (rows_inside (blockOf t))
  rw [entry_of_not_written m c (b := main_arg0) (by decide)] at q
  refine (congrFun (?_ : blockAt m (inside m hv) c 0 t = _) (ix2 i k)).trans ((congrFun q (ix2 i k)).trans (rowsAt_apply _ _ _ i k))
  exact congrArg (fun A => rowsAt A _ ((inside m hv).1 _).1) (entry_of_not_written m c (b := main_arg0) (by decide))

/-- Block `r` of gates. -/
def gatesAt (A : Vec Ideal S98304x1 .f32) (ix : Fin 2 → ℕ) (h : ∀ a, (ix a + 1) * S512x1.size a ≤ S98304x1.size a) :
    Vec Ideal S512x1 .f32 := fun y => A ((Rect.block (s := S98304x1) S512x1.size ix h).emb y)
theorem gatesAt_apply (A : Vec Ideal S98304x1 .f32) (b : Fin 192) (ix : Fin 2 → ℕ) (e : ix = ![b.val, 0])
    (h : ∀ a, (ix a + 1) * S512x1.size a ≤ S98304x1.size a) (i : Fin 512) : gatesAt A ix h (ix2 i 0) = A (ix2 (rowOf b i) 0) := by
  subst e
  refine congrArg A (funext fun (a : Fin 2) => Fin.ext ?_)
  fin_cases a
  · show b.val * 512 + 1 * i.val = 512 * b.val + i.val; omega
  · rfl

theorem gates_at (hu : k0_cond1 (grid0.coords t) (used m) = 1#1) (i : Fin 512) :
    blockAt m (inside m hv) c 1 t (ix2 i 0) = m ((c : Thread nD τ).loc main_arg1) (ix2 (rowOf (blockOf t) i) 0) := by
  have hb := used_below m hv t hu
  have e : cc0_transform_1 inb_S1_S1_0 numel1_S1 (tables m) (grid0.coords t) = ![(blockOf t).val, 0] := by
    rw [transform_1_eq m hv]
    exact congrArg (fun z => ![z, 0]) (Nat.min_eq_left (Nat.le_sub_one_of_lt hb))
  exact (gatesAt_apply (entry m c main_arg1) (blockOf t) _ e ((inside m hv).2.1 _).1 i).trans
    (congrFun (entry_of_not_written m c (b := main_arg1) (by decide)) _)

theorem expert_at (hu : k0_cond1 (grid0.coords t) (used m) = 1#1) : (this m (grid0.coords t)).toNat = (expertOf m hv (blockOf t)).val := by
  have hb := used_below m hv t hu
  refine (congrArg BitVec.toNat ((this_eq m (grid0.coords t)).trans (expertAt_eq m hv (blockOf t)))).trans ?_
  exact congrArg (fun z => (expertsGiven m (Shape.Idx.ofFin z)).toNat) (Fin.ext (Nat.min_eq_left (Nat.le_sub_one_of_lt hb)))

theorem weights_at (hu : k0_cond1 (grid0.coords t) (used m) = 1#1) (A : Vec Ideal S2x64x1024x4096 .f32) (k : Fin 1024) (l : Fin 1024) :
    weights A _ (weights_inside m (inside m hv) (grid0.coords t)) (ix4 0 0 k l)
      = A (ix4 0 (expertOf m hv (blockOf t)) k (colOf (tileOf t) l)) := by
  have e : (![0, (this m (grid0.coords t)).toNat, 0, (grid0.coords t 0).val] : Fin 4 → ℕ)
      = ![0, (expertOf m hv (blockOf t)).val, 0, (tileOf t).val] := by rw [expert_at m hv t hu]; rfl
  exact (congrFun (weights_congr A e _ (e ▸ weights_inside m (inside m hv) (grid0.coords t))) _).trans (weights_apply A _ _ _ k l)

theorem expert_weights_at (hu : k0_cond1 (grid0.coords t) (used m) = 1#1) (k : Fin 1024) (l : Fin 1024) :
    blockAt m (inside m hv) c 2 t (ix4 0 0 k l)
      = m ((c : Thread nD τ).loc main_arg4) (ix4 0 (expertOf m hv (blockOf t)) k (colOf (tileOf t) l)) :=
  (congrFun (blockAt_2 m (inside m hv) c t) (ix4 0 0 k l)).trans ((weights_at m hv t hu (entry m c main_arg4) k l).trans
    (congrFun (entry_of_not_written m c (b := main_arg4) (by decide)) _))

/-! ## The result -/

/-- The reference's value of this launch's arguments. -/
abbrev wanted : Vec Ideal S98304x4096 .f32 :=
  DownRefIdeal.Plain.value (m ((c : Thread nD τ).loc main_arg0)) (m ((c : Thread nD τ).loc main_arg1)) (m ((c : Thread nD τ).loc main_arg2))
    (m ((c : Thread nD τ).loc main_arg3)) (m ((c : Thread nD τ).loc main_arg4))

theorem used_word : k0_cond1 (grid0.coords t) (used m) = 1#1
    ↔ IntOp.cmpi .slt (BitVec.ofNat 32 (blockOf t).val) (countGiven m (Shape.Idx.ofFin 0)) = 1#1 := by
  have hb := (blockOf t).isLt
  rw [used_iff, used_eq, WordCmp.cmpi_slt_eq, StableHlo.Predicate.ofBool_eq_one_iff, decide_eq_true_eq,
    StableHlo.Predicate.toInt_eq_toNat_of_lt (a := BitVec.ofNat 32 (blockOf t).val) (by rw [BitVec.toNat_ofNat]; omega), BitVec.toNat_ofNat,
    Nat.mod_eq_of_lt (by omega)]
  rfl

theorem leaves_at (i : Fin 512) (l : Fin 1024) :
    leaves m (inside m hv) c t (ix2 i l) = wanted m c (ix2 (rowOf (blockOf t) i) (colOf (tileOf t) l)) := by
  obtain rfl : c = 0 := Subsingleton.elim _ _
  unfold leaves
  by_cases hu : k0_cond1 (grid0.coords t) (used m) = 1#1
  · rw [if_pos hu]
    refine (computed_at (blockAt m (inside m hv) 0 0 t) (blockAt m (inside m hv) 0 2 t) (blockAt m (inside m hv) 0 1 t) i l).trans ?_
    refine Eq.trans ?_ (DownRefIdeal.Plain.value_used _ _ _ _ _ (expertOf m hv (blockOf t)) (blockOf t) rfl ((used_word m hv t).mp hu) i _).symm
    exact congrArg₂ (fun a b : EReal => a * b)
      (Finset.sum_congr rfl fun k _ => congrArg₂ (· * ·) (rows_at m hv t 0 hu i k) (expert_weights_at m hv t 0 hu k l))
      (gates_at m hv t 0 hu i)
  · rw [if_neg hu, zeros_at]
    exact (DownRefIdeal.Plain.value_unused _ _ _ _ _ (blockOf t) (fun h => hu ((used_word m hv t).mpr h)) i _).symm

theorem placed (i : Fin 512) (l : Fin 1024) :
    (((launched m (inside m hv)).win 3).blk t).view.emb (ix2 i l) = (ix2 (rowOf (blockOf t) i) (colOf (tileOf t) l) : S98304x4096.Idx) := by
  have h0 := (blockOf t).isLt
  have h1 := (tileOf t).isLt
  have e0 : (BitVec.ofNat 32 (blockOf t).val).toNat = (blockOf t).val := by rw [BitVec.toNat_ofNat]; omega
  have e1 : (BitVec.ofNat 32 (tileOf t).val).toNat = (tileOf t).val := by rw [BitVec.toNat_ofNat]; omega
  refine funext fun (a : Fin 2) => Fin.ext ?_
  fin_cases a
  · show (BitVec.ofNat 32 (blockOf t).val).toNat * 512 + 1 * i.val = 512 * (blockOf t).val + i.val
    rw [e0]; omega
  · show (BitVec.ofNat 32 (tileOf t).val).toNat * 1024 + 1 * l.val = 1024 * (tileOf t).val + l.val
    rw [e1]; omega

/-- The point of a block and a tile. -/
def pointOf (b : Fin 192) (j : Fin 4) : Fin grid0.N := ⟨192 * j.val + b.val, by rw [N_0]; omega⟩
theorem blockOf_point (b : Fin 192) (j : Fin 4) : blockOf (pointOf b j) = b :=
  Fin.ext ((coord_block _).trans (by show (192 * j.val + b.val) % 192 = b.val; omega))
theorem tileOf_point (b : Fin 192) (j : Fin 4) : tileOf (pointOf b j) = j :=
  Fin.ext ((coord_tile _).trans (by show (192 * j.val + b.val) / 192 % 4 = j.val; omega))

theorem covered (r : Fin 98304) (k : Fin 4096) : ∃ t : Fin (launched m (inside m hv)).N, ((launched m (inside m hv)).win 3).flush t = true
    ∧ (ix2 r k : S98304x4096.Idx) ∈ (((launched m (inside m hv)).win 3).blk t).view.set := by
  refine ⟨pointOf ⟨r.val / 512, by omega⟩ ⟨k.val / 1024, by omega⟩, flushed _ _, ?_⟩
  have q := placed m hv (pointOf ⟨r.val / 512, by omega⟩ ⟨k.val / 1024, by omega⟩) ⟨r.val % 512, by omega⟩ ⟨k.val % 1024, by omega⟩
  rw [blockOf_point, tileOf_point] at q
  have e : (ix2 (rowOf ⟨r.val / 512, by omega⟩ ⟨r.val % 512, by omega⟩) (colOf ⟨k.val / 1024, by omega⟩ ⟨k.val % 1024, by omega⟩) : S98304x4096.Idx)
      = ix2 r k := congrArg₂ ix2 (Fin.ext (Nat.div_add_mod _ _)) (Fin.ext (Nat.div_add_mod _ _))
  rw [← e, ← q]
  exact View.emb_mem_set _ _

theorem result_eq : (dats m (inside m hv) 0 c).arrAt 3 (launched m (inside m hv)).N = wanted m c := by
  refine (dats m (inside m hv) 0 c).arrAt_eq_of_emb 3 (wanted m c) (fun t _ y => ?_) (fun i => ?_)
  · have q : ∀ y : S512x1024.Idx, (dats m (inside m hv) 0 c).after 3 t y
        = wanted m c ((((launched m (inside m hv)).win 3).blk t).view.emb y) := by
      intro y
      obtain ⟨i, l, rfl⟩ : ∃ i l, y = ix2 i l := ⟨y 0, y 1, eq_ix2 y⟩
      refine Eq.trans ?_ ((leaves_at m hv t c i l).trans (congrArg (wanted m c) (placed m hv t i l).symm))
      exact congrFun (after_3 m (inside m hv) c t) _
    exact q y
  · have q : ∀ i : S98304x4096.Idx, ∃ t : Fin (launched m (inside m hv)).N, ((launched m (inside m hv)).win 3).flush t = true
        ∧ i ∈ (((launched m (inside m hv)).win 3).blk t).view.set := by
      intro i
      obtain ⟨r, k, rfl⟩ : ∃ r k, i = ix2 r k := ⟨i 0, i 1, eq_ix2 i⟩
      exact covered m hv r k
    exact q i

end Cert.DownIdeal.Routed

end
-- ==== Proof.Down.Claims.lean ====
/-
  The claims about the down projection besides its frames: its reference's frames, and the two results equal at the ideal values.
-/
module

public import proofs.«01_k».proof.Proof.Down.Frames
public import proofs.«01_k».proof.Proof.Down.Value

@[expose] public section

set_option maxRecDepth 16384

noncomputable section

namespace Cert.DownIdeal.Routed

open Idealize.ShloMosaic Idealize.ShloMosaic.TcCoe Idealize.SL.Sem

theorem frame_reference : Cert.quiescent_DownRefIdeal := fun m g _ => DownRefIdeal.Plain.quiescent m g
theorem frame_reference_routed : Cert.quiescent_DownRefIdeal_pre_down_routed := fun m g _ => DownRefIdeal.Plain.quiescent m g

theorem equal_results : Cert.algebraic_DownIdeal_DownRefIdeal := by
  intro m g m' g' hp ha
  have hv : Valid m := valid_of_pre m _ _ _ (hp 0)
  refine ⟨fun c => wanted m c, ?_, ?_⟩
  · exact (θ_run DownIdeal.defs _ _).mono
      (fun r h c => ⟨(Pipeline.FramePost.out_eq h.1 c 3).trans (result_eq m hv c), arguments_kept m (inside m hv) r h.1 c⟩)
      (run m g (inside m hv))
  · refine (θ_run DownRefIdeal.defs _ _).mono (fun r h c => ⟨(h c).1.trans ?_, (h c).2⟩) (DownRefIdeal.Plain.run m' g')
    obtain ⟨a0, a1, a2, a3, a4⟩ := ha c
    exact congr (congr (congr (congr (congrArg DownRefIdeal.Plain.value a0) a1) a2) a3) a4

end Cert.DownIdeal.Routed

end
-- ==== Proof.GmlpIn.Run.lean ====
/-
  The feed-forward's first product and its gate, run at any float values. The last block of rows overhangs its array, so a staging
  buffer of rows holds the block over contents nothing names, and what the body leaves in the result's buffer is stated as
  a relation: the body's value of SOME contents with the block laid over them.
-/
module

public import proofs.«01_k».proof.Proof.Gen.GmlpInIdeal.Frame
public import proofs.«01_k».proof.Proof.Gen.GmlpInIdeal.Skeleton
public import Idealize.ShloMosaic.Lib.Pipeline.ArrRel
public import Idealize.ShloMosaic.Lib.VecWindow

@[expose] public section

set_option maxRecDepth 16384

noncomputable section

namespace Cert.GmlpInIdeal.Dense

open Cert.GmlpInIdeal Cert.GmlpInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- The body on any staging buffers: the three inputs are left as found, the result's buffer holds the body's value of them. -/
theorem run_body (c : Dev nD) (i : grid0.Coords)
    (arg2 : Memref sig .tc .vmem S912x4096 .bf16) (harg2 : arg2.IsWhole) (arg3 : Memref sig .tc .vmem S1x4096x512 .bf16) (harg3 : arg3.IsWhole)
    (arg4 : Memref sig .tc .vmem S1x512 .f32) (harg4 : arg4.IsWhole) (arg5 : Memref sig .tc .vmem S912x512 .f32) (harg5 : arg5.IsWhole)
    (x : Vec F S912x4096 .bf16) (w : Vec F S1x4096x512 .bf16) (b : Vec F S1x512 .f32) (E : Set ℕ) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0_dense_mm i arg2 harg2 arg3 harg3 arg4 harg4 arg5 harg5) K := by
  simp only [cc0_dense_mm_eq_skeleton]; unfold cc0_dense_mm_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap
  · iexact H3
  ipureintro
  sl_unfold_words
  exact (View.read_writes_full (s := S912x512) _ _ _ _ _).trans (congr (congr (congrArg k0_pay1
    ((View.readAt_full (s := S912x4096) _ _ _).trans (harg2.read_unread x))) ((View.readAt_full (s := S1x4096x512) _ _ _).trans (harg3.read_unread w)))
    ((View.readAt_full (s := S1x512) _ _ _).trans (harg4.read_unread b)))

/-! ## The proof data -/

variable (m : (ℓ : Loc nD τ sig) → Buf (Elt F) ℓ) (ρ : Dev nD → PrngReg)

/-- A block of rows as its staging buffer holds it: laid over contents nothing names. -/
def staged (c : Dev nD) (t : Fin cfg0.N) (d : Vec F S912x4096 .bf16) : Vec F S912x4096 .bf16 :=
  (cfg0.win 0).fill (cfg0.grid.coords t) d (iblk m c 0 t)

/-- Inputs are left as found; the result's buffer is left with the body's value of the staged block. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => ∃ d, X = k0_pay1 (staged m c t d) (iblk m c 1 t) (iblk m c 2 t)
  Φ _ := Pipeline.ΦA spec0 c
  q _ := fullShare
  owed _ := 0

theorem found_rows (c : Dev nD) (t : Fin cfg0.N) (Y) (h : (rdat m c).Finds 0 t Y) : ∃ d, Y = staged m c t d :=
  (rdat m c).finds_in_eq_fetched 0 rfl (fun t t' e => congrArg (fun (ix : Fin 2 → ℕ) a => Pipeline.Clip.of (ix a) (S912x4096.size a) (S8200x4096.size a)) e)
    (fun t Y X h => h) t Y h

theorem found_weights (c : Dev nD) (t : Fin cfg0.N) (Y) (h : (rdat m c).Finds 1 t Y) : Y = iblk m c 1 t :=
  ((rdat m c).finds_in_eq_fetched 1 rfl (fun _ _ _ => rfl) (fun t Y X h => h) t Y h).elim fun _ h => h

theorem found_bias (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d, h0⟩ := found_rows m c t _ (hY 0)
  have h1 := found_weights m c t _ (hY 1)
  have h2 := found_bias m c t _ (hY 2)
  rw [show (rdat m c).Φ t.succ = (rdat m c).Φ t.castSucc from rfl, show (rdat m c).owesAt () t.succ = (rdat m c).owesAt () t.castSucc from rfl]
  iintro ⟨HΦ, Hg, H0, H1, H2, H3⟩
  iapply (run_body c (grid0.coords t) (st0_0 t) _ (st0_1 t) _ (st0_2 t) _ (st0_3 t) _ (Y 0) (Y 1) (Y 2))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro
  exact ⟨d, congr (congr (congrArg k0_pay1 h0) h1) h2⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

theorem arguments_kept (r : PUnit × MemSt nD τ sig (Elt F)) (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d, dat.after 3 t = k0_pay1 (staged m c t d) (iblk m c 1 t) (iblk m c 2 t))
      ∧ r.2.mem ((c.tc : Thread nD τ).loc main_v3) = dat.arrAt 3 cfg0.N := by
  obtain ⟨after, hl, he⟩ := RDat.FramePost.exists_exact h c
  refine ⟨(rdat m c).withAfter after, fun t => ?_, he 3⟩
  obtain ⟨Y, -, d, hd⟩ := hl 3 t (flush0_3 t)
  exact ⟨d, hd⟩

end Cert.GmlpInIdeal.Dense

end
-- ==== Proof.Dense.lean ====
/-
  What the dense products share, at the ideal values: one tile of a product and its bias read at a row and a column, the
  same product on the host, the smooth gate both apply, and where a clipped block's moved rows lie.
-/
module

public import Idealize.ShloMosaic.Lib.MatmulPlain
public import Idealize.ShloMosaic.Lib.StackMember
public import Idealize.ShloMosaic.Lib.ValueLayout
public import Idealize.ShloMosaic.Lib.Pipeline.Value

@[expose] public section

noncomputable section

namespace Cert.Dense

open Idealize.ShloMosaic Idealize.ShloMosaic.ValueIdx

/-- A row of `x` times a column of `w`. -/
def along {M K N : ℕ} {φ₁ φ₂ : FTy} (x : FVec Ideal ⟨2, ![M, K]⟩ φ₁) (w : FVec Ideal ⟨2, ![K, N]⟩ φ₂) (r : Fin M) (c : Fin N) : EReal :=
  ∑ k : Fin K, x (ix2 r k) * w (ix2 k c)

/-- One tile of a product over a one-layer weight block, with a row of biases added, at a row and a column. -/
theorem tile_at {M K N : ℕ} (x : FVec Ideal ⟨2, ![M, K]⟩ .bf16) (w : FVec Ideal ⟨3, ![1, K, N]⟩ .bf16) (b : FVec Ideal ⟨2, ![1, N]⟩ .f32)
    (hw : (⟨3, ![1, K, N]⟩ : Shape).ShapeCasts ⟨2, ![K, N]⟩) (hb : (⟨2, ![1, N]⟩ : Shape).ShapeCasts ⟨2, ![1, N]⟩)
    (hbb : (⟨2, ![1, N]⟩ : Shape).Broadcasts ⟨2, ![M, N]⟩) (i : Fin M) (l : Fin N) :
    addf (FloatOps.matmul (DotDims.plain M K N) none x (shapeCast ⟨2, ![K, N]⟩ w hw) (constant ⟨2, ![M, N]⟩ .f32 0x00000000#32))
        (broadcastTo ⟨2, ![M, N]⟩ (shapeCast ⟨2, ![1, N]⟩ b hb) hbb) (ix2 i l)
      = (∑ k : Fin K, x (ix2 i k) * w (ix3 0 k l) : EReal) + b (ix2 0 l) := by
  refine congrArg₂ (fun a b : EReal => a + b) ?_ ?_
  · refine (Ideal.matmul_plain_apply none x _ _ i l).trans ?_
    refine (congrArg (fun a : EReal => a + _) Ideal.ofBits_zero_f32).trans ((zero_add _).trans ?_)
    exact Finset.sum_congr rfl fun k _ => congrArg (fun a : EReal => x (ix2 i k) * a) (shapeCast_1ab_ab_apply w hw k l)
  · exact (broadcastTo_1b_ab_apply _ hbb i l).trans (congrFun (shapeCast_self b hb) _)

/-- The same tile where its rows, its columns and its biases are read out of whole arrays, the biases all zero. -/
theorem plain_tile_at {M K N R C : ℕ} (x : FVec Ideal ⟨2, ![M, K]⟩ .bf16) (w : FVec Ideal ⟨3, ![1, K, N]⟩ .bf16) (b : FVec Ideal ⟨2, ![1, N]⟩ .f32)
    (hw : (⟨3, ![1, K, N]⟩ : Shape).ShapeCasts ⟨2, ![K, N]⟩) (hb : (⟨2, ![1, N]⟩ : Shape).ShapeCasts ⟨2, ![1, N]⟩)
    (hbb : (⟨2, ![1, N]⟩ : Shape).Broadcasts ⟨2, ![M, N]⟩) (i : Fin M) (l : Fin N)
    (X : FVec Ideal ⟨2, ![R, K]⟩ .bf16) (W : FVec Ideal ⟨3, ![1, K, C]⟩ .f32) (r : Fin R) (q : Fin C)
    (ex : ∀ k, x (ix2 i k) = X (ix2 r k)) (ew : ∀ k, w (ix3 0 k l) = W (ix3 0 k q)) (eb : b (ix2 0 l) = (0 : EReal)) :
    addf (FloatOps.matmul (DotDims.plain M K N) none x (shapeCast ⟨2, ![K, N]⟩ w hw) (constant ⟨2, ![M, N]⟩ .f32 0x00000000#32))
        (broadcastTo ⟨2, ![M, N]⟩ (shapeCast ⟨2, ![1, N]⟩ b hb) hbb) (ix2 i l)
      = (∑ k : Fin K, X (ix2 r k) * W (ix3 0 k q) : EReal) := by
  refine (tile_at x w b hw hb hbb i l).trans ((congrArg₂ (fun a b : EReal => a + b) ?_ eb).trans (add_zero _))
  exact Finset.sum_congr rfl fun k _ => congrArg₂ (fun a b : EReal => a * b) (ex k) (ew k)

/-- A product on the host of rows read as float32 with the one layer of a weight array, at a row and a column. -/
theorem host_product_at {R K C : ℕ} (x : FVec Ideal ⟨2, ![R, K]⟩ .bf16) (w : FVec Ideal ⟨3, ![1, K, C]⟩ .f32) (hx : FTy.bits .bf16 < FTy.bits .f32)
    (hw : (⟨3, ![1, K, C]⟩ : Shape).ShapeCasts ⟨2, ![K, C]⟩) (r : Fin R) (q : Fin C) :
    Host.dotGeneral (DotDims.plain R K C) none (extf .f32 x hx) (shapeCast ⟨2, ![K, C]⟩ w hw) (ix2 r q)
      = (∑ k : Fin K, x (ix2 r k) * w (ix3 0 k q) : EReal) :=
  (StackMember.dotGeneral_plain_apply none (extf .f32 x hx) _ r q).trans
    (Finset.sum_congr rfl fun k _ => congrArg (fun a : EReal => x (ix2 r k) * a) (shapeCast_1ab_ab_apply w hw k q))

/-- The smooth gate, the cube grouped as the kernel groups it. -/
def gate (a : EReal) : EReal :=
  a * (Ideal.ofBits .f32 0x3F000000#32 * (Ideal.ofBits .f32 0x3F800000#32
    + Scalar.tanh (F := Ideal) (φ := .f32) (Ideal.ofBits .f32 0x3F4C422A#32 * (a + Ideal.ofBits .f32 0x3D372713#32 * (a * (a * a))))))

/-- A row the transfer of a clipped block moves is a row of the array. -/
theorem moved_inside {ix k d j : ℕ} (hs : ix * k < d) (hj : j < (Pipeline.Clip.of ix k d).extent k) : ix * k + j < d :=
  lt_of_lt_of_le (Nat.add_lt_add_left hj _) (Pipeline.Clip.inb (Pipeline.Clip.ok_of hs))

theorem moved_in_block {ix k d j : ℕ} (hs : ix * k < d) (hj : j < (Pipeline.Clip.of ix k d).extent k) : j < k :=
  lt_of_lt_of_le hj (Pipeline.Clip.extent_le (Pipeline.Clip.ok_of hs))

end Cert.Dense

end
-- ==== Proof.GmlpIn.Reference.lean ====
/-
  The feed-forward's first product on the host: the reference run, and its result read at a row and a column.
-/
module

public import proofs.«01_k».proof.Proof.Gen.GmlpInRefIdeal
public import proofs.«01_k».proof.Proof.Dense
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.GmlpInRefIdeal.Plain

open Cert.GmlpInRefIdeal Cert.GmlpInRefIdeal.Gen Idealize.ShloMosaic.StableHlo Idealize.ShloMosaic.ValueIdx

variable {F : FTy → Type} [FloatOps F]

/-- The operations of @main, in order. -/
abbrev ops : List (HloOp τ sig (Elt F)) :=
  [ unary main_arg0 main_v0 ((extf .f32 · bitsLt_bf16_f32)),
    reshape main_arg1 main_v1 (rfl : (.f32 : EltTy) = .f32) shapeCasts_S1x4096x16384_S4096x16384,
    binary main_v0 main_v1 main_v2 ((fun l r => Host.dotGeneral dot_S8200x4096_S4096x16384_S8200x16384_1_0_0_1_n_n none l r)),
    reshape main_arg2 main_v3 (rfl : (.f32 : EltTy) = .f32) shapeCasts_S1x16384_S16384,
    unary main_v3 main_v4 (broadcastInDim S1x16384 ![1] bcast_S16384_S1x16384_1),
    unary main_v4 main_v5 (broadcastInDim S8200x16384 ![0, 1] bcast_S1x16384_S8200x16384_0_1),
    binary main_v2 main_v5 main_v6 (addf),
    binary main_v6 main_v6 main_v7 (mulf),
    binary main_v7 main_v6 main_v8 (mulf),
    nullary main_cst (constant S_ .f32 0x3D372713#32),
    unary main_cst main_v9 (broadcastInDim S8200x16384 ![] bcast_S_S8200x16384),
    binary main_v9 main_v8 main_v10 (mulf),
    binary main_v6 main_v10 main_v11 (addf),
    nullary main_cst_0 (constant S_ .f32 0x3F4C422A#32),
    unary main_cst_0 main_v12 (broadcastInDim S8200x16384 ![] bcast_S_S8200x16384),
    binary main_v12 main_v11 main_v13 (mulf),
    unary main_v13 main_v14 (Host.tanh),
    nullary main_cst_1 (constant S_ .f32 0x3F800000#32),
    unary main_cst_1 main_v15 (broadcastInDim S8200x16384 ![] bcast_S_S8200x16384),
    binary main_v15 main_v14 main_v16 (addf),
    nullary main_cst_2 (constant S_ .f32 0x3F000000#32),
    unary main_cst_2 main_v17 (broadcastInDim S8200x16384 ![] bcast_S_S8200x16384),
    binary main_v17 main_v16 main_v18 (mulf),
    binary main_v6 main_v18 main_v19 (mulf) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., reshape_bufs_sub .., unary_bufs_sub .., unary_bufs_sub .., binary_bufs_sub ..,
    binary_bufs_sub .., binary_bufs_sub .., nullary_bufs_sub .., unary_bufs_sub .., binary_bufs_sub .., binary_bufs_sub .., nullary_bufs_sub ..,
    unary_bufs_sub .., binary_bufs_sub .., unary_bufs_sub .., nullary_bufs_sub .., unary_bufs_sub .., binary_bufs_sub .., nullary_bufs_sub ..,
    unary_bufs_sub .., binary_bufs_sub .., binary_bufs_sub ..⟩

/-- Every row times the first layer of the weights, the bias added. -/
def linear (x : Vec F S8200x4096 .bf16) (w : Vec F S1x4096x16384 .f32) (b : Vec F S1x16384 .f32) : FVec F S8200x16384 .f32 :=
  addf (Host.dotGeneral dot_S8200x4096_S4096x16384_S8200x16384_1_0_0_1_n_n none (extf .f32 x bitsLt_bf16_f32)
      (shapeCast S4096x16384 w shapeCasts_S1x4096x16384_S4096x16384))
    (broadcastInDim S8200x16384 ![0, 1] bcast_S1x16384_S8200x16384_0_1
      (broadcastInDim S1x16384 ![1] bcast_S16384_S1x16384_1 (shapeCast S16384 b shapeCasts_S1x16384_S16384)))

/-- One number at every index. -/
def everywhere (b : BitVec 32) : FVec F S8200x16384 .f32 := broadcastInDim S8200x16384 ![] bcast_S_S8200x16384 (constant S_ .f32 b)

/-- The smooth gate of every entry. -/
def gated (a : FVec F S8200x16384 .f32) : FVec F S8200x16384 .f32 :=
  mulf a (mulf (everywhere 0x3F000000#32) (addf (everywhere 0x3F800000#32)
    (Host.tanh (mulf (everywhere 0x3F4C422A#32) (addf a (mulf (everywhere 0x3D372713#32) (mulf (mulf a a) a)))))))

/-- What the reference returns. -/
def value (x : Vec F S8200x4096 .bf16) (w : Vec F S1x4096x16384 .f32) (b : Vec F S1x16384 .f32) : Vec F S8200x16384 .f32 := gated (linear x w b)

variable (m : (ℓ : Loc nD τ sig) → Buf (Elt F) ℓ) (ρ : Dev nD → PrngReg)

theorem result_read (c : Dev nD) (V : Valuation τ sig (Elt F)) : after ops V main_v19 = value (V main_arg0) (V main_arg1) (V main_arg2) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v19) = value (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (result_read c _),
      (h c main_arg0).trans (by after_reads_simp), (h c main_arg1).trans (by after_reads_simp),
      (h c main_arg2).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (run m ρ)

/-! ## The result at a row and a column, at the ideal values -/

theorem linear_at (x : Vec Ideal S8200x4096 .bf16) (w : Vec Ideal S1x4096x16384 .f32) (b : Vec Ideal S1x16384 .f32) (r : Fin 8200) (k : Fin 16384) :
    linear x w b (ix2 r k) = (∑ j : Fin 4096, x (ix2 r j) * w (ix3 0 j k) : EReal) + b (ix2 0 k) := by
  refine congrArg₂ (fun a b : EReal => a + b) ?_ ?_
  · refine (StackMember.dotGeneral_plain_apply none (extf .f32 x bitsLt_bf16_f32) _ r k).trans ?_
    exact Finset.sum_congr rfl fun j _ => congrArg (fun a : EReal => x (ix2 r j) * a) (shapeCast_1ab_ab_apply w _ j k)
  · refine (broadcastInDim_apply _ _ _ _ (ix2 0 k) (fun (a : Fin 2) => by fin_cases a <;> rfl)).trans ?_
    refine (broadcastInDim_apply _ _ _ _ (ix1 k) (fun (a : Fin 1) => by fin_cases a; rfl)).trans ?_
    exact shapeCast_1a_a_apply b _ k

theorem gated_at (a : FVec Ideal S8200x16384 .f32) (y : S8200x16384.Idx) : gated a y = Dense.gate (a y) := by
  have e : gated a y = (a y * (Ideal.ofBits .f32 0x3F000000#32 * (Ideal.ofBits .f32 0x3F800000#32 + Scalar.tanh (F := Ideal) (φ := .f32)
      (Ideal.ofBits .f32 0x3F4C422A#32 * (a y + Ideal.ofBits .f32 0x3D372713#32 * (a y * a y * a y))))) : EReal) := rfl
  rw [e, mul_assoc (a y)]
  rfl

theorem value_at (x : Vec Ideal S8200x4096 .bf16) (w : Vec Ideal S1x4096x16384 .f32) (b : Vec Ideal S1x16384 .f32) (r : Fin 8200) (k : Fin 16384) :
    value x w b (ix2 r k) = Dense.gate ((∑ j : Fin 4096, x (ix2 r j) * w (ix3 0 j k) : EReal) + b (ix2 0 k)) :=
  (gated_at _ _).trans (congrArg Dense.gate (linear_at x w b r k))

end Cert.GmlpInRefIdeal.Plain

end
-- ==== Proof.GmlpIn.Value.lean ====
/-
  The feed-forward's first product and its gate at the ideal values: the array the blocks written back leave is the reference's result,
  whatever lay in the part of a staging buffer that no transfer moved.
-/
module

public import proofs.«01_k».proof.Proof.GmlpIn.Run
public import proofs.«01_k».proof.Proof.GmlpIn.Reference
public import Idealize.ShloMosaic.Lib.Pipeline.ValueKit.Geometry

@[expose] public section

set_option maxRecDepth 16384

noncomputable section

namespace Cert.GmlpInIdeal.Dense

open Cert.GmlpInIdeal Cert.GmlpInIdeal.Gen Cert.Dense
open Idealize.ShloMosaic Idealize.ShloMosaic.TcCoe Idealize.ShloMosaic.ValueIdx
open Idealize.ShloMosaic.Pipeline (Dat RDat Cfg Window)

variable (m : (ℓ : Loc nD τ sig) → Buf (Elt Ideal) ℓ) (c : Dev nD) (t : Fin cfg0.N)

/-! ## What the call finds -/

theorem weights_entry : V m c main_v1 = m ((c : Thread nD τ).loc main_arg1) := by
  show StableHlo.after hostOps0 (fun b => m (c, b)) main_v1 = _
  after_reads_simp
  rfl

theorem bias_entry : V m c main_v2 = m ((c : Thread nD τ).loc main_arg2) := by
  have e : V m c main_v2 = shapeCast S1x16384 (shapeCast S16384 (m ((c : Thread nD τ).loc main_arg2)) shapeCasts_S1x16384_S16384)
      shapeCasts_S16384_S1x16384 := by
    show StableHlo.after hostOps0 (fun b => m (c, b)) main_v2 = _
    after_reads_simp
    rfl
  rw [e]
  refine funext fun y => ?_
  obtain ⟨u, k, rfl⟩ : ∃ u k, y = ix2 u k := ⟨y 0, y 1, eq_ix2 y⟩
  obtain rfl : u = 0 := Subsingleton.elim _ _
  exact (shapeCast_a_1a_apply _ _ 0 k).trans (shapeCast_1a_a_apply _ _ k)

/-! ## The blocks at an index -/

/-- The block of rows and the tile of columns of a point. -/
abbrev blockOf : ℕ := cc0_transform_0 (grid0.coords t) 0
abbrev tileOf : ℕ := cc0_transform_3 (grid0.coords t) 1
/-- Row `i` of the point's block is one the transfers move. -/
abbrev Moved (i : ℕ) : Prop := i < (Pipeline.Clip.of (blockOf t) 912 8200).extent 912
/-- The array's row and column of a block's. -/
def rowOf (i : ℕ) (hi : Moved t i) : Fin 8200 := ⟨blockOf t * 912 + i, moved_inside (hstart0_0 (grid0.coords t) 0) hi⟩
def colOf (l : Fin 512) : Fin 16384 := ⟨tileOf t * 512 + l.val, by
  have h : (tileOf t + 1) * 512 ≤ 16384 := hinb0_2 (grid0.coords t) 1
  omega⟩

theorem rows_at (d : Vec Ideal S912x4096 .bf16) (i : Fin 912) (hi : Moved t i.val) (k : Fin 4096) :
    staged m c t d (ix2 i k) = m ((c : Thread nD τ).loc main_arg0) (ix2 (rowOf t i.val hi) k) := by
  have h : (cfg0.win 0).moved (cfg0.grid.coords t) (ix2 i k : S912x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show blockOf t * 912 + 1 * i.val = blockOf t * 912 + i.val; omega
  · show 0 * 4096 + 1 * k.val = k.val; omega

theorem weights_at (k : Fin 4096) (l : Fin 512) :
    iblk m c 1 t (ix3 0 k l) = m ((c : Thread nD τ).loc main_arg1) (ix3 0 k (colOf t l)) := by
  refine (congrArg (V m c main_v1) (funext fun (a : Fin 3) => Fin.ext ?_)).trans (congrFun (weights_entry m c) _)
  fin_cases a
  · rfl
  · show 0 * 4096 + 1 * k.val = k.val; omega
  · show tileOf t * 512 + 1 * l.val = tileOf t * 512 + l.val; omega

theorem bias_at (l : Fin 512) : iblk m c 2 t (ix2 0 l) = m ((c : Thread nD τ).loc main_arg2) (ix2 0 (colOf t l)) := by
  refine (congrArg (V m c main_v2) (funext fun (a : Fin 2) => Fin.ext ?_)).trans (congrFun (bias_entry m c) _)
  fin_cases a
  · rfl
  · show tileOf t * 512 + 1 * l.val = tileOf t * 512 + l.val; omega

/-! ## The result -/

/-- The reference's value of this launch's arguments. -/
abbrev wanted : Vec Ideal S8200x16384 .f32 :=
  GmlpInRefIdeal.Plain.value (m ((c : Thread nD τ).loc main_arg0)) (m ((c : Thread nD τ).loc main_arg1)) (m ((c : Thread nD τ).loc main_arg2))

theorem computed_at (d : Vec Ideal S912x4096 .bf16) (i : Fin 912) (hi : Moved t i.val) (l : Fin 512) :
    k0_pay1 (staged m c t d) (iblk m c 1 t) (iblk m c 2 t) (ix2 i l) = wanted m c (ix2 (rowOf t i.val hi) (colOf t l)) := by
  refine (congrArg gate (tile_at (staged m c t d) (iblk m c 1 t) (iblk m c 2 t) _ _ _ i l)).trans ?_
  refine Eq.trans (congrArg gate ?_) (GmlpInRefIdeal.Plain.value_at _ _ _ _ _).symm
  refine congrArg₂ (fun a b : EReal => a + b) ?_ (bias_at m c t l)
  exact Finset.sum_congr rfl fun k _ => congrArg₂ (fun a b : EReal => a * b) (rows_at m c t d i hi k) (weights_at m c t k l)

theorem result_eq (dat : Dat τ (Elt Ideal) Unit ℕ (UR sig nD τ) ℕ cfg0 c)
    (h : ∀ t, ∃ d, dat.after 3 t = k0_pay1 (staged m c t d) (iblk m c 1 t) (iblk m c 2 t)) : dat.arrAt 3 cfg0.N = wanted m c := by
  refine dat.arrAt_eq_of_covers 3 (wanted m c) (by decide +kernel) fun t _ y => ?_
  obtain ⟨d, hd⟩ := h t
  have h0 : Moved t (y (0 : Fin 2)).val := (y (0 : Fin 2)).isLt
  have h1 : (y (1 : Fin 2)).val < 512 := moved_in_block (hstart0_3 (grid0.coords t) 1) (y (1 : Fin 2)).isLt
  have ey : (cfg0.win 3).xinj (grid0.coords t) y
      = (ix2 ⟨(y (0 : Fin 2)).val, moved_in_block (hstart0_0 (grid0.coords t) 0) h0⟩ ⟨(y (1 : Fin 2)).val, h1⟩ : S912x512.Idx) :=
    funext fun (a : Fin 2) => by fin_cases a <;> rfl
  have ep : ((cfg0.win 3).blk t).view.emb y = (ix2 (rowOf t _ h0) (colOf t ⟨_, h1⟩) : S8200x16384.Idx) := by
    refine funext fun (a : Fin 2) => Fin.ext ?_
    fin_cases a
    · show blockOf t * 912 + 1 * (y (0 : Fin 2)).val = blockOf t * 912 + (y (0 : Fin 2)).val; omega
    · show tileOf t * 512 + 1 * (y (1 : Fin 2)).val = tileOf t * 512 + (y (1 : Fin 2)).val; omega
  refine Eq.trans ?_ ((computed_at m c t d ⟨_, moved_in_block (hstart0_0 (grid0.coords t) 0) h0⟩ h0 ⟨_, h1⟩).trans (congrArg (wanted m c) ep.symm))
  exact (congrFun hd _).trans (congrArg (k0_pay1 (staged m c t d) (iblk m c 1 t) (iblk m c 2 t)) ey)

end Cert.GmlpInIdeal.Dense

end
-- ==== Proof.GmlpIn.Claims.lean ====
/-
  The claims about the feed-forward's first product: the frames, and the two results equal at the ideal values.
-/
module

public import proofs.«01_k».proof.Defs
public import proofs.«01_k».proof.Proof.Gen.GmlpIn
public import proofs.«01_k».proof.Proof.GmlpIn.Value

@[expose] public section

set_option maxRecDepth 16384

noncomputable section

namespace Cert.GmlpInIdeal.Dense

open Cert.GmlpInIdeal Cert.GmlpInIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem framed : Framed F := fun m g _ => quiescent m g

theorem frame_ideal : Cert.quiescent_GmlpInIdeal := framed (F := Ideal)

theorem same_frame : Framed Bits = Cert.quiescent_GmlpIn := by chain_rfl

theorem frame_machine : Cert.quiescent_GmlpIn := Eq.mp same_frame (framed (F := Bits))

theorem frame_reference : Cert.quiescent_GmlpInRefIdeal := fun m g _ => GmlpInRefIdeal.Plain.quiescent m g

theorem equal_results : Cert.algebraic_GmlpInIdeal_GmlpInRefIdeal := by
  intro m g m' g' _ ha
  refine ⟨fun c => wanted m c, ?_, ?_⟩
  · refine (θ_run GmlpInIdeal.defs _ _).mono (fun r h c => ⟨?_, arguments_kept m r h.1 c⟩) (run m g)
    obtain ⟨dat, hd, he⟩ := result_ends m h.1 c
    exact he.trans (result_eq m c dat hd)
  · refine (θ_run GmlpInRefIdeal.defs _ _).mono (fun r h c => ⟨(h c).1.trans ?_, (h c).2⟩) (GmlpInRefIdeal.Plain.run m' g')
    obtain ⟨a0, a1, a2⟩ := ha c
    exact congr (congr (congrArg GmlpInRefIdeal.Plain.value a0) a1) a2

end Cert.GmlpInIdeal.Dense

end
-- ==== Proof.GmlpOut.Run.lean ====
/-
  The feed-forward's second product, run at any float values. The last block of rows overhangs its array, so a staging
  buffer of rows holds the block over contents nothing names, and what the body leaves in the result's buffer is stated as
  a relation: the body's value of SOME contents with the block laid over them.
-/
module

public import proofs.«01_k».proof.Proof.Gen.GmlpOutIdeal.Frame
public import proofs.«01_k».proof.Proof.Gen.GmlpOutIdeal.Skeleton
public import Idealize.ShloMosaic.Lib.Pipeline.ArrRel
public import Idealize.ShloMosaic.Lib.VecWindow

@[expose] public section

set_option maxRecDepth 16384

noncomputable section

namespace Cert.GmlpOutIdeal.Dense

open Cert.GmlpOutIdeal Cert.GmlpOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- The body on any staging buffers: the three inputs are left as found, the result's buffer holds the body's value of them. -/
theorem run_body (c : Dev nD) (i : grid0.Coords)
    (arg2 : Memref sig .tc .vmem S496x8192 .bf16) (harg2 : arg2.IsWhole) (arg3 : Memref sig .tc .vmem S1x8192x512 .bf16) (harg3 : arg3.IsWhole)
    (arg4 : Memref sig .tc .vmem S1x512 .f32) (harg4 : arg4.IsWhole) (arg5 : Memref sig .tc .vmem S496x512 .f32) (harg5 : arg5.IsWhole)
    (x : Vec F S496x8192 .bf16) (w : Vec F S1x8192x512 .bf16) (b : Vec F S1x512 .f32) (E : Set ℕ) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0_dense_mm i arg2 harg2 arg3 harg3 arg4 harg4 arg5 harg5) K := by
  simp only [cc0_dense_mm_eq_skeleton]; unfold cc0_dense_mm_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap
  · iexact H3
  ipureintro
  sl_unfold_words
  exact (View.read_writes_full (s := S496x512) _ _ _ _ _).trans (congr (congr (congrArg k0_pay1
    ((View.readAt_full (s := S496x8192) _ _ _).trans (harg2.read_unread x))) ((View.readAt_full (s := S1x8192x512) _ _ _).trans (harg3.read_unread w)))
    ((View.readAt_full (s := S1x512) _ _ _).trans (harg4.read_unread b)))

/-! ## The proof data -/

variable (m : (ℓ : Loc nD τ sig) → Buf (Elt F) ℓ) (ρ : Dev nD → PrngReg)

/-- A block of rows as its staging buffer holds it: laid over contents nothing names. -/
def staged (c : Dev nD) (t : Fin cfg0.N) (d : Vec F S496x8192 .bf16) : Vec F S496x8192 .bf16 :=
  (cfg0.win 0).fill (cfg0.grid.coords t) d (iblk m c 0 t)

/-- Inputs are left as found; the result's buffer is left with the body's value of the staged block. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => ∃ d, X = k0_pay1 (staged m c t d) (iblk m c 1 t) (iblk m c 2 t)
  Φ _ := Pipeline.ΦA spec0 c
  q _ := fullShare
  owed _ := 0

theorem found_rows (c : Dev nD) (t : Fin cfg0.N) (Y) (h : (rdat m c).Finds 0 t Y) : ∃ d, Y = staged m c t d :=
  (rdat m c).finds_in_eq_fetched 0 rfl (fun t t' e => congrArg (fun (ix : Fin 2 → ℕ) a => Pipeline.Clip.of (ix a) (S496x8192.size a) (S8200x8192.size a)) e)
    (fun t Y X h => h) t Y h

theorem found_weights (c : Dev nD) (t : Fin cfg0.N) (Y) (h : (rdat m c).Finds 1 t Y) : Y = iblk m c 1 t :=
  ((rdat m c).finds_in_eq_fetched 1 rfl (fun _ _ _ => rfl) (fun t Y X h => h) t Y h).elim fun _ h => h

theorem found_bias (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d, h0⟩ := found_rows m c t _ (hY 0)
  have h1 := found_weights m c t _ (hY 1)
  have h2 := found_bias m c t _ (hY 2)
  rw [show (rdat m c).Φ t.succ = (rdat m c).Φ t.castSucc from rfl, show (rdat m c).owesAt () t.succ = (rdat m c).owesAt () t.castSucc from rfl]
  iintro ⟨HΦ, Hg, H0, H1, H2, H3⟩
  iapply (run_body c (grid0.coords t) (st0_0 t) _ (st0_1 t) _ (st0_2 t) _ (st0_3 t) _ (Y 0) (Y 1) (Y 2))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro
  exact ⟨d, congr (congr (congrArg k0_pay1 h0) h1) h2⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

theorem arguments_kept (r : PUnit × MemSt nD τ sig (Elt F)) (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(RDat.FramePost.arr_in h c 0 rfl).trans (V_main_arg0 m c),
    ((h c).2 main_arg1 (Pipeline.mem_restRefs_of main_arg1 (by decide) (by decide))).trans (V_main_arg1 m c)⟩

/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d, dat.after 3 t = k0_pay1 (staged m c t d) (iblk m c 1 t) (iblk m c 2 t))
      ∧ r.2.mem ((c.tc : Thread nD τ).loc main_v2) = dat.arrAt 3 cfg0.N := by
  obtain ⟨after, hl, he⟩ := RDat.FramePost.exists_exact h c
  refine ⟨(rdat m c).withAfter after, fun t => ?_, he 3⟩
  obtain ⟨Y, -, d, hd⟩ := hl 3 t (flush0_3 t)
  exact ⟨d, hd⟩

end Cert.GmlpOutIdeal.Dense

end
-- ==== Proof.GmlpOut.Reference.lean ====
/-
  The feed-forward's second product on the host: the reference run, and its result read at a row and a column.
-/
module

public import proofs.«01_k».proof.Proof.Gen.GmlpOutRefIdeal
public import proofs.«01_k».proof.Proof.Dense
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.GmlpOutRefIdeal.Plain

open Cert.GmlpOutRefIdeal Cert.GmlpOutRefIdeal.Gen Idealize.ShloMosaic.StableHlo Idealize.ShloMosaic.ValueIdx

variable {F : FTy → Type} [FloatOps F]

/-- The operations of @main, in order. -/
abbrev ops : List (HloOp τ sig (Elt F)) :=
  [ unary main_arg0 main_v0 ((extf .f32 · bitsLt_bf16_f32)),
    reshape main_arg1 main_v1 (rfl : (.f32 : EltTy) = .f32) shapeCasts_S1x8192x4096_S8192x4096,
    binary main_v0 main_v1 main_v2 ((fun l r => Host.dotGeneral dot_S8200x8192_S8192x4096_S8200x4096_1_0_0_1_n_n none l r)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub ..⟩

/-- What the reference returns: every row times the first layer of the weights. -/
def value (x : Vec F S8200x8192 .bf16) (w : Vec F S1x8192x4096 .f32) : Vec F S8200x4096 .f32 :=
  Host.dotGeneral dot_S8200x8192_S8192x4096_S8200x4096_1_0_0_1_n_n none (extf .f32 x bitsLt_bf16_f32)
    (shapeCast S8192x4096 w shapeCasts_S1x8192x4096_S8192x4096)

variable (m : (ℓ : Loc nD τ sig) → Buf (Elt F) ℓ) (ρ : Dev nD → PrngReg)

theorem result_read (c : Dev nD) (V : Valuation τ sig (Elt F)) : after ops V main_v2 = value (V main_arg0) (V main_arg1) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v2) = value (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (result_read c _),
      (h c main_arg0).trans (by after_reads_simp), (h c main_arg1).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

/-- The result at a row and a column, at the ideal values. -/
theorem value_at (x : Vec Ideal S8200x8192 .bf16) (w : Vec Ideal S1x8192x4096 .f32) (r : Fin 8200) (k : Fin 4096) :
    value x w (ix2 r k) = (∑ j : Fin 8192, x (ix2 r j) * w (ix3 0 j k) : EReal) := by
  refine (StackMember.dotGeneral_plain_apply none (extf .f32 x bitsLt_bf16_f32) _ r k).trans ?_
  exact Finset.sum_congr rfl fun j _ => congrArg (fun a : EReal => x (ix2 r j) * a) (shapeCast_1ab_ab_apply w _ j k)

end Cert.GmlpOutRefIdeal.Plain

end
-- ==== Proof.GmlpOut.Value.lean ====
/-
  The feed-forward's second product at the ideal values: the array the blocks written back leave is the reference's result,
  whatever lay in the part of a staging buffer that no transfer moved.
-/
module

public import proofs.«01_k».proof.Proof.GmlpOut.Run
public import proofs.«01_k».proof.Proof.GmlpOut.Reference
public import Idealize.ShloMosaic.Lib.Pipeline.ValueKit.Geometry

@[expose] public section

set_option maxRecDepth 16384

noncomputable section

namespace Cert.GmlpOutIdeal.Dense

open Cert.GmlpOutIdeal Cert.GmlpOutIdeal.Gen Cert.Dense
open Idealize.ShloMosaic Idealize.ShloMosaic.TcCoe Idealize.ShloMosaic.ValueIdx
open Idealize.ShloMosaic.Pipeline (Dat RDat Cfg Window)

variable (m : (ℓ : Loc nD τ sig) → Buf (Elt Ideal) ℓ) (c : Dev nD) (t : Fin cfg0.N)

/-! ## What the call finds -/

theorem weights_entry : V m c main_v0 = m ((c : Thread nD τ).loc main_arg1) := by
  show StableHlo.after hostOps0 (fun b => m (c, b)) main_v0 = _
  after_reads_simp
  rfl

theorem bias_entry (k : Fin 4096) : V m c main_v1 (ix2 0 k) = (0 : EReal) := by
  have e : V m c main_v1 = broadcastInDim S1x4096 ![] bcast_S_S1x4096 (constant (F := Ideal) S_ .f32 0x00000000#32) := by
    show StableHlo.after hostOps0 (fun b => m (c, b)) main_v1 = _
    after_reads_simp
  rw [e]
  exact Ideal.ofBits_zero_f32

/-! ## The blocks at an index -/

/-- The block of rows and the tile of columns of a point. -/
abbrev blockOf : ℕ := cc0_transform_0 (grid0.coords t) 0
abbrev tileOf : ℕ := cc0_transform_3 (grid0.coords t) 1
/-- Row `i` of the point's block is one the transfers move. -/
abbrev Moved (i : ℕ) : Prop := i < (Pipeline.Clip.of (blockOf t) 496 8200).extent 496
/-- The array's row and column of a block's. -/
def rowOf (i : ℕ) (hi : Moved t i) : Fin 8200 := ⟨blockOf t * 496 + i, moved_inside (hstart0_0 (grid0.coords t) 0) hi⟩
def colOf (l : Fin 512) : Fin 4096 := ⟨tileOf t * 512 + l.val, by
  have h : (tileOf t + 1) * 512 ≤ 4096 := hinb0_2 (grid0.coords t) 1
  omega⟩

theorem rows_at (d : Vec Ideal S496x8192 .bf16) (i : Fin 496) (hi : Moved t i.val) (k : Fin 8192) :
    staged m c t d (ix2 i k) = m ((c : Thread nD τ).loc main_arg0) (ix2 (rowOf t i.val hi) k) := by
  have h : (cfg0.win 0).moved (cfg0.grid.coords t) (ix2 i k : S496x8192.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show blockOf t * 496 + 1 * i.val = blockOf t * 496 + i.val; omega
  · show 0 * 8192 + 1 * k.val = k.val; omega

theorem weights_at (k : Fin 8192) (l : Fin 512) :
    iblk m c 1 t (ix3 0 k l) = m ((c : Thread nD τ).loc main_arg1) (ix3 0 k (colOf t l)) := by
  refine (congrArg (V m c main_v0) (funext fun (a : Fin 3) => Fin.ext ?_)).trans (congrFun (weights_entry m c) _)
  fin_cases a
  · rfl
  · show 0 * 8192 + 1 * k.val = k.val; omega
  · show tileOf t * 512 + 1 * l.val = tileOf t * 512 + l.val; omega

theorem bias_at (l : Fin 512) : iblk m c 2 t (ix2 0 l) = (0 : EReal) := by
  refine (congrArg (V m c main_v1) (funext fun (a : Fin 2) => Fin.ext ?_)).trans (bias_entry m c (colOf t l))
  fin_cases a
  · rfl
  · show tileOf t * 512 + 1 * l.val = tileOf t * 512 + l.val; omega

/-! ## The result -/

/-- The reference's value of this launch's arguments. -/
abbrev wanted : Vec Ideal S8200x4096 .f32 :=
  GmlpOutRefIdeal.Plain.value (m ((c : Thread nD τ).loc main_arg0)) (m ((c : Thread nD τ).loc main_arg1))

theorem computed_at (d : Vec Ideal S496x8192 .bf16) (i : Fin 496) (hi : Moved t i.val) (l : Fin 512) :
    k0_pay1 (staged m c t d) (iblk m c 1 t) (iblk m c 2 t) (ix2 i l) = wanted m c (ix2 (rowOf t i.val hi) (colOf t l)) := by
  refine (tile_at (staged m c t d) (iblk m c 1 t) (iblk m c 2 t) _ _ _ i l).trans ?_
  refine Eq.trans ?_ (GmlpOutRefIdeal.Plain.value_at _ _ _ _).symm
  refine (congrArg₂ (fun a b : EReal => a + b) ?_ (bias_at m c t l)).trans (add_zero _)
  exact Finset.sum_congr rfl fun k _ => congrArg₂ (fun a b : EReal => a * b) (rows_at m c t d i hi k) (weights_at m c t k l)

theorem result_eq (dat : Dat τ (Elt Ideal) Unit ℕ (UR sig nD τ) ℕ cfg0 c)
    (h : ∀ t, ∃ d, dat.after 3 t = k0_pay1 (staged m c t d) (iblk m c 1 t) (iblk m c 2 t)) : dat.arrAt 3 cfg0.N = wanted m c := by
  refine dat.arrAt_eq_of_covers 3 (wanted m c) (by decide +kernel) fun t _ y => ?_
  obtain ⟨d, hd⟩ := h t
  have h0 : Moved t (y (0 : Fin 2)).val := (y (0 : Fin 2)).isLt
  have h1 : (y (1 : Fin 2)).val < 512 := moved_in_block (hstart0_3 (grid0.coords t) 1) (y (1 : Fin 2)).isLt
  have ey : (cfg0.win 3).xinj (grid0.coords t) y
      = (ix2 ⟨(y (0 : Fin 2)).val, moved_in_block (hstart0_0 (grid0.coords t) 0) h0⟩ ⟨(y (1 : Fin 2)).val, h1⟩ : S496x512.Idx) :=
    funext fun (a : Fin 2) => by fin_cases a <;> rfl
  have ep : ((cfg0.win 3).blk t).view.emb y = (ix2 (rowOf t _ h0) (colOf t ⟨_, h1⟩) : S8200x4096.Idx) := by
    refine funext fun (a : Fin 2) => Fin.ext ?_
    fin_cases a
    · show blockOf t * 496 + 1 * (y (0 : Fin 2)).val = blockOf t * 496 + (y (0 : Fin 2)).val; omega
    · show tileOf t * 512 + 1 * (y (1 : Fin 2)).val = tileOf t * 512 + (y (1 : Fin 2)).val; omega
  refine Eq.trans ?_ ((computed_at m c t d ⟨_, moved_in_block (hstart0_0 (grid0.coords t) 0) h0⟩ h0 ⟨_, h1⟩).trans (congrArg (wanted m c) ep.symm))
  exact (congrFun hd _).trans (congrArg (k0_pay1 (staged m c t d) (iblk m c 1 t) (iblk m c 2 t)) ey)

end Cert.GmlpOutIdeal.Dense

end
-- ==== Proof.GmlpOut.Claims.lean ====
/-
  The claims about the feed-forward's second product: the frames, and the two results equal at the ideal values.
-/
module

public import proofs.«01_k».proof.Defs
public import proofs.«01_k».proof.Proof.Gen.GmlpOut
public import proofs.«01_k».proof.Proof.GmlpOut.Value

@[expose] public section

set_option maxRecDepth 16384

noncomputable section

namespace Cert.GmlpOutIdeal.Dense

open Cert.GmlpOutIdeal Cert.GmlpOutIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem framed : Framed F := fun m g _ => quiescent m g

theorem frame_ideal : Cert.quiescent_GmlpOutIdeal := framed (F := Ideal)

theorem same_frame : Framed Bits = Cert.quiescent_GmlpOut := by chain_rfl

theorem frame_machine : Cert.quiescent_GmlpOut := Eq.mp same_frame (framed (F := Bits))

theorem frame_reference : Cert.quiescent_GmlpOutRefIdeal := fun m g _ => GmlpOutRefIdeal.Plain.quiescent m g

theorem equal_results : Cert.algebraic_GmlpOutIdeal_GmlpOutRefIdeal := by
  intro m g m' g' _ ha
  refine ⟨fun c => wanted m c, ?_, ?_⟩
  · refine (θ_run GmlpOutIdeal.defs _ _).mono (fun r h c => ⟨?_, arguments_kept m r h.1 c⟩) (run m g)
    obtain ⟨dat, hd, he⟩ := result_ends m h.1 c
    exact he.trans (result_eq m c dat hd)
  · refine (θ_run GmlpOutRefIdeal.defs _ _).mono (fun r h c => ⟨(h c).1.trans ?_, (h c).2⟩) (GmlpOutRefIdeal.Plain.run m' g')
    obtain ⟨a0, a1⟩ := ha c
    exact congr (congrArg GmlpOutRefIdeal.Plain.value a0) a1

end Cert.GmlpOutIdeal.Dense

end
-- ==== Proof.Kv.Run.lean ====
/-
  The key and value projection, run at any float values. The last block of rows overhangs its array, so a staging
  buffer of rows holds the block over contents nothing names, and what the body leaves in the result's buffer is stated as
  a relation: the body's value of SOME contents with the block laid over them.
-/
module

public import proofs.«01_k».proof.Proof.Gen.KvIdeal.Frame
public import proofs.«01_k».proof.Proof.Gen.KvIdeal.Skeleton
public import Idealize.ShloMosaic.Lib.Pipeline.ArrRel
public import Idealize.ShloMosaic.Lib.VecWindow

@[expose] public section

set_option maxRecDepth 16384

noncomputable section

namespace Cert.KvIdeal.Dense

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- The body on any staging buffers: the three inputs are left as found, the result's buffer holds the body's value of them. -/
theorem run_body (c : Dev nD) (i : grid0.Coords)
    (arg2 : Memref sig .tc .vmem S912x4096 .bf16) (harg2 : arg2.IsWhole) (arg3 : Memref sig .tc .vmem S1x4096x512 .bf16) (harg3 : arg3.IsWhole)
    (arg4 : Memref sig .tc .vmem S1x512 .f32) (harg4 : arg4.IsWhole) (arg5 : Memref sig .tc .vmem S912x512 .f32) (harg5 : arg5.IsWhole)
    (x : Vec F S912x4096 .bf16) (w : Vec F S1x4096x512 .bf16) (b : Vec F S1x512 .f32) (E : Set ℕ) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0_dense_mm i arg2 harg2 arg3 harg3 arg4 harg4 arg5 harg5) K := by
  simp only [cc0_dense_mm_eq_skeleton]; unfold cc0_dense_mm_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap
  · iexact H3
  ipureintro
  sl_unfold_words
  exact (View.read_writes_full (s := S912x512) _ _ _ _ _).trans (congr (congr (congrArg k0_pay1
    ((View.readAt_full (s := S912x4096) _ _ _).trans (harg2.read_unread x))) ((View.readAt_full (s := S1x4096x512) _ _ _).trans (harg3.read_unread w)))
    ((View.readAt_full (s := S1x512) _ _ _).trans (harg4.read_unread b)))

/-! ## The proof data -/

variable (m : (ℓ : Loc nD τ sig) → Buf (Elt F) ℓ) (ρ : Dev nD → PrngReg)

/-- A block of rows as its staging buffer holds it: laid over contents nothing names. -/
def staged (c : Dev nD) (t : Fin cfg0.N) (d : Vec F S912x4096 .bf16) : Vec F S912x4096 .bf16 :=
  (cfg0.win 0).fill (cfg0.grid.coords t) d (iblk m c 0 t)

/-- Inputs are left as found; the result's buffer is left with the body's value of the staged block. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => ∃ d, X = k0_pay1 (staged m c t d) (iblk m c 1 t) (iblk m c 2 t)
  Φ _ := Pipeline.ΦA spec0 c
  q _ := fullShare
  owed _ := 0

theorem found_rows (c : Dev nD) (t : Fin cfg0.N) (Y) (h : (rdat m c).Finds 0 t Y) : ∃ d, Y = staged m c t d :=
  (rdat m c).finds_in_eq_fetched 0 rfl (fun t t' e => congrArg (fun (ix : Fin 2 → ℕ) a => Pipeline.Clip.of (ix a) (S912x4096.size a) (S8200x4096.size a)) e)
    (fun t Y X h => h) t Y h

theorem found_weights (c : Dev nD) (t : Fin cfg0.N) (Y) (h : (rdat m c).Finds 1 t Y) : Y = iblk m c 1 t :=
  ((rdat m c).finds_in_eq_fetched 1 rfl (fun _ _ _ => rfl) (fun t Y X h => h) t Y h).elim fun _ h => h

theorem found_bias (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d, h0⟩ := found_rows m c t _ (hY 0)
  have h1 := found_weights m c t _ (hY 1)
  have h2 := found_bias m c t _ (hY 2)
  rw [show (rdat m c).Φ t.succ = (rdat m c).Φ t.castSucc from rfl, show (rdat m c).owesAt () t.succ = (rdat m c).owesAt () t.castSucc from rfl]
  iintro ⟨HΦ, Hg, H0, H1, H2, H3⟩
  iapply (run_body c (grid0.coords t) (st0_0 t) _ (st0_1 t) _ (st0_2 t) _ (st0_3 t) _ (Y 0) (Y 1) (Y 2))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro
  exact ⟨d, congr (congr (congrArg k0_pay1 h0) h1) h2⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

theorem arguments_kept (r : PUnit × MemSt nD τ sig (Elt F)) (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(RDat.FramePost.arr_in h c 0 rfl).trans (V_main_arg0 m c),
    ((h c).2 main_arg1 (Pipeline.mem_restRefs_of main_arg1 (by decide) (by decide))).trans (V_main_arg1 m c)⟩

/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d, dat.after 3 t = k0_pay1 (staged m c t d) (iblk m c 1 t) (iblk m c 2 t))
      ∧ r.2.mem ((c.tc : Thread nD τ).loc main_v3) = dat.arrAt 3 cfg0.N := by
  obtain ⟨after, hl, he⟩ := RDat.FramePost.exists_exact h c
  refine ⟨(rdat m c).withAfter after, fun t => ?_, he 3⟩
  obtain ⟨Y, -, d, hd⟩ := hl 3 t (flush0_3 t)
  exact ⟨d, hd⟩

end Cert.KvIdeal.Dense

end
-- ==== Proof.Kv.Reference.lean ====
/-
  The key and value projection on the host: the reference run, and its result read at a row and a column.
-/
module

public import proofs.«01_k».proof.Proof.Gen.KvRefIdeal
public import proofs.«01_k».proof.Proof.Dense
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KvRefIdeal.Plain

open Cert.KvRefIdeal Cert.KvRefIdeal.Gen Idealize.ShloMosaic.StableHlo Idealize.ShloMosaic.ValueIdx

variable {F : FTy → Type} [FloatOps F]

/-- The operations of @main, in order. -/
abbrev ops : List (HloOp τ sig (Elt F)) :=
  [ unary main_arg0 main_v0 ((extf .f32 · bitsLt_bf16_f32)),
    binary main_v0 main_arg1 main_v1 ((fun l r => Host.dotGeneral dot_S8200x4096_S4096x3072_S8200x3072_1_0_0_1_n_n none l r)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub ..⟩

/-- What the reference returns: every row times the weights. -/
def value (x : Vec F S8200x4096 .bf16) (w : Vec F S4096x3072 .f32) : Vec F S8200x3072 .f32 :=
  Host.dotGeneral dot_S8200x4096_S4096x3072_S8200x3072_1_0_0_1_n_n none (extf .f32 x bitsLt_bf16_f32) w

variable (m : (ℓ : Loc nD τ sig) → Buf (Elt F) ℓ) (ρ : Dev nD → PrngReg)

theorem result_read (c : Dev nD) (V : Valuation τ sig (Elt F)) : after ops V main_v1 = value (V main_arg0) (V main_arg1) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v1) = value (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (result_read c _),
      (h c main_arg0).trans (by after_reads_simp), (h c main_arg1).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

/-- The result at a row and a column, at the ideal values. -/
theorem value_at (x : Vec Ideal S8200x4096 .bf16) (w : Vec Ideal S4096x3072 .f32) (r : Fin 8200) (k : Fin 3072) :
    value x w (ix2 r k) = (∑ j : Fin 4096, x (ix2 r j) * w (ix2 j k) : EReal) :=
  StackMember.dotGeneral_plain_apply none (extf .f32 x bitsLt_bf16_f32) w r k

end Cert.KvRefIdeal.Plain

end
-- ==== Proof.Kv.Value.lean ====
/-
  The key and value projection at the ideal values: the array the blocks written back leave is the reference's result,
  whatever lay in the part of a staging buffer that no transfer moved.
-/
module

public import proofs.«01_k».proof.Proof.Kv.Run
public import proofs.«01_k».proof.Proof.Kv.Reference
public import Idealize.ShloMosaic.Lib.Pipeline.ValueKit.Geometry

@[expose] public section

set_option maxRecDepth 16384

noncomputable section

namespace Cert.KvIdeal.Dense

open Cert.KvIdeal Cert.KvIdeal.Gen Cert.Dense
open Idealize.ShloMosaic Idealize.ShloMosaic.TcCoe Idealize.ShloMosaic.ValueIdx
open Idealize.ShloMosaic.Pipeline (Dat RDat Cfg Window)

variable (m : (ℓ : Loc nD τ sig) → Buf (Elt Ideal) ℓ) (c : Dev nD) (t : Fin cfg0.N)

/-! ## What the call finds -/

theorem weights_entry (j : Fin 4096) (k : Fin 3072) :
    V m c main_v1 (ix3 0 j k) = m ((c : Thread nD τ).loc main_arg1) (ix2 j k) := by
  have e : V m c main_v1 = broadcastInDim S1x4096x3072 ![1, 2] bcast_S4096x3072_S1x4096x3072_1_2 (m ((c : Thread nD τ).loc main_arg1)) := by
    show StableHlo.after hostOps0 (fun b => m (c, b)) main_v1 = _
    after_reads_simp
    rfl
  rw [e]
  exact broadcastInDim_apply _ _ _ _ _ (fun (a : Fin 2) => by fin_cases a <;> rfl)

theorem bias_entry (k : Fin 3072) : V m c main_v2 (ix2 0 k) = (0 : EReal) := by
  have e : V m c main_v2 = broadcastInDim S1x3072 ![] bcast_S_S1x3072 (constant (F := Ideal) S_ .f32 0x00000000#32) := by
    show StableHlo.after hostOps0 (fun b => m (c, b)) main_v2 = _
    after_reads_simp
  rw [e]
  exact Ideal.ofBits_zero_f32

/-! ## The blocks at an index -/

/-- The block of rows and the tile of columns of a point. -/
abbrev blockOf : ℕ := cc0_transform_0 (grid0.coords t) 0
abbrev tileOf : ℕ := cc0_transform_3 (grid0.coords t) 1
/-- Row `i` of the point's block is one the transfers move. -/
abbrev Moved (i : ℕ) : Prop := i < (Pipeline.Clip.of (blockOf t) 912 8200).extent 912
/-- The array's row and column of a block's. -/
def rowOf (i : ℕ) (hi : Moved t i) : Fin 8200 := ⟨blockOf t * 912 + i, moved_inside (hstart0_0 (grid0.coords t) 0) hi⟩
def colOf (l : Fin 512) : Fin 3072 := ⟨tileOf t * 512 + l.val, by
  have h : (tileOf t + 1) * 512 ≤ 3072 := hinb0_2 (grid0.coords t) 1
  omega⟩

theorem rows_at (d : Vec Ideal S912x4096 .bf16) (i : Fin 912) (hi : Moved t i.val) (k : Fin 4096) :
    staged m c t d (ix2 i k) = m ((c : Thread nD τ).loc main_arg0) (ix2 (rowOf t i.val hi) k) := by
  have h : (cfg0.win 0).moved (cfg0.grid.coords t) (ix2 i k : S912x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show blockOf t * 912 + 1 * i.val = blockOf t * 912 + i.val; omega
  · show 0 * 4096 + 1 * k.val = k.val; omega

theorem weights_at (k : Fin 4096) (l : Fin 512) :
    iblk m c 1 t (ix3 0 k l) = m ((c : Thread nD τ).loc main_arg1) (ix2 k (colOf t l)) := by
  refine (congrArg (V m c main_v1) (funext fun (a : Fin 3) => Fin.ext ?_)).trans (weights_entry m c k (colOf t l))
  fin_cases a
  · rfl
  · show 0 * 4096 + 1 * k.val = k.val; omega
  · show tileOf t * 512 + 1 * l.val = tileOf t * 512 + l.val; omega

theorem bias_at (l : Fin 512) : iblk m c 2 t (ix2 0 l) = (0 : EReal) := by
  refine (congrArg (V m c main_v2) (funext fun (a : Fin 2) => Fin.ext ?_)).trans (bias_entry m c (colOf t l))
  fin_cases a
  · rfl
  · show tileOf t * 512 + 1 * l.val = tileOf t * 512 + l.val; omega

/-! ## The result -/

/-- The reference's value of this launch's arguments. -/
abbrev wanted : Vec Ideal S8200x3072 .f32 :=
  KvRefIdeal.Plain.value (m ((c : Thread nD τ).loc main_arg0)) (m ((c : Thread nD τ).loc main_arg1))

theorem computed_at (d : Vec Ideal S912x4096 .bf16) (i : Fin 912) (hi : Moved t i.val) (l : Fin 512) :
    k0_pay1 (staged m c t d) (iblk m c 1 t) (iblk m c 2 t) (ix2 i l) = wanted m c (ix2 (rowOf t i.val hi) (colOf t l)) := by
  refine (tile_at (staged m c t d) (iblk m c 1 t) (iblk m c 2 t) _ _ _ i l).trans ?_
  refine Eq.trans ?_ (KvRefIdeal.Plain.value_at _ _ _ _).symm
  refine (congrArg₂ (fun a b : EReal => a + b) ?_ (bias_at m c t l)).trans (add_zero _)
  exact Finset.sum_congr rfl fun k _ => congrArg₂ (fun a b : EReal => a * b) (rows_at m c t d i hi k) (weights_at m c t k l)

theorem result_eq (dat : Dat τ (Elt Ideal) Unit ℕ (UR sig nD τ) ℕ cfg0 c)
    (h : ∀ t, ∃ d, dat.after 3 t = k0_pay1 (staged m c t d) (iblk m c 1 t) (iblk m c 2 t)) : dat.arrAt 3 cfg0.N = wanted m c := by
  refine dat.arrAt_eq_of_covers 3 (wanted m c) (by decide +kernel) fun t _ y => ?_
  obtain ⟨d, hd⟩ := h t
  have h0 : Moved t (y (0 : Fin 2)).val := (y (0 : Fin 2)).isLt
  have h1 : (y (1 : Fin 2)).val < 512 := moved_in_block (hstart0_3 (grid0.coords t) 1) (y (1 : Fin 2)).isLt
  have ey : (cfg0.win 3).xinj (grid0.coords t) y
      = (ix2 ⟨(y (0 : Fin 2)).val, moved_in_block (hstart0_0 (grid0.coords t) 0) h0⟩ ⟨(y (1 : Fin 2)).val, h1⟩ : S912x512.Idx) :=
    funext fun (a : Fin 2) => by fin_cases a <;> rfl
  have ep : ((cfg0.win 3).blk t).view.emb y = (ix2 (rowOf t _ h0) (colOf t ⟨_, h1⟩) : S8200x3072.Idx) := by
    refine funext fun (a : Fin 2) => Fin.ext ?_
    fin_cases a
    · show blockOf t * 912 + 1 * (y (0 : Fin 2)).val = blockOf t * 912 + (y (0 : Fin 2)).val; omega
    · show tileOf t * 512 + 1 * (y (1 : Fin 2)).val = tileOf t * 512 + (y (1 : Fin 2)).val; omega
  refine Eq.trans ?_ ((computed_at m c t d ⟨_, moved_in_block (hstart0_0 (grid0.coords t) 0) h0⟩ h0 ⟨_, h1⟩).trans (congrArg (wanted m c) ep.symm))
  exact (congrFun hd _).trans (congrArg (k0_pay1 (staged m c t d) (iblk m c 1 t) (iblk m c 2 t)) ey)

end Cert.KvIdeal.Dense

end
-- ==== Proof.Kv.Claims.lean ====
/-
  The claims about the key and value projection: the frames, and the two results equal at the ideal values.
-/
module

public import proofs.«01_k».proof.Defs
public import proofs.«01_k».proof.Proof.Gen.Kv
public import proofs.«01_k».proof.Proof.Kv.Value

@[expose] public section

set_option maxRecDepth 16384

noncomputable section

namespace Cert.KvIdeal.Dense

open Cert.KvIdeal Cert.KvIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem framed : Framed F := fun m g _ => quiescent m g

theorem frame_ideal : Cert.quiescent_KvIdeal := framed (F := Ideal)

theorem same_frame : Framed Bits = Cert.quiescent_Kv := by chain_rfl

theorem frame_machine : Cert.quiescent_Kv := Eq.mp same_frame (framed (F := Bits))

theorem frame_reference : Cert.quiescent_KvRefIdeal := fun m g _ => KvRefIdeal.Plain.quiescent m g

theorem equal_results : Cert.algebraic_KvIdeal_KvRefIdeal := by
  intro m g m' g' _ ha
  refine ⟨fun c => wanted m c, ?_, ?_⟩
  · refine (θ_run KvIdeal.defs _ _).mono (fun r h c => ⟨?_, arguments_kept m r h.1 c⟩) (run m g)
    obtain ⟨dat, hd, he⟩ := result_ends m h.1 c
    exact he.trans (result_eq m c dat hd)
  · refine (θ_run KvRefIdeal.defs _ _).mono (fun r h c => ⟨(h c).1.trans ?_, (h c).2⟩) (KvRefIdeal.Plain.run m' g')
    obtain ⟨a0, a1⟩ := ha c
    exact congr (congrArg KvRefIdeal.Plain.value a0) a1

end Cert.KvIdeal.Dense

end
-- ==== Proof.Final.Run.lean ====
/-
  The closing norm, run at any float values. The last block of rows overhangs its arrays, so the three staging buffers of rows
  hold their blocks over contents nothing names, and what the body leaves in the result's buffer is stated as a relation: the
  body's value of SOME contents with the blocks laid over them.
-/
module

public import proofs.«01_k».proof.Proof.Gen.FinalIdeal.Frame
public import proofs.«01_k».proof.Proof.Gen.FinalIdeal.Skeleton
public import Idealize.ShloMosaic.Lib.Pipeline.ArrRel
public import Idealize.ShloMosaic.Lib.VecWindow

@[expose] public section

set_option maxRecDepth 16384

noncomputable section

namespace Cert.FinalIdeal.Norm

open Cert.FinalIdeal Cert.FinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- A block of rows lies in the prompt or among the samples. -/
theorem samples_iff : ∀ i : grid0.Coords, k0_cond2 i = 1#1 ↔ ¬ k0_cond1 i = 1#1 := by decide +kernel

/-- The one row of a table that a block of the prompt reads. -/
abbrev seqRow (i : grid0.Coords) (h : k0_cond1 i = 1#1) (x : Vec F S132x4096 .f32) : Vec F S1x4096 .f32 :=
  VecWindow.window x (k0_off1 i) S1x4096.size (k0_off1_inb i h)

/-- The rows of a table that the block of samples reads. -/
abbrev sampleRows (x : Vec F S132x4096 .f32) : Vec F S128x4096 .f32 :=
  VecWindow.window x ![4, 0] S128x4096.size inb_S132x4096_S128x4096_4_0

/-- What the body leaves in the result's buffer, of the values in the other seven. -/
def normed (i : grid0.Coords) (h r s : Vec F S128x4096 .f32) (gt : Vec F S132x4096 .f32) (g : Vec F S1x4096 .f32)
    (sc sh : Vec F S132x4096 .f32) : FVec F S128x4096 .f32 :=
  if p : k0_cond1 i = 1#1 then k0_pay1 (k0_pay3 h r s (seqRow i p gt) g) (seqRow i p sc) (seqRow i p sh)
  else k0_pay2 h r s (sampleRows gt) g (sampleRows sc) (sampleRows sh)

/-- The body on any staging buffers: the seven inputs are left as found, the result's buffer holds the body's value of them. -/
theorem run_body (c : Dev nD) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S132x4096 .f32) (harg4 : arg4.IsWhole)
    (arg5 : Memref sig .tc .vmem S1x4096 .f32) (harg5 : arg5.IsWhole) (arg6 : Memref sig .tc .vmem S132x4096 .f32) (harg6 : arg6.IsWhole)
    (arg7 : Memref sig .tc .vmem S132x4096 .f32) (harg7 : arg7.IsWhole) (arg8 : Memref sig .tc .vmem S128x4096 .f32) (harg8 : arg8.IsWhole)
    (h r s : Vec F S128x4096 .f32) (gt : Vec F S132x4096 .f32) (g : Vec F S1x4096 .f32) (sc sh : Vec F S132x4096 .f32)
    (E : Set ℕ) (K : PUnit → sProp 𝕄) :
    iprop(owns (c : Thread nD τ) arg1 fullShare h ∗ owns (c : Thread nD τ) arg2 fullShare r ∗ owns (c : Thread nD τ) arg3 fullShare s
        ∗ owns (c : Thread nD τ) arg4 fullShare gt ∗ owns (c : Thread nD τ) arg5 fullShare g ∗ owns (c : Thread nD τ) arg6 fullShare sc
        ∗ owns (c : Thread nD τ) arg7 fullShare sh ∗ (∃ d, owns (c : Thread nD τ) arg8 fullShare d)
        ∗ (iprop(owns (c : Thread nD τ) arg1 fullShare h ∗ owns (c : Thread nD τ) arg2 fullShare r ∗ owns (c : Thread nD τ) arg3 fullShare s
            ∗ owns (c : Thread nD τ) arg4 fullShare gt ∗ owns (c : Thread nD τ) arg5 fullShare g ∗ owns (c : Thread nD τ) arg6 fullShare sc
            ∗ owns (c : Thread nD τ) arg7 fullShare sh ∗ owns (c : Thread nD τ) arg8 fullShare (normed i h r s gt g sc sh)) -∗ K ⟨⟩))
      ⊢ wp frame (wpE (defs₀ (F := F)) Variants.none c none) E
          (cc0_resnorm i arg1 harg1 arg2 harg2 arg3 harg3 arg4 harg4 arg5 harg5 arg6 harg6 arg7 harg7 arg8 harg8) K := by
  simp only [cc0_resnorm_eq_skeleton]; unfold cc0_resnorm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  by_cases p : k0_cond1 i = 1#1
  · have q : ¬ k0_cond2 i = 1#1 := fun q => (samples_iff i).mp q p
    simp only [dif_pos p, dif_neg q, k0_part1_eq_skeleton]; unfold k0_part1_skel
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr
    swap
    · iexact H8
    ipureintro
    sl_unfold_words
    rw [normed, dif_pos p]
    exact (View.read_writes_full (s := S128x4096) _ _ _ _ _).trans (congr (congr (congrArg k0_pay1 (congr (congr (congr (congr (congrArg k0_pay3 ((View.readAt_full (s := S128x4096) _ _ _).trans (harg1.read_unread h)))
      ((View.readAt_full (s := S128x4096) _ _ _).trans (harg2.read_unread r)))
      ((View.readAt_full (s := S128x4096) _ _ _).trans (harg3.read_unread s)))
      ((View.readAt_unit (s := S132x4096) _ _ _ rfl _).trans (congrArg (seqRow i p) (harg4.read_unread gt))))
      ((View.readAt_full (s := S1x4096) _ _ _).trans (harg5.read_unread g))))
      ((View.readAt_unit (s := S132x4096) _ _ _ rfl _).trans (congrArg (seqRow i p) (harg6.read_unread sc))))
      ((View.readAt_unit (s := S132x4096) _ _ _ rfl _).trans (congrArg (seqRow i p) (harg7.read_unread sh))))
  · have q : k0_cond2 i = 1#1 := (samples_iff i).mpr p
    simp only [dif_neg p, dif_pos q]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr
    swap
    · iexact H8
    ipureintro
    sl_unfold_words
    rw [normed, dif_neg p]
    exact (View.read_writes_full (s := S128x4096) _ _ _ _ _).trans (congr (congr (congr (congr (congr (congr (congrArg k0_pay2 ((View.readAt_full (s := S128x4096) _ _ _).trans (harg1.read_unread h)))
      ((View.readAt_full (s := S128x4096) _ _ _).trans (harg2.read_unread r)))
      ((View.readAt_full (s := S128x4096) _ _ _).trans (harg3.read_unread s)))
      ((View.readAt_unit (s := S132x4096) _ _ _ rfl _).trans (congrArg (sampleRows) (harg4.read_unread gt))))
      ((View.readAt_full (s := S1x4096) _ _ _).trans (harg5.read_unread g)))
      ((View.readAt_unit (s := S132x4096) _ _ _ rfl _).trans (congrArg (sampleRows) (harg6.read_unread sc))))
      ((View.readAt_unit (s := S132x4096) _ _ _ rfl _).trans (congrArg (sampleRows) (harg7.read_unread sh))))

/-! ## The proof data -/

variable (m : (ℓ : Loc nD τ sig) → Buf (Elt F) ℓ) (ρ : Dev nD → PrngReg)

/-- A window's block as its staging buffer holds it: laid over contents nothing names. -/
abbrev staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- What the result's buffer holds at a point, of what lay in the three buffers of rows before. -/
def leaves (c : Dev nD) (t : Fin cfg0.N) (d0 d1 d2 : Vec F S128x4096 .f32) : Vec F S128x4096 .f32 :=
  normed (grid0.coords t) (staged m c 0 t d0) (staged m c 1 t d1) (staged m c 2 t d2) (iblk m c 3 t) (iblk m c 4 t) (iblk m c 5 t) (iblk m c 6 t)

/-- Inputs are left as found; the result's buffer is left with the body's value of the staged blocks. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => X = Y
    | 4 => X = Y
    | 5 => X = Y
    | 6 => X = Y
    | 7 => ∃ d0 d1 d2, X = leaves m c t d0 d1 d2
  Φ _ := Pipeline.ΦA spec0 c
  q _ := fullShare
  owed _ := 0

theorem found0 (c : Dev nD) (t : Fin cfg0.N) (Y) (h : (rdat m c).Finds 0 t Y) : ∃ d, Y = staged m c 0 t d :=
  (rdat m c).finds_in_eq_fetched 0 rfl (fun t t' e => congrArg (fun (ix : Fin 2 → ℕ) a => Pipeline.Clip.of (ix a) (S128x4096.size a) (S8200x4096.size a)) e)
    (fun t Y X h => h) t Y h
theorem found1 (c : Dev nD) (t : Fin cfg0.N) (Y) (h : (rdat m c).Finds 1 t Y) : ∃ d, Y = staged m c 1 t d :=
  (rdat m c).finds_in_eq_fetched 1 rfl (fun t t' e => congrArg (fun (ix : Fin 2 → ℕ) a => Pipeline.Clip.of (ix a) (S128x4096.size a) (S8200x4096.size a)) e)
    (fun t Y X h => h) t Y h
theorem found2 (c : Dev nD) (t : Fin cfg0.N) (Y) (h : (rdat m c).Finds 2 t Y) : ∃ d, Y = staged m c 2 t d :=
  (rdat m c).finds_in_eq_fetched 2 rfl (fun t t' e => congrArg (fun (ix : Fin 2 → ℕ) a => Pipeline.Clip.of (ix a) (S128x4096.size a) (S8200x4096.size a)) e)
    (fun t Y X h => h) t Y h
theorem found3 (c : Dev nD) (t : Fin cfg0.N) (Y) (h : (rdat m c).Finds 3 t Y) : Y = iblk m c 3 t :=
  ((rdat m c).finds_in_eq_fetched 3 rfl (fun _ _ _ => rfl) (fun t Y X h => h) t Y h).elim fun _ h => h
theorem found4 (c : Dev nD) (t : Fin cfg0.N) (Y) (h : (rdat m c).Finds 4 t Y) : Y = iblk m c 4 t :=
  ((rdat m c).finds_in_eq_fetched 4 rfl (fun _ _ _ => rfl) (fun t Y X h => h) t Y h).elim fun _ h => h
theorem found5 (c : Dev nD) (t : Fin cfg0.N) (Y) (h : (rdat m c).Finds 5 t Y) : Y = iblk m c 5 t :=
  ((rdat m c).finds_in_eq_fetched 5 rfl (fun _ _ _ => rfl) (fun t Y X h => h) t Y h).elim fun _ h => h
theorem found6 (c : Dev nD) (t : Fin cfg0.N) (Y) (h : (rdat m c).Finds 6 t Y) : Y = iblk m c 6 t :=
  ((rdat m c).finds_in_eq_fetched 6 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d0, h0⟩ := found0 m c t _ (hY 0)
  obtain ⟨d1, h1⟩ := found1 m c t _ (hY 1)
  obtain ⟨d2, h2⟩ := found2 m c t _ (hY 2)
  have h3 := found3 m c t _ (hY 3)
  have h4 := found4 m c t _ (hY 4)
  have h5 := found5 m c t _ (hY 5)
  have h6 := found6 m c t _ (hY 6)
  rw [show (rdat m c).Φ t.succ = (rdat m c).Φ t.castSucc from rfl, show (rdat m c).owesAt () t.succ = (rdat m c).owesAt () t.castSucc from rfl]
  iintro ⟨HΦ, Hg, H0, H1, H2, H3, H4, H5, H6, H7⟩
  iapply (run_body c (grid0.coords t) (st0_0 t) _ (st0_1 t) _ (st0_2 t) _ (st0_3 t) _ (st0_4 t) _ (st0_5 t) _ (st0_6 t) _ (st0_7 t) _
    (Y 0) (Y 1) (Y 2) (Y 3) (Y 4) (Y 5) (Y 6))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro; rfl
  isplitl [H6]
  · iexists _; isplitr
    swap
    · iexact H6
    ipureintro; rfl
  iexists _; isplitr
  swap
  · iexact H7
  ipureintro
  exact ⟨d0, d1, d2, congr (congr (congr (congr (congr (congr (congrArg (normed (grid0.coords t)) h0) h1) h2) h3) h4) h5) h6⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem arguments_kept (r : PUnit × MemSt nD τ sig (Elt F)) (h : RDat.FramePost cfg0 (rdat m) (V m) r) (c : Dev nD) : Kept m r c :=
  ⟨(RDat.FramePost.arr_in h c 0 rfl).trans (V_main_arg0 m c), (RDat.FramePost.arr_in h c 1 rfl).trans (V_main_arg1 m c),
    (RDat.FramePost.arr_in h c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: every execution terminates with the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d0 d1 d2, dat.after 7 t = leaves m c t d0 d1 d2)
      ∧ r.2.mem ((c.tc : Thread nD τ).loc main_v5) = dat.arrAt 7 cfg0.N := by
  obtain ⟨after, hl, he⟩ := RDat.FramePost.exists_exact h c
  refine ⟨(rdat m c).withAfter after, fun t => ?_, he 7⟩
  obtain ⟨Y, -, d0, d1, d2, hd⟩ := hl 7 t (flush0_7 t)
  exact ⟨d0, d1, d2, hd⟩

end Cert.FinalIdeal.Norm

end
-- ==== Proof.Final.Reference.lean ====
/-
  The closing norm on the host: the reference run, and its result read at a row and a column.
-/
module

public import proofs.«01_k».proof.Proof.Gen.FinalRefIdeal
public import Idealize.ShloMosaic.Lib.Pointwise
public import Idealize.ShloMosaic.Lib.ValueLayout
public import Idealize.ShloMosaic.Lib.Pipeline.Value
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.FinalRefIdeal.Plain

open Cert.FinalRefIdeal Cert.FinalRefIdeal.Gen Idealize.ShloMosaic.StableHlo

variable {F : FTy → Type} [FloatOps F]

/-- The operations of @main, in order. -/
abbrev ops : List (HloOp τ sig (Elt F)) :=
  [ unary main_arg3 main_v0 ((extractStridedSlice S4x4096 ![0, 0] · slices_S12x4096_S4x4096_0_0)),
    unary main_v0 main_v1 (broadcastInDim S4x2048x4096 ![0, 2] bcast_S4x4096_S4x2048x4096_0_2),
    reshape main_v1 main_v2 (rfl : (.f32 : EltTy) = .f32) shapeCasts_S4x2048x4096_S8192x4096,
    unary main_arg3 main_v3 ((extractStridedSlice S8x4096 ![4, 0] · slices_S12x4096_S8x4096_4_0)),
    binary main_v2 main_v3 main_v4 ((fun a b => concatenate S8200x4096 0 [⟨S8192x4096, a⟩, ⟨S8x4096, b⟩] concatenates_S8192x4096_S8x4096_S8200x4096_d0)),
    binary main_arg1 main_arg2 main_v5 (addf),
    binary main_v4 main_v5 main_v6 (mulf),
    binary main_arg0 main_v6 main_v7 (addf),
    binary main_v7 main_v7 main_v8 (mulf),
    nullary main_cst (constant S_ .f32 0x00000000#32),
    binary main_v8 main_cst main_v9 ((fun x v => Host.reduceAdd x v reducesTo_S8200x4096_S8200_d1 h_S_)),
    unary main_v9 main_v10 (broadcastInDim S8200x1 ![0] bcast_S8200_S8200x1_0),
    nullary main_cst_0 (constant S_ .f32 0x45800000#32),
    unary main_cst_0 main_v11 (broadcastInDim S8200x1 ![] bcast_S_S8200x1),
    binary main_v10 main_v11 main_v12 (Host.divf),
    nullary main_cst_1 (constant S_ .f32 0x358637BD#32),
    unary main_cst_1 main_v13 (broadcastInDim S8200x1 ![] bcast_S_S8200x1),
    binary main_v12 main_v13 main_v14 (addf),
    unary main_v14 main_v15 (Host.rsqrt),
    unary main_v15 main_v16 (broadcastInDim S8200x4096 ![0, 1] bcast_S8200x1_S8200x4096_0_1),
    binary main_v7 main_v16 main_v17 (mulf),
    unary main_arg4 main_v18 (broadcastInDim S1x4096 ![1] bcast_S4096_S1x4096_1),
    unary main_v18 main_v19 (broadcastInDim S8200x4096 ![0, 1] bcast_S1x4096_S8200x4096_0_1),
    binary main_v17 main_v19 main_v20 (mulf) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., unary_bufs_sub .., binary_bufs_sub .., binary_bufs_sub .., binary_bufs_sub ..,
    binary_bufs_sub .., binary_bufs_sub .., nullary_bufs_sub .., binary_bufs_sub .., unary_bufs_sub .., nullary_bufs_sub .., unary_bufs_sub ..,
    binary_bufs_sub .., nullary_bufs_sub .., unary_bufs_sub .., binary_bufs_sub .., unary_bufs_sub .., unary_bufs_sub .., binary_bufs_sub ..,
    unary_bufs_sub .., unary_bufs_sub .., binary_bufs_sub ..⟩

/-- The gate of every row: a sequence's for each row of the prompt, then the samples' own. -/
def gates (gt : Vec F S12x4096 .f32) : FVec F S8200x4096 .f32 :=
  concatenate S8200x4096 0 [⟨S8192x4096, shapeCast S8192x4096 (broadcastInDim S4x2048x4096 ![0, 2] bcast_S4x4096_S4x2048x4096_0_2
      (extractStridedSlice S4x4096 ![0, 0] gt slices_S12x4096_S4x4096_0_0)) shapeCasts_S4x2048x4096_S8192x4096⟩,
    ⟨S8x4096, extractStridedSlice S8x4096 ![4, 0] gt slices_S12x4096_S8x4096_4_0⟩] concatenates_S8192x4096_S8x4096_S8200x4096_d0

/-- Every row with the gated update added. -/
def updated (h r s : Vec F S8200x4096 .f32) (gt : Vec F S12x4096 .f32) : FVec F S8200x4096 .f32 := addf h (mulf (gates gt) (addf r s))

/-- Every row over the root of its mean square, times the gains. -/
def normed (x : FVec F S8200x4096 .f32) (g : Vec F S4096 .f32) : FVec F S8200x4096 .f32 :=
  mulf (mulf x (broadcastInDim S8200x4096 ![0, 1] bcast_S8200x1_S8200x4096_0_1 (Host.rsqrt (addf
      (Host.divf (broadcastInDim S8200x1 ![0] bcast_S8200_S8200x1_0
          (Host.reduceAdd (mulf x x) (constant S_ .f32 0x00000000#32) reducesTo_S8200x4096_S8200_d1 h_S_))
        (broadcastInDim S8200x1 ![] bcast_S_S8200x1 (constant S_ .f32 0x45800000#32)))
      (broadcastInDim S8200x1 ![] bcast_S_S8200x1 (constant S_ .f32 0x358637BD#32))))))
    (broadcastInDim S8200x4096 ![0, 1] bcast_S1x4096_S8200x4096_0_1 (broadcastInDim S1x4096 ![1] bcast_S4096_S1x4096_1 g))

/-- What the reference returns. -/
def value (h r s : Vec F S8200x4096 .f32) (gt : Vec F S12x4096 .f32) (g : Vec F S4096 .f32) : Vec F S8200x4096 .f32 := normed (updated h r s gt) g

variable (m : (ℓ : Loc nD τ sig) → Buf (Elt F) ℓ) (ρ : Dev nD → PrngReg)

theorem result_read (c : Dev nD) (V : Valuation τ sig (Elt F)) :
    after ops V main_v20 = value (V main_arg0) (V main_arg1) (V main_arg2) (V main_arg3) (V main_arg4) := by
  after_reads_simp
  rfl

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- The run: the result, and the arguments as launched. -/
theorem run : θ_run defs (onTc (τ := τ) (main (F := F))) ⟨m, fun _ => 0, ρ⟩ fun r => ∀ c : Dev nD,
      r.2.mem ((c : Thread nD τ).loc main_v20) = value (m ((c : Thread nD τ).loc main_arg0)) (m ((c : Thread nD τ).loc main_arg1))
            (m ((c : Thread nD τ).loc main_arg2)) (m ((c : Thread nD τ).loc main_arg3)) (m ((c : Thread nD τ).loc main_arg4))
      ∧ Kept m r c :=
  (θ_run defs _ _).mono (fun _ h c => ⟨(h c main_v20).trans (result_read c _),
      (h c main_arg0).trans (by after_reads_simp), (h c main_arg1).trans (by after_reads_simp),
      (h c main_arg2).trans (by after_reads_simp), (h c main_arg3).trans (by after_reads_simp),
      (h c main_arg4).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨fun c => (h c).2, sem_eq_zero_of_no_sems (by decide) r.2⟩) (run m ρ)

/-! ## The result at an index, at the ideal values -/

/-- An entry of a row over the root of the row's mean square, times its gain. -/
def entry (x : Fin 4096 → EReal) (k : Fin 4096) (g : EReal) : EReal :=
  x k * Ideal.rsqrt (Ideal.div (∑ j, x j * x j) (Ideal.ofBits .f32 0x45800000#32) + Ideal.ofBits .f32 0x358637BD#32) * g

/-- The table's row of a row of the residual stream: its sequence's in the prompt, its own among the samples. -/
def tableRow (i : Fin 8200) : Fin 12 := if h : i.val < 8192 then ⟨i.val / 2048, by omega⟩ else ⟨i.val - 8192 + 4, by omega⟩

theorem gates_at (gt : Vec Ideal S12x4096 .f32) (i : Fin 8200) (k : Fin 4096) : gates gt (ix2 i k) = gt (ix2 (tableRow i) k) := by
  unfold gates tableRow
  split
  case isTrue h =>
    refine (concatenate_pair_apply_left (t := S8200x4096) 0 _ _ concatenates_S8192x4096_S8x4096_S8200x4096_d0 (ix2 i k) rfl
      (ix2 ⟨i.val, h⟩ k : S8192x4096.Idx) fun (a : Fin 2) => ?_).trans ?_
    · fin_cases a <;> rfl
    · pointwise
  case isFalse h =>
    refine (concatenate_pair_apply_right (t := S8200x4096) 0 _ _ concatenates_S8192x4096_S8x4096_S8200x4096_d0 (ix2 i k) rfl rfl
      (ix2 ⟨i.val - 8192, by omega⟩ k : S8x4096.Idx) (fun (a : Fin 2) ha => ?_) ?_).trans ?_
    · fin_cases a
      · exact absurd rfl ha
      · rfl
    · show i.val - 8192 + 8192 = i.val; omega
    · refine extractStridedSlice_apply _ _ _ _ _ fun (a : Fin 2) => ?_
      fin_cases a
      · show i.val - 8192 + 4 = 4 + (i.val - 8192); omega
      · show k.val = 0 + k.val; omega

theorem normed_at (x : FVec Ideal S8200x4096 .f32) (g : Vec Ideal S4096 .f32) (i : Fin 8200) (k : Fin 4096) :
    normed x g (ix2 i k) = entry (fun j => x (ix2 i j)) k (g (ix1 k)) := by
  pointwise [normed, entry]

/-- A row with its gated update added. -/
abbrev row (h r s : Vec Ideal S8200x4096 .f32) (gt : Vec Ideal S12x4096 .f32) (i : Fin 8200) (j : Fin 4096) : EReal :=
  h (ix2 i j) + gt (ix2 (tableRow i) j) * (r (ix2 i j) + s (ix2 i j))

theorem value_at (h r s : Vec Ideal S8200x4096 .f32) (gt : Vec Ideal S12x4096 .f32) (g : Vec Ideal S4096 .f32) (i : Fin 8200) (k : Fin 4096) :
    value h r s gt g (ix2 i k) = entry (row h r s gt i) k (g (ix1 k)) :=
  (normed_at _ g i k).trans (congrArg (fun x => entry x k (g (ix1 k)))
    (funext fun j => congrArg (fun e : EReal => h (ix2 i j) + e * (r (ix2 i j) + s (ix2 i j))) (gates_at gt i j)))

end Cert.FinalRefIdeal.Plain

end
-- ==== Proof.Final.Value.lean ====
/-
  The closing norm at the ideal values: the array the blocks written back leave is the reference's result, whatever lay in the
  part of a staging buffer that no transfer moved. The tables of scales and shifts hold zeros, so the scaling is by one.
-/
module

public import proofs.«01_k».proof.Proof.Dense
public import proofs.«01_k».proof.Proof.Final.Run
public import proofs.«01_k».proof.Proof.Final.Reference
public import Idealize.ShloMosaic.Lib.KernelVsHost
public import Idealize.ShloMosaic.Lib.Pipeline.ValueKit.Geometry

@[expose] public section

set_option maxRecDepth 16384

noncomputable section

namespace Cert.FinalIdeal.Norm

open Cert.FinalIdeal Cert.FinalIdeal.Gen Cert.Dense
open Cert.FinalRefIdeal.Plain (entry tableRow row)
open Idealize.ShloMosaic Idealize.ShloMosaic.TcCoe
open Idealize.ShloMosaic.Pipeline (Dat RDat Cfg Window)

/-! ## The body's values at an index -/

theorem seq_at (h r s : Vec Ideal S128x4096 .f32) (gt g sc sh : Vec Ideal S1x4096 .f32) (i : Fin 128) (k : Fin 4096) :
    k0_pay1 (k0_pay3 h r s gt g) sc sh (ix2 i k)
      = entry (fun j => h (ix2 i j) + gt (ix2 0 j) * (r (ix2 i j) + s (ix2 i j))) k (g (ix2 0 k)) * (1 + sc (ix2 0 k)) + sh (ix2 0 k) := by
  pointwise [k0_pay1, k0_pay3, entry]

theorem sample_at (h r s gt sc sh : Vec Ideal S128x4096 .f32) (g : Vec Ideal S1x4096 .f32) (i : Fin 128) (k : Fin 4096) :
    k0_pay2 h r s gt g sc sh (ix2 i k)
      = entry (fun j => h (ix2 i j) + gt (ix2 i j) * (r (ix2 i j) + s (ix2 i j))) k (g (ix2 0 k)) * (1 + sc (ix2 i k)) + sh (ix2 i k) := by
  pointwise [k0_pay2, entry]

/-- A block of the prompt reads the table at its sequence's row. -/
theorem seq_offset : ∀ i : grid0.Coords, k0_cond1 i = 1#1 → k0_off1 i 0 = (i 0).val / 16 ∧ k0_off1 i 1 = 0 ∧ (i 0).val < 64 := by
  decide +kernel
theorem sample_block : ∀ i : grid0.Coords, ¬ k0_cond1 i = 1#1 → (i 0).val = 64 := by decide +kernel
/-- The arrays of rows are cut in blocks in order. -/
theorem block_offset : ∀ i : grid0.Coords, cc0_transform_0 i 0 = (i 0).val := by decide +kernel

variable (m : (ℓ : Loc nD τ sig) → Buf (Elt Ideal) ℓ) (c : Dev nD) (t : Fin cfg0.N)

/-! ## What the call finds -/

/-- The call finds a table padded below with zeros: its twelve rows are the unpadded table's. -/
theorem padded_at (x : Vec Ideal S12x4096 .f32) (z : Vec Ideal S_ .f32) (i : Fin 12) (k : Fin 4096) :
    pad S132x4096 ![0, 0] ![120, 0] ![0, 0] x z pads_S12x4096_S132x4096_01200_000 h_S_ (ix2 ⟨i.val, by omega⟩ k) = x (ix2 i k) :=
  pad_apply_of_inside _ _ _ _ _ _ _ _ _ fun (a : Fin 2) => by
    fin_cases a
    · show i.val = 0 + i.val * (0 + 1); omega
    · show k.val = 0 + k.val * (0 + 1); omega

theorem gates_entry (i : Fin 12) (k : Fin 4096) :
    V m c main_v1 (ix2 ⟨i.val, by omega⟩ k : S132x4096.Idx) = m ((c : Thread nD τ).loc main_arg3) (ix2 i k) := by
  refine Eq.trans ?_ (padded_at (m ((c : Thread nD τ).loc main_arg3)) (sitofp (F := Ideal) .f32 (constantI S_ 32 0#32)) i k)
  refine congrFun ?_ _
  show StableHlo.after (List.flatten _) _ _ = _
  simp only [List.flatten_cons, List.flatten_nil, List.append_nil, List.cons_append, List.nil_append]
  after_reads_simp
  rfl

theorem scales_entry (i : Fin 12) (k : Fin 4096) : V m c main_v2 (ix2 ⟨i.val, by omega⟩ k : S132x4096.Idx) = (0 : EReal) := by
  refine Eq.trans (congrFun (?_ : _ = pad S132x4096 ![0, 0] ![120, 0] ![0, 0] (broadcastInDim S12x4096 ![] bcast_S_S12x4096 (constant (F := Ideal) S_ .f32 0x00000000#32)) (sitofp (F := Ideal) .f32 (constantI S_ 32 0#32)) pads_S12x4096_S132x4096_01200_000 h_S_) _) ((padded_at _ _ i k).trans Ideal.ofBits_zero_f32)
  show StableHlo.after (List.flatten _) _ _ = _
  simp only [List.flatten_cons, List.flatten_nil, List.append_nil, List.cons_append, List.nil_append]
  after_reads_simp
  rfl

theorem shifts_entry (i : Fin 12) (k : Fin 4096) : V m c main_v3 (ix2 ⟨i.val, by omega⟩ k : S132x4096.Idx) = (0 : EReal) := by
  refine Eq.trans (congrFun (?_ : _ = pad S132x4096 ![0, 0] ![120, 0] ![0, 0] (broadcastInDim S12x4096 ![] bcast_S_S12x4096 (constant (F := Ideal) S_ .f32 0x00000000#32)) (sitofp (F := Ideal) .f32 (constantI S_ 32 0#32)) pads_S12x4096_S132x4096_01200_000 h_S_) _) ((padded_at _ _ i k).trans Ideal.ofBits_zero_f32)
  show StableHlo.after (List.flatten _) _ _ = _
  simp only [List.flatten_cons, List.flatten_nil, List.append_nil, List.cons_append, List.nil_append]
  after_reads_simp
  rfl

theorem gains_entry (k : Fin 4096) : V m c main_v4 (ix2 0 k : S1x4096.Idx) = m ((c : Thread nD τ).loc main_arg4) (ix1 k) := by
  refine (congrFun (?_ : _ = shapeCast S1x4096 (m ((c : Thread nD τ).loc main_arg4)) shapeCasts_S4096_S1x4096) _).trans ?_
  · show StableHlo.after (List.flatten _) _ _ = _
    simp only [List.flatten_cons, List.flatten_nil, List.append_nil, List.cons_append, List.nil_append]
    after_reads_simp
    rfl
  · exact ValueIdx.shapeCast_a_1a_apply _ _ 0 k

/-! ## The blocks at an index -/

/-- The rows of a point's block that the transfers move, and the array's row of a block's. -/
abbrev Moved (i : ℕ) : Prop := i < (Pipeline.Clip.of (cc0_transform_0 (grid0.coords t) 0) 128 8200).extent 128
def rowOf (i : ℕ) (hi : Moved t i) : Fin 8200 := ⟨cc0_transform_0 (grid0.coords t) 0 * 128 + i, moved_inside (hstart0_0 (grid0.coords t) 0) hi⟩
theorem rowOf_val (i : ℕ) (hi : Moved t i) : (rowOf t i hi).val = (grid0.coords t 0).val * 128 + i := by
  show cc0_transform_0 (grid0.coords t) 0 * 128 + i = _
  rw [block_offset]

theorem stream_at (d : Vec Ideal S128x4096 .f32) (i : Fin 128) (hi : Moved t i.val) (k : Fin 4096) :
    staged m c 0 t d (ix2 i k : S128x4096.Idx) = m ((c : Thread nD τ).loc main_arg0) (ix2 (rowOf t i.val hi) k) := by
  have h : (cfg0.win 0).moved (cfg0.grid.coords t) (ix2 i k : S128x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show cc0_transform_0 (grid0.coords t) 0 * 128 + 1 * i.val = cc0_transform_0 (grid0.coords t) 0 * 128 + i.val; omega
  · show 0 * 4096 + 1 * k.val = k.val; omega

theorem routed_at (d : Vec Ideal S128x4096 .f32) (i : Fin 128) (hi : Moved t i.val) (k : Fin 4096) :
    staged m c 1 t d (ix2 i k : S128x4096.Idx) = m ((c : Thread nD τ).loc main_arg1) (ix2 (rowOf t i.val hi) k) := by
  have h : (cfg0.win 1).moved (cfg0.grid.coords t) (ix2 i k : S128x4096.Idx) = true :=
    ((cfg0.win 1).moved_iff _ _).mpr fun (a : Fin 2) => by
      fin_cases a
      · exact hi
      · exact k.isLt
  unfold staged Window.fill
  rw [dif_pos h]
  refine (congrArg (V m c main_arg1) (funext fun (a : Fin 2) => Fin.ext ?_)).trans (congrFun (V_main_arg1 m c) _)
  fin_cases a
  · show cc0_transform_0 (grid0.coords t) 0 * 128 + 1 * i.val = cc0_transform_0 (grid0.coords t) 0 * 128 + i.val; omega
  · show 0 * 4096 + 1 * k.val = k.val; omega

theorem shared_at (d : Vec Ideal S128x4096 .f32) (i : Fin 128) (hi : Moved t i.val) (k : Fin 4096) :
    staged m c 2 t d (ix2 i k : S128x4096.Idx) = m ((c : Thread nD τ).loc main_arg2) (ix2 (rowOf t i.val hi) k) := by
  have h : (cfg0.win 2).moved (cfg0.grid.coords t) (ix2 i k : S128x4096.Idx) = true :=
    ((cfg0.win 2).moved_iff _ _).mpr fun (a : Fin 2) => by
      fin_cases a
      · exact hi
      · exact k.isLt
  unfold staged Window.fill
  rw [dif_pos h]
  refine (congrArg (V m c main_arg2) (funext fun (a : Fin 2) => Fin.ext ?_)).trans (congrFun (V_main_arg2 m c) _)
  fin_cases a
  · show cc0_transform_0 (grid0.coords t) 0 * 128 + 1 * i.val = cc0_transform_0 (grid0.coords t) 0 * 128 + i.val; omega
  · show 0 * 4096 + 1 * k.val = k.val; omega

/-- A window on a whole table holds the table. -/
theorem whole_table (x : Vec Ideal S132x4096 .f32) (y z : S132x4096.Idx) (h0 : (y 0).val = 0 * 132 + 1 * (z 0).val) (h1 : (y 1).val = 0 * 4096 + 1 * (z 1).val) : x y = x z :=
  congrArg x (funext fun (a : Fin 2) => Fin.ext (by fin_cases a <;> simp_all))

theorem gates_block : iblk m c 3 t = V m c main_v1 := funext fun z => whole_table (V m c main_v1) _ z rfl rfl
theorem scales_block : iblk m c 5 t = V m c main_v2 := funext fun z => whole_table (V m c main_v2) _ z rfl rfl
theorem shifts_block : iblk m c 6 t = V m c main_v3 := funext fun z => whole_table (V m c main_v3) _ z rfl rfl

theorem gains_at (k : Fin 4096) : iblk m c 4 t (ix2 0 k : S1x4096.Idx) = m ((c : Thread nD τ).loc main_arg4) (ix1 k) := by
  refine (congrArg (V m c main_v4) (funext fun (a : Fin 2) => Fin.ext ?_)).trans (gains_entry m c k)
  fin_cases a
  · rfl
  · show 0 * 4096 + 1 * k.val = k.val; omega

/-- A row of a table that a block of the prompt or of the samples reads. -/
theorem seqRow_at (p : k0_cond1 (grid0.coords t) = 1#1) (x : Vec Ideal S132x4096 .f32) (i : ℕ) (hi : Moved t i) (k : Fin 4096) :
    seqRow (grid0.coords t) p x (ix2 0 k : S1x4096.Idx) = x (ix2 ⟨(tableRow (rowOf t i hi)).val, by omega⟩ k) := by
  obtain ⟨e0, e1, lt⟩ := seq_offset _ p
  have hv := rowOf_val t i hi
  have h128 : i < 128 := moved_in_block (hstart0_0 (grid0.coords t) 0) hi
  refine congrArg x (funext fun (a : Fin 2) => Fin.ext ?_)
  fin_cases a
  · show k0_off1 (grid0.coords t) 0 + 1 * 0 = (tableRow (rowOf t i hi)).val
    unfold tableRow
    rw [dif_pos (by omega)]
    show _ = (rowOf t i hi).val / 2048
    omega
  · show k0_off1 (grid0.coords t) 1 + 1 * k.val = k.val
    omega

theorem sampleRows_at (p : ¬ k0_cond1 (grid0.coords t) = 1#1) (x : Vec Ideal S132x4096 .f32) (i : Fin 128) (hi : Moved t i.val) (k : Fin 4096) :
    sampleRows x (ix2 i k : S128x4096.Idx) = x (ix2 ⟨(tableRow (rowOf t i.val hi)).val, by omega⟩ k) := by
  have e := sample_block _ p
  have hv := rowOf_val t i.val hi
  refine congrArg x (funext fun (a : Fin 2) => Fin.ext ?_)
  fin_cases a
  · show 4 + 1 * i.val = (tableRow (rowOf t i.val hi)).val
    unfold tableRow
    rw [dif_neg (by omega)]
    show _ = (rowOf t i.val hi).val - 8192 + 4
    omega
  · show 0 + 1 * k.val = k.val
    omega

/-! ## The result -/

/-- The reference's value of this launch's arguments. -/
abbrev wanted : Vec Ideal S8200x4096 .f32 :=
  FinalRefIdeal.Plain.value (m ((c : Thread nD τ).loc main_arg0)) (m ((c : Thread nD τ).loc main_arg1)) (m ((c : Thread nD τ).loc main_arg2))
    (m ((c : Thread nD τ).loc main_arg3)) (m ((c : Thread nD τ).loc main_arg4))

/-- A scaling by one and a shift by zero change nothing. -/
theorem unscaled (x : EReal) {a b : EReal} (ha : a = 0) (hb : b = 0) : x * (1 + a) + b = x := by
  rw [ha, hb, add_zero, add_zero]; exact mul_one x

/-- The row the body norms is the reference's, whichever row of the table the gate is read from. -/
theorem row_eq (h r s : Vec Ideal S128x4096 .f32) (g : Vec Ideal S1x4096 .f32) (i : Fin 128) (n : Fin 8200) (k : Fin 4096) (e : Fin 4096 → EReal)
    (hh : ∀ j, h (ix2 i j) = m ((c : Thread nD τ).loc main_arg0) (ix2 n j)) (hr : ∀ j, r (ix2 i j) = m ((c : Thread nD τ).loc main_arg1) (ix2 n j))
    (hs : ∀ j, s (ix2 i j) = m ((c : Thread nD τ).loc main_arg2) (ix2 n j)) (hg : g (ix2 0 k) = m ((c : Thread nD τ).loc main_arg4) (ix1 k))
    (he : ∀ j, e j = V m c main_v1 (ix2 ⟨(tableRow n).val, by omega⟩ j : S132x4096.Idx)) :
    entry (fun j => h (ix2 i j) + e j * (r (ix2 i j) + s (ix2 i j))) k (g (ix2 0 k)) = wanted m c (ix2 n k) := by
  refine Eq.trans ?_ (FinalRefIdeal.Plain.value_at _ _ _ _ _ _ _).symm
  refine congrArg₂ (fun x g => entry x k g) (funext fun j => ?_) hg
  refine congrArg₂ (fun a b : EReal => a + b) (hh j) ?_
  refine congrArg₂ (fun a b : EReal => a * b) ((he j).trans (gates_entry m c _ j)) ?_
  exact congrArg₂ (fun a b : EReal => a + b) (hr j) (hs j)

theorem computed_at (d0 d1 d2 : Vec Ideal S128x4096 .f32) (i : Fin 128) (hi : Moved t i.val) (k : Fin 4096) :
    leaves m c t d0 d1 d2 (ix2 i k) = wanted m c (ix2 (rowOf t i.val hi) k) := by
  unfold leaves normed
  rw [gates_block, scales_block, shifts_block]
  by_cases p : k0_cond1 (grid0.coords t) = 1#1
  · rw [dif_pos p]
    refine (seq_at _ _ _ _ _ _ _ i k).trans ?_
    refine (unscaled _ ((seqRow_at t p _ i.val hi k).trans (scales_entry m c _ k)) ((seqRow_at t p _ i.val hi k).trans (shifts_entry m c _ k))).trans ?_
    exact row_eq m c _ _ _ _ i _ k _ (stream_at m c t d0 i hi) (routed_at m c t d1 i hi) (shared_at m c t d2 i hi) (gains_at m c t k) fun j => seqRow_at t p _ i.val hi j
  · rw [dif_neg p]
    refine (sample_at _ _ _ _ _ _ _ i k).trans ?_
    refine (unscaled _ ((sampleRows_at t p _ i hi k).trans (scales_entry m c _ k)) ((sampleRows_at t p _ i hi k).trans (shifts_entry m c _ k))).trans ?_
    exact row_eq m c _ _ _ _ i _ k _ (stream_at m c t d0 i hi) (routed_at m c t d1 i hi) (shared_at m c t d2 i hi) (gains_at m c t k) fun j => sampleRows_at t p _ i hi j

theorem result_eq (dat : Dat τ (Elt Ideal) Unit ℕ (UR sig nD τ) ℕ cfg0 c)
    (h : ∀ t, ∃ d0 d1 d2, dat.after 7 t = leaves m c t d0 d1 d2) : dat.arrAt 7 cfg0.N = wanted m c := by
  refine dat.arrAt_eq_of_covers 7 (wanted m c) (by decide +kernel) fun t _ y => ?_
  obtain ⟨d0, d1, d2, hd⟩ := h t
  have h0 : Moved t (y (0 : Fin 2)).val := (y (0 : Fin 2)).isLt
  have h1 : (y (1 : Fin 2)).val < 4096 := moved_in_block (hstart0_7 (grid0.coords t) 1) (y (1 : Fin 2)).isLt
  have ey : (cfg0.win 7).xinj (grid0.coords t) y
      = (ix2 ⟨(y (0 : Fin 2)).val, moved_in_block (hstart0_0 (grid0.coords t) 0) h0⟩ ⟨(y (1 : Fin 2)).val, h1⟩ : S128x4096.Idx) :=
    funext fun (a : Fin 2) => by fin_cases a <;> rfl
  have ep : ((cfg0.win 7).blk t).view.emb y = (ix2 (rowOf t _ h0) ⟨_, h1⟩ : S8200x4096.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 4096 + 1 * (y (1 : Fin 2)).val = (y (1 : Fin 2)).val; omega
  refine Eq.trans ?_ ((computed_at m c t d0 d1 d2 ⟨_, moved_in_block (hstart0_0 (grid0.coords t) 0) h0⟩ h0 ⟨_, h1⟩).trans (congrArg (wanted m c) ep.symm))
  exact (congrFun hd _).trans (congrArg (leaves m c t d0 d1 d2) ey)

end Cert.FinalIdeal.Norm

end
-- ==== Proof.Final.Claims.lean ====
/-
  The claims about the closing norm: the frames, and the two results equal at the ideal values.
-/
module

public import proofs.«01_k».proof.Defs
public import proofs.«01_k».proof.Proof.Gen.Final
public import proofs.«01_k».proof.Proof.Final.Value

@[expose] public section

set_option maxRecDepth 16384

noncomputable section

namespace Cert.FinalIdeal.Norm

open Cert.FinalIdeal Cert.FinalIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem framed : Framed F := fun m g _ => quiescent m g

theorem frame_ideal : Cert.quiescent_FinalIdeal := framed (F := Ideal)

theorem same_frame : Framed Bits = Cert.quiescent_Final := by chain_rfl

theorem frame_machine : Cert.quiescent_Final := Eq.mp same_frame (framed (F := Bits))

theorem frame_reference : Cert.quiescent_FinalRefIdeal := fun m g _ => FinalRefIdeal.Plain.quiescent m g

theorem equal_results : Cert.algebraic_FinalIdeal_FinalRefIdeal := by
  intro m g m' g' _ ha
  refine ⟨fun c => wanted m c, ?_, ?_⟩
  · refine (θ_run FinalIdeal.defs _ _).mono (fun r h c => ⟨?_, arguments_kept m r h.1 c⟩) (run m g)
    obtain ⟨dat, hd, he⟩ := result_ends m h.1 c
    exact he.trans (result_eq m c dat hd)
  · refine (θ_run FinalRefIdeal.defs _ _).mono (fun r h c => ⟨(h c).1.trans ?_, (h c).2⟩) (FinalRefIdeal.Plain.run m' g')
    obtain ⟨a0, a1, a2, a3, a4⟩ := ha c
    exact congr (congr (congr (congr (congrArg FinalRefIdeal.Plain.value a0) a1) a2) a3) a4

end Cert.FinalIdeal.Norm

end
-- ==== Proof.Sgu.Run.lean ====
/-
  The spatial gating, run at any float values. The last block of rows overhangs its arrays, so the staging buffers of rows hold
  their blocks over contents nothing names, and what the body leaves in the results' buffers is stated as a relation: the body's
  values of SOME contents with the blocks laid over them. The two halves of a row are two windows on one array.
-/
module

public import proofs.«01_k».proof.Proof.Gen.SguIdeal.Frame
public import proofs.«01_k».proof.Proof.Gen.SguIdeal.Skeleton
public import Idealize.ShloMosaic.Lib.Pipeline.ArrRel
public import Idealize.ShloMosaic.Lib.VecWindow

@[expose] public section

set_option maxRecDepth 16384

noncomputable section

namespace Cert.SguIdeal.Spatial

open Cert.SguIdeal Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

theorem rows_inb (g : Fin 16) : ∀ a, (![0, g.val * 512] : Fin 2 → ℕ) a + S128x512.size a ≤ S128x8192.size a := fun a => by
  have := g.isLt
  fin_cases a
  · exact Nat.le_refl 128
  · show g.val * 512 + 512 ≤ 8192; omega
theorem weights_inb (g : Fin 16) : ∀ a, (![0, g.val, 0, 0] : Fin 4 → ℕ) a + S1x1x128x128.size a ≤ S1x16x128x128.size a := fun a => by
  have := g.isLt
  fin_cases a
  · exact Nat.le_refl 1
  · show g.val + 1 ≤ 16; omega
  · exact Nat.le_refl 128
  · exact Nat.le_refl 128
theorem biases_inb (g : Fin 16) : ∀ a, (![0, g.val] : Fin 2 → ℕ) a + S128x1.size a ≤ S128x16.size a := fun a => by
  have := g.isLt
  fin_cases a
  · exact Nat.le_refl 128
  · show g.val + 1 ≤ 16; omega

/-- A group's columns of a block of rows. -/
abbrev columns {α : Type} (x : S128x8192.Idx → α) (g : Fin 16) : S128x512.Idx → α :=
  VecWindow.window x ![0, g.val * 512] S128x512.size (rows_inb g)

/-- Columns just stored are the stored ones; a store to other groups' columns leaves them. -/
theorem columns_put_same {α : Type} (x : S128x8192.Idx → α) (g : Fin 16) (o : ℕ) (p : S128x512.Idx → α) (h : o = g.val * 512) :
    columns (VecWindow.put (s := S128x8192) x ![0, o] ![128, 512] p) g = p := by
  subst h; exact VecWindow.window_put_same (s := S128x8192) x ![0, g.val * 512] ![128, 512] (rows_inb g) p
theorem columns_put_other {α : Type} (x : S128x8192.Idx → α) (g : Fin 16) (o : ℕ) (p : S128x512.Idx → α)
    (h : g.val * 512 + 512 ≤ o ∨ o + 512 ≤ g.val * 512) :
    columns (VecWindow.put (s := S128x8192) x ![0, o] ![128, 512] p) g = columns x g :=
  VecWindow.window_put_of_disjoint (s := S128x8192) x ![0, o] ![128, 512] ![0, g.val * 512] ![128, 512] (rows_inb g) p (1 : Fin 2) h

/-- A group's mixing weights. -/
abbrev weights (w : Vec F S1x16x128x128 .bf16) (g : Fin 16) : Vec F S1x1x128x128 .bf16 :=
  VecWindow.window w ![0, g.val, 0, 0] S1x1x128x128.size (weights_inb g)

/-- A group's columns of the first result, of the first half of the rows, the normed second half, the weights and the biases. -/
def group (g : Fin 16) (u : Vec F S128x8192 .f32) (v : FVec F S128x8192 .bf16) (w : Vec F S1x16x128x128 .bf16) (b : Vec F S1x128x16 .f32) :
    FVec F S128x512 .bf16 :=
  truncf .bf16 (mulf (columns u g : FVec F S128x512 .f32)
    (addf (matmul dot_S128x128_S128x512_S128x512_1_0_0_1_n_n none (shapeCast S128x128 (weights w g) shapeCasts_S1x1x128x128_S128x128)
        (extractStridedSlice S128x512 ![0, g.val * 512] v ⟨rfl, rows_inb g⟩) (constant S128x512 .f32 0x00000000#32))
      (broadcastTo S128x512 (extractStridedSlice S128x1 ![0, g.val] (shapeCast S128x16 b shapeCasts_S1x128x16_S128x16) ⟨rfl, biases_inb g⟩)
        broadcasts_S128x1_S128x512))) bitsLt_bf16_f32

/-- What the body leaves in the first result's buffer, group by group. -/
def Mixed (i : grid0.Coords) (u v : Vec F S128x8192 .f32) (g b : Vec F S1x8192 .f32) (w : Vec F S1x16x128x128 .bf16) (s : Vec F S1x128x16 .f32)
    (X : Vec F S128x8192 .bf16) : Prop :=
  ∀ n : Fin 16, columns X n = group n u (k0_pay4 i v g b) w s

/-- The body on any staging buffers: the six inputs are left as found, the results' buffers hold the body's values of them. -/
theorem run_body (c : Dev nD) (i : grid0.Coords)
    (arg1 : Memref sig .tc .vmem S128x8192 .f32) (harg1 : arg1.IsWhole) (arg2 : Memref sig .tc .vmem S128x8192 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S1x16x128x128 .bf16) (harg5 : arg5.IsWhole) (arg6 : Memref sig .tc .vmem S1x128x16 .f32) (harg6 : arg6.IsWhole)
    (arg7 : Memref sig .tc .vmem S128x8192 .bf16) (harg7 : arg7.IsWhole) (arg8 : Memref sig .tc .vmem S128x8192 .f32) (harg8 : arg8.IsWhole)
    (u v : Vec F S128x8192 .f32) (g b : Vec F S1x8192 .f32) (w : Vec F S1x16x128x128 .bf16) (s : Vec F S1x128x16 .f32)
    (E : Set ℕ) (K : PUnit → sProp 𝕄) :
    iprop(owns (c : Thread nD τ) arg1 fullShare u ∗ owns (c : Thread nD τ) arg2 fullShare v ∗ owns (c : Thread nD τ) arg3 fullShare g
        ∗ owns (c : Thread nD τ) arg4 fullShare b ∗ owns (c : Thread nD τ) arg5 fullShare w ∗ owns (c : Thread nD τ) arg6 fullShare s
        ∗ (∃ d, owns (c : Thread nD τ) arg7 fullShare d) ∗ (∃ d, owns (c : Thread nD τ) arg8 fullShare d)
        ∗ (iprop(owns (c : Thread nD τ) arg1 fullShare u ∗ owns (c : Thread nD τ) arg2 fullShare v ∗ owns (c : Thread nD τ) arg3 fullShare g
            ∗ owns (c : Thread nD τ) arg4 fullShare b ∗ owns (c : Thread nD τ) arg5 fullShare w ∗ owns (c : Thread nD τ) arg6 fullShare s
            ∗ (∃ X, ⌜Mixed i u v g b w s X⌝ ∗ owns (c : Thread nD τ) arg7 fullShare X)
            ∗ owns (c : Thread nD τ) arg8 fullShare (k0_pay3 v g b)) -∗ K ⟨⟩))
      ⊢ wp frame (wpE (defs₀ (F := F)) Variants.none c none) E
          (cc0_sgu i arg1 harg1 arg2 harg2 arg3 harg3 arg4 harg4 arg5 harg5 arg6 harg6 arg7 harg7 arg8 harg8) K := by
  simp only [cc0_sgu_eq_skeleton]; unfold cc0_sgu_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩,
    ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  have r1 : ∀ (off : Fin 2 → ℕ) (inb : ∀ a, off a + S128x512.size a ≤ S128x8192.size a), arg1.view.readAt (Elt F) (Rect.unit (s := S128x8192) off S128x512.size inb).toLoadRect (harg1.unread u)
      = VecWindow.window u off S128x512.size inb :=
    fun off inb => (View.readAt_unit (s := S128x8192) _ _ _ rfl _).trans (congrArg (fun x => VecWindow.window (s := S128x8192) x off S128x512.size inb) (harg1.read_unread u))
  have r2 : ∀ inb, arg2.view.readAt (Elt F) (Rect.unit ![0, 0] S128x8192.size inb).toLoadRect (harg2.unread v) = v :=
    fun inb => (View.readAt_full (s := S128x8192) _ _ _).trans (harg2.read_unread v)
  have r3 : ∀ inb, arg3.view.readAt (Elt F) (Rect.unit ![0, 0] S1x8192.size inb).toLoadRect (harg3.unread g) = g :=
    fun inb => (View.readAt_full (s := S1x8192) _ _ _).trans (harg3.read_unread g)
  have r4 : ∀ inb, arg4.view.readAt (Elt F) (Rect.unit ![0, 0] S1x8192.size inb).toLoadRect (harg4.unread b) = b :=
    fun inb => (View.readAt_full (s := S1x8192) _ _ _).trans (harg4.read_unread b)
  have r5 : ∀ (off : Fin 4 → ℕ) (inb : ∀ a, off a + S1x1x128x128.size a ≤ S1x16x128x128.size a), arg5.view.readAt (Elt F) (Rect.unit (s := S1x16x128x128) off S1x1x128x128.size inb).toLoadRect (harg5.unread w)
      = VecWindow.window w off S1x1x128x128.size inb :=
    fun off inb => (View.readAt_unit (s := S1x16x128x128) _ _ _ rfl _).trans (congrArg (fun x => VecWindow.window (s := S1x16x128x128) x off S1x1x128x128.size inb) (harg5.read_unread w))
  have r6 : ∀ inb, arg6.view.readAt (Elt F) (Rect.unit ![0, 0, 0] S1x128x16.size inb).toLoadRect (harg6.unread s) = s :=
    fun inb => (View.readAt_full (s := S1x128x16) _ _ _).trans (harg6.read_unread s)
  isplitl [H7]
  · iexists _; isplitr
    swap
    · iexists _; isplitr
      swap
      · iexact H7
      ipureintro; rfl
    ipureintro
    sl_unfold_words
    simp only [r1, r2, r3, r4, r5, r6]
    intro n
    repeat rw [View.read_writes_cons_put (s := S128x8192) _ _ _ _ _ rfl]
    fin_cases n
    all_goals
      repeat refine (columns_put_other _ _ _ _ (by decide)).trans ?_
      exact (columns_put_same _ _ _ _ rfl).trans rfl
  iexists _; isplitr
  swap
  · iexact H8
  ipureintro
  sl_unfold_words
  exact (View.read_writes_full (s := S128x8192) _ _ _ _ _).trans (congr (congr (congrArg k0_pay3 (r2 _)) (r3 _)) (r4 _))

/-! ## The proof data -/

variable (m : (ℓ : Loc nD τ sig) → Buf (Elt F) ℓ) (ρ : Dev nD → PrngReg)

/-- A window's block as its staging buffer holds it: laid over contents nothing names. -/
abbrev staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- What the first result's buffer may hold at a point, of what lay in the two buffers of rows before. -/
def LeavesMixed (c : Dev nD) (t : Fin cfg0.N) (d0 d1 : Vec F S128x8192 .f32) (X : Vec F S128x8192 .bf16) : Prop :=
  Mixed (grid0.coords t) (staged m c 0 t d0) (staged m c 1 t d1) (iblk m c 2 t) (iblk m c 3 t) (iblk m c 4 t) (iblk m c 5 t) X

/-- What the second result's buffer holds at a point, of what lay in the second buffer of rows before. -/
def leavesNormed (c : Dev nD) (t : Fin cfg0.N) (d1 : Vec F S128x8192 .f32) : Vec F S128x8192 .f32 :=
  k0_pay3 (staged m c 1 t d1) (iblk m c 2 t) (iblk m c 3 t)

/-- Inputs are left as found; the results' buffers are left with the body's values of the staged blocks. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => X = Y
    | 4 => X = Y
    | 5 => X = Y
    | 6 => ∃ d0 d1, LeavesMixed m c t d0 d1 X
    | 7 => ∃ d1, X = leavesNormed m c t d1
  Φ _ := Pipeline.ΦA spec0 c
  q w := Pipeline.shareOf spec0 w
  owed _ := 0

theorem found0 (c : Dev nD) (t : Fin cfg0.N) (Y) (h : (rdat m c).Finds 0 t Y) : ∃ d, Y = staged m c 0 t d :=
  (rdat m c).finds_in_eq_fetched 0 rfl (fun t t' e => congrArg (fun (ix : Fin 2 → ℕ) a => Pipeline.Clip.of (ix a) (S128x8192.size a) (S8200x16384.size a)) e)
    (fun t Y X h => h) t Y h
theorem found1 (c : Dev nD) (t : Fin cfg0.N) (Y) (h : (rdat m c).Finds 1 t Y) : ∃ d, Y = staged m c 1 t d :=
  (rdat m c).finds_in_eq_fetched 1 rfl (fun t t' e => congrArg (fun (ix : Fin 2 → ℕ) a => Pipeline.Clip.of (ix a) (S128x8192.size a) (S8200x16384.size a)) e)
    (fun t Y X h => h) t Y h
theorem found2 (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h
theorem found3 (c : Dev nD) (t : Fin cfg0.N) (Y) (h : (rdat m c).Finds 3 t Y) : Y = iblk m c 3 t :=
  ((rdat m c).finds_in_eq_fetched 3 rfl (fun _ _ _ => rfl) (fun t Y X h => h) t Y h).elim fun _ h => h
theorem found4 (c : Dev nD) (t : Fin cfg0.N) (Y) (h : (rdat m c).Finds 4 t Y) : Y = iblk m c 4 t :=
  ((rdat m c).finds_in_eq_fetched 4 rfl (fun _ _ _ => rfl) (fun t Y X h => h) t Y h).elim fun _ h => h
theorem found5 (c : Dev nD) (t : Fin cfg0.N) (Y) (h : (rdat m c).Finds 5 t Y) : Y = iblk m c 5 t :=
  ((rdat m c).finds_in_eq_fetched 5 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d0, h0⟩ := found0 m c t _ (hY 0)
  obtain ⟨d1, h1⟩ := found1 m c t _ (hY 1)
  have h2 := found2 m c t _ (hY 2)
  have h3 := found3 m c t _ (hY 3)
  have h4 := found4 m c t _ (hY 4)
  have h5 := found5 m c t _ (hY 5)
  rw [show (rdat m c).Φ t.succ = (rdat m c).Φ t.castSucc from rfl, show (rdat m c).owesAt () t.succ = (rdat m c).owesAt () t.castSucc from rfl]
  iintro ⟨HΦ, Hg, H0, H1, H2, H3, H4, H5, H6, H7⟩
  iapply (run_body c (grid0.coords t) (st0_0 t) _ (st0_1 t) _ (st0_2 t) _ (st0_3 t) _ (st0_4 t) _ (st0_5 t) _ (st0_6 t) _ (st0_7 t) _
    (Y 0) (Y 1) (Y 2) (Y 3) (Y 4) (Y 5))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%X, %hX, H6⟩, H7⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro; rfl
  isplitl [H6]
  · iexists _; isplitr
    swap
    · iexact H6
    ipureintro
    refine ⟨d0, d1, ?_⟩
    rw [h0, h1, h2, h3, h4, h5] at hX
    exact hX
  iexists _; isplitr
  swap
  · iexact H7
  ipureintro
  exact ⟨d1, congr (congr (congrArg k0_pay3 h1) h2) h3⟩

/-! ## The run -/

theorem run : θ_run defs (onTc (τ := τ) (main (F := F))) (s₀ m ρ)
    (fun r => RDat.FramePost cfg0 (rdat m) (V m) r ∧ r.2.sem = fun _ => 0) :=
  RDat.θ_run_frame_track_shared (Q' := _) cfgs 0 launch₀0 defs₀ Variants.none (rdat m) m ρ main (hbody := obligation m)
    (hq := fun _ _ _ => rfl) (howed := fun _ _ => rfl) (V := V m) (hmain := hmain m Variants.none)
    (hA := fun _ _ => rfl) (hin := fun _ => BIBase.Entails.rfl) (hout := fun _ => BIBase.Entails.rfl)

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem arguments_kept (r : PUnit × MemSt nD τ sig (Elt F)) (h : RDat.FramePost cfg0 (rdat m) (V m) r) (c : Dev nD) : Kept m r c :=
  ⟨(RDat.FramePost.arr_in h c 1 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: every execution terminates with the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨arguments_kept m r h.1, h.2⟩) (run m ρ)

/-- What the blocks written back leave in the results' arrays: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d0 d1, LeavesMixed m c t d0 d1 (dat.after 6 t)) ∧ (∀ t, ∃ d1, dat.after 7 t = leavesNormed m c t d1)
      ∧ r.2.mem ((c.tc : Thread nD τ).loc main_v34_0) = dat.arrAt 6 cfg0.N
      ∧ r.2.mem ((c.tc : Thread nD τ).loc main_v34_1) = dat.arrAt 7 cfg0.N := by
  obtain ⟨after, hl, he⟩ := RDat.FramePost.exists_exact h c
  refine ⟨(rdat m c).withAfter after, fun t => ?_, fun t => ?_, he 6, he 7⟩
  · obtain ⟨Y, -, hd⟩ := hl 6 t (flush0_6 t)
    exact hd
  · obtain ⟨Y, -, hd⟩ := hl 7 t (flush0_7 t)
    exact hd

end Cert.SguIdeal.Spatial

end
-- ==== Proof.Sgu.Reference.lean ====
/-
  The spatial gating on the host: the reference run, and its two results read at a row and a column.
-/
module

public import proofs.«01_k».proof.Proof.Gen.SguRefIdeal
public import Idealize.ShloMosaic.Lib.Pointwise
public import Idealize.ShloMosaic.Lib.ValueLayout
public import Idealize.ShloMosaic.Lib.Pipeline.Value
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.SguRefIdeal.Plain

open Cert.SguRefIdeal Cert.SguRefIdeal.Gen Idealize.ShloMosaic.StableHlo

variable {F : FTy → Type} [FloatOps F]

/-- The operations of @main, the called functions' bodies in place, in order. -/
abbrev ops : List (HloOp τ sig (Elt F)) :=
  [ unary main_arg0 main_v0 ((extractStridedSlice S8200x8192 ![0, 0] · slices_S8200x16384_S8200x8192_0_0)),
    unary main_arg0 main_v1 ((extractStridedSlice S8200x8192 ![0, 8192] · slices_S8200x16384_S8200x8192_0_8192)),
    nullary main_cst (constant S_ .f32 0x00000000#32),
    binary main_v1 main_cst main_v2 ((fun x v => Host.reduceAdd x v reducesTo_S8200x8192_S8200_d1 h_S_)),
    unary main_v2 main_v3 (broadcastInDim S8200x1 ![0] bcast_S8200_S8200x1_0),
    nullary main_cst_0 (constant S_ .f32 0x46000000#32),
    unary main_cst_0 main_v4 (broadcastInDim S8200x1 ![] bcast_S_S8200x1),
    binary main_v3 main_v4 main_v5 (Host.divf),
    unary main_v5 main_v6 (broadcastInDim S8200x8192 ![0, 1] bcast_S8200x1_S8200x8192_0_1),
    binary main_v1 main_v6 main_v7 (subf),
    binary main_v7 main_v7 main_v8 (mulf),
    nullary main_cst_1 (constant S_ .f32 0x00000000#32),
    binary main_v8 main_cst_1 main_v9 ((fun x v => Host.reduceAdd x v reducesTo_S8200x8192_S8200_d1 h_S_)),
    unary main_v9 main_v10 (broadcastInDim S8200x1 ![0] bcast_S8200_S8200x1_0),
    nullary main_cst_2 (constant S_ .f32 0x46000000#32),
    unary main_cst_2 main_v11 (broadcastInDim S8200x1 ![] bcast_S_S8200x1),
    binary main_v10 main_v11 main_v12 (Host.divf),
    nullary main_cst_3 (constant S_ .f32 0x3727C5AC#32),
    unary main_cst_3 main_v13 (broadcastInDim S8200x1 ![] bcast_S_S8200x1),
    binary main_v12 main_v13 main_v14 (addf),
    unary main_v14 main_v15 (Host.rsqrt),
    unary main_v15 main_v16 (broadcastInDim S8200x8192 ![0, 1] bcast_S8200x1_S8200x8192_0_1),
    binary main_v7 main_v16 main_v17 (mulf),
    reshape main_arg1 main_v18 (rfl : (.f32 : EltTy) = .f32) shapeCasts_S1x8192_S8192,
    unary main_v18 main_v19 (broadcastInDim S1x8192 ![1] bcast_S8192_S1x8192_1),
    unary main_v19 main_v20 (broadcastInDim S8200x8192 ![0, 1] bcast_S1x8192_S8200x8192_0_1),
    binary main_v17 main_v20 main_v21 (mulf),
    reshape main_arg2 main_v22 (rfl : (.f32 : EltTy) = .f32) shapeCasts_S1x8192_S8192,
    unary main_v22 main_v23 (broadcastInDim S1x8192 ![1] bcast_S8192_S1x8192_1),
    unary main_v23 main_v24 (broadcastInDim S8200x8192 ![0, 1] bcast_S1x8192_S8200x8192_0_1),
    binary main_v21 main_v24 main_v25 (addf),
    reshape main_arg3 main_v26 (rfl : (.f32 : EltTy) = .f32) shapeCasts_S1x16x128x128_S16x128x128,
    reshape main_arg4 main_v27 (rfl : (.f32 : EltTy) = .f32) shapeCasts_S1x16x128_S16x128,
    nullary main_c (constantI S_ 1 1#1),
    unary main_c main_v28 (broadcastInDim S128x128 ![] bcast_S_S128x128),
    nullary main_call0_v0 (iotaInDim S128x128 32 0),
    nullary main_call0_c (constantI S_ 32 0#32),
    unary main_call0_c main_call0_v1 (broadcastInDim S128x128 ![] bcast_S_S128x128),
    binary main_call0_v0 main_call0_v1 main_call0_v2 addi,
    nullary main_call0_v3 (iotaInDim S128x128 32 1),
    binary main_call0_v2 main_call0_v3 main_call0_v4 (cmpi .sge),
    nullary main_call0_c_0 (constantI S_ 1 0#1),
    unary main_call0_c_0 main_call0_v5 (broadcastInDim S128x128 ![] bcast_S_S128x128),
    ternary main_call0_v4 main_v28 main_call0_v5 main_v29 select,
    unary main_v25 main_v30 ((extractStridedSlice S8192x8192 ![0, 0] · slices_S8200x8192_S8192x8192_0_0)),
    reshape main_v30 main_v31 (rfl : (.f32 : EltTy) = .f32) shapeCasts_S8192x8192_S64x128x16x512,
    nullary main_cst_4 (constant S_ .f32 0x00000000#32),
    unary main_cst_4 main_call1_v0 id,
    unary main_v29 main_call1_v1 (broadcastInDim S16x128x128 ![1, 2] bcast_S128x128_S16x128x128_1_2),
    unary main_call1_v0 main_call1_v2 (broadcastInDim S16x128x128 ![] bcast_S_S16x128x128),
    ternary main_call1_v1 main_v26 main_call1_v2 main_v32 select,
    binary main_v31 main_v32 main_v33 ((fun l r => Host.dotGeneral dot_S64x128x16x512_S16x128x128_S16x64x512x128_1_2_03_1_2_0 none l r)),
    unary main_v33 main_v34 ((transpose S64x128x16x512 [1, 3, 0, 2] · transposes_S16x64x512x128_S64x128x16x512_1_3_0_2)),
    unary main_v27 main_v35 ((transpose S128x16 [1, 0] · transposes_S16x128_S128x16_1_0)),
    unary main_v35 main_v36 (broadcastInDim S1x128x16x1 ![1, 2] bcast_S128x16_S1x128x16x1_1_2),
    unary main_v36 main_v37 (broadcastInDim S64x128x16x512 ![0, 1, 2, 3] bcast_S1x128x16x1_S64x128x16x512_0_1_2_3),
    binary main_v34 main_v37 main_v38 (addf),
    unary main_v25 main_v39 ((extractStridedSlice S8x8192 ![8192, 0] · slices_S8200x8192_S8x8192_8192_0)),
    reshape main_v39 main_v40 (rfl : (.f32 : EltTy) = .f32) shapeCasts_S8x8192_S8x16x512,
    unary main_v26 main_v41 ((extractStridedSlice S16x1x1 ![0, 0, 0] · slices_S16x128x128_S16x1x1_0_0_0)),
    reshape main_v41 main_v42 (rfl : (.f32 : EltTy) = .f32) shapeCasts_S16x1x1_S16,
    unary main_v42 main_v43 (broadcastInDim S1x16x1 ![1] bcast_S16_S1x16x1_1),
    unary main_v43 main_v44 (broadcastInDim S8x16x512 ![0, 1, 2] bcast_S1x16x1_S8x16x512_0_1_2),
    binary main_v44 main_v40 main_v45 (mulf),
    unary main_v27 main_v46 ((extractStridedSlice S16x1 ![0, 0] · slices_S16x128_S16x1_0_0)),
    reshape main_v46 main_v47 (rfl : (.f32 : EltTy) = .f32) shapeCasts_S16x1_S16,
    unary main_v47 main_v48 (broadcastInDim S1x16x1 ![1] bcast_S16_S1x16x1_1),
    unary main_v48 main_v49 (broadcastInDim S8x16x512 ![0, 1, 2] bcast_S1x16x1_S8x16x512_0_1_2),
    binary main_v45 main_v49 main_v50 (addf),
    reshape main_v38 main_v51 (rfl : (.f32 : EltTy) = .f32) shapeCasts_S64x128x16x512_S8192x8192,
    reshape main_v50 main_v52 (rfl : (.f32 : EltTy) = .f32) shapeCasts_S8x16x512_S8x8192,
    binary main_v51 main_v52 main_v53 ((fun a b => concatenate S8200x8192 0 [⟨S8192x8192, a⟩, ⟨S8x8192, b⟩] concatenates_S8192x8192_S8x8192_S8200x8192_d0)),
    binary main_v0 main_v53 main_v54 (mulf),
    unary main_v54 main_v55 ((truncf .bf16 · bitsLt_bf16_f32)) ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub .., unary_bufs_sub ..,
    nullary_bufs_sub .., unary_bufs_sub .., binary_bufs_sub .., nullary_bufs_sub .., unary_bufs_sub .., binary_bufs_sub .., unary_bufs_sub ..,
    unary_bufs_sub .., binary_bufs_sub .., reshape_bufs_sub .., unary_bufs_sub .., unary_bufs_sub .., binary_bufs_sub .., reshape_bufs_sub ..,
    unary_bufs_sub .., unary_bufs_sub .., binary_bufs_sub .., reshape_bufs_sub .., reshape_bufs_sub .., nullary_bufs_sub .., unary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., reshape_bufs_sub .., nullary_bufs_sub .., unary_bufs_sub ..,
    unary_bufs_sub .., unary_bufs_sub .., ternary_bufs_sub .., binary_bufs_sub .., unary_bufs_sub .., unary_bufs_sub .., unary_bufs_sub ..,
    unary_bufs_sub .., binary_bufs_sub .., unary_bufs_sub .., reshape_bufs_sub .., unary_bufs_sub .., reshape_bufs_sub .., unary_bufs_sub ..,
    unary_bufs_sub .., binary_bufs_sub .., unary_bufs_sub .., reshape_bufs_sub .., unary_bufs_sub .., unary_bufs_sub .., binary_bufs_sub ..,
    reshape_bufs_sub .., reshape_bufs_sub .., binary_bufs_sub .., binary_bufs_sub .., unary_bufs_sub ..⟩

/-- A row's mean, as a column. -/
def mean (x : FVec F S8200x8192 .f32) : FVec F S8200x1 .f32 :=
  Host.divf (broadcastInDim S8200x1 ![0] bcast_S8200_S8200x1_0 (Host.reduceAdd x (constant S_ .f32 0x00000000#32) reducesTo_S8200x8192_S8200_d1 h_S_))
    (broadcastInDim S8200x1 ![] bcast_S_S8200x1 (constant S_ .f32 0x46000000#32))

/-- The second half of every row, its mean taken off. -/
def centred (x : FVec F S8200x8192 .f32) : FVec F S8200x8192 .f32 :=
  subf x (broadcastInDim S8200x8192 ![0, 1] bcast_S8200x1_S8200x8192_0_1 (mean x))

/-- Every centred row over the root of its mean square. -/
def scaled (x : FVec F S8200x8192 .f32) : FVec F S8200x8192 .f32 :=
  mulf x (broadcastInDim S8200x8192 ![0, 1] bcast_S8200x1_S8200x8192_0_1 (Host.rsqrt (addf (mean (mulf x x))
    (broadcastInDim S8200x1 ![] bcast_S_S8200x1 (constant S_ .f32 0x3727C5AC#32)))))

/-- A row of parameters under every row. -/
def everyRow (g : Vec F S1x8192 .f32) : FVec F S8200x8192 .f32 :=
  broadcastInDim S8200x8192 ![0, 1] bcast_S1x8192_S8200x8192_0_1 (broadcastInDim S1x8192 ![1] bcast_S8192_S1x8192_1
    (shapeCast S8192 g shapeCasts_S1x8192_S8192))

/-- The second result: the second half of every row, normed. -/
def normed (x : Vec F S8200x16384 .f32) (g b : Vec F S1x8192 .f32) : FVec F S8200x8192 .f32 :=
  addf (mulf (scaled (centred (extractStridedSlice S8200x8192 ![0, 8192] x slices_S8200x16384_S8200x8192_0_8192))) (everyRow g)) (everyRow b)

/-- On and below the diagonal. -/
def causal : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The mixing weights, zero above the diagonal. -/
def masked (w : Vec F S1x16x128x128 .f32) : FVec F S16x128x128 .f32 :=
  select (broadcastInDim S16x128x128 ![1, 2] bcast_S128x128_S16x128x128_1_2 causal) (shapeCast S16x128x128 w shapeCasts_S1x16x128x128_S16x128x128)
    (broadcastInDim S16x128x128 ![] bcast_S_S16x128x128 (id (constant S_ .f32 0x00000000#32)))

/-- The prompt's normed rows mixed within each chunk. -/
def mixedPrompt (v : FVec F S8200x8192 .f32) (w : Vec F S1x16x128x128 .f32) (s : Vec F S1x16x128 .f32) : FVec F S64x128x16x512 .f32 :=
  addf (transpose S64x128x16x512 [1, 3, 0, 2] (Host.dotGeneral dot_S64x128x16x512_S16x128x128_S16x64x512x128_1_2_03_1_2_0 none
      (shapeCast S64x128x16x512 (extractStridedSlice S8192x8192 ![0, 0] v slices_S8200x8192_S8192x8192_0_0) shapeCasts_S8192x8192_S64x128x16x512) (masked w))
      transposes_S16x64x512x128_S64x128x16x512_1_3_0_2)
    (broadcastInDim S64x128x16x512 ![0, 1, 2, 3] bcast_S1x128x16x1_S64x128x16x512_0_1_2_3 (broadcastInDim S1x128x16x1 ![1, 2] bcast_S128x16_S1x128x16x1_1_2
      (transpose S128x16 [1, 0] (shapeCast S16x128 s shapeCasts_S1x16x128_S16x128) transposes_S16x128_S128x16_1_0)))

/-- The samples' normed rows, each scaled and shifted by itself. -/
def mixedSamples (v : FVec F S8200x8192 .f32) (w : Vec F S1x16x128x128 .f32) (s : Vec F S1x16x128 .f32) : FVec F S8x16x512 .f32 :=
  addf (mulf (broadcastInDim S8x16x512 ![0, 1, 2] bcast_S1x16x1_S8x16x512_0_1_2 (broadcastInDim S1x16x1 ![1] bcast_S16_S1x16x1_1
        (shapeCast S16 (extractStridedSlice S16x1x1 ![0, 0, 0] (shapeCast S16x128x128 w shapeCasts_S1x16x128x128_S16x128x128) slices_S16x128x128_S16x1x1_0_0_0)
          shapeCasts_S16x1x1_S16)))
      (shapeCast S8x16x512 (extractStridedSlice S8x8192 ![8192, 0] v slices_S8200x8192_S8x8192_8192_0) shapeCasts_S8x8192_S8x16x512))
    (broadcastInDim S8x16x512 ![0, 1, 2] bcast_S1x16x1_S8x16x512_0_1_2 (broadcastInDim S1x16x1 ![1] bcast_S16_S1x16x1_1
      (shapeCast S16 (extractStridedSlice S16x1 ![0, 0] (shapeCast S16x128 s shapeCasts_S1x16x128_S16x128) slices_S16x128_S16x1_0_0) shapeCasts_S16x1_S16)))

/-- Every row mixed. -/
def mixed (v : FVec F S8200x8192 .f32) (w : Vec F S1x16x128x128 .f32) (s : Vec F S1x16x128 .f32) : FVec F S8200x8192 .f32 :=
  concatenate S8200x8192 0 [⟨S8192x8192, shapeCast S8192x8192 (mixedPrompt v w s) shapeCasts_S64x128x16x512_S8192x8192⟩,
    ⟨S8x8192, shapeCast S8x8192 (mixedSamples v w s) shapeCasts_S8x16x512_S8x8192⟩] concatenates_S8192x8192_S8x8192_S8200x8192_d0

/-- The first result: the first half of every row, gated. -/
def gated (x : Vec F S8200x16384 .f32) (g b : Vec F S1x8192 .f32) (w : Vec F S1x16x128x128 .f32) (s : Vec F S1x16x128 .f32) : FVec F S8200x8192 .bf16 :=
  truncf .bf16 (mulf (extractStridedSlice S8200x8192 ![0, 0] x slices_S8200x16384_S8200x8192_0_0) (mixed (normed x g b) w s)) bitsLt_bf16_f32

variable (m : (ℓ : Loc nD τ sig) → Buf (Elt F) ℓ) (ρ : Dev nD → PrngReg)

theorem normed_read (c : Dev nD) (V : Valuation τ sig (Elt F)) :
    after ops V main_v25 = normed (V main_arg0) (V main_arg1) (V main_arg2) := by
  after_reads_simp
  rfl

set_option maxHeartbeats 4000000 in
theorem gated_read (c : Dev nD) (V : Valuation τ sig (Elt F)) :
    after ops V main_v55 = gated (V main_arg0) (V main_arg1) (V main_arg2) (V main_arg3) (V main_arg4) := by
  after_reads_simp
  rfl

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- The run: the results, and the arguments as launched. -/
theorem run : θ_run defs (onTc (τ := τ) (main (F := F))) ⟨m, fun _ => 0, ρ⟩ fun r => ∀ c : Dev nD,
      r.2.mem ((c : Thread nD τ).loc main_v55) = gated (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v25)
        = normed (m ((c : Thread nD τ).loc main_arg0)) (m ((c : Thread nD τ).loc main_arg1)) (m ((c : Thread nD τ).loc main_arg2))
      ∧ Kept m r c :=
  (θ_run defs _ _).mono (fun _ h c => ⟨(h c main_v55).trans (gated_read c _), (h c main_v25).trans (normed_read c _),
      (h c main_arg0).trans (by after_reads_simp), (h c main_arg1).trans (by after_reads_simp),
      (h c main_arg2).trans (by after_reads_simp), (h c main_arg3).trans (by after_reads_simp),
      (h c main_arg4).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨fun c => (h c).2.2, sem_eq_zero_of_no_sems (by decide) r.2⟩) (run m ρ)

end Cert.SguRefIdeal.Plain

end
-- ==== Proof.Sgu.Entries.lean ====
/-
  The spatial gating's reference at the ideal values: its two results read at a row and a column.
-/
module

public import proofs.«01_k».proof.Proof.Sgu.Reference
public import Idealize.ShloMosaic.Lib.StackMember
public import Idealize.ShloMosaic.Lib.KernelVsHost

@[expose] public section

set_option maxRecDepth 16384

noncomputable section

open Idealize.ShloMosaic Idealize.ShloMosaic.TcCoe Idealize.SL.Sem

namespace Cert.SguRefIdeal.Plain

open Cert.SguRefIdeal Cert.SguRefIdeal.Gen Idealize.ShloMosaic.StableHlo

/-- The mean of a row. -/
def rowMean (x : Fin 8192 → EReal) : EReal := Ideal.div (∑ j, x j) (Ideal.ofBits .f32 0x46000000#32)

/-- An entry of a row, centred and over the root of the centred row's mean square, times its gain, plus its shift. -/
def entry (x : Fin 8192 → EReal) (k : Fin 8192) (g b : EReal) : EReal :=
  (x k - rowMean x) * Ideal.rsqrt (rowMean (fun j => (x j - rowMean x) * (x j - rowMean x)) + Ideal.ofBits .f32 0x3727C5AC#32) * g + b

theorem mean_at (x : FVec Ideal S8200x8192 .f32) (i : Fin 8200) : mean x (ix2 i 0) = rowMean fun j => x (ix2 i j) := by
  pointwise [mean, rowMean]

theorem centred_at (x : FVec Ideal S8200x8192 .f32) (i : Fin 8200) (k : Fin 8192) :
    centred x (ix2 i k) = x (ix2 i k) - rowMean fun j => x (ix2 i j) := by
  pointwise [centred, mean, rowMean]

theorem scaled_at (x : FVec Ideal S8200x8192 .f32) (i : Fin 8200) (k : Fin 8192) :
    scaled x (ix2 i k) = x (ix2 i k) * Ideal.rsqrt (rowMean (fun j => x (ix2 i j) * x (ix2 i j)) + Ideal.ofBits .f32 0x3727C5AC#32) := by
  pointwise [scaled, mean, rowMean]

theorem everyRow_at (g : Vec Ideal S1x8192 .f32) (i : Fin 8200) (k : Fin 8192) : everyRow g (ix2 i k) = g (ix2 0 k) := by
  refine (broadcastInDim_apply _ _ _ _ (ix2 0 k) (fun (a : Fin 2) => by fin_cases a <;> rfl)).trans ?_
  refine (broadcastInDim_apply _ _ _ _ (ix1 k) (fun (a : Fin 1) => by fin_cases a; rfl)).trans ?_
  exact ValueIdx.shapeCast_1a_a_apply g _ k

/-- The second half of a row. -/
abbrev half (x : Vec Ideal S8200x16384 .f32) (i : Fin 8200) (j : Fin 8192) : EReal := x (ix2 i ⟨8192 + j.val, by omega⟩)

theorem half_at (x : Vec Ideal S8200x16384 .f32) (i : Fin 8200) (j : Fin 8192) :
    extractStridedSlice S8200x8192 ![0, 8192] x slices_S8200x16384_S8200x8192_0_8192 (ix2 i j) = half x i j :=
  extractStridedSlice_apply _ _ _ _ _ fun (a : Fin 2) => by
    fin_cases a
    · show i.val = 0 + i.val; omega
    · rfl

/-- A row's norm follows from the row. -/
theorem row_normed (y : FVec Ideal S8200x8192 .f32) (i : Fin 8200) (r : Fin 8192 → EReal) (h : ∀ j, y (ix2 i j) = r j) (k : Fin 8192) :
    scaled (centred y) (ix2 i k)
      = (r k - rowMean r) * Ideal.rsqrt (rowMean (fun j => (r j - rowMean r) * (r j - rowMean r)) + Ideal.ofBits .f32 0x3727C5AC#32) := by
  obtain rfl : r = fun j => y (ix2 i j) := funext fun j => (h j).symm
  refine (scaled_at _ i k).trans ?_
  simp only [centred_at]

theorem normed_at (x : Vec Ideal S8200x16384 .f32) (g b : Vec Ideal S1x8192 .f32) (i : Fin 8200) (k : Fin 8192) :
    normed x g b (ix2 i k) = entry (half x i) k (g (ix2 0 k)) (b (ix2 0 k)) :=
  congrArg₂ (fun a b : EReal => a + b) (congrArg₂ (fun a b : EReal => a * b) (row_normed _ i (half x i) (half_at x i) k) (everyRow_at g i k))
    (everyRow_at b i k)

/-! ### Mixing -/

/-- A chunk's row, and a group's column. -/
def rowAt (c : Fin 64) (t : Fin 128) : Fin 8200 := ⟨c.val * 128 + t.val, by omega⟩
def colAt (g : Fin 16) (d : Fin 512) : Fin 8192 := ⟨g.val * 512 + d.val, by omega⟩

theorem chunks_at (v : FVec Ideal S8200x8192 .f32) (c : Fin 64) (t : Fin 128) (g : Fin 16) (d : Fin 512) :
    shapeCast S64x128x16x512 (extractStridedSlice S8192x8192 ![0, 0] v slices_S8200x8192_S8192x8192_0_0) shapeCasts_S8192x8192_S64x128x16x512
      (ix4 c t g d) = v (ix2 (rowAt c t) (colAt g d)) := by
  refine (shapeCast_apply _ _ _ (ix2 ⟨c.val * 128 + t.val, by omega⟩ (colAt g d) : S8192x8192.Idx) ?_).trans ?_
  · rw [Shape.rowMajor_val_two, Shape.rowMajor_val_four]
    show (c.val * 128 + t.val) * 8192 + (g.val * 512 + d.val) = ((c.val * 128 + t.val) * 16 + g.val) * 512 + d.val
    omega
  · refine extractStridedSlice_apply _ _ _ _ _ fun (a : Fin 2) => ?_
    fin_cases a
    · show c.val * 128 + t.val = 0 + (c.val * 128 + t.val); omega
    · show g.val * 512 + d.val = 0 + (g.val * 512 + d.val); omega

theorem below_diagonal : ∀ t s : Fin 128,
    (Scalar.select (IntOp.cmpi .sge (IntOp.addi (BitVec.ofNat 32 t.val) 0#32) (BitVec.ofNat 32 s.val)) 1#1 0#1 : BitVec 1)
      = if s ≤ t then 1#1 else 0#1 := by decide +kernel

theorem masked_at (w : Vec Ideal S1x16x128x128 .f32) (g : Fin 16) (t s : Fin 128) :
    masked w (ix3 g t s) = if s ≤ t then w (ix4 0 g t s) else 0 := by
  pointwise [masked, causal]
  rw [below_diagonal t s]
  by_cases h : s ≤ t
  · rw [if_pos h, if_pos h]; rfl
  · rw [if_neg h, if_neg h]; exact Ideal.ofBits_zero_f32

/-- A chunk's column times a row of the mixing weights. -/
theorem product_at (a : FVec Ideal S64x128x16x512 .f32) (w : FVec Ideal S16x128x128 .f32) (c : Fin 64) (t : Fin 128) (g : Fin 16) (d : Fin 512) :
    Host.dotGeneral dot_S64x128x16x512_S16x128x128_S16x64x512x128_1_2_03_1_2_0 none a w (ix4 g c d t)
      = ∑ j : Fin 128, a (ix4 c j g d) * w (ix3 g t j) := by
  refine (Ideal.dotGeneral_apply _ _ _ _ _ _).trans ?_
  rw [← Equiv.sum_comp (ValueIdx.contrEquiv1 dot_S64x128x16x512_S16x128x128_S16x64x512x128_1_2_03_1_2_0 128 rfl rfl).symm]
  refine Finset.sum_congr rfl fun j _ => ?_
  have e := ValueIdx.contrEquiv1_symm_val dot_S64x128x16x512_S16x128x128_S16x64x512x128_1_2_03_1_2_0 128 rfl rfl j
  refine congrArg₂ (fun a b : EReal => a * b) (congrArg a ?_) (congrArg w ?_)
  · funext ax; apply Fin.ext
    match ax with
    | ⟨0, _⟩ => simp [DotDims.lhsIdx, dot_S64x128x16x512_S16x128x128_S16x64x512x128_1_2_03_1_2_0]; rfl
    | ⟨1, _⟩ => simp [DotDims.lhsIdx, dot_S64x128x16x512_S16x128x128_S16x64x512x128_1_2_03_1_2_0]; exact e
    | ⟨2, _⟩ => simp [DotDims.lhsIdx, dot_S64x128x16x512_S16x128x128_S16x64x512x128_1_2_03_1_2_0]; rfl
    | ⟨3, _⟩ => simp [DotDims.lhsIdx, dot_S64x128x16x512_S16x128x128_S16x64x512x128_1_2_03_1_2_0]; rfl
  · funext ax; apply Fin.ext
    match ax with
    | ⟨0, _⟩ => simp [DotDims.rhsIdx, dot_S64x128x16x512_S16x128x128_S16x64x512x128_1_2_03_1_2_0]; rfl
    | ⟨1, _⟩ => simp [DotDims.rhsIdx, dot_S64x128x16x512_S16x128x128_S16x64x512x128_1_2_03_1_2_0]; rfl
    | ⟨2, _⟩ => simp [DotDims.rhsIdx, dot_S64x128x16x512_S16x128x128_S16x64x512x128_1_2_03_1_2_0]; exact e

theorem mixedPrompt_at (v : FVec Ideal S8200x8192 .f32) (w : Vec Ideal S1x16x128x128 .f32) (s : Vec Ideal S1x16x128 .f32)
    (c : Fin 64) (t : Fin 128) (g : Fin 16) (d : Fin 512) :
    mixedPrompt v w s (ix4 c t g d)
      = (∑ j : Fin 128, v (ix2 (rowAt c j) (colAt g d)) * (if j ≤ t then w (ix4 0 g t j) else 0) : EReal) + s (ix3 0 g t) := by
  refine congrArg₂ (fun a b : EReal => a + b) ?_ ?_
  · refine (transpose_apply _ _ _ _ (ix4 g c d t : S16x64x512x128.Idx) (fun (a : Fin 4) => by fin_cases a <;> rfl)).trans ?_
    refine (product_at _ _ c t g d).trans (Finset.sum_congr rfl fun j _ => ?_)
    exact congrArg₂ (fun a b : EReal => a * b) (chunks_at v c j g d) (masked_at w g t j)
  · pointwise

theorem mixedSamples_at (v : FVec Ideal S8200x8192 .f32) (w : Vec Ideal S1x16x128x128 .f32) (s : Vec Ideal S1x16x128 .f32)
    (n : Fin 8) (g : Fin 16) (d : Fin 512) :
    mixedSamples v w s (ix3 n g d)
      = w (ix4 0 g 0 0) * v (ix2 ⟨8192 + n.val, by omega⟩ (colAt g d)) + s (ix3 0 g 0) := by
  pointwise [mixedSamples]
  rfl

/-- A sample's row. -/
def sampleAt (n : Fin 8) : Fin 8200 := ⟨8192 + n.val, by omega⟩

theorem mixed_prompt (v : FVec Ideal S8200x8192 .f32) (w : Vec Ideal S1x16x128x128 .f32) (s : Vec Ideal S1x16x128 .f32)
    (c : Fin 64) (t : Fin 128) (g : Fin 16) (d : Fin 512) :
    mixed v w s (ix2 (rowAt c t) (colAt g d)) = mixedPrompt v w s (ix4 c t g d) := by
  refine (concatenate_pair_apply_left (t := S8200x8192) 0 _ _ concatenates_S8192x8192_S8x8192_S8200x8192_d0 (ix2 (rowAt c t) (colAt g d)) rfl
    (ix2 ⟨c.val * 128 + t.val, by omega⟩ (colAt g d) : S8192x8192.Idx) fun (a : Fin 2) => ?_).trans ?_
  · fin_cases a <;> rfl
  · refine shapeCast_apply _ _ _ _ ?_
    rw [Shape.rowMajor_val_two, Shape.rowMajor_val_four]
    show ((c.val * 128 + t.val) * 16 + g.val) * 512 + d.val = (c.val * 128 + t.val) * 8192 + (g.val * 512 + d.val)
    omega

theorem mixed_sample (v : FVec Ideal S8200x8192 .f32) (w : Vec Ideal S1x16x128x128 .f32) (s : Vec Ideal S1x16x128 .f32)
    (n : Fin 8) (g : Fin 16) (d : Fin 512) :
    mixed v w s (ix2 (sampleAt n) (colAt g d)) = mixedSamples v w s (ix3 n g d) := by
  refine (concatenate_pair_apply_right (t := S8200x8192) 0 _ _ concatenates_S8192x8192_S8x8192_S8200x8192_d0 (ix2 (sampleAt n) (colAt g d)) rfl rfl
    (ix2 n (colAt g d) : S8x8192.Idx) (fun (a : Fin 2) ha => ?_) ?_).trans ?_
  · fin_cases a
    · exact absurd rfl ha
    · rfl
  · show n.val + 8192 = 8192 + n.val; omega
  · refine shapeCast_apply _ _ _ _ ?_
    rw [Shape.rowMajor_val_two, Shape.rowMajor_val_three]
    show (n.val * 16 + g.val) * 512 + d.val = n.val * 8192 + (g.val * 512 + d.val)
    omega

/-- A gated entry from the mixed one. -/
theorem gated_at (x : Vec Ideal S8200x16384 .f32) (g b : Vec Ideal S1x8192 .f32) (w : Vec Ideal S1x16x128x128 .f32) (s : Vec Ideal S1x16x128 .f32)
    (i : Fin 8200) (k : Fin 8192) :
    gated x g b w s (ix2 i k) = x (ix2 i ⟨k.val, by omega⟩) * mixed (normed x g b) w s (ix2 i k) :=
  congrArg (fun a : EReal => a * _) (extractStridedSlice_apply _ _ _ _ _ fun (a : Fin 2) => by
    fin_cases a
    · show i.val = 0 + i.val; omega
    · show k.val = 0 + k.val; omega)

/-- A prompt row's gated entry. -/
theorem gated_prompt (x : Vec Ideal S8200x16384 .f32) (g b : Vec Ideal S1x8192 .f32) (w : Vec Ideal S1x16x128x128 .f32) (s : Vec Ideal S1x16x128 .f32)
    (c : Fin 64) (t : Fin 128) (h : Fin 16) (d : Fin 512) :
    gated x g b w s (ix2 (rowAt c t) (colAt h d))
      = x (ix2 (rowAt c t) ⟨(colAt h d).val, by omega⟩)
        * ((∑ j : Fin 128, entry (half x (rowAt c j)) (colAt h d) (g (ix2 0 (colAt h d))) (b (ix2 0 (colAt h d))) * (if j ≤ t then w (ix4 0 h t j) else 0) : EReal)
          + s (ix3 0 h t)) := by
  rw [gated_at, mixed_prompt, mixedPrompt_at]
  simp only [normed_at]

/-- A sample's gated entry. -/
theorem gated_sample (x : Vec Ideal S8200x16384 .f32) (g b : Vec Ideal S1x8192 .f32) (w : Vec Ideal S1x16x128x128 .f32) (s : Vec Ideal S1x16x128 .f32)
    (n : Fin 8) (h : Fin 16) (d : Fin 512) :
    gated x g b w s (ix2 (sampleAt n) (colAt h d))
      = x (ix2 (sampleAt n) ⟨(colAt h d).val, by omega⟩)
        * (w (ix4 0 h 0 0) * entry (half x (sampleAt n)) (colAt h d) (g (ix2 0 (colAt h d))) (b (ix2 0 (colAt h d))) + s (ix3 0 h 0)) := by
  rw [gated_at, mixed_sample, mixedSamples_at]
  exact congrArg (fun a : EReal => _ * (_ * a + _)) (normed_at x g b _ _)

end Cert.SguRefIdeal.Plain

end
-- ==== Proof.Sgu.Tables.lean ====
/-
  The spatial gating at the ideal values: the tables the host makes for the call, and the body's values, read at an index.
-/
module

public import proofs.«01_k».proof.Proof.Dense
public import proofs.«01_k».proof.Proof.Sgu.Run
public import proofs.«01_k».proof.Proof.Sgu.Entries

@[expose] public section

set_option maxRecDepth 16384

noncomputable section

namespace Cert.SguIdeal.Spatial

open Cert.SguIdeal Cert.SguIdeal.Gen
open Cert.SguRefIdeal.Plain (entry rowMean rowAt colAt sampleAt half below_diagonal)
open Idealize.ShloMosaic Idealize.ShloMosaic.TcCoe

/-! ## The body's values at an index -/

theorem normed_block_at (v : Vec Ideal S128x8192 .f32) (g b : Vec Ideal S1x8192 .f32) (i : Fin 128) (k : Fin 8192) :
    k0_pay3 v g b (ix2 i k) = entry (fun j => v (ix2 i j)) k (g (ix2 0 k)) (b (ix2 0 k)) := by
  pointwise [k0_pay3, entry, rowMean]

/-- A row of a block lies inside the array. -/
theorem row_inside : ∀ (a : Fin 65) (i : Fin 128),
    IntOp.cmpi .slt (IntOp.addi (IntOp.muli (BitVec.ofNat 32 a.val) 128#32) (BitVec.ofNat 32 i.val)) 8200#32
      = if a.val * 128 + i.val < 8200 then 1#1 else 0#1 := by decide +kernel

theorem cut_block_at (a : grid0.Coords) (v : Vec Ideal S128x8192 .f32) (g b : Vec Ideal S1x8192 .f32) (i : Fin 128) (k : Fin 8192) :
    k0_pay4 a v g b (ix2 i k) = if (a 0).val * 128 + i.val < 8200 then k0_pay3 v g b (ix2 i k) else 0 := by
  have e := row_inside (a 0) i
  pointwise [k0_pay4]
  refine (congrArg (fun z : BitVec 1 => Scalar.select z (k0_pay3 v g b (ix2 i k)) (0 : EReal)) e).trans ?_
  by_cases h : (a 0).val * 128 + i.val < 8200
  · rw [if_pos h, if_pos h]; rfl
  · rw [if_neg h, if_neg h]; rfl

theorem group_at (n : Fin 16) (u : Vec Ideal S128x8192 .f32) (v : FVec Ideal S128x8192 .bf16) (w : Vec Ideal S1x16x128x128 .bf16)
    (b : Vec Ideal S1x128x16 .f32) (i : Fin 128) (d : Fin 512) :
    group n u v w b (ix2 i d)
      = u (ix2 i (colAt n d)) * ((∑ j : Fin 128, w (ix4 0 n i j) * v (ix2 j (colAt n d)) : EReal) + b (ix3 0 i n)) := by
  refine congrArg₂ (fun a b : EReal => a * b) ?_ (congrArg₂ (fun a b : EReal => a + b) ?_ ?_)
  · refine congrArg u (funext fun (a : Fin 2) => Fin.ext ?_)
    fin_cases a
    · show 0 + 1 * i.val = i.val; omega
    · show n.val * 512 + 1 * d.val = n.val * 512 + d.val; omega
  · refine (Ideal.matmul_plain_apply none _ _ _ i d).trans ?_
    refine (congrArg (fun a : EReal => a + _) Ideal.ofBits_zero_f32).trans ((zero_add _).trans ?_)
    refine Finset.sum_congr rfl fun j _ => congrArg₂ (fun a b : EReal => a * b) ?_ ?_
    · refine (shapeCast_apply _ _ _ (ix4 0 0 i j : S1x1x128x128.Idx) ?_).trans ?_
      · rw [Shape.rowMajor_val_two, Shape.rowMajor_val_four]
        show ((0 * 1 + 0) * 128 + i.val) * 128 + j.val = i.val * 128 + j.val
        omega
      · refine congrArg w (funext fun (a : Fin 4) => Fin.ext ?_)
        fin_cases a
        · rfl
        · show n.val + 1 * 0 = n.val; omega
        · show 0 + 1 * i.val = i.val; omega
        · show 0 + 1 * j.val = j.val; omega
    · exact extractStridedSlice_apply _ _ _ _ _ fun (a : Fin 2) => by
        fin_cases a
        · show j.val = 0 + j.val; omega
        · rfl
  · refine (broadcastTo_apply _ broadcasts_S128x1_S128x512 (ix2 i d : S128x512.Idx) (ix2 i 0 : S128x1.Idx) fun (a : Fin 2) => by fin_cases a <;> rfl).trans ?_
    refine (extractStridedSlice_apply _ _ _ _ (ix2 i n : S128x16.Idx) fun (a : Fin 2) => ?_).trans ?_
    · fin_cases a
      · show i.val = 0 + i.val; omega
      · show n.val = n.val + 0; omega
    · exact ValueIdx.shapeCast_1ab_ab_apply b _ i n

/-! ## The tables -/

variable (m : (ℓ : Loc nD τ sig) → Buf (Elt Ideal) ℓ) (c : Dev nD)

/-- The prompt's mixing weights, zero above the diagonal. -/
def promptWeights (w : Vec Ideal S1x16x128x128 .f32) : FVec Ideal S16x128x128 .f32 :=
  select (broadcastInDim S16x128x128 ![1, 2] bcast_S128x128_S16x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1))))
    (shapeCast S16x128x128 w shapeCasts_S1x16x128x128_S16x128x128)
    (broadcastInDim S16x128x128 ![] bcast_S_S16x128x128 (id (constant S_ .f32 0x00000000#32)))

/-- The samples' mixing weights: the first weight of every group on the diagonal. -/
def sampleWeights (w : Vec Ideal S1x16x128x128 .f32) : FVec Ideal S16x128x128 .f32 :=
  mulf (broadcastInDim S16x128x128 ![0, 1, 2] bcast_S1x128x128_S16x128x128_0_1_2 (broadcastInDim S1x128x128 ![1, 2] bcast_S128x128_S1x128x128_1_2
      (uitofp .f32 (cmpi .eq (addi (iotaInDim S128x128 32 0) (broadcastInDim S128x128 ![] bcast_S_S128x128 (constantI S_ 32 0#32))) (iotaInDim S128x128 32 1)))))
    (broadcastInDim S16x128x128 ![0, 1, 2] bcast_S16x1x1_S16x128x128_0_1_2 (broadcastInDim S16x1x1 ![0] bcast_S16_S16x1x1_0
      (shapeCast S16 (extractStridedSlice S16x1x1 ![0, 0, 0] (shapeCast S16x128x128 w shapeCasts_S1x16x128x128_S16x128x128) slices_S16x128x128_S16x1x1_0_0_0)
        shapeCasts_S16x1x1_S16)))

def promptBiases (s : Vec Ideal S1x16x128 .f32) : FVec Ideal S128x16 .f32 :=
  transpose S128x16 [1, 0] (shapeCast S16x128 s shapeCasts_S1x16x128_S16x128) transposes_S16x128_S128x16_1_0

def sampleBiases (s : Vec Ideal S1x16x128 .f32) : FVec Ideal S128x16 .f32 :=
  broadcastInDim S128x16 ![0, 1] bcast_S1x16_S128x16_0_1 (broadcastInDim S1x16 ![1] bcast_S16_S1x16_1
    (shapeCast S16 (extractStridedSlice S16x1 ![0, 0] (shapeCast S16x128 s shapeCasts_S1x16x128_S16x128) slices_S16x128_S16x1_0_0) shapeCasts_S16x1_S16))

def bothWeights (w : Vec Ideal S1x16x128x128 .f32) : FVec Ideal S2x16x128x128 .f32 :=
  concatenate S2x16x128x128 0 [⟨S1x16x128x128, broadcastInDim S1x16x128x128 ![1, 2, 3] bcast_S16x128x128_S1x16x128x128_1_2_3 (promptWeights w)⟩,
    ⟨S1x16x128x128, broadcastInDim S1x16x128x128 ![1, 2, 3] bcast_S16x128x128_S1x16x128x128_1_2_3 (sampleWeights w)⟩]
    concatenates_S1x16x128x128_S1x16x128x128_S2x16x128x128_d0

def weightTable (w : Vec Ideal S1x16x128x128 .f32) : FVec Ideal S2x16x128x128 .bf16 := truncf .bf16 (bothWeights w) bitsLt_bf16_f32

def biasTable (s : Vec Ideal S1x16x128 .f32) : FVec Ideal S2x128x16 .f32 :=
  concatenate S2x128x16 0 [⟨S1x128x16, broadcastInDim S1x128x16 ![1, 2] bcast_S128x16_S1x128x16_1_2 (promptBiases s)⟩,
    ⟨S1x128x16, broadcastInDim S1x128x16 ![1, 2] bcast_S128x16_S1x128x16_1_2 (sampleBiases s)⟩] concatenates_S1x128x16_S1x128x16_S2x128x16_d0

set_option maxHeartbeats 4000000 in
theorem weights_read : V m c main_v21 = weightTable (m ((c : Thread nD τ).loc main_arg3)) := by
  show StableHlo.after (List.flatten _) _ _ = _
  simp only [List.flatten_cons, List.flatten_nil, List.append_nil, List.cons_append, List.nil_append]
  after_reads_simp
  rfl

set_option maxHeartbeats 4000000 in
theorem biases_read : V m c main_v29 = biasTable (m ((c : Thread nD τ).loc main_arg4)) := by
  show StableHlo.after (List.flatten _) _ _ = _
  simp only [List.flatten_cons, List.flatten_nil, List.append_nil, List.cons_append, List.nil_append]
  after_reads_simp
  rfl

theorem gains_read : V m c main_v31 = m ((c : Thread nD τ).loc main_arg1) := by
  refine Eq.trans (?_ : _ = shapeCast S1x8192 (shapeCast S8192 (m ((c : Thread nD τ).loc main_arg1)) shapeCasts_S1x8192_S8192) shapeCasts_S8192_S1x8192) ?_
  · show StableHlo.after (List.flatten _) _ _ = _
    simp only [List.flatten_cons, List.flatten_nil, List.append_nil, List.cons_append, List.nil_append]
    after_reads_simp
    rfl
  · exact shapeCast_shapeCast _ _ _

theorem shifts_read : V m c main_v33 = m ((c : Thread nD τ).loc main_arg2) := by
  refine Eq.trans (?_ : _ = shapeCast S1x8192 (shapeCast S8192 (m ((c : Thread nD τ).loc main_arg2)) shapeCasts_S1x8192_S8192) shapeCasts_S8192_S1x8192) ?_
  · show StableHlo.after (List.flatten _) _ _ = _
    simp only [List.flatten_cons, List.flatten_nil, List.append_nil, List.cons_append, List.nil_append]
    after_reads_simp
    rfl
  · exact shapeCast_shapeCast _ _ _

theorem promptWeights_at (w : Vec Ideal S1x16x128x128 .f32) (g : Fin 16) (t s : Fin 128) :
    promptWeights w (ix3 g t s) = if s ≤ t then w (ix4 0 g t s) else 0 := by
  pointwise [promptWeights]
  rw [below_diagonal t s]
  by_cases h : s ≤ t
  · rw [if_pos h, if_pos h]; rfl
  · rw [if_neg h, if_neg h]; exact Ideal.ofBits_zero_f32

theorem on_diagonal : ∀ t s : Fin 128,
    IntOp.cmpi .eq (IntOp.addi (BitVec.ofNat 32 t.val) 0#32) (BitVec.ofNat 32 s.val) = if t = s then 1#1 else 0#1 := by decide +kernel

theorem one_of_bit : (FloatOps.uitofp (F := Ideal) .f32 (1#1 : BitVec 1) : EReal) = 1 := by
  show (((1#1 : BitVec 1).toNat : ℝ) : EReal) = 1
  simp
theorem zero_of_bit : (FloatOps.uitofp (F := Ideal) .f32 (0#1 : BitVec 1) : EReal) = 0 := by
  show (((0#1 : BitVec 1).toNat : ℝ) : EReal) = 0
  simp

theorem sampleWeights_at (w : Vec Ideal S1x16x128x128 .f32) (g : Fin 16) (t s : Fin 128) :
    sampleWeights w (ix3 g t s) = if t = s then w (ix4 0 g 0 0) else 0 := by
  pointwise [sampleWeights]
  rw [on_diagonal t s]
  by_cases h : t = s
  · rw [if_pos h, if_pos h]
    exact (congrArg (fun a : EReal => a * _) one_of_bit).trans (one_mul _)
  · rw [if_neg h, if_neg h]
    exact (congrArg (fun a : EReal => a * _) zero_of_bit).trans (zero_mul _)

theorem weightTable_prompt (w : Vec Ideal S1x16x128x128 .f32) (g : Fin 16) (t s : Fin 128) :
    weightTable w (ix4 0 g t s) = if s ≤ t then w (ix4 0 g t s) else 0 := by
  show bothWeights w (ix4 0 g t s) = _
  refine (concatenate_pair_apply_left (t := S2x16x128x128) 0 _ _ concatenates_S1x16x128x128_S1x16x128x128_S2x16x128x128_d0 (ix4 0 g t s) rfl
    (ix4 0 g t s : S1x16x128x128.Idx) fun (a : Fin 4) => ?_).trans ?_
  · fin_cases a <;> rfl
  · exact (broadcastInDim_apply _ _ _ _ (ix3 g t s) (fun (a : Fin 3) => by fin_cases a <;> rfl)).trans (promptWeights_at w g t s)

theorem weightTable_sample (w : Vec Ideal S1x16x128x128 .f32) (g : Fin 16) (t s : Fin 128) :
    weightTable w (ix4 1 g t s) = if t = s then w (ix4 0 g 0 0) else 0 := by
  show bothWeights w (ix4 1 g t s) = _
  refine (concatenate_pair_apply_right (t := S2x16x128x128) 0 _ _ concatenates_S1x16x128x128_S1x16x128x128_S2x16x128x128_d0 (ix4 1 g t s) rfl rfl
    (ix4 0 g t s : S1x16x128x128.Idx) (fun (a : Fin 4) ha => ?_) ?_).trans ?_
  · fin_cases a
    · exact absurd rfl ha
    all_goals rfl
  · rfl
  · exact (broadcastInDim_apply _ _ _ _ (ix3 g t s) (fun (a : Fin 3) => by fin_cases a <;> rfl)).trans (sampleWeights_at w g t s)

theorem biasTable_prompt (s : Vec Ideal S1x16x128 .f32) (g : Fin 16) (t : Fin 128) : biasTable s (ix3 0 t g) = s (ix3 0 g t) := by
  refine (concatenate_pair_apply_left (t := S2x128x16) 0 _ _ concatenates_S1x128x16_S1x128x16_S2x128x16_d0 (ix3 0 t g) rfl
    (ix3 0 t g : S1x128x16.Idx) fun (a : Fin 3) => ?_).trans ?_
  · fin_cases a <;> rfl
  · refine (broadcastInDim_apply _ _ _ _ (ix2 t g) (fun (a : Fin 2) => by fin_cases a <;> rfl)).trans ?_
    pointwise [promptBiases]

theorem biasTable_sample (s : Vec Ideal S1x16x128 .f32) (g : Fin 16) (t : Fin 128) : biasTable s (ix3 1 t g) = s (ix3 0 g 0) := by
  refine (concatenate_pair_apply_right (t := S2x128x16) 0 _ _ concatenates_S1x128x16_S1x128x16_S2x128x16_d0 (ix3 1 t g) rfl rfl
    (ix3 0 t g : S1x128x16.Idx) (fun (a : Fin 3) ha => ?_) ?_).trans ?_
  · fin_cases a
    · exact absurd rfl ha
    all_goals rfl
  · rfl
  · refine (broadcastInDim_apply _ _ _ _ (ix2 t g) (fun (a : Fin 2) => by fin_cases a <;> rfl)).trans ?_
    pointwise [sampleBiases]

end Cert.SguIdeal.Spatial

end
-- ==== Proof.Sgu.Value.lean ====
/-
  The spatial gating at the ideal values: the arrays the blocks written back leave are the reference's two results, whatever lay
  in the part of a staging buffer that no transfer moved. A prompt block is a whole chunk; in the samples' block the mixing
  weights are zero off the diagonal, so a sample's row takes nothing from any other.
-/
module

public import proofs.«01_k».proof.Proof.Sgu.Tables
public import Idealize.ShloMosaic.Lib.Pipeline.ValueKit.Geometry

@[expose] public section

set_option maxRecDepth 16384

noncomputable section

namespace Cert.SguIdeal.Spatial

open Cert.SguIdeal Cert.SguIdeal.Gen Cert.Dense
open Cert.SguRefIdeal.Plain (entry rowMean rowAt colAt sampleAt half gated normed normed_at gated_prompt gated_sample)
open Idealize.ShloMosaic Idealize.ShloMosaic.TcCoe
open Idealize.ShloMosaic.Pipeline (Dat RDat Cfg Window)

/-! ## A block's gated rows are the reference's -/

section
variable (a : grid0.Coords) (x : Vec Ideal S8200x16384 .f32) (g b : Vec Ideal S1x8192 .f32) (w : Vec Ideal S1x16x128x128 .f32)
  (s : Vec Ideal S1x16x128 .f32) (u v : Vec Ideal S128x8192 .f32) (W : Vec Ideal S1x16x128x128 .bf16) (B : Vec Ideal S1x128x16 .f32)

theorem prompt_eq (ha : (a 0).val < 64)
    (hu : ∀ i k, u (ix2 i k) = x (ix2 (rowAt ⟨(a 0).val, ha⟩ i) ⟨k.val, by omega⟩)) (hv : ∀ i k, v (ix2 i k) = half x (rowAt ⟨(a 0).val, ha⟩ i) k)
    (hw : ∀ n i j, W (ix4 0 n i j) = if j ≤ i then w (ix4 0 n i j) else 0) (hs : ∀ n i, B (ix3 0 i n) = s (ix3 0 n i))
    (i : Fin 128) (n : Fin 16) (d : Fin 512) :
    group n u (k0_pay4 a v g b) W B (ix2 i d) = gated x g b w s (ix2 (rowAt ⟨(a 0).val, ha⟩ i) (colAt n d)) := by
  refine (group_at _ _ _ _ _ _ _).trans (Eq.trans ?_ (gated_prompt _ _ _ _ _ _ _ _ _).symm)
  refine congrArg₂ (fun a b : EReal => a * b) (hu _ _) (congrArg₂ (fun a b : EReal => a + b) (Finset.sum_congr rfl fun j _ => ?_) (hs n i))
  refine (congrArg₂ (fun a b : EReal => a * b) (hw n i j) ?_).trans (mul_comm _ _)
  have hj := j.isLt
  rw [cut_block_at, if_pos (by omega), normed_block_at]
  exact congrArg (fun r => entry r (colAt n d) _ _) (funext fun k => hv j k)

theorem sample_eq (ha : (a 0).val = 64) (i : Fin 8)
    (hu : ∀ k, u (ix2 ⟨i.val, by omega⟩ k) = x (ix2 (sampleAt i) ⟨k.val, by omega⟩)) (hv : ∀ k, v (ix2 ⟨i.val, by omega⟩ k) = half x (sampleAt i) k)
    (hw : ∀ n i j, W (ix4 0 n i j) = if i = j then w (ix4 0 n 0 0) else 0) (hs : ∀ n i, B (ix3 0 i n) = s (ix3 0 n 0))
    (n : Fin 16) (d : Fin 512) :
    group n u (k0_pay4 a v g b) W B (ix2 ⟨i.val, by omega⟩ d) = gated x g b w s (ix2 (sampleAt i) (colAt n d)) := by
  refine (group_at _ _ _ _ _ _ _).trans (Eq.trans ?_ (gated_sample _ _ _ _ _ _ _ _).symm)
  refine congrArg₂ (fun a b : EReal => a * b) (hu _) (congrArg₂ (fun a b : EReal => a + b) ?_ (hs n _))
  refine (Finset.sum_eq_single (⟨i.val, by omega⟩ : Fin 128) (fun j _ hj => ?_) fun h => absurd (Finset.mem_univ _) h).trans ?_
  · refine (congrArg (fun a : EReal => a * _) ((hw n _ j).trans (if_neg fun e => hj e.symm))).trans (zero_mul _)
  · refine congrArg₂ (fun a b : EReal => a * b) ((hw n _ _).trans (if_pos rfl)) ?_
    have hi := i.isLt
    rw [cut_block_at, if_pos (show (a 0).val * 128 + i.val < 8200 by omega), normed_block_at]
    exact congrArg (fun r => entry r (colAt n d) _ _) (funext fun k => hv k)

end

/-! ## The blocks at an index -/

/-- The arrays of rows are cut in blocks in order; the prompt's blocks are whole, the samples' holds eight rows. -/
theorem block_offset : ∀ i : grid0.Coords, cc0_transform_0 i 0 = (i 0).val := by decide +kernel
theorem prompt_whole : ∀ i : grid0.Coords, (i 0).val < 64 → (Pipeline.Clip.of (cc0_transform_0 i 0) 128 8200).extent 128 = 128 := by decide +kernel
theorem samples_cut : ∀ i : grid0.Coords, ¬ (i 0).val < 64 → (i 0).val = 64 ∧ (Pipeline.Clip.of (cc0_transform_0 i 0) 128 8200).extent 128 = 8 := by
  decide +kernel
theorem second_columns : ∀ i : grid0.Coords,
    (Pipeline.Clip.of (cc0_transform_1 i 1) (S128x8192.size 1) (S8200x16384.size 1)).extent (S128x8192.size 1) = 8192 := by decide +kernel
theorem second_moved (i : grid0.Coords) (j : Fin 128) (k : Fin 8192) (h : j.val < (Pipeline.Clip.of (cc0_transform_1 i 0) 128 8200).extent 128) :
    (cfg0.win 1).moved i (ix2 j k : S128x8192.Idx) = true := by
  refine ((cfg0.win 1).moved_iff _ _).mpr ?_
  show ∀ a : Fin 2, ((ix2 j k : S128x8192.Idx) a).val
    < (Pipeline.Clip.of (cc0_transform_1 i a) (S128x8192.size a) (S8200x16384.size a)).extent (S128x8192.size a)
  refine Fin.forall_fin_two.mpr ⟨h, ?_⟩
  rw [second_columns]
  exact k.isLt
/-- The prompt's blocks take the tables' first half, the samples' their second. -/
theorem prompt_tables : ∀ i : grid0.Coords, (i 0).val < 64 → cc0_transform_4 i 0 = 0 ∧ cc0_transform_5 i 0 = 0 := by decide +kernel
theorem sample_tables : ∀ i : grid0.Coords, ¬ (i 0).val < 64 → cc0_transform_4 i 0 = 1 ∧ cc0_transform_5 i 0 = 1 := by decide +kernel

variable (m : (ℓ : Loc nD τ sig) → Buf (Elt Ideal) ℓ) (c : Dev nD) (t : Fin cfg0.N)

/-- The rows of a point's block that the transfers move, and the array's row of a block's. -/
abbrev Moved (i : ℕ) : Prop := i < (Pipeline.Clip.of (cc0_transform_0 (grid0.coords t) 0) 128 8200).extent 128
def rowOf (i : ℕ) (hi : Moved t i) : Fin 8200 := ⟨cc0_transform_0 (grid0.coords t) 0 * 128 + i, moved_inside (hstart0_0 (grid0.coords t) 0) hi⟩
theorem rowOf_val (i : ℕ) (hi : Moved t i) : (rowOf t i hi).val = (grid0.coords t 0).val * 128 + i := by
  show cc0_transform_0 (grid0.coords t) 0 * 128 + i = _
  rw [block_offset]

theorem first_half_at (d : Vec Ideal S128x8192 .f32) (i : Fin 128) (hi : Moved t i.val) (k : Fin 8192) :
    staged m c 0 t d (ix2 i k : S128x8192.Idx) = m ((c : Thread nD τ).loc main_arg0) (ix2 (rowOf t i.val hi) ⟨k.val, by omega⟩) := by
  have h : (cfg0.win 0).moved (cfg0.grid.coords t) (ix2 i k : S128x8192.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show cc0_transform_0 (grid0.coords t) 0 * 128 + 1 * i.val = cc0_transform_0 (grid0.coords t) 0 * 128 + i.val; omega
  · show 0 * 8192 + 1 * k.val = k.val; omega

theorem second_half_at (d : Vec Ideal S128x8192 .f32) (i : Fin 128) (hi : Moved t i.val) (k : Fin 8192) :
    staged m c 1 t d (ix2 i k : S128x8192.Idx) = half (m ((c : Thread nD τ).loc main_arg0)) (rowOf t i.val hi) k := by
  have h := second_moved (grid0.coords t) i k hi
  unfold staged Window.fill
  rw [dif_pos h]
  refine (congrArg (V m c main_arg0) (funext fun (a : Fin 2) => Fin.ext ?_)).trans (congrFun (V_main_arg0 m c) _)
  fin_cases a
  · show cc0_transform_0 (grid0.coords t) 0 * 128 + 1 * i.val = cc0_transform_0 (grid0.coords t) 0 * 128 + i.val; omega
  · show 1 * 8192 + 1 * k.val = 8192 + k.val; omega

/-- A window on a whole row of parameters holds it. -/
theorem whole_row (x : Vec Ideal S1x8192 .f32) (y z : S1x8192.Idx) (h0 : (y 0).val = 0 * 1 + 1 * (z 0).val) (h1 : (y 1).val = 0 * 8192 + 1 * (z 1).val) :
    x y = x z :=
  congrArg x (funext fun (a : Fin 2) => Fin.ext (by fin_cases a <;> simp_all))

theorem gains_block : iblk m c 2 t = m ((c : Thread nD τ).loc main_arg1) :=
  (funext fun z => whole_row (V m c main_v31) _ z rfl rfl : iblk m c 2 t = V m c main_v31).trans (gains_read m c)
theorem shifts_block : iblk m c 3 t = m ((c : Thread nD τ).loc main_arg2) :=
  (funext fun z => whole_row (V m c main_v33) _ z rfl rfl : iblk m c 3 t = V m c main_v33).trans (shifts_read m c)

theorem weights_block (v : Fin 2) (hv : cc0_transform_4 (grid0.coords t) 0 = v.val) (n : Fin 16) (i j : Fin 128) :
    iblk m c 4 t (ix4 0 n i j : S1x16x128x128.Idx) = weightTable (m ((c : Thread nD τ).loc main_arg3)) (ix4 v n i j) := by
  refine (congrArg (V m c main_v21) (funext fun (a : Fin 4) => Fin.ext ?_)).trans (congrFun (weights_read m c) _)
  fin_cases a
  · show cc0_transform_4 (grid0.coords t) 0 * 1 + 1 * 0 = v.val; omega
  · show 0 * 16 + 1 * n.val = n.val; omega
  · show 0 * 128 + 1 * i.val = i.val; omega
  · show 0 * 128 + 1 * j.val = j.val; omega

theorem biases_block (v : Fin 2) (hv : cc0_transform_5 (grid0.coords t) 0 = v.val) (n : Fin 16) (i : Fin 128) :
    iblk m c 5 t (ix3 0 i n : S1x128x16.Idx) = biasTable (m ((c : Thread nD τ).loc main_arg4)) (ix3 v i n) := by
  refine (congrArg (V m c main_v29) (funext fun (a : Fin 3) => Fin.ext ?_)).trans (congrFun (biases_read m c) _)
  fin_cases a
  · show cc0_transform_5 (grid0.coords t) 0 * 1 + 1 * 0 = v.val; omega
  · show 0 * 128 + 1 * i.val = i.val; omega
  · show 0 * 16 + 1 * n.val = n.val; omega

/-! ## The results -/

/-- The reference's values of this launch's arguments. -/
abbrev wantedGated : Vec Ideal S8200x8192 .bf16 :=
  gated (m ((c : Thread nD τ).loc main_arg0)) (m ((c : Thread nD τ).loc main_arg1)) (m ((c : Thread nD τ).loc main_arg2))
    (m ((c : Thread nD τ).loc main_arg3)) (m ((c : Thread nD τ).loc main_arg4))
abbrev wantedNormed : Vec Ideal S8200x8192 .f32 :=
  normed (m ((c : Thread nD τ).loc main_arg0)) (m ((c : Thread nD τ).loc main_arg1)) (m ((c : Thread nD τ).loc main_arg2))

theorem normed_rows (d1 : Vec Ideal S128x8192 .f32) (i : Fin 128) (hi : Moved t i.val) (k : Fin 8192) :
    leavesNormed m c t d1 (ix2 i k) = wantedNormed m c (ix2 (rowOf t i.val hi) k) := by
  unfold leavesNormed
  rw [gains_block, shifts_block]
  refine (normed_block_at _ _ _ _ _).trans (Eq.trans ?_ (normed_at _ _ _ _ _).symm)
  exact congrArg (fun r => entry r k _ _) (funext fun j => second_half_at m c t d1 i hi j)

theorem gated_rows (d0 d1 : Vec Ideal S128x8192 .f32) (X : Vec Ideal S128x8192 .bf16) (hX : LeavesMixed m c t d0 d1 X)
    (i : Fin 128) (hi : Moved t i.val) (n : Fin 16) (d : Fin 512) :
    X (ix2 i (colAt n d)) = wantedGated m c (ix2 (rowOf t i.val hi) (colAt n d)) := by
  have e : X (ix2 i (colAt n d)) = columns X n (ix2 i d) := congrArg X (funext fun (a : Fin 2) => Fin.ext (by
    fin_cases a
    · show i.val = 0 + 1 * i.val; omega
    · show n.val * 512 + d.val = n.val * 512 + 1 * d.val; omega))
  refine e.trans ((congrFun (hX n) _).trans ?_)
  rw [gains_block, shifts_block]
  by_cases p : (grid0.coords t 0).val < 64
  · have hm : ∀ j : Fin 128, Moved t j.val := fun j => lt_of_lt_of_eq j.isLt (prompt_whole _ p).symm
    have hr : ∀ (j : Fin 128) hj, rowOf t j.val hj = rowAt ⟨(grid0.coords t 0).val, p⟩ j := fun j hj => Fin.ext (rowOf_val t j.val hj)
    obtain ⟨p4, p5⟩ := prompt_tables _ p
    rw [hr]
    refine prompt_eq (grid0.coords t) _ _ _ _ _ _ _ _ _ p (fun j k => ?_) (fun j k => ?_) (fun n i j => ?_) (fun n i => ?_) i n d
    · exact (first_half_at m c t d0 j (hm j) k).trans (by rw [hr])
    · exact (second_half_at m c t d1 j (hm j) k).trans (by rw [hr])
    · exact (weights_block m c t 0 p4 n i j).trans (weightTable_prompt _ n i j)
    · exact (biases_block m c t 0 p5 n i).trans (biasTable_prompt _ n i)
  · obtain ⟨e64, e8⟩ := samples_cut _ p
    have h8 : i.val < 8 := lt_of_lt_of_eq hi e8
    have hr : rowOf t i.val hi = sampleAt ⟨i.val, h8⟩ := Fin.ext ((rowOf_val t i.val hi).trans (by rw [e64]; show 64 * 128 + i.val = 8192 + i.val; omega))
    obtain ⟨p4, p5⟩ := sample_tables _ p
    rw [hr]
    refine sample_eq (grid0.coords t) _ _ _ _ _ _ _ _ _ e64 ⟨i.val, h8⟩ (fun k => ?_) (fun k => ?_) (fun n i j => ?_) (fun n i => ?_) n d
    · exact (first_half_at m c t d0 i hi k).trans (by rw [hr])
    · exact (second_half_at m c t d1 i hi k).trans (by rw [hr])
    · exact (weights_block m c t 1 p4 n i j).trans (weightTable_sample _ n i j)
    · exact (biases_block m c t 1 p5 n i).trans (biasTable_sample _ n i)

set_option maxHeartbeats 2000000 in
theorem gated_eq (dat : Dat τ (Elt Ideal) Unit ℕ (UR sig nD τ) ℕ cfg0 c)
    (h : ∀ t, ∃ d0 d1, LeavesMixed m c t d0 d1 (dat.after 6 t)) : dat.arrAt 6 cfg0.N = wantedGated m c := by
  refine dat.arrAt_eq_of_covers 6 (wantedGated m c) (by decide +kernel) fun t _ y => ?_
  obtain ⟨d0, d1, hd⟩ := h t
  have h0 : Moved t (y (0 : Fin 2)).val := (y (0 : Fin 2)).isLt
  have h1 : (y (1 : Fin 2)).val < 8192 := moved_in_block (hstart0_6 (grid0.coords t) 1) (y (1 : Fin 2)).isLt
  have ec : (⟨(y (1 : Fin 2)).val, h1⟩ : Fin 8192)
      = colAt ⟨(y (1 : Fin 2)).val / 512, by omega⟩ ⟨(y (1 : Fin 2)).val % 512, by omega⟩ :=
    Fin.ext (show (y (1 : Fin 2)).val = (y (1 : Fin 2)).val / 512 * 512 + (y (1 : Fin 2)).val % 512 by omega)
  have ey : (cfg0.win 6).xinj (grid0.coords t) y
      = (ix2 ⟨(y (0 : Fin 2)).val, moved_in_block (hstart0_0 (grid0.coords t) 0) h0⟩ ⟨(y (1 : Fin 2)).val, h1⟩ : S128x8192.Idx) :=
    funext fun (a : Fin 2) => by fin_cases a <;> rfl
  have ep : ((cfg0.win 6).blk t).view.emb y = (ix2 (rowOf t _ h0) ⟨_, h1⟩ : S8200x8192.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 8192 + 1 * (y (1 : Fin 2)).val = (y (1 : Fin 2)).val; omega
  rw [ec] at ey ep
  refine Eq.trans ?_ ((gated_rows m c t d0 d1 _ hd ⟨_, moved_in_block (hstart0_0 (grid0.coords t) 0) h0⟩ h0 _ _).trans
    (congrArg (wantedGated m c) ep.symm))
  exact congrArg (dat.after 6 t) ey

set_option maxHeartbeats 2000000 in
theorem normed_eq (dat : Dat τ (Elt Ideal) Unit ℕ (UR sig nD τ) ℕ cfg0 c)
    (h : ∀ t, ∃ d1, dat.after 7 t = leavesNormed m c t d1) : dat.arrAt 7 cfg0.N = wantedNormed m c := by
  refine dat.arrAt_eq_of_covers 7 (wantedNormed m c) (by decide +kernel) fun t _ y => ?_
  obtain ⟨d1, hd⟩ := h t
  have h0 : Moved t (y (0 : Fin 2)).val := (y (0 : Fin 2)).isLt
  have h1 : (y (1 : Fin 2)).val < 8192 := moved_in_block (hstart0_7 (grid0.coords t) 1) (y (1 : Fin 2)).isLt
  have ey : (cfg0.win 7).xinj (grid0.coords t) y
      = (ix2 ⟨(y (0 : Fin 2)).val, moved_in_block (hstart0_0 (grid0.coords t) 0) h0⟩ ⟨(y (1 : Fin 2)).val, h1⟩ : S128x8192.Idx) :=
    funext fun (a : Fin 2) => by fin_cases a <;> rfl
  have ep : ((cfg0.win 7).blk t).view.emb y = (ix2 (rowOf t _ h0) ⟨_, h1⟩ : S8200x8192.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 8192 + 1 * (y (1 : Fin 2)).val = (y (1 : Fin 2)).val; omega
  refine Eq.trans ?_ ((normed_rows m c t d1 ⟨_, moved_in_block (hstart0_0 (grid0.coords t) 0) h0⟩ h0 ⟨_, h1⟩).trans (congrArg (wantedNormed m c) ep.symm))
  exact (congrFun hd _).trans (congrArg (leavesNormed m c t d1) ey)

end Cert.SguIdeal.Spatial

end
-- ==== Proof.Sgu.Claims.lean ====
/-
  The claims about the spatial gating: the frames, and the two results of each program equal at the ideal values.
-/
module

public import proofs.«01_k».proof.Defs
public import proofs.«01_k».proof.Proof.Gen.Sgu
public import proofs.«01_k».proof.Proof.Sgu.Value

@[expose] public section

set_option maxRecDepth 16384

noncomputable section

namespace Cert.SguIdeal.Spatial

open Cert.SguIdeal Cert.SguIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem framed : Framed F := fun m g _ => quiescent m g

theorem frame_ideal : Cert.quiescent_SguIdeal := framed (F := Ideal)

theorem same_frame : Framed Bits = Cert.quiescent_Sgu := by chain_rfl

theorem frame_machine : Cert.quiescent_Sgu := Eq.mp same_frame (framed (F := Bits))

theorem frame_reference : Cert.quiescent_SguRefIdeal := fun m g _ => SguRefIdeal.Plain.quiescent m g

theorem equal_results : Cert.algebraic_SguIdeal_SguRefIdeal := by
  intro m g m' g' _ ha
  refine ⟨fun c => wantedGated m c, fun c => wantedNormed m c, ?_, ?_⟩
  · refine (θ_run SguIdeal.defs _ _).mono (fun r h c => ?_) (run m g)
    obtain ⟨dat, hd, hn, eg, en⟩ := result_ends m h.1 c
    exact ⟨eg.trans (gated_eq m c dat hd), en.trans (normed_eq m c dat hn), arguments_kept m r h.1 c⟩
  · refine (θ_run SguRefIdeal.defs _ _).mono (fun r h c => ⟨(h c).1.trans ?_, (h c).2.1.trans ?_, (h c).2.2⟩) (SguRefIdeal.Plain.run m' g')
    · obtain ⟨a0, a1, a2, a3, a4⟩ := ha c
      exact congr (congr (congr (congr (congrArg SguRefIdeal.Plain.gated a0) a1) a2) a3) a4
    · obtain ⟨a0, a1, a2, a3, a4⟩ := ha c
      exact congr (congr (congrArg SguRefIdeal.Plain.normed a0) a1) a2

end Cert.SguIdeal.Spatial

end
-- ==== Proof.Query.Run.lean ====
/-
  The query projection, run at any float values. The last block of rows overhangs its array; as in the other dense calls the
  run is stated with a relation, the body's value of SOME contents with the block laid over them. The result is rounded.
-/
module

public import proofs.«01_k».proof.Proof.Gen.QueryIdeal.Frame
public import proofs.«01_k».proof.Proof.Gen.QueryIdeal.Skeleton
public import Idealize.ShloMosaic.Lib.Pipeline.ArrRel
public import Idealize.ShloMosaic.Lib.VecWindow

@[expose] public section

set_option maxRecDepth 16384

noncomputable section

namespace Cert.QueryIdeal.Dense

open Cert.QueryIdeal Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- The body on any staging buffers: the three inputs are left as found, the result's buffer holds the body's value of them. -/
theorem run_body (c : Dev nD) (i : grid0.Coords)
    (arg2 : Memref sig .tc .vmem S912x4096 .bf16) (harg2 : arg2.IsWhole) (arg3 : Memref sig .tc .vmem S1x4096x512 .bf16) (harg3 : arg3.IsWhole)
    (arg4 : Memref sig .tc .vmem S1x512 .f32) (harg4 : arg4.IsWhole) (arg5 : Memref sig .tc .vmem S912x512 .bf16) (harg5 : arg5.IsWhole)
    (x : Vec F S912x4096 .bf16) (w : Vec F S1x4096x512 .bf16) (b : Vec F S1x512 .f32) (E : Set ℕ) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0_dense_mm i arg2 harg2 arg3 harg3 arg4 harg4 arg5 harg5) K := by
  simp only [cc0_dense_mm_eq_skeleton]; unfold cc0_dense_mm_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap
  · iexact H3
  ipureintro
  sl_unfold_words
  exact (View.read_writes_full (s := S912x512) _ _ _ _ _).trans (congr (congr (congrArg k0_pay1
    ((View.readAt_full (s := S912x4096) _ _ _).trans (harg2.read_unread x))) ((View.readAt_full (s := S1x4096x512) _ _ _).trans (harg3.read_unread w)))
    ((View.readAt_full (s := S1x512) _ _ _).trans (harg4.read_unread b)))

/-! ## The proof data -/

variable (m : (ℓ : Loc nD τ sig) → Buf (Elt F) ℓ) (ρ : Dev nD → PrngReg)

/-- A block of rows as its staging buffer holds it: laid over contents nothing names. -/
def staged (c : Dev nD) (t : Fin cfg0.N) (d : Vec F S912x4096 .bf16) : Vec F S912x4096 .bf16 :=
  (cfg0.win 0).fill (cfg0.grid.coords t) d (iblk m c 0 t)

/-- Inputs are left as found; the result's buffer is left with the body's value of the staged block. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => ∃ d, X = k0_pay1 (staged m c t d) (iblk m c 1 t) (iblk m c 2 t)
  Φ _ := Pipeline.ΦA spec0 c
  q _ := fullShare
  owed _ := 0

theorem found_rows (c : Dev nD) (t : Fin cfg0.N) (Y) (h : (rdat m c).Finds 0 t Y) : ∃ d, Y = staged m c t d :=
  (rdat m c).finds_in_eq_fetched 0 rfl (fun t t' e => congrArg (fun (ix : Fin 2 → ℕ) a => Pipeline.Clip.of (ix a) (S912x4096.size a) (S8200x4096.size a)) e)
    (fun t Y X h => h) t Y h

theorem found_weights (c : Dev nD) (t : Fin cfg0.N) (Y) (h : (rdat m c).Finds 1 t Y) : Y = iblk m c 1 t :=
  ((rdat m c).finds_in_eq_fetched 1 rfl (fun _ _ _ => rfl) (fun t Y X h => h) t Y h).elim fun _ h => h

theorem found_bias (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d, h0⟩ := found_rows m c t _ (hY 0)
  have h1 := found_weights m c t _ (hY 1)
  have h2 := found_bias m c t _ (hY 2)
  rw [show (rdat m c).Φ t.succ = (rdat m c).Φ t.castSucc from rfl, show (rdat m c).owesAt () t.succ = (rdat m c).owesAt () t.castSucc from rfl]
  iintro ⟨HΦ, Hg, H0, H1, H2, H3⟩
  iapply (run_body c (grid0.coords t) (st0_0 t) _ (st0_1 t) _ (st0_2 t) _ (st0_3 t) _ (Y 0) (Y 1) (Y 2))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro
  exact ⟨d, congr (congr (congrArg k0_pay1 h0) h1) h2⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

theorem arguments_kept (r : PUnit × MemSt nD τ sig (Elt F)) (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(RDat.FramePost.arr_in h c 0 rfl).trans (V_main_arg0 m c),
    ((h c).2 main_arg1 (Pipeline.mem_restRefs_of main_arg1 (by decide) (by decide))).trans (V_main_arg1 m c)⟩

/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d, dat.after 3 t = k0_pay1 (staged m c t d) (iblk m c 1 t) (iblk m c 2 t))
      ∧ r.2.mem ((c.tc : Thread nD τ).loc main_v5) = dat.arrAt 3 cfg0.N := by
  obtain ⟨after, hl, he⟩ := RDat.FramePost.exists_exact h c
  refine ⟨(rdat m c).withAfter after, fun t => ?_, he 3⟩
  obtain ⟨Y, -, d, hd⟩ := hl 3 t (flush0_3 t)
  exact ⟨d, hd⟩

end Cert.QueryIdeal.Dense

end
-- ==== Proof.Query.Reference.lean ====
/-
  The query projection on the host: the reference run, and its result read at a row and a column. The reference multiplies
  by the queries' and the gates' weights at once and keeps the queries' columns.
-/
module

public import proofs.«01_k».proof.Proof.Gen.QueryRefIdeal
public import proofs.«01_k».proof.Proof.Dense
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.QueryRefIdeal.Plain

open Cert.QueryRefIdeal Cert.QueryRefIdeal.Gen Idealize.ShloMosaic.StableHlo Idealize.ShloMosaic.ValueIdx

variable {F : FTy → Type} [FloatOps F]

/-- The operations of @main, in order. -/
abbrev ops : List (HloOp τ sig (Elt F)) :=
  [ unary main_arg0 main_v0 ((extf .f32 · bitsLt_bf16_f32)),
    reshape main_arg1 main_v1 (rfl : (.f32 : EltTy) = .f32) shapeCasts_S1x4096x4192_S4096x4192,
    binary main_v0 main_v1 main_v2 ((fun l r => Host.dotGeneral dot_S8200x4096_S4096x4192_S8200x4192_1_0_0_1_n_n none l r)),
    unary main_v2 main_v3 ((extractStridedSlice S8200x4096 ![0, 0] · slices_S8200x4192_S8200x4096_0_0)),
    unary main_v3 main_v4 ((truncf .bf16 · bitsLt_bf16_f32)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., unary_bufs_sub .., unary_bufs_sub ..⟩

/-- Every row times the queries' and the gates' weights. -/
def whole (x : Vec F S8200x4096 .bf16) (w : Vec F S1x4096x4192 .f32) : Vec F S8200x4192 .f32 :=
  Host.dotGeneral dot_S8200x4096_S4096x4192_S8200x4192_1_0_0_1_n_n none (extf .f32 x bitsLt_bf16_f32)
    (shapeCast S4096x4192 w shapeCasts_S1x4096x4192_S4096x4192)

/-- What the reference returns: the queries' columns of it, rounded. -/
def value (x : Vec F S8200x4096 .bf16) (w : Vec F S1x4096x4192 .f32) : Vec F S8200x4096 .bf16 :=
  truncf .bf16 (extractStridedSlice S8200x4096 ![0, 0] (whole x w) slices_S8200x4192_S8200x4096_0_0) bitsLt_bf16_f32

variable (m : (ℓ : Loc nD τ sig) → Buf (Elt F) ℓ) (ρ : Dev nD → PrngReg)

theorem result_read (c : Dev nD) (V : Valuation τ sig (Elt F)) : after ops V main_v4 = value (V main_arg0) (V main_arg1) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v4) = value (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (result_read c _),
      (h c main_arg0).trans (by after_reads_simp), (h c main_arg1).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

/-- A query's column among the queries' and the gates'. -/
def kept (q : Fin 4096) : Fin 4192 := ⟨q.val, by omega⟩

/-- The whole product at a row and a column, at the ideal values. -/
theorem whole_at (x : Vec Ideal S8200x4096 .bf16) (w : Vec Ideal S1x4096x4192 .f32) (r : Fin 8200) (q : Fin 4192) :
    whole x w (ix2 r q) = (∑ j : Fin 4096, x (ix2 r j) * w (ix3 0 j q) : EReal) :=
  Dense.host_product_at x w _ _ r q

/-- The columns kept of any array, at a row and a column. -/
theorem kept_at (y : Vec Ideal S8200x4192 .f32) (r : Fin 8200) (q : Fin 4096) :
    extractStridedSlice S8200x4096 ![0, 0] y slices_S8200x4192_S8200x4096_0_0 (ix2 r q) = y (ix2 r (kept q)) :=
  extractStridedSlice_apply _ _ _ _ _ fun (a : Fin 2) => by
    fin_cases a
    · show r.val = 0 + r.val; omega
    · show q.val = 0 + q.val; omega

/-- The result at a row and a column, at the ideal values. -/
theorem value_at (x : Vec Ideal S8200x4096 .bf16) (w : Vec Ideal S1x4096x4192 .f32) (r : Fin 8200) (q : Fin 4096) :
    value x w (ix2 r q) = (∑ j : Fin 4096, x (ix2 r j) * w (ix3 0 j (kept q)) : EReal) :=
  (kept_at (whole x w) r q).trans (whole_at x w r (kept q))

end Cert.QueryRefIdeal.Plain

end
-- ==== Proof.Query.Value.lean ====
/-
  The query projection at the ideal values: the array the blocks written back leave is the reference's result. The call is
  given the queries' columns of the weights, cut on the host before the product; the reference cuts after it.
-/
module

public import proofs.«01_k».proof.Proof.Query.Run
public import proofs.«01_k».proof.Proof.Query.Reference
public import Idealize.ShloMosaic.Lib.Pipeline.ValueKit.Geometry

@[expose] public section

set_option maxRecDepth 16384

noncomputable section

namespace Cert.QueryIdeal.Dense

open Cert.QueryIdeal Cert.QueryIdeal.Gen Cert.Dense
open Idealize.ShloMosaic Idealize.ShloMosaic.TcCoe Idealize.ShloMosaic.ValueIdx
open Idealize.ShloMosaic.Pipeline (Dat RDat Cfg Window)
open Cert.QueryRefIdeal.Plain (kept)

variable (m : (ℓ : Loc nD τ sig) → Buf (Elt Ideal) ℓ) (c : Dev nD) (t : Fin cfg0.N)

/-! ## What the call finds -/

/-- The queries' columns of a weight array. -/
def queries (w : Vec Ideal S1x4096x4192 .f32) : Vec Ideal S1x4096x4096 .f32 :=
  broadcastInDim S1x4096x4096 ![1, 2] bcast_S4096x4096_S1x4096x4096_1_2
    (extractStridedSlice S4096x4096 ![0, 0] (shapeCast S4096x4192 w shapeCasts_S1x4096x4192_S4096x4192) slices_S4096x4192_S4096x4096_0_0)

theorem queries_at (w : Vec Ideal S1x4096x4192 .f32) (j q : Fin 4096) : queries w (ix3 0 j q) = w (ix3 0 j (kept q)) := by
  refine (broadcastInDim_apply _ _ _ (ix3 0 j q : S1x4096x4096.Idx) (ix2 j q : S4096x4096.Idx) (fun (a : Fin 2) => by fin_cases a <;> rfl)).trans ?_
  refine (extractStridedSlice_apply _ _ _ (ix2 j q : S4096x4096.Idx) (ix2 j (kept q) : S4096x4192.Idx) fun (a : Fin 2) => ?_).trans
    (shapeCast_1ab_ab_apply w _ j (kept q))
  fin_cases a
  · show j.val = 0 + j.val; omega
  · show q.val = 0 + q.val; omega

theorem weights_entry : V m c main_v3 = queries (m ((c : Thread nD τ).loc main_arg1)) := by
  show StableHlo.after hostOps0 (fun b => m (c, b)) main_v3 = _
  after_reads_simp
  rfl

theorem bias_entry (k : Fin 4096) : V m c main_v4 (ix2 0 k) = (0 : EReal) := by
  have e : V m c main_v4 = broadcastInDim S1x4096 ![] bcast_S_S1x4096 (constant (F := Ideal) S_ .f32 0x00000000#32) := by
    show StableHlo.after hostOps0 (fun b => m (c, b)) main_v4 = _
    after_reads_simp
  rw [e]
  exact Ideal.ofBits_zero_f32

/-! ## The blocks at an index -/

/-- The block of rows and the tile of columns of a point. -/
abbrev blockOf : ℕ := cc0_transform_0 (grid0.coords t) 0
abbrev tileOf : ℕ := cc0_transform_3 (grid0.coords t) 1
/-- Row `i` of the point's block is one the transfers move. -/
abbrev Moved (i : ℕ) : Prop := i < (Pipeline.Clip.of (blockOf t) 912 8200).extent 912
/-- The array's row and column of a block's. -/
def rowOf (i : ℕ) (hi : Moved t i) : Fin 8200 := ⟨blockOf t * 912 + i, moved_inside (hstart0_0 (grid0.coords t) 0) hi⟩
def colOf (l : Fin 512) : Fin 4096 := ⟨tileOf t * 512 + l.val, by
  have h : (tileOf t + 1) * 512 ≤ 4096 := hinb0_2 (grid0.coords t) 1
  omega⟩

theorem rows_at (d : Vec Ideal S912x4096 .bf16) (i : Fin 912) (hi : Moved t i.val) (k : Fin 4096) :
    staged m c t d (ix2 i k) = m ((c : Thread nD τ).loc main_arg0) (ix2 (rowOf t i.val hi) k) := by
  have h : (cfg0.win 0).moved (cfg0.grid.coords t) (ix2 i k : S912x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show blockOf t * 912 + 1 * i.val = blockOf t * 912 + i.val; omega
  · show 0 * 4096 + 1 * k.val = k.val; omega

theorem weights_at (k : Fin 4096) (l : Fin 512) :
    iblk m c 1 t (ix3 0 k l) = m ((c : Thread nD τ).loc main_arg1) (ix3 0 k (kept (colOf t l))) := by
  refine (congrArg (V m c main_v3) (funext fun (a : Fin 3) => Fin.ext ?_)).trans
    ((congrFun (weights_entry m c) (ix3 0 k (colOf t l) : S1x4096x4096.Idx)).trans (queries_at _ k (colOf t l)))
  fin_cases a
  · rfl
  · show 0 * 4096 + 1 * k.val = k.val; omega
  · show tileOf t * 512 + 1 * l.val = tileOf t * 512 + l.val; omega

theorem bias_at (l : Fin 512) : iblk m c 2 t (ix2 0 l) = (0 : EReal) := by
  refine (congrArg (V m c main_v4) (funext fun (a : Fin 2) => Fin.ext ?_)).trans (bias_entry m c (colOf t l))
  fin_cases a
  · rfl
  · show tileOf t * 512 + 1 * l.val = tileOf t * 512 + l.val; omega

/-! ## The result -/

/-- The reference's value of this launch's arguments. -/
abbrev wanted : Vec Ideal S8200x4096 .bf16 :=
  QueryRefIdeal.Plain.value (m ((c : Thread nD τ).loc main_arg0)) (m ((c : Thread nD τ).loc main_arg1))

theorem computed_at (d : Vec Ideal S912x4096 .bf16) (i : Fin 912) (hi : Moved t i.val) (l : Fin 512) :
    k0_pay1 (staged m c t d) (iblk m c 1 t) (iblk m c 2 t) (ix2 i l) = wanted m c (ix2 (rowOf t i.val hi) (colOf t l)) :=
  (plain_tile_at (staged m c t d) (iblk m c 1 t) (iblk m c 2 t) _ _ _ i l (m ((c : Thread nD τ).loc main_arg0)) (m ((c : Thread nD τ).loc main_arg1))
    (rowOf t i.val hi) (kept (colOf t l)) (rows_at m c t d i hi) (fun k => weights_at m c t k l) (bias_at m c t l)).trans
    (QueryRefIdeal.Plain.value_at _ _ _ _).symm

theorem result_eq (dat : Dat τ (Elt Ideal) Unit ℕ (UR sig nD τ) ℕ cfg0 c)
    (h : ∀ t, ∃ d, dat.after 3 t = k0_pay1 (staged m c t d) (iblk m c 1 t) (iblk m c 2 t)) : dat.arrAt 3 cfg0.N = wanted m c := by
  refine dat.arrAt_eq_of_covers 3 (wanted m c) (by decide +kernel) fun t _ y => ?_
  obtain ⟨d, hd⟩ := h t
  have h0 : Moved t (y (0 : Fin 2)).val := (y (0 : Fin 2)).isLt
  have h1 : (y (1 : Fin 2)).val < 512 := moved_in_block (hstart0_3 (grid0.coords t) 1) (y (1 : Fin 2)).isLt
  have ey : (cfg0.win 3).xinj (grid0.coords t) y
      = (ix2 ⟨(y (0 : Fin 2)).val, moved_in_block (hstart0_0 (grid0.coords t) 0) h0⟩ ⟨(y (1 : Fin 2)).val, h1⟩ : S912x512.Idx) :=
    funext fun (a : Fin 2) => by fin_cases a <;> rfl
  have ep : ((cfg0.win 3).blk t).view.emb y = (ix2 (rowOf t _ h0) (colOf t ⟨_, h1⟩) : S8200x4096.Idx) := by
    refine funext fun (a : Fin 2) => Fin.ext ?_
    fin_cases a
    · show blockOf t * 912 + 1 * (y (0 : Fin 2)).val = blockOf t * 912 + (y (0 : Fin 2)).val; omega
    · show tileOf t * 512 + 1 * (y (1 : Fin 2)).val = tileOf t * 512 + (y (1 : Fin 2)).val; omega
  refine Eq.trans ?_ ((computed_at m c t d ⟨_, moved_in_block (hstart0_0 (grid0.coords t) 0) h0⟩ h0 ⟨_, h1⟩).trans (congrArg (wanted m c) ep.symm))
  exact (congrFun hd _).trans (congrArg (k0_pay1 (staged m c t d) (iblk m c 1 t) (iblk m c 2 t)) ey)

end Cert.QueryIdeal.Dense

end
-- ==== Proof.Query.Claims.lean ====
/-
  The claims about the query projection: the frames, and the two results equal at the ideal values.
-/
module

public import proofs.«01_k».proof.Defs
public import proofs.«01_k».proof.Proof.Gen.Query
public import proofs.«01_k».proof.Proof.Query.Value

@[expose] public section

set_option maxRecDepth 16384

noncomputable section

namespace Cert.QueryIdeal.Dense

open Cert.QueryIdeal Cert.QueryIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem framed : Framed F := fun m g _ => quiescent m g

theorem frame_ideal : Cert.quiescent_QueryIdeal := framed (F := Ideal)

theorem same_frame : Framed Bits = Cert.quiescent_Query := by chain_rfl

theorem frame_machine : Cert.quiescent_Query := Eq.mp same_frame (framed (F := Bits))

theorem frame_reference : Cert.quiescent_QueryRefIdeal := fun m g _ => QueryRefIdeal.Plain.quiescent m g

theorem equal_results : Cert.algebraic_QueryIdeal_QueryRefIdeal := by
  intro m g m' g' _ ha
  refine ⟨fun c => wanted m c, ?_, ?_⟩
  · refine (θ_run QueryIdeal.defs _ _).mono (fun r h c => ⟨?_, arguments_kept m r h.1 c⟩) (run m g)
    obtain ⟨dat, hd, he⟩ := result_ends m h.1 c
    exact he.trans (result_eq m c dat hd)
  · refine (θ_run QueryRefIdeal.defs _ _).mono (fun r h c => ⟨(h c).1.trans ?_, (h c).2⟩) (QueryRefIdeal.Plain.run m' g')
    obtain ⟨a0, a1⟩ := ha c
    exact congr (congrArg QueryRefIdeal.Plain.value a0) a1

end Cert.QueryIdeal.Dense

end
-- ==== Proof.AttnOut.Run.lean ====
/-
  The attention's output projection, run at any float values, with the relation of the other dense calls: the last block of
  rows overhangs its array, so the result's block is the body's value of SOME contents with the block of rows laid over them.
-/
module

public import proofs.«01_k».proof.Proof.Gen.AttnOutIdeal.Frame
public import proofs.«01_k».proof.Proof.Gen.AttnOutIdeal.Skeleton
public import Idealize.ShloMosaic.Lib.Pipeline.ArrRel
public import Idealize.ShloMosaic.Lib.VecWindow

@[expose] public section

set_option maxRecDepth 16384

noncomputable section

namespace Cert.AttnOutIdeal.Dense

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- The body on any staging buffers: the three inputs are left as found, the result's buffer holds the body's value of them. -/
theorem run_body (c : Dev nD) (i : grid0.Coords)
    (arg2 : Memref sig .tc .vmem S912x4096 .bf16) (harg2 : arg2.IsWhole) (arg3 : Memref sig .tc .vmem S1x4096x512 .bf16) (harg3 : arg3.IsWhole)
    (arg4 : Memref sig .tc .vmem S1x512 .f32) (harg4 : arg4.IsWhole) (arg5 : Memref sig .tc .vmem S912x512 .f32) (harg5 : arg5.IsWhole)
    (x : Vec F S912x4096 .bf16) (w : Vec F S1x4096x512 .bf16) (b : Vec F S1x512 .f32) (E : Set ℕ) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d)
        ∗ (iprop(owns (c : Thread nD τ) arg2 fullShare x ∗ owns (c : Thread nD τ) arg3 fullShare w ∗ owns (c : Thread nD τ) arg4 fullShare b
            ∗ owns (c : Thread nD τ) arg5 fullShare (k0_pay1 x w b)) -∗ K ⟨⟩))
      ⊢ wp frame (wpE (defs₀ (F := F)) Variants.none c none) E (cc0_dense_mm i arg2 harg2 arg3 harg3 arg4 harg4 arg5 harg5) K := by
  simp only [cc0_dense_mm_eq_skeleton]; unfold cc0_dense_mm_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap
  · iexact H3
  ipureintro
  sl_unfold_words
  exact (View.read_writes_full (s := S912x512) _ _ _ _ _).trans (congr (congr (congrArg k0_pay1
    ((View.readAt_full (s := S912x4096) _ _ _).trans (harg2.read_unread x))) ((View.readAt_full (s := S1x4096x512) _ _ _).trans (harg3.read_unread w)))
    ((View.readAt_full (s := S1x512) _ _ _).trans (harg4.read_unread b)))

/-! ## The proof data -/

variable (m : (ℓ : Loc nD τ sig) → Buf (Elt F) ℓ) (ρ : Dev nD → PrngReg)

/-- A block of rows as its staging buffer holds it: laid over contents nothing names. -/
def staged (c : Dev nD) (t : Fin cfg0.N) (d : Vec F S912x4096 .bf16) : Vec F S912x4096 .bf16 :=
  (cfg0.win 0).fill (cfg0.grid.coords t) d (iblk m c 0 t)

/-- Inputs are left as found; the result's buffer is left with the body's value of the staged block. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => ∃ d, X = k0_pay1 (staged m c t d) (iblk m c 1 t) (iblk m c 2 t)
  Φ _ := Pipeline.ΦA spec0 c
  q _ := fullShare
  owed _ := 0

theorem found_rows (c : Dev nD) (t : Fin cfg0.N) (Y) (h : (rdat m c).Finds 0 t Y) : ∃ d, Y = staged m c t d :=
  (rdat m c).finds_in_eq_fetched 0 rfl (fun t t' e => congrArg (fun (ix : Fin 2 → ℕ) a => Pipeline.Clip.of (ix a) (S912x4096.size a) (S8200x4096.size a)) e)
    (fun t Y X h => h) t Y h

theorem found_weights (c : Dev nD) (t : Fin cfg0.N) (Y) (h : (rdat m c).Finds 1 t Y) : Y = iblk m c 1 t :=
  ((rdat m c).finds_in_eq_fetched 1 rfl (fun _ _ _ => rfl) (fun t Y X h => h) t Y h).elim fun _ h => h

theorem found_bias (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d, h0⟩ := found_rows m c t _ (hY 0)
  have h1 := found_weights m c t _ (hY 1)
  have h2 := found_bias m c t _ (hY 2)
  rw [show (rdat m c).Φ t.succ = (rdat m c).Φ t.castSucc from rfl, show (rdat m c).owesAt () t.succ = (rdat m c).owesAt () t.castSucc from rfl]
  iintro ⟨HΦ, Hg, H0, H1, H2, H3⟩
  iapply (run_body c (grid0.coords t) (st0_0 t) _ (st0_1 t) _ (st0_2 t) _ (st0_3 t) _ (Y 0) (Y 1) (Y 2))
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro
  exact ⟨d, congr (congr (congrArg k0_pay1 h0) h1) h2⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

theorem arguments_kept (r : PUnit × MemSt nD τ sig (Elt F)) (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨(RDat.FramePost.arr_in h c 0 rfl).trans (V_main_arg0 m c),
    ((h c).2 main_arg1 (Pipeline.mem_restRefs_of main_arg1 (by decide) (by decide))).trans (V_main_arg1 m c)⟩

/-- The frame: every execution terminates with the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d, dat.after 3 t = k0_pay1 (staged m c t d) (iblk m c 1 t) (iblk m c 2 t))
      ∧ r.2.mem ((c.tc : Thread nD τ).loc main_v2) = dat.arrAt 3 cfg0.N := by
  obtain ⟨after, hl, he⟩ := RDat.FramePost.exists_exact h c
  refine ⟨(rdat m c).withAfter after, fun t => ?_, he 3⟩
  obtain ⟨Y, -, d, hd⟩ := hl 3 t (flush0_3 t)
  exact ⟨d, hd⟩

end Cert.AttnOutIdeal.Dense

end
-- ==== Proof.AttnOut.Reference.lean ====
/-
  The attention's output projection on the host: the reference run, and its result read at a row and a column.
-/
module

public import proofs.«01_k».proof.Proof.Gen.AttnOutRefIdeal
public import proofs.«01_k».proof.Proof.Dense
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.AttnOutRefIdeal.Plain

open Cert.AttnOutRefIdeal Cert.AttnOutRefIdeal.Gen Idealize.ShloMosaic.StableHlo Idealize.ShloMosaic.ValueIdx

variable {F : FTy → Type} [FloatOps F]

/-- The operations of @main, in order. -/
abbrev ops : List (HloOp τ sig (Elt F)) :=
  [ unary main_arg0 main_v0 ((extf .f32 · bitsLt_bf16_f32)),
    reshape main_arg1 main_v1 (rfl : (.f32 : EltTy) = .f32) shapeCasts_S1x4096x4096_S4096x4096,
    binary main_v0 main_v1 main_v2 ((fun l r => Host.dotGeneral dot_S8200x4096_S4096x4096_S8200x4096_1_0_0_1_n_n none l r)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub ..⟩

/-- What the reference returns: every row times the weights. -/
def value (x : Vec F S8200x4096 .bf16) (w : Vec F S1x4096x4096 .f32) : Vec F S8200x4096 .f32 :=
  Host.dotGeneral dot_S8200x4096_S4096x4096_S8200x4096_1_0_0_1_n_n none (extf .f32 x bitsLt_bf16_f32)
    (shapeCast S4096x4096 w shapeCasts_S1x4096x4096_S4096x4096)

variable (m : (ℓ : Loc nD τ sig) → Buf (Elt F) ℓ) (ρ : Dev nD → PrngReg)

theorem result_read (c : Dev nD) (V : Valuation τ sig (Elt F)) : after ops V main_v2 = value (V main_arg0) (V main_arg1) := by
  after_reads_simp
  rfl

/-- The run: the result, and the arguments as launched. -/
theorem run : θ_run defs (onTc (τ := τ) (main (F := F))) ⟨m, fun _ => 0, ρ⟩ fun r => ∀ c : Dev nD,
      r.2.mem ((c : Thread nD τ).loc main_v2) = value (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (result_read c _),
      (h c main_arg0).trans (by after_reads_simp), (h c main_arg1).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

/-- The result at a row and a column, at the ideal values. -/
theorem value_at (x : Vec Ideal S8200x4096 .bf16) (w : Vec Ideal S1x4096x4096 .f32) (r : Fin 8200) (q : Fin 4096) :
    value x w (ix2 r q) = (∑ j : Fin 4096, x (ix2 r j) * w (ix3 0 j q) : EReal) :=
  Dense.host_product_at x w _ _ r q

end Cert.AttnOutRefIdeal.Plain

end
-- ==== Proof.AttnOut.Value.lean ====
/-
  The attention's output projection at the ideal values: the array the blocks written back leave is the reference's result,
  whatever lay in the part of a staging buffer that no transfer moved.
-/
module

public import proofs.«01_k».proof.Proof.AttnOut.Run
public import proofs.«01_k».proof.Proof.AttnOut.Reference
public import Idealize.ShloMosaic.Lib.Pipeline.ValueKit.Geometry

@[expose] public section

set_option maxRecDepth 16384

noncomputable section

namespace Cert.AttnOutIdeal.Dense

open Cert.AttnOutIdeal Cert.AttnOutIdeal.Gen Cert.Dense
open Idealize.ShloMosaic Idealize.ShloMosaic.TcCoe Idealize.ShloMosaic.ValueIdx
open Idealize.ShloMosaic.Pipeline (Dat RDat Cfg Window)

variable (m : (ℓ : Loc nD τ sig) → Buf (Elt Ideal) ℓ) (c : Dev nD) (t : Fin cfg0.N)

/-! ## What the call finds -/

theorem weights_entry : V m c main_v0 = m ((c : Thread nD τ).loc main_arg1) := by
  show StableHlo.after hostOps0 (fun b => m (c, b)) main_v0 = _
  after_reads_simp
  rfl

theorem bias_entry (k : Fin 4096) : V m c main_v1 (ix2 0 k) = (0 : EReal) := by
  have e : V m c main_v1 = broadcastInDim S1x4096 ![] bcast_S_S1x4096 (constant (F := Ideal) S_ .f32 0x00000000#32) := by
    show StableHlo.after hostOps0 (fun b => m (c, b)) main_v1 = _
    after_reads_simp
  rw [e]
  exact Ideal.ofBits_zero_f32

/-! ## The blocks at an index -/

/-- The block of rows and the tile of columns of a point. -/
abbrev blockOf : ℕ := cc0_transform_0 (grid0.coords t) 0
abbrev tileOf : ℕ := cc0_transform_3 (grid0.coords t) 1
/-- Row `i` of the point's block is one the transfers move. -/
abbrev Moved (i : ℕ) : Prop := i < (Pipeline.Clip.of (blockOf t) 912 8200).extent 912
/-- The array's row and column of a block's. -/
def rowOf (i : ℕ) (hi : Moved t i) : Fin 8200 := ⟨blockOf t * 912 + i, moved_inside (hstart0_0 (grid0.coords t) 0) hi⟩
def colOf (l : Fin 512) : Fin 4096 := ⟨tileOf t * 512 + l.val, by
  have h : (tileOf t + 1) * 512 ≤ 4096 := hinb0_2 (grid0.coords t) 1
  omega⟩

theorem rows_at (d : Vec Ideal S912x4096 .bf16) (i : Fin 912) (hi : Moved t i.val) (k : Fin 4096) :
    staged m c t d (ix2 i k) = m ((c : Thread nD τ).loc main_arg0) (ix2 (rowOf t i.val hi) k) := by
  have h : (cfg0.win 0).moved (cfg0.grid.coords t) (ix2 i k : S912x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show blockOf t * 912 + 1 * i.val = blockOf t * 912 + i.val; omega
  · show 0 * 4096 + 1 * k.val = k.val; omega

theorem weights_at (k : Fin 4096) (l : Fin 512) :
    iblk m c 1 t (ix3 0 k l) = m ((c : Thread nD τ).loc main_arg1) (ix3 0 k (colOf t l)) := by
  refine (congrArg (V m c main_v0) (funext fun (a : Fin 3) => Fin.ext ?_)).trans (congrFun (weights_entry m c) _)
  fin_cases a
  · rfl
  · show 0 * 4096 + 1 * k.val = k.val; omega
  · show tileOf t * 512 + 1 * l.val = tileOf t * 512 + l.val; omega

theorem bias_at (l : Fin 512) : iblk m c 2 t (ix2 0 l) = (0 : EReal) := by
  refine (congrArg (V m c main_v1) (funext fun (a : Fin 2) => Fin.ext ?_)).trans (bias_entry m c (colOf t l))
  fin_cases a
  · rfl
  · show tileOf t * 512 + 1 * l.val = tileOf t * 512 + l.val; omega

/-! ## The result -/

/-- The reference's value of this launch's arguments. -/
abbrev wanted : Vec Ideal S8200x4096 .f32 :=
  AttnOutRefIdeal.Plain.value (m ((c : Thread nD τ).loc main_arg0)) (m ((c : Thread nD τ).loc main_arg1))

theorem computed_at (d : Vec Ideal S912x4096 .bf16) (i : Fin 912) (hi : Moved t i.val) (l : Fin 512) :
    k0_pay1 (staged m c t d) (iblk m c 1 t) (iblk m c 2 t) (ix2 i l) = wanted m c (ix2 (rowOf t i.val hi) (colOf t l)) :=
  (plain_tile_at (staged m c t d) (iblk m c 1 t) (iblk m c 2 t) _ _ _ i l (m ((c : Thread nD τ).loc main_arg0)) (m ((c : Thread nD τ).loc main_arg1))
    (rowOf t i.val hi) (colOf t l) (rows_at m c t d i hi) (fun k => weights_at m c t k l) (bias_at m c t l)).trans
    (AttnOutRefIdeal.Plain.value_at _ _ _ _).symm

theorem result_eq (dat : Dat τ (Elt Ideal) Unit ℕ (UR sig nD τ) ℕ cfg0 c)
    (h : ∀ t, ∃ d, dat.after 3 t = k0_pay1 (staged m c t d) (iblk m c 1 t) (iblk m c 2 t)) : dat.arrAt 3 cfg0.N = wanted m c := by
  refine dat.arrAt_eq_of_covers 3 (wanted m c) (by decide +kernel) fun t _ y => ?_
  obtain ⟨d, hd⟩ := h t
  have h0 : Moved t (y (0 : Fin 2)).val := (y (0 : Fin 2)).isLt
  have h1 : (y (1 : Fin 2)).val < 512 := moved_in_block (hstart0_3 (grid0.coords t) 1) (y (1 : Fin 2)).isLt
  have ey : (cfg0.win 3).xinj (grid0.coords t) y
      = (ix2 ⟨(y (0 : Fin 2)).val, moved_in_block (hstart0_0 (grid0.coords t) 0) h0⟩ ⟨(y (1 : Fin 2)).val, h1⟩ : S912x512.Idx) :=
    funext fun (a : Fin 2) => by fin_cases a <;> rfl
  have ep : ((cfg0.win 3).blk t).view.emb y = (ix2 (rowOf t _ h0) (colOf t ⟨_, h1⟩) : S8200x4096.Idx) := by
    refine funext fun (a : Fin 2) => Fin.ext ?_
    fin_cases a
    · show blockOf t * 912 + 1 * (y (0 : Fin 2)).val = blockOf t * 912 + (y (0 : Fin 2)).val; omega
    · show tileOf t * 512 + 1 * (y (1 : Fin 2)).val = tileOf t * 512 + (y (1 : Fin 2)).val; omega
  refine Eq.trans ?_ ((computed_at m c t d ⟨_, moved_in_block (hstart0_0 (grid0.coords t) 0) h0⟩ h0 ⟨_, h1⟩).trans (congrArg (wanted m c) ep.symm))
  exact (congrFun hd _).trans (congrArg (k0_pay1 (staged m c t d) (iblk m c 1 t) (iblk m c 2 t)) ey)

end Cert.AttnOutIdeal.Dense

end
-- ==== Proof.AttnOut.Claims.lean ====
/-
  The claims about the attention's output projection: the frames, and the two results equal at the ideal values.
-/
module

public import proofs.«01_k».proof.Defs
public import proofs.«01_k».proof.Proof.Gen.AttnOut
public import proofs.«01_k».proof.Proof.AttnOut.Value

@[expose] public section

set_option maxRecDepth 16384

noncomputable section

namespace Cert.AttnOutIdeal.Dense

open Cert.AttnOutIdeal Cert.AttnOutIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem framed : Framed F := fun m g _ => quiescent m g

theorem frame_ideal : Cert.quiescent_AttnOutIdeal := framed (F := Ideal)

theorem same_frame : Framed Bits = Cert.quiescent_AttnOut := by chain_rfl

theorem frame_machine : Cert.quiescent_AttnOut := Eq.mp same_frame (framed (F := Bits))

theorem frame_reference : Cert.quiescent_AttnOutRefIdeal := fun m g _ => AttnOutRefIdeal.Plain.quiescent m g

theorem equal_results : Cert.algebraic_AttnOutIdeal_AttnOutRefIdeal := by
  intro m g m' g' _ ha
  refine ⟨fun c => wanted m c, ?_, ?_⟩
  · refine (θ_run AttnOutIdeal.defs _ _).mono (fun r h c => ⟨?_, arguments_kept m r h.1 c⟩) (run m g)
    obtain ⟨dat, hd, he⟩ := result_ends m h.1 c
    exact he.trans (result_eq m c dat hd)
  · refine (θ_run AttnOutRefIdeal.defs _ _).mono (fun r h c => ⟨(h c).1.trans ?_, (h c).2⟩) (AttnOutRefIdeal.Plain.run m' g')
    obtain ⟨a0, a1⟩ := ha c
    exact congr (congrArg AttnOutRefIdeal.Plain.value a0) a1

end Cert.AttnOutIdeal.Dense

end
-- ==== Proof.KvNorm.Run.lean ====
/-
  The norm before the key/value projection, run at any float values. As in the closing norm the last block of rows overhangs its
  arrays: what the body leaves in the result's buffer is its value of SOME contents with the block of rows laid over them.
-/
module

public import proofs.«01_k».proof.Proof.Gen.KvNormIdeal.Frame
public import proofs.«01_k».proof.Proof.Gen.KvNormIdeal.Skeleton
public import Idealize.ShloMosaic.Lib.Pipeline.ArrRel
public import Idealize.ShloMosaic.Lib.VecWindow

@[expose] public section

set_option maxRecDepth 16384

noncomputable section

namespace Cert.KvNormIdeal.Norm

open Cert.KvNormIdeal Cert.KvNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- A block of rows lies in the prompt or among the samples. -/
theorem samples_iff : ∀ i : grid0.Coords, k0_cond2 i = 1#1 ↔ ¬ k0_cond1 i = 1#1 := by decide +kernel

/-- The one row of a table that a block of the prompt reads. -/
abbrev seqRow (i : grid0.Coords) (h : k0_cond1 i = 1#1) (x : Vec F S132x4096 .f32) : Vec F S1x4096 .f32 :=
  VecWindow.window x (k0_off1 i) S1x4096.size (k0_off1_inb i h)

/-- The rows of a table that the block of samples reads. -/
abbrev sampleRows (x : Vec F S132x4096 .f32) : Vec F S128x4096 .f32 :=
  VecWindow.window x ![4, 0] S128x4096.size inb_S132x4096_S128x4096_4_0

/-- What the body leaves in the result's buffer, of the values in the other four. -/
def normed (i : grid0.Coords) (h : Vec F S128x4096 .f32) (g : Vec F S1x4096 .f32) (sc sh : Vec F S132x4096 .f32) : FVec F S128x4096 .bf16 :=
  if p : k0_cond1 i = 1#1 then k0_pay1 (k0_pay3 h g (seqRow i p sc)) (k0_pay4 (seqRow i p sh))
  else k0_pay2 h g (sampleRows sc) (sampleRows sh)

/-- The body on any staging buffers: the four inputs are left as found, the result's buffer holds the body's value of them. -/
theorem run_body (c : Dev nD) (i : grid0.Coords)
    (arg1 : Memref sig .tc .vmem S128x4096 .f32) (harg1 : arg1.IsWhole) (arg2 : Memref sig .tc .vmem S1x4096 .f32) (harg2 : arg2.IsWhole)
    (arg3 : Memref sig .tc .vmem S132x4096 .f32) (harg3 : arg3.IsWhole) (arg4 : Memref sig .tc .vmem S132x4096 .f32) (harg4 : arg4.IsWhole)
    (arg5 : Memref sig .tc .vmem S128x4096 .bf16) (harg5 : arg5.IsWhole)
    (h : Vec F S128x4096 .f32) (g : Vec F S1x4096 .f32) (sc sh : Vec F S132x4096 .f32) (E : Set ℕ) (K : PUnit → sProp 𝕄) :
    iprop(owns (c : Thread nD τ) arg1 fullShare h ∗ owns (c : Thread nD τ) arg2 fullShare g ∗ owns (c : Thread nD τ) arg3 fullShare sc
        ∗ owns (c : Thread nD τ) arg4 fullShare sh ∗ (∃ d, owns (c : Thread nD τ) arg5 fullShare d)
        ∗ (iprop(owns (c : Thread nD τ) arg1 fullShare h ∗ owns (c : Thread nD τ) arg2 fullShare g ∗ owns (c : Thread nD τ) arg3 fullShare sc
            ∗ owns (c : Thread nD τ) arg4 fullShare sh ∗ owns (c : Thread nD τ) arg5 fullShare (normed i h g sc sh)) -∗ K ⟨⟩))
      ⊢ wp frame (wpE (defs₀ (F := F)) Variants.none c none) E
          (cc0_resnorm i arg1 harg1 arg2 harg2 arg3 harg3 arg4 harg4 arg5 harg5) K := by
  simp only [cc0_resnorm_eq_skeleton]; unfold cc0_resnorm_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  by_cases p : k0_cond1 i = 1#1
  · have q : ¬ k0_cond2 i = 1#1 := fun q => (samples_iff i).mp q p
    simp only [dif_pos p, dif_neg q, k0_part1_eq_skeleton]; unfold k0_part1_skel
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    swap
    · iexact H5
    ipureintro
    sl_unfold_words
    rw [normed, dif_pos p]
    exact (View.read_writes_full (s := S128x4096) _ _ _ _ _).trans (congr (congrArg k0_pay1 (congr (congr (congrArg k0_pay3
      ((View.readAt_full (s := S128x4096) _ _ _).trans (harg1.read_unread h)))
      ((View.readAt_full (s := S1x4096) _ _ _).trans (harg2.read_unread g)))
      ((View.readAt_unit (s := S132x4096) _ _ _ rfl _).trans (congrArg (seqRow i p) (harg3.read_unread sc)))))
      (congrArg k0_pay4 ((View.readAt_unit (s := S132x4096) _ _ _ rfl _).trans (congrArg (seqRow i p) (harg4.read_unread sh)))))
  · have q : k0_cond2 i = 1#1 := (samples_iff i).mpr p
    simp only [dif_neg p, dif_pos q]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    swap
    · iexact H5
    ipureintro
    sl_unfold_words
    rw [normed, dif_neg p]
    exact (View.read_writes_full (s := S128x4096) _ _ _ _ _).trans (congr (congr (congr (congrArg k0_pay2
      ((View.readAt_full (s := S128x4096) _ _ _).trans (harg1.read_unread h)))
      ((View.readAt_full (s := S1x4096) _ _ _).trans (harg2.read_unread g)))
      ((View.readAt_unit (s := S132x4096) _ _ _ rfl _).trans (congrArg sampleRows (harg3.read_unread sc))))
      ((View.readAt_unit (s := S132x4096) _ _ _ rfl _).trans (congrArg sampleRows (harg4.read_unread sh))))

/-! ## The proof data -/

variable (m : (ℓ : Loc nD τ sig) → Buf (Elt F) ℓ) (ρ : Dev nD → PrngReg)

/-- The block of rows as its staging buffer holds it: laid over contents nothing names. -/
abbrev staged (c : Dev nD) (t : Fin cfg0.N) (d : Vec F S128x4096 .f32) : Vec F S128x4096 .f32 :=
  (cfg0.win 0).fill (cfg0.grid.coords t) d (iblk m c 0 t)

/-- What the result's buffer holds at a point, of what lay in the buffer of rows before. -/
def leaves (c : Dev nD) (t : Fin cfg0.N) (d : Vec F S128x4096 .f32) : Vec F S128x4096 .bf16 :=
  normed (grid0.coords t) (staged m c t d) (iblk m c 1 t) (iblk m c 2 t) (iblk m c 3 t)

/-- Inputs are left as found; the result's buffer is left with the body's value of the staged blocks. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => X = Y
    | 4 => ∃ d, X = leaves m c t d
  Φ _ := Pipeline.ΦA spec0 c
  q _ := fullShare
  owed _ := 0

theorem found0 (c : Dev nD) (t : Fin cfg0.N) (Y) (h : (rdat m c).Finds 0 t Y) : ∃ d, Y = staged m c t d :=
  (rdat m c).finds_in_eq_fetched 0 rfl (fun t t' e => congrArg (fun (ix : Fin 2 → ℕ) a => Pipeline.Clip.of (ix a) (S128x4096.size a) (S8200x4096.size a)) e)
    (fun t Y X h => h) t Y h
theorem found1 (c : Dev nD) (t : Fin cfg0.N) (Y) (h : (rdat m c).Finds 1 t Y) : Y = iblk m c 1 t :=
  ((rdat m c).finds_in_eq_fetched 1 rfl (fun _ _ _ => rfl) (fun t Y X h => h) t Y h).elim fun _ h => h
theorem found2 (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h
theorem found3 (c : Dev nD) (t : Fin cfg0.N) (Y) (h : (rdat m c).Finds 3 t Y) : Y = iblk m c 3 t :=
  ((rdat m c).finds_in_eq_fetched 3 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d, h0⟩ := found0 m c t _ (hY 0)
  have h1 := found1 m c t _ (hY 1)
  have h2 := found2 m c t _ (hY 2)
  have h3 := found3 m c t _ (hY 3)
  rw [show (rdat m c).Φ t.succ = (rdat m c).Φ t.castSucc from rfl, show (rdat m c).owesAt () t.succ = (rdat m c).owesAt () t.castSucc from rfl]
  iintro ⟨HΦ, Hg, H0, H1, H2, H3, H4⟩
  iapply (run_body c (grid0.coords t) (st0_0 t) _ (st0_1 t) _ (st0_2 t) _ (st0_3 t) _ (st0_4 t) _ (Y 0) (Y 1) (Y 2) (Y 3))
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  iexists _; isplitr
  swap
  · iexact H4
  ipureintro
  exact ⟨d, congr (congr (congr (congrArg (normed (grid0.coords t)) h0) h1) h2) h3⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem arguments_kept (r : PUnit × MemSt nD τ sig (Elt F)) (h : RDat.FramePost cfg0 (rdat m) (V m) r) (c : Dev nD) : Kept m r c :=
  ⟨(RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame: every execution terminates with the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨arguments_kept m r h.1, h.2⟩) (run m ρ)

/-- What the blocks written back leave in the result's array: proof data naming each block among those the relation allows. -/
theorem result_ends {r : PUnit × MemSt nD τ sig (Elt F)} (h : RDat.FramePost cfg0 (rdat m) (V m) r) (c : Dev nD) :
    ∃ dat : Pipeline.Dat τ (Elt F) Unit ℕ (UR sig nD τ) ℕ cfg0 c,
      (∀ t, ∃ d, dat.after 4 t = leaves m c t d)
      ∧ r.2.mem ((c.tc : Thread nD τ).loc main_v3) = dat.arrAt 4 cfg0.N := by
  obtain ⟨after, hl, he⟩ := RDat.FramePost.exists_exact h c
  refine ⟨(rdat m c).withAfter after, fun t => ?_, he 4⟩
  obtain ⟨Y, -, d, hd⟩ := hl 4 t (flush0_4 t)
  exact ⟨d, hd⟩

end Cert.KvNormIdeal.Norm

end
-- ==== Proof.KvNorm.Reference.lean ====
/-
  The norm before the key/value projection on the host: the reference run, and its result read at a row and a column. The tables
  spread over the rows and the norm itself are the closing norm's.
-/
module

public import proofs.«01_k».proof.Proof.Gen.KvNormRefIdeal
public import proofs.«01_k».proof.Proof.Final.Reference

@[expose] public section

set_option maxRecDepth 16384

noncomputable section

open Idealize.ShloMosaic Idealize.ShloMosaic.TcCoe Idealize.SL.Sem

namespace Cert.KvNormRefIdeal.Plain

open Cert.KvNormRefIdeal Cert.KvNormRefIdeal.Gen Idealize.ShloMosaic.StableHlo
open Cert.FinalRefIdeal.Plain (gates normed gates_at normed_at entry tableRow)

variable {F : FTy → Type} [FloatOps F]

/-- The operations of @main, in order. -/
abbrev ops : List (HloOp τ sig (Elt F)) :=
  [ unary main_arg2 main_v0 ((extractStridedSlice S4x4096 ![0, 0] · slices_S12x4096_S4x4096_0_0)),
    unary main_v0 main_v1 (broadcastInDim S4x2048x4096 ![0, 2] bcast_S4x4096_S4x2048x4096_0_2),
    reshape main_v1 main_v2 (rfl : (.f32 : EltTy) = .f32) shapeCasts_S4x2048x4096_S8192x4096,
    unary main_arg2 main_v3 ((extractStridedSlice S8x4096 ![4, 0] · slices_S12x4096_S8x4096_4_0)),
    binary main_v2 main_v3 main_v4 ((fun a b => concatenate S8200x4096 0 [⟨S8192x4096, a⟩, ⟨S8x4096, b⟩] concatenates_S8192x4096_S8x4096_S8200x4096_d0)),
    unary main_arg3 main_v5 ((extractStridedSlice S4x4096 ![0, 0] · slices_S12x4096_S4x4096_0_0)),
    unary main_v5 main_v6 (broadcastInDim S4x2048x4096 ![0, 2] bcast_S4x4096_S4x2048x4096_0_2),
    reshape main_v6 main_v7 (rfl : (.f32 : EltTy) = .f32) shapeCasts_S4x2048x4096_S8192x4096,
    unary main_arg3 main_v8 ((extractStridedSlice S8x4096 ![4, 0] · slices_S12x4096_S8x4096_4_0)),
    binary main_v7 main_v8 main_v9 ((fun a b => concatenate S8200x4096 0 [⟨S8192x4096, a⟩, ⟨S8x4096, b⟩] concatenates_S8192x4096_S8x4096_S8200x4096_d0)),
    binary main_arg0 main_arg0 main_v10 (mulf),
    nullary main_cst (constant S_ .f32 0x00000000#32),
    binary main_v10 main_cst main_v11 ((fun x v => Host.reduceAdd x v reducesTo_S8200x4096_S8200_d1 h_S_)),
    unary main_v11 main_v12 (broadcastInDim S8200x1 ![0] bcast_S8200_S8200x1_0),
    nullary main_cst_0 (constant S_ .f32 0x45800000#32),
    unary main_cst_0 main_v13 (broadcastInDim S8200x1 ![] bcast_S_S8200x1),
    binary main_v12 main_v13 main_v14 (Host.divf),
    nullary main_cst_1 (constant S_ .f32 0x358637BD#32),
    unary main_cst_1 main_v15 (broadcastInDim S8200x1 ![] bcast_S_S8200x1),
    binary main_v14 main_v15 main_v16 (addf),
    unary main_v16 main_v17 (Host.rsqrt),
    unary main_v17 main_v18 (broadcastInDim S8200x4096 ![0, 1] bcast_S8200x1_S8200x4096_0_1),
    binary main_arg0 main_v18 main_v19 (mulf),
    unary main_arg1 main_v20 (broadcastInDim S1x4096 ![1] bcast_S4096_S1x4096_1),
    unary main_v20 main_v21 (broadcastInDim S8200x4096 ![0, 1] bcast_S1x4096_S8200x4096_0_1),
    binary main_v19 main_v21 main_v22 (mulf),
    nullary main_cst_2 (constant S_ .f32 0x3F800000#32),
    unary main_cst_2 main_v23 (broadcastInDim S8200x4096 ![] bcast_S_S8200x4096),
    binary main_v23 main_v4 main_v24 (addf),
    binary main_v22 main_v24 main_v25 (mulf),
    binary main_v25 main_v9 main_v26 (addf),
    unary main_v26 main_v27 ((truncf .bf16 · bitsLt_bf16_f32)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., unary_bufs_sub .., binary_bufs_sub ..,
    unary_bufs_sub .., unary_bufs_sub .., reshape_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub .., binary_bufs_sub ..,
    binary_bufs_sub .., unary_bufs_sub ..⟩

/-- The normed rows `y`, scaled and shifted by the tables spread over the rows. -/
def adapted (y a b : FVec F S8200x4096 .f32) : FVec F S8200x4096 .f32 :=
  addf (mulf y (addf (broadcastInDim S8200x4096 ![] bcast_S_S8200x4096 (constant S_ .f32 0x3F800000#32)) a)) b

/-- What the reference returns. -/
def value (h : Vec F S8200x4096 .f32) (g : Vec F S4096 .f32) (sc sh : Vec F S12x4096 .f32) : Vec F S8200x4096 .bf16 :=
  truncf .bf16 (adapted (normed h g) (gates sc) (gates sh)) bitsLt_bf16_f32

variable (m : (ℓ : Loc nD τ sig) → Buf (Elt F) ℓ) (ρ : Dev nD → PrngReg)

theorem result_read (c : Dev nD) (V : Valuation τ sig (Elt F)) :
    after ops V main_v27 = value (V main_arg0) (V main_arg1) (V main_arg2) (V main_arg3) := by
  after_reads_simp
  rfl

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- The run: the result, and the arguments as launched. -/
theorem run : θ_run defs (onTc (τ := τ) (main (F := F))) ⟨m, fun _ => 0, ρ⟩ fun r => ∀ c : Dev nD,
      r.2.mem ((c : Thread nD τ).loc main_v27) = value (m ((c : Thread nD τ).loc main_arg0)) (m ((c : Thread nD τ).loc main_arg1))
            (m ((c : Thread nD τ).loc main_arg2)) (m ((c : Thread nD τ).loc main_arg3))
      ∧ Kept m r c :=
  (θ_run defs _ _).mono (fun _ h c => ⟨(h c main_v27).trans (result_read c _),
      (h c main_arg0).trans (by after_reads_simp), (h c main_arg1).trans (by after_reads_simp),
      (h c main_arg2).trans (by after_reads_simp), (h c main_arg3).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨fun c => (h c).2, sem_eq_zero_of_no_sems (by decide) r.2⟩) (run m ρ)

/-! ## The result at an index, at the ideal values -/

theorem adapted_at (y a b : FVec Ideal S8200x4096 .f32) (i : Fin 8200) (k : Fin 4096) :
    adapted y a b (ix2 i k) = y (ix2 i k) * (1 + a (ix2 i k)) + b (ix2 i k) := by
  pointwise [adapted]

theorem value_at (h : Vec Ideal S8200x4096 .f32) (g : Vec Ideal S4096 .f32) (sc sh : Vec Ideal S12x4096 .f32) (i : Fin 8200) (k : Fin 4096) :
    value h g sc sh (ix2 i k) = entry (fun j => h (ix2 i j)) k (g (ix1 k)) * (1 + sc (ix2 (tableRow i) k)) + sh (ix2 (tableRow i) k) := by
  refine (adapted_at (normed h g) (gates sc) (gates sh) i k).trans ?_
  rw [gates_at, gates_at, normed_at]

end Cert.KvNormRefIdeal.Plain

end
-- ==== Proof.KvNorm.Value.lean ====
/-
  The norm before the key/value projection at the ideal values: the array the blocks written back leave is the reference's result,
  whatever lay in the part of a staging buffer that no transfer moved.
-/
module

public import proofs.«01_k».proof.Proof.Dense
public import proofs.«01_k».proof.Proof.KvNorm.Run
public import proofs.«01_k».proof.Proof.KvNorm.Reference
public import proofs.«01_k».proof.Proof.Final.Value

@[expose] public section

set_option maxRecDepth 16384

noncomputable section

namespace Cert.KvNormIdeal.Norm

open Cert.KvNormIdeal Cert.KvNormIdeal.Gen Cert.Dense
open Cert.FinalRefIdeal.Plain (entry tableRow)
open Cert.FinalIdeal.Norm (padded_at whole_table)
open Idealize.ShloMosaic Idealize.ShloMosaic.TcCoe
open Idealize.ShloMosaic.Pipeline (Dat RDat Cfg Window)

/-! ## The body's values at an index -/

theorem seq_at (h : Vec Ideal S128x4096 .f32) (g sc sh : Vec Ideal S1x4096 .f32) (i : Fin 128) (k : Fin 4096) :
    k0_pay1 (k0_pay3 h g sc) (k0_pay4 sh) (ix2 i k)
      = entry (fun j => h (ix2 i j)) k (g (ix2 0 k)) * (1 + sc (ix2 0 k)) + sh (ix2 0 k) := by
  pointwise [k0_pay1, k0_pay3, k0_pay4, entry]

theorem sample_at (h sc sh : Vec Ideal S128x4096 .f32) (g : Vec Ideal S1x4096 .f32) (i : Fin 128) (k : Fin 4096) :
    k0_pay2 h g sc sh (ix2 i k)
      = entry (fun j => h (ix2 i j)) k (g (ix2 0 k)) * (1 + sc (ix2 i k)) + sh (ix2 i k) := by
  pointwise [k0_pay2, entry]

/-- A block of the prompt reads the table at its sequence's row. -/
theorem seq_offset : ∀ i : grid0.Coords, k0_cond1 i = 1#1 → k0_off1 i 0 = (i 0).val / 16 ∧ k0_off1 i 1 = 0 ∧ (i 0).val < 64 := by
  decide +kernel
theorem sample_block : ∀ i : grid0.Coords, ¬ k0_cond1 i = 1#1 → (i 0).val = 64 := by decide +kernel
/-- The arrays of rows are cut in blocks in order. -/
theorem block_offset : ∀ i : grid0.Coords, cc0_transform_0 i 0 = (i 0).val := by decide +kernel

variable (m : (ℓ : Loc nD τ sig) → Buf (Elt Ideal) ℓ) (c : Dev nD) (t : Fin cfg0.N)

/-! ## What the call finds -/

theorem scales_entry (i : Fin 12) (k : Fin 4096) :
    V m c main_v0 (ix2 ⟨i.val, by omega⟩ k : S132x4096.Idx) = m ((c : Thread nD τ).loc main_arg2) (ix2 i k) := by
  refine Eq.trans ?_ (padded_at (m ((c : Thread nD τ).loc main_arg2)) (sitofp (F := Ideal) .f32 (constantI S_ 32 0#32)) i k)
  refine congrFun ?_ _
  show StableHlo.after (List.flatten _) _ _ = _
  simp only [List.flatten_cons, List.flatten_nil, List.append_nil, List.cons_append, List.nil_append]
  after_reads_simp
  rfl

theorem shifts_entry (i : Fin 12) (k : Fin 4096) :
    V m c main_v1 (ix2 ⟨i.val, by omega⟩ k : S132x4096.Idx) = m ((c : Thread nD τ).loc main_arg3) (ix2 i k) := by
  refine Eq.trans ?_ (padded_at (m ((c : Thread nD τ).loc main_arg3)) (sitofp (F := Ideal) .f32 (constantI S_ 32 0#32)) i k)
  refine congrFun ?_ _
  show StableHlo.after (List.flatten _) _ _ = _
  simp only [List.flatten_cons, List.flatten_nil, List.append_nil, List.cons_append, List.nil_append]
  after_reads_simp
  rfl

theorem gains_entry (k : Fin 4096) : V m c main_v2 (ix2 0 k : S1x4096.Idx) = m ((c : Thread nD τ).loc main_arg1) (ix1 k) := by
  refine (congrFun (?_ : _ = shapeCast S1x4096 (m ((c : Thread nD τ).loc main_arg1)) shapeCasts_S4096_S1x4096) _).trans ?_
  · show StableHlo.after (List.flatten _) _ _ = _
    simp only [List.flatten_cons, List.flatten_nil, List.append_nil, List.cons_append, List.nil_append]
    after_reads_simp
    rfl
  · exact ValueIdx.shapeCast_a_1a_apply _ _ 0 k

/-! ## The blocks at an index -/

/-- The rows of a point's block that the transfers move, and the array's row of a block's. -/
abbrev Moved (i : ℕ) : Prop := i < (Pipeline.Clip.of (cc0_transform_0 (grid0.coords t) 0) 128 8200).extent 128
def rowOf (i : ℕ) (hi : Moved t i) : Fin 8200 := ⟨cc0_transform_0 (grid0.coords t) 0 * 128 + i, moved_inside (hstart0_0 (grid0.coords t) 0) hi⟩
theorem rowOf_val (i : ℕ) (hi : Moved t i) : (rowOf t i hi).val = (grid0.coords t 0).val * 128 + i := by
  show cc0_transform_0 (grid0.coords t) 0 * 128 + i = _
  rw [block_offset]

theorem stream_at (d : Vec Ideal S128x4096 .f32) (i : Fin 128) (hi : Moved t i.val) (k : Fin 4096) :
    staged m c t d (ix2 i k : S128x4096.Idx) = m ((c : Thread nD τ).loc main_arg0) (ix2 (rowOf t i.val hi) k) := by
  have h : (cfg0.win 0).moved (cfg0.grid.coords t) (ix2 i k : S128x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show cc0_transform_0 (grid0.coords t) 0 * 128 + 1 * i.val = cc0_transform_0 (grid0.coords t) 0 * 128 + i.val; omega
  · show 0 * 4096 + 1 * k.val = k.val; omega

theorem scales_block : iblk m c 2 t = V m c main_v0 := funext fun z => whole_table (V m c main_v0) _ z rfl rfl
theorem shifts_block : iblk m c 3 t = V m c main_v1 := funext fun z => whole_table (V m c main_v1) _ z rfl rfl

theorem gains_at (k : Fin 4096) : iblk m c 1 t (ix2 0 k : S1x4096.Idx) = m ((c : Thread nD τ).loc main_arg1) (ix1 k) := by
  refine (congrArg (V m c main_v2) (funext fun (a : Fin 2) => Fin.ext ?_)).trans (gains_entry m c k)
  fin_cases a
  · rfl
  · show 0 * 4096 + 1 * k.val = k.val; omega

/-- A row of a table that a block of the prompt or of the samples reads. -/
theorem seqRow_at (p : k0_cond1 (grid0.coords t) = 1#1) (x : Vec Ideal S132x4096 .f32) (i : ℕ) (hi : Moved t i) (k : Fin 4096) :
    seqRow (grid0.coords t) p x (ix2 0 k : S1x4096.Idx) = x (ix2 ⟨(tableRow (rowOf t i hi)).val, by omega⟩ k) := by
  obtain ⟨e0, e1, lt⟩ := seq_offset _ p
  have hv := rowOf_val t i hi
  have h128 : i < 128 := moved_in_block (hstart0_0 (grid0.coords t) 0) hi
  refine congrArg x (funext fun (a : Fin 2) => Fin.ext ?_)
  fin_cases a
  · show k0_off1 (grid0.coords t) 0 + 1 * 0 = (tableRow (rowOf t i hi)).val
    unfold tableRow
    rw [dif_pos (by omega)]
    show _ = (rowOf t i hi).val / 2048
    omega
  · show k0_off1 (grid0.coords t) 1 + 1 * k.val = k.val
    omega

theorem sampleRows_at (p : ¬ k0_cond1 (grid0.coords t) = 1#1) (x : Vec Ideal S132x4096 .f32) (i : Fin 128) (hi : Moved t i.val) (k : Fin 4096) :
    sampleRows x (ix2 i k : S128x4096.Idx) = x (ix2 ⟨(tableRow (rowOf t i.val hi)).val, by omega⟩ k) := by
  have e := sample_block _ p
  have hv := rowOf_val t i.val hi
  refine congrArg x (funext fun (a : Fin 2) => Fin.ext ?_)
  fin_cases a
  · show 4 + 1 * i.val = (tableRow (rowOf t i.val hi)).val
    unfold tableRow
    rw [dif_neg (by omega)]
    show _ = (rowOf t i.val hi).val - 8192 + 4
    omega
  · show 0 + 1 * k.val = k.val
    omega

/-! ## The result -/

/-- The reference's value of this launch's arguments. -/
abbrev wanted : Vec Ideal S8200x4096 .bf16 :=
  KvNormRefIdeal.Plain.value (m ((c : Thread nD τ).loc main_arg0)) (m ((c : Thread nD τ).loc main_arg1)) (m ((c : Thread nD τ).loc main_arg2))
    (m ((c : Thread nD τ).loc main_arg3))

/-- An entry with its row, gain, scale and shift the arguments' is the reference's. -/
theorem entry_eq (n : Fin 8200) (k : Fin 4096) (x : Fin 4096 → EReal) (g a b : EReal)
    (hx : ∀ j, x j = m ((c : Thread nD τ).loc main_arg0) (ix2 n j)) (hg : g = m ((c : Thread nD τ).loc main_arg1) (ix1 k))
    (ha : a = V m c main_v0 (ix2 ⟨(tableRow n).val, by omega⟩ k : S132x4096.Idx))
    (hb : b = V m c main_v1 (ix2 ⟨(tableRow n).val, by omega⟩ k : S132x4096.Idx)) :
    entry x k g * (1 + a) + b = wanted m c (ix2 n k) := by
  refine Eq.trans ?_ (KvNormRefIdeal.Plain.value_at _ _ _ _ n k).symm
  refine congrArg₂ (fun u v : EReal => u + v) ?_ (hb.trans (shifts_entry m c _ k))
  refine congrArg₂ (fun u v : EReal => u * (1 + v)) ?_ (ha.trans (scales_entry m c _ k))
  exact congrArg₂ (fun x g => entry x k g) (funext hx) hg

theorem computed_at (d : Vec Ideal S128x4096 .f32) (i : Fin 128) (hi : Moved t i.val) (k : Fin 4096) :
    leaves m c t d (ix2 i k) = wanted m c (ix2 (rowOf t i.val hi) k) := by
  unfold leaves normed
  rw [scales_block, shifts_block]
  by_cases p : k0_cond1 (grid0.coords t) = 1#1
  · rw [dif_pos p]
    refine (seq_at _ _ _ _ i k).trans ?_
    exact entry_eq m c _ k _ _ _ _ (stream_at m c t d i hi) (gains_at m c t k) (seqRow_at t p _ i.val hi k) (seqRow_at t p _ i.val hi k)
  · rw [dif_neg p]
    refine (sample_at _ _ _ _ i k).trans ?_
    exact entry_eq m c _ k _ _ _ _ (stream_at m c t d i hi) (gains_at m c t k) (sampleRows_at t p _ i hi k) (sampleRows_at t p _ i hi k)

theorem result_eq (dat : Dat τ (Elt Ideal) Unit ℕ (UR sig nD τ) ℕ cfg0 c)
    (h : ∀ t, ∃ d, dat.after 4 t = leaves m c t d) : dat.arrAt 4 cfg0.N = wanted m c := by
  refine dat.arrAt_eq_of_covers 4 (wanted m c) (by decide +kernel) fun t _ y => ?_
  obtain ⟨d, hd⟩ := h t
  have h0 : Moved t (y (0 : Fin 2)).val := (y (0 : Fin 2)).isLt
  have h1 : (y (1 : Fin 2)).val < 4096 := moved_in_block (hstart0_4 (grid0.coords t) 1) (y (1 : Fin 2)).isLt
  have ey : (cfg0.win 4).xinj (grid0.coords t) y
      = (ix2 ⟨(y (0 : Fin 2)).val, moved_in_block (hstart0_0 (grid0.coords t) 0) h0⟩ ⟨(y (1 : Fin 2)).val, h1⟩ : S128x4096.Idx) :=
    funext fun (a : Fin 2) => by fin_cases a <;> rfl
  have ep : ((cfg0.win 4).blk t).view.emb y = (ix2 (rowOf t _ h0) ⟨_, h1⟩ : S8200x4096.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 4096 + 1 * (y (1 : Fin 2)).val = (y (1 : Fin 2)).val; omega
  refine Eq.trans ?_ ((computed_at m c t d ⟨_, moved_in_block (hstart0_0 (grid0.coords t) 0) h0⟩ h0 ⟨_, h1⟩).trans (congrArg (wanted m c) ep.symm))
  exact (congrFun hd _).trans (congrArg (leaves m c t d) ey)

end Cert.KvNormIdeal.Norm

end
-- ==== Proof.KvNorm.Claims.lean ====
/-
  The claims about the norm before the key/value projection: the frames, and the two results equal at the ideal values.
-/
module

public import proofs.«01_k».proof.Defs
public import proofs.«01_k».proof.Proof.Gen.KvNorm
public import proofs.«01_k».proof.Proof.KvNorm.Value

@[expose] public section

set_option maxRecDepth 16384

noncomputable section

namespace Cert.KvNormIdeal.Norm

open Cert.KvNormIdeal Cert.KvNormIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem framed : Framed F := fun m g _ => quiescent m g

theorem frame_ideal : Cert.quiescent_KvNormIdeal := framed (F := Ideal)

theorem same_frame : Framed Bits = Cert.quiescent_KvNorm := by chain_rfl

theorem frame_machine : Cert.quiescent_KvNorm := Eq.mp same_frame (framed (F := Bits))

theorem frame_reference : Cert.quiescent_KvNormRefIdeal := fun m g _ => KvNormRefIdeal.Plain.quiescent m g

theorem equal_results : Cert.algebraic_KvNormIdeal_KvNormRefIdeal := by
  intro m g m' g' _ ha
  refine ⟨fun c => wanted m c, ?_, ?_⟩
  · refine (θ_run KvNormIdeal.defs _ _).mono (fun r h c => ⟨?_, arguments_kept m r h.1 c⟩) (run m g)
    obtain ⟨dat, hd, he⟩ := result_ends m h.1 c
    exact he.trans (result_eq m c dat hd)
  · refine (θ_run KvNormRefIdeal.defs _ _).mono (fun r h c => ⟨(h c).1.trans ?_, (h c).2⟩) (KvNormRefIdeal.Plain.run m' g')
    obtain ⟨a0, a1, a2, a3⟩ := ha c
    exact congr (congr (congr (congrArg KvNormRefIdeal.Plain.value a0) a1) a2) a3

end Cert.KvNormIdeal.Norm

end
-- ==== Proof.FfnNorm.Run.lean ====
/-
  The norm inside a layer, run at any float values. As in the closing norm the last block of rows overhangs its arrays: what the
  body leaves in each result's buffer is its value of SOME contents with the two blocks of rows laid over them.
-/
module

public import proofs.«01_k».proof.Proof.Gen.FfnNormIdeal.Frame
public import proofs.«01_k».proof.Proof.Gen.FfnNormIdeal.Skeleton
public import Idealize.ShloMosaic.Lib.Pipeline.ArrRel
public import Idealize.ShloMosaic.Lib.VecWindow

@[expose] public section

set_option maxRecDepth 16384

noncomputable section

namespace Cert.FfnNormIdeal.Norm

open Cert.FfnNormIdeal Cert.FfnNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-! ## The body -/

/-- A block of rows lies in the prompt or among the samples. -/
theorem samples_iff : ∀ i : grid0.Coords, k0_cond2 i = 1#1 ↔ ¬ k0_cond1 i = 1#1 := by decide +kernel

/-- The one row of a table that a block of the prompt reads. -/
abbrev seqRow (i : grid0.Coords) (h : k0_cond1 i = 1#1) (x : Vec F S132x4096 .f32) : Vec F S1x4096 .f32 :=
  VecWindow.window x (k0_off1 i) S1x4096.size (k0_off1_inb i h)

/-- The rows of a table that the block of samples reads. -/
abbrev sampleRows (x : Vec F S132x4096 .f32) : Vec F S128x4096 .f32 :=
  VecWindow.window x ![4, 0] S128x4096.size inb_S132x4096_S128x4096_4_0

/-- The rows with their gated update added. -/
def updated (i : grid0.Coords) (h r : Vec F S128x4096 .f32) (gt : Vec F S132x4096 .f32) : FVec F S128x4096 .f32 :=
  if p : k0_cond1 i = 1#1 then k0_pay4 h r (seqRow i p gt) else k0_pay6 h r (sampleRows gt)

/-- The updated rows, normed, scaled and shifted. -/
def scaled (i : grid0.Coords) (h r : Vec F S128x4096 .f32) (gt : Vec F S132x4096 .f32) (g : Vec F S1x4096 .f32)
    (sc sh : Vec F S132x4096 .f32) : FVec F S128x4096 .f32 :=
  if p : k0_cond1 i = 1#1 then k0_pay1 (k0_pay5 h r (seqRow i p gt) g) (seqRow i p sc) (seqRow i p sh)
  else k0_pay7 h r (sampleRows gt) g (sampleRows sc) (sampleRows sh)

/-- The scaled rows in bfloat16. -/
def rounded (i : grid0.Coords) (h r : Vec F S128x4096 .f32) (gt : Vec F S132x4096 .f32) (g : Vec F S1x4096 .f32)
    (sc sh : Vec F S132x4096 .f32) : FVec F S128x4096 .bf16 :=
  truncf .bf16 (scaled i h r gt g sc sh) bitsLt_bf16_f32

/-- The scaled rows times the router's weights. -/
def logits (i : grid0.Coords) (h r : Vec F S128x4096 .f32) (gt : Vec F S132x4096 .f32) (g : Vec F S1x4096 .f32)
    (sc sh : Vec F S132x4096 .f32) (w : Vec F S4096x64 .f32) : FVec F S128x64 .f32 :=
  matmul dot_S128x4096_S4096x64_S128x64_1_0_0_1_n_n (some .fp32) (scaled i h r gt g sc sh) w (constant S128x64 .f32 0x00000000#32)

/-- The body on any staging buffers: the seven inputs are left as found, each result's buffer holds the body's value of them. -/
theorem run_body (c : Dev nD) (i : grid0.Coords)
    (arg1 : Memref sig .tc .vmem S128x4096 .f32) (harg1 : arg1.IsWhole) (arg2 : Memref sig .tc .vmem S128x4096 .f32) (harg2 : arg2.IsWhole)
    (arg3 : Memref sig .tc .vmem S132x4096 .f32) (harg3 : arg3.IsWhole) (arg4 : Memref sig .tc .vmem S1x4096 .f32) (harg4 : arg4.IsWhole)
    (arg5 : Memref sig .tc .vmem S132x4096 .f32) (harg5 : arg5.IsWhole) (arg6 : Memref sig .tc .vmem S132x4096 .f32) (harg6 : arg6.IsWhole)
    (arg7 : Memref sig .tc .vmem S4096x64 .f32) (harg7 : arg7.IsWhole) (arg8 : Memref sig .tc .vmem S128x4096 .f32) (harg8 : arg8.IsWhole)
    (arg9 : Memref sig .tc .vmem S128x4096 .bf16) (harg9 : arg9.IsWhole) (arg10 : Memref sig .tc .vmem S128x64 .f32) (harg10 : arg10.IsWhole)
    (h r : Vec F S128x4096 .f32) (gt : Vec F S132x4096 .f32) (g : Vec F S1x4096 .f32) (sc sh : Vec F S132x4096 .f32) (w : Vec F S4096x64 .f32)
    (E : Set ℕ) (K : PUnit → sProp 𝕄) :
    iprop(owns (c : Thread nD τ) arg1 fullShare h ∗ owns (c : Thread nD τ) arg2 fullShare r ∗ owns (c : Thread nD τ) arg3 fullShare gt
        ∗ owns (c : Thread nD τ) arg4 fullShare g ∗ owns (c : Thread nD τ) arg5 fullShare sc ∗ owns (c : Thread nD τ) arg6 fullShare sh
        ∗ owns (c : Thread nD τ) arg7 fullShare w ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare h ∗ owns (c : Thread nD τ) arg2 fullShare r ∗ owns (c : Thread nD τ) arg3 fullShare gt
            ∗ owns (c : Thread nD τ) arg4 fullShare g ∗ owns (c : Thread nD τ) arg5 fullShare sc ∗ owns (c : Thread nD τ) arg6 fullShare sh
            ∗ owns (c : Thread nD τ) arg7 fullShare w ∗ owns (c : Thread nD τ) arg8 fullShare (updated i h r gt)
            ∗ owns (c : Thread nD τ) arg9 fullShare (rounded i h r gt g sc sh)
            ∗ owns (c : Thread nD τ) arg10 fullShare (logits i h r gt g sc sh w)) -∗ K ⟨⟩))
      ⊢ wp frame (wpE (defs₀ (F := F)) Variants.none c none) E
          (cc0_resnorm i arg1 harg1 arg2 harg2 arg3 harg3 arg4 harg4 arg5 harg5 arg6 harg6 arg7 harg7 arg8 harg8 arg9 harg9 arg10 harg10) K := by
  simp only [cc0_resnorm_eq_skeleton]; unfold cc0_resnorm_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7
  by_cases p : k0_cond1 i = 1#1
  · have q : ¬ k0_cond2 i = 1#1 := fun q => (samples_iff i).mp q p
    simp only [dif_pos p, dif_neg q, k0_part1_eq_skeleton]; unfold k0_part1_skel
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap
      · iexact H8
      ipureintro
      sl_unfold_words
      rw [updated, dif_pos p]
      exact (View.read_writes_full (s := S128x4096) _ _ _ _ _).trans (congr (congr (congrArg k0_pay4
        ((View.readAt_full (s := S128x4096) _ _ _).trans (harg1.read_unread h)))
        ((View.readAt_full (s := S128x4096) _ _ _).trans (harg2.read_unread r)))
        ((View.readAt_unit (s := S132x4096) _ _ _ rfl _).trans (congrArg (seqRow i p) (harg3.read_unread gt))))
    isplitl [H9]
    · iexists _; isplitr
      swap
      · iexact H9
      ipureintro
      sl_unfold_words
      rw [rounded, scaled, dif_pos p]
      exact (View.read_writes_full (s := S128x4096) _ _ _ _ _).trans (congr (congr (congrArg k0_pay2 (congr (congr (congr (congrArg k0_pay5
        ((View.readAt_full (s := S128x4096) _ _ _).trans (harg1.read_unread h)))
        ((View.readAt_full (s := S128x4096) _ _ _).trans (harg2.read_unread r)))
        ((View.readAt_unit (s := S132x4096) _ _ _ rfl _).trans (congrArg (seqRow i p) (harg3.read_unread gt))))
        ((View.readAt_full (s := S1x4096) _ _ _).trans (harg4.read_unread g))))
        ((View.readAt_unit (s := S132x4096) _ _ _ rfl _).trans (congrArg (seqRow i p) (harg5.read_unread sc))))
        ((View.readAt_unit (s := S132x4096) _ _ _ rfl _).trans (congrArg (seqRow i p) (harg6.read_unread sh))))
    iexists _; isplitr
    swap
    · iexact H10
    ipureintro
    sl_unfold_words
    rw [logits, scaled, dif_pos p]
    exact (View.read_writes_full (s := S128x64) _ _ _ _ _).trans (congr (congr (congr (congrArg k0_pay3 (congr (congr (congr (congrArg k0_pay5
      ((View.readAt_full (s := S128x4096) _ _ _).trans (harg1.read_unread h)))
      ((View.readAt_full (s := S128x4096) _ _ _).trans (harg2.read_unread r)))
      ((View.readAt_unit (s := S132x4096) _ _ _ rfl _).trans (congrArg (seqRow i p) (harg3.read_unread gt))))
      ((View.readAt_full (s := S1x4096) _ _ _).trans (harg4.read_unread g))))
      ((View.readAt_unit (s := S132x4096) _ _ _ rfl _).trans (congrArg (seqRow i p) (harg5.read_unread sc))))
      ((View.readAt_unit (s := S132x4096) _ _ _ rfl _).trans (congrArg (seqRow i p) (harg6.read_unread sh))))
      ((View.readAt_full (s := S4096x64) _ _ _).trans (harg7.read_unread w)))
  · have q : k0_cond2 i = 1#1 := (samples_iff i).mpr p
    simp only [dif_neg p, dif_pos q, k0_part2_eq_skeleton]; unfold k0_part2_skel
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap
      · iexact H8
      ipureintro
      sl_unfold_words
      rw [updated, dif_neg p]
      exact (View.read_writes_full (s := S128x4096) _ _ _ _ _).trans (congr (congr (congrArg k0_pay6
        ((View.readAt_full (s := S128x4096) _ _ _).trans (harg1.read_unread h)))
        ((View.readAt_full (s := S128x4096) _ _ _).trans (harg2.read_unread r)))
        ((View.readAt_unit (s := S132x4096) _ _ _ rfl _).trans (congrArg sampleRows (harg3.read_unread gt))))
    isplitl [H9]
    · iexists _; isplitr
      swap
      · iexact H9
      ipureintro
      sl_unfold_words
      rw [rounded, scaled, dif_neg p]
      exact (View.read_writes_full (s := S128x4096) _ _ _ _ _).trans (congr (congr (congr (congr (congr (congrArg k0_pay8
        ((View.readAt_full (s := S128x4096) _ _ _).trans (harg1.read_unread h)))
        ((View.readAt_full (s := S128x4096) _ _ _).trans (harg2.read_unread r)))
        ((View.readAt_unit (s := S132x4096) _ _ _ rfl _).trans (congrArg sampleRows (harg3.read_unread gt))))
        ((View.readAt_full (s := S1x4096) _ _ _).trans (harg4.read_unread g)))
        ((View.readAt_unit (s := S132x4096) _ _ _ rfl _).trans (congrArg sampleRows (harg5.read_unread sc))))
        ((View.readAt_unit (s := S132x4096) _ _ _ rfl _).trans (congrArg sampleRows (harg6.read_unread sh))))
    iexists _; isplitr
    swap
    · iexact H10
    ipureintro
    sl_unfold_words
    rw [logits, scaled, dif_neg p]
    exact (View.read_writes_full (s := S128x64) _ _ _ _ _).trans (congr (congr (congr (congr (congr (congr (congrArg k0_pay9
      ((View.readAt_full (s := S128x4096) _ _ _).trans (harg1.read_unread h)))
      ((View.readAt_full (s := S128x4096) _ _ _).trans (harg2.read_unread r)))
      ((View.readAt_unit (s := S132x4096) _ _ _ rfl _).trans (congrArg sampleRows (harg3.read_unread gt))))
      ((View.readAt_full (s := S1x4096) _ _ _).trans (harg4.read_unread g)))
      ((View.readAt_unit (s := S132x4096) _ _ _ rfl _).trans (congrArg sampleRows (harg5.read_unread sc))))
      ((View.readAt_unit (s := S132x4096) _ _ _ rfl _).trans (congrArg sampleRows (harg6.read_unread sh))))
      ((View.readAt_full (s := S4096x64) _ _ _).trans (harg7.read_unread w)))

/-! ## The proof data -/

variable (m : (ℓ : Loc nD τ sig) → Buf (Elt F) ℓ) (ρ : Dev nD → PrngReg)

/-- A window's block as its staging buffer holds it: laid over contents nothing names. -/
abbrev staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- What each result's buffer holds at a point, of what lay in the two buffers of rows before. -/
def leavesUpdated (c : Dev nD) (t : Fin cfg0.N) (d0 d1 : Vec F S128x4096 .f32) : Vec F S128x4096 .f32 :=
  updated (grid0.coords t) (staged m c 0 t d0) (staged m c 1 t d1) (iblk m c 2 t)
def leavesRounded (c : Dev nD) (t : Fin cfg0.N) (d0 d1 : Vec F S128x4096 .f32) : Vec F S128x4096 .bf16 :=
  rounded (grid0.coords t) (staged m c 0 t d0) (staged m c 1 t d1) (iblk m c 2 t) (iblk m c 3 t) (iblk m c 4 t) (iblk m c 5 t)
def leavesLogits (c : Dev nD) (t : Fin cfg0.N) (d0 d1 : Vec F S128x4096 .f32) : Vec F S128x64 .f32 :=
  logits (grid0.coords t) (staged m c 0 t d0) (staged m c 1 t d1) (iblk m c 2 t) (iblk m c 3 t) (iblk m c 4 t) (iblk m c 5 t) (iblk m c 6 t)

/-- Inputs are left as found; each result's buffer is left with the body's value of the staged blocks. -/
def rdat (c : Dev nD) : RDat τ (Elt F) Unit ℕ (UR sig nD τ) ℕ cfg0 c where
  A w := V m c (Pipeline.arrRef spec0 w)
  after w t Y X := match w with
    | 0 => X = Y
    | 1 => X = Y
    | 2 => X = Y
    | 3 => X = Y
    | 4 => X = Y
    | 5 => X = Y
    | 6 => X = Y
    | 7 => ∃ d0 d1, X = leavesUpdated m c t d0 d1
    | 8 => ∃ d0 d1, X = leavesRounded m c t d0 d1
    | 9 => ∃ d0 d1, X = leavesLogits m c t d0 d1
  Φ _ := Pipeline.ΦA spec0 c
  q _ := fullShare
  owed _ := 0

theorem found0 (c : Dev nD) (t : Fin cfg0.N) (Y) (h : (rdat m c).Finds 0 t Y) : ∃ d, Y = staged m c 0 t d :=
  (rdat m c).finds_in_eq_fetched 0 rfl (fun t t' e => congrArg (fun (ix : Fin 2 → ℕ) a => Pipeline.Clip.of (ix a) (S128x4096.size a) (S8200x4096.size a)) e)
    (fun t Y X h => h) t Y h
theorem found1 (c : Dev nD) (t : Fin cfg0.N) (Y) (h : (rdat m c).Finds 1 t Y) : ∃ d, Y = staged m c 1 t d :=
  (rdat m c).finds_in_eq_fetched 1 rfl (fun t t' e => congrArg (fun (ix : Fin 2 → ℕ) a => Pipeline.Clip.of (ix a) (S128x4096.size a) (S8200x4096.size a)) e)
    (fun t Y X h => h) t Y h
theorem found2 (c : Dev nD) (t : Fin cfg0.N) (Y) (h : (rdat m c).Finds 2 t Y) : Y = iblk m c 2 t :=
  ((rdat m c).finds_in_eq_fetched 2 rfl (fun _ _ _ => rfl) (fun t Y X h => h) t Y h).elim fun _ h => h
theorem found3 (c : Dev nD) (t : Fin cfg0.N) (Y) (h : (rdat m c).Finds 3 t Y) : Y = iblk m c 3 t :=
  ((rdat m c).finds_in_eq_fetched 3 rfl (fun _ _ _ => rfl) (fun t Y X h => h) t Y h).elim fun _ h => h
theorem found4 (c : Dev nD) (t : Fin cfg0.N) (Y) (h : (rdat m c).Finds 4 t Y) : Y = iblk m c 4 t :=
  ((rdat m c).finds_in_eq_fetched 4 rfl (fun _ _ _ => rfl) (fun t Y X h => h) t Y h).elim fun _ h => h
theorem found5 (c : Dev nD) (t : Fin cfg0.N) (Y) (h : (rdat m c).Finds 5 t Y) : Y = iblk m c 5 t :=
  ((rdat m c).finds_in_eq_fetched 5 rfl (fun _ _ _ => rfl) (fun t Y X h => h) t Y h).elim fun _ h => h
theorem found6 (c : Dev nD) (t : Fin cfg0.N) (Y) (h : (rdat m c).Finds 6 t Y) : Y = iblk m c 6 t :=
  ((rdat m c).finds_in_eq_fetched 6 rfl (fun _ _ _ => rfl) (fun t Y X h => h) t Y h).elim fun _ h => h

theorem body_row (t : Fin cfg0.N) :
    defs₀ (F := F) .tc cfg0.body (cfg0.bodyArgs t (cfg0.slots t)) = bodyAt0 t := by
  unfold defs₀; rw [Defs.onTc_tc]

theorem obligation (c : Dev nD) : (rdat (F := F) m c).BodyObligation (defs₀ (F := F)) Variants.none () Set.univ := by
  intro t Y hY
  rw [bigSep_W0, bigSep_W0, body_row]
  obtain ⟨d0, h0⟩ := found0 m c t _ (hY 0)
  obtain ⟨d1, h1⟩ := found1 m c t _ (hY 1)
  have h2 := found2 m c t _ (hY 2)
  have h3 := found3 m c t _ (hY 3)
  have h4 := found4 m c t _ (hY 4)
  have h5 := found5 m c t _ (hY 5)
  have h6 := found6 m c t _ (hY 6)
  rw [show (rdat m c).Φ t.succ = (rdat m c).Φ t.castSucc from rfl, show (rdat m c).owesAt () t.succ = (rdat m c).owesAt () t.castSucc from rfl]
  iintro ⟨HΦ, Hg, H0, H1, H2, H3, H4, H5, H6, H7, H8, H9⟩
  iapply (run_body c (grid0.coords t) (st0_0 t) _ (st0_1 t) _ (st0_2 t) _ (st0_3 t) _ (st0_4 t) _ (st0_5 t) _ (st0_6 t) _ (st0_7 t) _
    (st0_8 t) _ (st0_9 t) _ (Y 0) (Y 1) (Y 2) (Y 3) (Y 4) (Y 5) (Y 6))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Hg]; · iexact Hg
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro; rfl
  isplitl [H6]
  · iexists _; isplitr
    swap
    · iexact H6
    ipureintro; rfl
  isplitl [H7]
  · iexists _; isplitr
    swap
    · iexact H7
    ipureintro
    exact ⟨d0, d1, congr (congr (congrArg (updated (grid0.coords t)) h0) h1) h2⟩
  isplitl [H8]
  · iexists _; isplitr
    swap
    · iexact H8
    ipureintro
    exact ⟨d0, d1, congr (congr (congr (congr (congr (congrArg (rounded (grid0.coords t)) h0) h1) h2) h3) h4) h5⟩
  iexists _; isplitr
  swap
  · iexact H9
  ipureintro
  exact ⟨d0, d1, congr (congr (congr (congr (congr (congr (congrArg (logits (grid0.coords t)) h0) h1) h2) h3) h4) h5) h6⟩

/-! ## The run -/

theorem run : θ_run defs (onTc (τ := τ) (main (F := F))) (s₀ m ρ)
    (fun r => RDat.FramePost cfg0 (rdat m) (V m) r ∧ r.2.sem = fun _ => 0) :=
  RDat.θ_run_frame (Q' := _) cfgs 0 launch0 defs₀ Variants.none (rdat m) m ρ main (hbody := obligation m)
    (hshare := fun c w => by unfold RDat.share; split <;> rfl) (howed := fun _ _ => rfl) (V := V m) (hmain := hmain m Variants.none)
    (hA := fun _ _ => rfl) (hΦ := fun _ _ => rfl)

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem arguments_kept (r : PUnit × MemSt nD τ sig (Elt F)) (h : RDat.FramePost cfg0 (rdat m) (V m) r) (c : Dev nD) : Kept m r c :=
  ⟨(RDat.FramePost.arr_in h c 0 rfl).trans (V_main_arg0 m c), (RDat.FramePost.arr_in h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (RDat.FramePost.arr_in h c 6 rfl).trans (V_main_arg6 m c)⟩

/-- The frame: every execution terminates with the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨arguments_kept m r h.1, h.2⟩) (run m ρ)

/-- What the blocks written back leave in the results' arrays: proof data naming each block among those the relation allows. -/
theorem results_end {r : PUnit × MemSt nD τ sig (Elt F)} (h : RDat.FramePost cfg0 (rdat m) (V m) r) (c : Dev nD) :
    ∃ dat : Pipeline.Dat τ (Elt F) Unit ℕ (UR sig nD τ) ℕ cfg0 c,
      ((∀ t, ∃ d0 d1, dat.after 7 t = leavesUpdated m c t d0 d1) ∧ (∀ t, ∃ d0 d1, dat.after 8 t = leavesRounded m c t d0 d1)
        ∧ ∀ t, ∃ d0 d1, dat.after 9 t = leavesLogits m c t d0 d1)
      ∧ r.2.mem ((c.tc : Thread nD τ).loc main_v4_0) = dat.arrAt 7 cfg0.N
      ∧ r.2.mem ((c.tc : Thread nD τ).loc main_v4_1) = dat.arrAt 8 cfg0.N
      ∧ r.2.mem ((c.tc : Thread nD τ).loc main_v4_2) = dat.arrAt 9 cfg0.N := by
  obtain ⟨after, hl, he⟩ := RDat.FramePost.exists_exact h c
  refine ⟨(rdat m c).withAfter after, ⟨fun t => ?_, fun t => ?_, fun t => ?_⟩, he 7, he 8, he 9⟩
  · obtain ⟨Y, -, d⟩ := hl 7 t (flush0_7 t)
    exact d
  · obtain ⟨Y, -, d⟩ := hl 8 t (flush0_8 t)
    exact d
  · obtain ⟨Y, -, d⟩ := hl 9 t (flush0_9 t)
    exact d

end Cert.FfnNormIdeal.Norm

end
-- ==== Proof.FfnNorm.Reference.lean ====
/-
  The norm inside a layer on the host: the reference run, and its three results read at a row and a column. The tables spread over
  the rows, the norm itself and its scale and shift are those of the two other norms.
-/
module

public import proofs.«01_k».proof.Proof.Gen.FfnNormRefIdeal
public import proofs.«01_k».proof.Proof.KvNorm.Reference
public import Idealize.ShloMosaic.Lib.StackMember

@[expose] public section

set_option maxRecDepth 16384

noncomputable section

open Idealize.ShloMosaic Idealize.ShloMosaic.TcCoe Idealize.SL.Sem

namespace Cert.FfnNormRefIdeal.Plain

open Cert.FfnNormRefIdeal Cert.FfnNormRefIdeal.Gen Idealize.ShloMosaic.StableHlo
open Cert.FinalRefIdeal.Plain (gates normed gates_at normed_at entry tableRow)
open Cert.KvNormRefIdeal.Plain (adapted adapted_at)

variable {F : FTy → Type} [FloatOps F]

/-- The operations of @main, in order. -/
abbrev ops : List (HloOp τ sig (Elt F)) :=
  [ unary main_arg2 main_v0 ((extractStridedSlice S4x4096 ![0, 0] · slices_S12x4096_S4x4096_0_0)),
    unary main_v0 main_v1 (broadcastInDim S4x2048x4096 ![0, 2] bcast_S4x4096_S4x2048x4096_0_2),
    reshape main_v1 main_v2 (rfl : (.f32 : EltTy) = .f32) shapeCasts_S4x2048x4096_S8192x4096,
    unary main_arg2 main_v3 ((extractStridedSlice S8x4096 ![4, 0] · slices_S12x4096_S8x4096_4_0)),
    binary main_v2 main_v3 main_v4 ((fun a b => concatenate S8200x4096 0 [⟨S8192x4096, a⟩, ⟨S8x4096, b⟩] concatenates_S8192x4096_S8x4096_S8200x4096_d0)),
    unary main_arg4 main_v5 ((extractStridedSlice S4x4096 ![0, 0] · slices_S12x4096_S4x4096_0_0)),
    unary main_v5 main_v6 (broadcastInDim S4x2048x4096 ![0, 2] bcast_S4x4096_S4x2048x4096_0_2),
    reshape main_v6 main_v7 (rfl : (.f32 : EltTy) = .f32) shapeCasts_S4x2048x4096_S8192x4096,
    unary main_arg4 main_v8 ((extractStridedSlice S8x4096 ![4, 0] · slices_S12x4096_S8x4096_4_0)),
    binary main_v7 main_v8 main_v9 ((fun a b => concatenate S8200x4096 0 [⟨S8192x4096, a⟩, ⟨S8x4096, b⟩] concatenates_S8192x4096_S8x4096_S8200x4096_d0)),
    unary main_arg5 main_v10 ((extractStridedSlice S4x4096 ![0, 0] · slices_S12x4096_S4x4096_0_0)),
    unary main_v10 main_v11 (broadcastInDim S4x2048x4096 ![0, 2] bcast_S4x4096_S4x2048x4096_0_2),
    reshape main_v11 main_v12 (rfl : (.f32 : EltTy) = .f32) shapeCasts_S4x2048x4096_S8192x4096,
    unary main_arg5 main_v13 ((extractStridedSlice S8x4096 ![4, 0] · slices_S12x4096_S8x4096_4_0)),
    binary main_v12 main_v13 main_v14 ((fun a b => concatenate S8200x4096 0 [⟨S8192x4096, a⟩, ⟨S8x4096, b⟩] concatenates_S8192x4096_S8x4096_S8200x4096_d0)),
    binary main_v4 main_arg1 main_v15 (mulf),
    binary main_arg0 main_v15 main_v16 (addf),
    binary main_v16 main_v16 main_v17 (mulf),
    nullary main_cst (constant S_ .f32 0x00000000#32),
    binary main_v17 main_cst main_v18 ((fun x v => Host.reduceAdd x v reducesTo_S8200x4096_S8200_d1 h_S_)),
    unary main_v18 main_v19 (broadcastInDim S8200x1 ![0] bcast_S8200_S8200x1_0),
    nullary main_cst_0 (constant S_ .f32 0x45800000#32),
    unary main_cst_0 main_v20 (broadcastInDim S8200x1 ![] bcast_S_S8200x1),
    binary main_v19 main_v20 main_v21 (Host.divf),
    nullary main_cst_1 (constant S_ .f32 0x358637BD#32),
    unary main_cst_1 main_v22 (broadcastInDim S8200x1 ![] bcast_S_S8200x1),
    binary main_v21 main_v22 main_v23 (addf),
    unary main_v23 main_v24 (Host.rsqrt),
    unary main_v24 main_v25 (broadcastInDim S8200x4096 ![0, 1] bcast_S8200x1_S8200x4096_0_1),
    binary main_v16 main_v25 main_v26 (mulf),
    unary main_arg3 main_v27 (broadcastInDim S1x4096 ![1] bcast_S4096_S1x4096_1),
    unary main_v27 main_v28 (broadcastInDim S8200x4096 ![0, 1] bcast_S1x4096_S8200x4096_0_1),
    binary main_v26 main_v28 main_v29 (mulf),
    nullary main_cst_2 (constant S_ .f32 0x3F800000#32),
    unary main_cst_2 main_v30 (broadcastInDim S8200x4096 ![] bcast_S_S8200x4096),
    binary main_v30 main_v9 main_v31 (addf),
    binary main_v29 main_v31 main_v32 (mulf),
    binary main_v32 main_v14 main_v33 (addf),
    unary main_v33 main_v34 ((truncf .bf16 · bitsLt_bf16_f32)),
    binary main_v33 main_arg6 main_v35 ((fun l r => Host.dotGeneral dot_S8200x4096_S4096x64_S8200x64_1_0_0_1_n_n none l r)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., unary_bufs_sub .., binary_bufs_sub .., unary_bufs_sub .., unary_bufs_sub ..,
    reshape_bufs_sub .., unary_bufs_sub .., binary_bufs_sub .., unary_bufs_sub .., unary_bufs_sub .., reshape_bufs_sub ..,
    unary_bufs_sub .., binary_bufs_sub .., binary_bufs_sub .., binary_bufs_sub .., binary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., binary_bufs_sub ..,
    unary_bufs_sub .., binary_bufs_sub ..⟩

/-- Every row with the gated update added. -/
def updated (h r : Vec F S8200x4096 .f32) (gt : Vec F S12x4096 .f32) : FVec F S8200x4096 .f32 := addf h (mulf (gates gt) r)

/-- The updated rows, normed, scaled and shifted. -/
def scaled (h r : Vec F S8200x4096 .f32) (gt : Vec F S12x4096 .f32) (g : Vec F S4096 .f32) (sc sh : Vec F S12x4096 .f32) : FVec F S8200x4096 .f32 :=
  adapted (normed (updated h r gt) g) (gates sc) (gates sh)

/-- The second result: the scaled rows in bfloat16. -/
def rounded (h r : Vec F S8200x4096 .f32) (gt : Vec F S12x4096 .f32) (g : Vec F S4096 .f32) (sc sh : Vec F S12x4096 .f32) : Vec F S8200x4096 .bf16 :=
  truncf .bf16 (scaled h r gt g sc sh) bitsLt_bf16_f32

/-- The third result: the scaled rows times the router's weights. -/
def logits (h r : Vec F S8200x4096 .f32) (gt : Vec F S12x4096 .f32) (g : Vec F S4096 .f32) (sc sh : Vec F S12x4096 .f32)
    (w : Vec F S4096x64 .f32) : Vec F S8200x64 .f32 :=
  Host.dotGeneral dot_S8200x4096_S4096x64_S8200x64_1_0_0_1_n_n none (scaled h r gt g sc sh) w

variable (m : (ℓ : Loc nD τ sig) → Buf (Elt F) ℓ) (ρ : Dev nD → PrngReg)

theorem updated_read (V : Valuation τ sig (Elt F)) :
    after ops V main_v16 = updated (V main_arg0) (V main_arg1) (V main_arg2) := by
  after_reads_simp
  rfl

theorem rounded_read (V : Valuation τ sig (Elt F)) :
    after ops V main_v34 = rounded (V main_arg0) (V main_arg1) (V main_arg2) (V main_arg3) (V main_arg4) (V main_arg5) := by
  after_reads_simp
  rfl

theorem logits_read (V : Valuation τ sig (Elt F)) :
    after ops V main_v35 = logits (V main_arg0) (V main_arg1) (V main_arg2) (V main_arg3) (V main_arg4) (V main_arg5) (V main_arg6) := by
  after_reads_simp
  rfl

/-- The arguments end as launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- The run: the three results, and the arguments as launched. -/
theorem run : θ_run defs (onTc (τ := τ) (main (F := F))) ⟨m, fun _ => 0, ρ⟩ fun r => ∀ c : Dev nD,
      r.2.mem ((c : Thread nD τ).loc main_v16) = updated (m ((c : Thread nD τ).loc main_arg0)) (m ((c : Thread nD τ).loc main_arg1))
            (m ((c : Thread nD τ).loc main_arg2))
      ∧ r.2.mem ((c : Thread nD τ).loc main_v34) = rounded (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c : Thread nD τ).loc main_v35) = logits (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ Kept m r c :=
  (θ_run defs _ _).mono (fun _ h c => ⟨(h c main_v16).trans (updated_read _), (h c main_v34).trans (rounded_read _),
      (h c main_v35).trans (logits_read _),
      (h c main_arg0).trans (by after_reads_simp), (h c main_arg1).trans (by after_reads_simp),
      (h c main_arg2).trans (by after_reads_simp), (h c main_arg3).trans (by after_reads_simp),
      (h c main_arg4).trans (by after_reads_simp), (h c main_arg5).trans (by after_reads_simp),
      (h c main_arg6).trans (by after_reads_simp)⟩)
    (run_seq scopedRefs_eq scopedSems_eq defs main (fun _ => ops) main_eq (fun _ => ops_sub) m ρ)

/-- The frame: the arguments as launched and every counter at zero. -/
theorem quiescent : θ_run defs (onTc (τ := τ) (main (F := F))) ⟨m, fun _ => 0, ρ⟩
    (fun r => (∀ c : Dev nD, Kept m r c) ∧ r.2.sem = fun _ => 0) :=
  (θ_run defs _ _).mono (fun r h => ⟨fun c => (h c).2.2.2, sem_eq_zero_of_no_sems (by decide) r.2⟩) (run m ρ)

/-! ## The results at an index, at the ideal values -/

theorem updated_at (h r : Vec Ideal S8200x4096 .f32) (gt : Vec Ideal S12x4096 .f32) (i : Fin 8200) (k : Fin 4096) :
    updated h r gt (ix2 i k) = (h (ix2 i k) + gt (ix2 (tableRow i) k) * r (ix2 i k) : EReal) :=
  congrArg (fun e : EReal => h (ix2 i k) + e * r (ix2 i k)) (gates_at gt i k)

theorem scaled_at (h r : Vec Ideal S8200x4096 .f32) (gt : Vec Ideal S12x4096 .f32) (g : Vec Ideal S4096 .f32) (sc sh : Vec Ideal S12x4096 .f32)
    (i : Fin 8200) (k : Fin 4096) :
    scaled h r gt g sc sh (ix2 i k)
      = entry (fun j => updated h r gt (ix2 i j)) k (g (ix1 k)) * (1 + sc (ix2 (tableRow i) k)) + sh (ix2 (tableRow i) k) := by
  refine (adapted_at (normed (updated h r gt) g) (gates sc) (gates sh) i k).trans ?_
  rw [gates_at, gates_at, normed_at]

theorem logits_at (h r : Vec Ideal S8200x4096 .f32) (gt : Vec Ideal S12x4096 .f32) (g : Vec Ideal S4096 .f32) (sc sh : Vec Ideal S12x4096 .f32)
    (w : Vec Ideal S4096x64 .f32) (i : Fin 8200) (e : Fin 64) :
    logits h r gt g sc sh w (ix2 i e) = (∑ k : Fin 4096, scaled h r gt g sc sh (ix2 i k) * w (ix2 k e) : EReal) :=
  StackMember.dotGeneral_plain_apply none (scaled h r gt g sc sh) w i e

end Cert.FfnNormRefIdeal.Plain

end
-- ==== Proof.FfnNorm.Value.lean ====
/-
  The norm inside a layer at the ideal values: the arrays the blocks written back leave are the reference's three results, whatever
  lay in the part of a staging buffer that no transfer moved.
-/
module

public import proofs.«01_k».proof.Proof.Dense
public import proofs.«01_k».proof.Proof.FfnNorm.Run
public import proofs.«01_k».proof.Proof.FfnNorm.Reference
public import proofs.«01_k».proof.Proof.Final.Value

@[expose] public section

set_option maxRecDepth 16384

noncomputable section

namespace Cert.FfnNormIdeal.Norm

open Cert.FfnNormIdeal Cert.FfnNormIdeal.Gen Cert.Dense
open Cert.FinalRefIdeal.Plain (entry tableRow)
open Cert.FinalIdeal.Norm (padded_at whole_table)
open Idealize.ShloMosaic Idealize.ShloMosaic.TcCoe
open Idealize.ShloMosaic.Pipeline (Dat RDat Cfg Window)

/-! ## The body's values at an index -/

theorem seq_updated_at (h r : Vec Ideal S128x4096 .f32) (gt : Vec Ideal S1x4096 .f32) (i : Fin 128) (k : Fin 4096) :
    k0_pay4 h r gt (ix2 i k) = (h (ix2 i k) + gt (ix2 0 k) * r (ix2 i k) : EReal) := by
  pointwise [k0_pay4]

theorem sample_updated_at (h r gt : Vec Ideal S128x4096 .f32) (i : Fin 128) (k : Fin 4096) :
    k0_pay6 h r gt (ix2 i k) = (h (ix2 i k) + gt (ix2 i k) * r (ix2 i k) : EReal) := by
  pointwise [k0_pay6]

theorem seq_at (h r : Vec Ideal S128x4096 .f32) (gt g sc sh : Vec Ideal S1x4096 .f32) (i : Fin 128) (k : Fin 4096) :
    k0_pay1 (k0_pay5 h r gt g) sc sh (ix2 i k)
      = entry (fun j => k0_pay4 h r gt (ix2 i j)) k (g (ix2 0 k)) * (1 + sc (ix2 0 k)) + sh (ix2 0 k) := by
  pointwise [k0_pay1, k0_pay5, k0_pay4, entry]

theorem sample_at (h r gt sc sh : Vec Ideal S128x4096 .f32) (g : Vec Ideal S1x4096 .f32) (i : Fin 128) (k : Fin 4096) :
    k0_pay7 h r gt g sc sh (ix2 i k)
      = entry (fun j => k0_pay6 h r gt (ix2 i j)) k (g (ix2 0 k)) * (1 + sc (ix2 i k)) + sh (ix2 i k) := by
  pointwise [k0_pay7, k0_pay6, entry]

/-- The router's product at a row and an expert. -/
theorem product_at (x : FVec Ideal S128x4096 .f32) (w : FVec Ideal S4096x64 .f32) (i : Fin 128) (e : Fin 64) :
    matmul dot_S128x4096_S4096x64_S128x64_1_0_0_1_n_n (some .fp32) x w (constant S128x64 .f32 0x00000000#32) (ix2 i e)
      = (∑ k : Fin 4096, x (ix2 i k) * w (ix2 k e) : EReal) := by
  refine (Ideal.matmul_plain_apply (some .fp32) x w _ i e).trans ?_
  exact (congrArg (fun a : EReal => a + _) Ideal.ofBits_zero_f32).trans (zero_add _)

/-- A block of the prompt reads the table at its sequence's row. -/
theorem seq_offset : ∀ i : grid0.Coords, k0_cond1 i = 1#1 → k0_off1 i 0 = (i 0).val / 16 ∧ k0_off1 i 1 = 0 ∧ (i 0).val < 64 := by
  decide +kernel
theorem sample_block : ∀ i : grid0.Coords, ¬ k0_cond1 i = 1#1 → (i 0).val = 64 := by decide +kernel
/-- The arrays of rows are cut in blocks in order. -/
theorem block_offset : ∀ i : grid0.Coords, cc0_transform_0 i 0 = (i 0).val := by decide +kernel

variable (m : (ℓ : Loc nD τ sig) → Buf (Elt Ideal) ℓ) (c : Dev nD) (t : Fin cfg0.N)

/-! ## What the call finds -/

theorem gates_entry (i : Fin 12) (k : Fin 4096) :
    V m c main_v0 (ix2 ⟨i.val, by omega⟩ k : S132x4096.Idx) = m ((c : Thread nD τ).loc main_arg2) (ix2 i k) := by
  refine Eq.trans ?_ (padded_at (m ((c : Thread nD τ).loc main_arg2)) (sitofp (F := Ideal) .f32 (constantI S_ 32 0#32)) i k)
  refine congrFun ?_ _
  show StableHlo.after (List.flatten _) _ _ = _
  simp only [List.flatten_cons, List.flatten_nil, List.append_nil, List.cons_append, List.nil_append]
  after_reads_simp
  rfl

theorem scales_entry (i : Fin 12) (k : Fin 4096) :
    V m c main_v1 (ix2 ⟨i.val, by omega⟩ k : S132x4096.Idx) = m ((c : Thread nD τ).loc main_arg4) (ix2 i k) := by
  refine Eq.trans ?_ (padded_at (m ((c : Thread nD τ).loc main_arg4)) (sitofp (F := Ideal) .f32 (constantI S_ 32 0#32)) i k)
  refine congrFun ?_ _
  show StableHlo.after (List.flatten _) _ _ = _
  simp only [List.flatten_cons, List.flatten_nil, List.append_nil, List.cons_append, List.nil_append]
  after_reads_simp
  rfl

theorem shifts_entry (i : Fin 12) (k : Fin 4096) :
    V m c main_v2 (ix2 ⟨i.val, by omega⟩ k : S132x4096.Idx) = m ((c : Thread nD τ).loc main_arg5) (ix2 i k) := by
  refine Eq.trans ?_ (padded_at (m ((c : Thread nD τ).loc main_arg5)) (sitofp (F := Ideal) .f32 (constantI S_ 32 0#32)) i k)
  refine congrFun ?_ _
  show StableHlo.after (List.flatten _) _ _ = _
  simp only [List.flatten_cons, List.flatten_nil, List.append_nil, List.cons_append, List.nil_append]
  after_reads_simp
  rfl

theorem gains_entry (k : Fin 4096) : V m c main_v3 (ix2 0 k : S1x4096.Idx) = m ((c : Thread nD τ).loc main_arg3) (ix1 k) := by
  refine (congrFun (?_ : _ = shapeCast S1x4096 (m ((c : Thread nD τ).loc main_arg3)) shapeCasts_S4096_S1x4096) _).trans ?_
  · show StableHlo.after (List.flatten _) _ _ = _
    simp only [List.flatten_cons, List.flatten_nil, List.append_nil, List.cons_append, List.nil_append]
    after_reads_simp
    rfl
  · exact ValueIdx.shapeCast_a_1a_apply _ _ 0 k

/-! ## The blocks at an index -/

/-- The rows of a point's block that the transfers move, and the array's row of a block's. -/
abbrev Moved (i : ℕ) : Prop := i < (Pipeline.Clip.of (cc0_transform_0 (grid0.coords t) 0) 128 8200).extent 128
def rowOf (i : ℕ) (hi : Moved t i) : Fin 8200 := ⟨cc0_transform_0 (grid0.coords t) 0 * 128 + i, moved_inside (hstart0_0 (grid0.coords t) 0) hi⟩
theorem rowOf_val (i : ℕ) (hi : Moved t i) : (rowOf t i hi).val = (grid0.coords t 0).val * 128 + i := by
  show cc0_transform_0 (grid0.coords t) 0 * 128 + i = _
  rw [block_offset]

theorem stream_at (d : Vec Ideal S128x4096 .f32) (i : Fin 128) (hi : Moved t i.val) (k : Fin 4096) :
    staged m c 0 t d (ix2 i k : S128x4096.Idx) = m ((c : Thread nD τ).loc main_arg0) (ix2 (rowOf t i.val hi) k) := by
  have h : (cfg0.win 0).moved (cfg0.grid.coords t) (ix2 i k : S128x4096.Idx) = true :=
    ((cfg0.win 0).moved_iff _ _).mpr fun (a : Fin 2) => by
      fin_cases a
      · exact hi
      · exact k.isLt
  unfold staged Window.fill
  rw [dif_pos h]
  refine (congrArg (V m c main_arg0) (funext fun (a : Fin 2) => Fin.ext ?_)).trans (congrFun (V_main_arg0 m c) _)
  fin_cases a
  · show cc0_transform_0 (grid0.coords t) 0 * 128 + 1 * i.val = cc0_transform_0 (grid0.coords t) 0 * 128 + i.val; omega
  · show 0 * 4096 + 1 * k.val = k.val; omega

theorem mixed_at (d : Vec Ideal S128x4096 .f32) (i : Fin 128) (hi : Moved t i.val) (k : Fin 4096) :
    staged m c 1 t d (ix2 i k : S128x4096.Idx) = m ((c : Thread nD τ).loc main_arg1) (ix2 (rowOf t i.val hi) k) := by
  have h : (cfg0.win 1).moved (cfg0.grid.coords t) (ix2 i k : S128x4096.Idx) = true :=
    ((cfg0.win 1).moved_iff _ _).mpr fun (a : Fin 2) => by
      fin_cases a
      · exact hi
      · exact k.isLt
  unfold staged Window.fill
  rw [dif_pos h]
  refine (congrArg (V m c main_arg1) (funext fun (a : Fin 2) => Fin.ext ?_)).trans (congrFun (V_main_arg1 m c) _)
  fin_cases a
  · show cc0_transform_0 (grid0.coords t) 0 * 128 + 1 * i.val = cc0_transform_0 (grid0.coords t) 0 * 128 + i.val; omega
  · show 0 * 4096 + 1 * k.val = k.val; omega

theorem gates_block : iblk m c 2 t = V m c main_v0 := funext fun z => whole_table (V m c main_v0) _ z rfl rfl
theorem scales_block : iblk m c 4 t = V m c main_v1 := funext fun z => whole_table (V m c main_v1) _ z rfl rfl
theorem shifts_block : iblk m c 5 t = V m c main_v2 := funext fun z => whole_table (V m c main_v2) _ z rfl rfl

theorem gains_at (k : Fin 4096) : iblk m c 3 t (ix2 0 k : S1x4096.Idx) = m ((c : Thread nD τ).loc main_arg3) (ix1 k) := by
  refine (congrArg (V m c main_v3) (funext fun (a : Fin 2) => Fin.ext ?_)).trans (gains_entry m c k)
  fin_cases a
  · rfl
  · show 0 * 4096 + 1 * k.val = k.val; omega

theorem router_at (k : Fin 4096) (e : Fin 64) : iblk m c 6 t (ix2 k e : S4096x64.Idx) = m ((c : Thread nD τ).loc main_arg6) (ix2 k e) := by
  refine (congrArg (V m c main_arg6) (funext fun (a : Fin 2) => Fin.ext ?_)).trans (congrFun (V_main_arg6 m c) _)
  fin_cases a
  · show 0 * 4096 + 1 * k.val = k.val; omega
  · show 0 * 64 + 1 * e.val = e.val; omega

/-- A row of a table that a block of the prompt or of the samples reads. -/
theorem seqRow_at (p : k0_cond1 (grid0.coords t) = 1#1) (x : Vec Ideal S132x4096 .f32) (i : ℕ) (hi : Moved t i) (k : Fin 4096) :
    seqRow (grid0.coords t) p x (ix2 0 k : S1x4096.Idx) = x (ix2 ⟨(tableRow (rowOf t i hi)).val, by omega⟩ k) := by
  obtain ⟨e0, e1, lt⟩ := seq_offset _ p
  have hv := rowOf_val t i hi
  have h128 : i < 128 := moved_in_block (hstart0_0 (grid0.coords t) 0) hi
  refine congrArg x (funext fun (a : Fin 2) => Fin.ext ?_)
  fin_cases a
  · show k0_off1 (grid0.coords t) 0 + 1 * 0 = (tableRow (rowOf t i hi)).val
    unfold tableRow
    rw [dif_pos (by omega)]
    show _ = (rowOf t i hi).val / 2048
    omega
  · show k0_off1 (grid0.coords t) 1 + 1 * k.val = k.val
    omega

theorem sampleRows_at (p : ¬ k0_cond1 (grid0.coords t) = 1#1) (x : Vec Ideal S132x4096 .f32) (i : Fin 128) (hi : Moved t i.val) (k : Fin 4096) :
    sampleRows x (ix2 i k : S128x4096.Idx) = x (ix2 ⟨(tableRow (rowOf t i.val hi)).val, by omega⟩ k) := by
  have e := sample_block _ p
  have hv := rowOf_val t i.val hi
  refine congrArg x (funext fun (a : Fin 2) => Fin.ext ?_)
  fin_cases a
  · show 4 + 1 * i.val = (tableRow (rowOf t i.val hi)).val
    unfold tableRow
    rw [dif_neg (by omega)]
    show _ = (rowOf t i.val hi).val - 8192 + 4
    omega
  · show 0 + 1 * k.val = k.val
    omega

/-! ## The results -/

/-- The reference's values of this launch's arguments: the updated rows, the scaled rows the two other results are made of, and those results. -/
abbrev wantedUpdated : Vec Ideal S8200x4096 .f32 :=
  FfnNormRefIdeal.Plain.updated (m ((c : Thread nD τ).loc main_arg0)) (m ((c : Thread nD τ).loc main_arg1)) (m ((c : Thread nD τ).loc main_arg2))
abbrev wantedScaled : Vec Ideal S8200x4096 .f32 :=
  FfnNormRefIdeal.Plain.scaled (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev wantedRounded : Vec Ideal S8200x4096 .bf16 :=
  FfnNormRefIdeal.Plain.rounded (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev wantedLogits : Vec Ideal S8200x64 .f32 :=
  FfnNormRefIdeal.Plain.logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- An updated entry with its parts the arguments' is the reference's. -/
theorem updated_eq (n : Fin 8200) (k : Fin 4096) (x e y : EReal) (hx : x = m ((c : Thread nD τ).loc main_arg0) (ix2 n k))
    (he : e = V m c main_v0 (ix2 ⟨(tableRow n).val, by omega⟩ k : S132x4096.Idx)) (hy : y = m ((c : Thread nD τ).loc main_arg1) (ix2 n k)) :
    x + e * y = wantedUpdated m c (ix2 n k) := by
  refine Eq.trans ?_ (FfnNormRefIdeal.Plain.updated_at _ _ _ n k).symm
  exact congrArg₂ (fun a b : EReal => a + b) hx (congrArg₂ (fun a b : EReal => a * b) (he.trans (gates_entry m c _ k)) hy)

/-- A scaled entry with its row the reference's and its gain, scale and shift the arguments' is the reference's. -/
theorem scaled_eq (n : Fin 8200) (k : Fin 4096) (x : Fin 4096 → EReal) (g a b : EReal)
    (hx : ∀ j, x j = wantedUpdated m c (ix2 n j)) (hg : g = m ((c : Thread nD τ).loc main_arg3) (ix1 k))
    (ha : a = V m c main_v1 (ix2 ⟨(tableRow n).val, by omega⟩ k : S132x4096.Idx))
    (hb : b = V m c main_v2 (ix2 ⟨(tableRow n).val, by omega⟩ k : S132x4096.Idx)) :
    entry x k g * (1 + a) + b = wantedScaled m c (ix2 n k) := by
  refine Eq.trans ?_ (FfnNormRefIdeal.Plain.scaled_at _ _ _ _ _ _ n k).symm
  refine congrArg₂ (fun u v : EReal => u + v) ?_ (hb.trans (shifts_entry m c _ k))
  refine congrArg₂ (fun u v : EReal => u * (1 + v)) ?_ (ha.trans (scales_entry m c _ k))
  exact congrArg₂ (fun x g => entry x k g) (funext hx) hg

theorem updated_at (d0 d1 : Vec Ideal S128x4096 .f32) (i : Fin 128) (hi : Moved t i.val) (k : Fin 4096) :
    leavesUpdated m c t d0 d1 (ix2 i k) = wantedUpdated m c (ix2 (rowOf t i.val hi) k) := by
  unfold leavesUpdated updated
  rw [gates_block]
  by_cases p : k0_cond1 (grid0.coords t) = 1#1
  · rw [dif_pos p]
    refine (seq_updated_at _ _ _ i k).trans ?_
    exact updated_eq m c _ k _ _ _ (stream_at m c t d0 i hi k) (seqRow_at t p _ i.val hi k) (mixed_at m c t d1 i hi k)
  · rw [dif_neg p]
    refine (sample_updated_at _ _ _ i k).trans ?_
    exact updated_eq m c _ k _ _ _ (stream_at m c t d0 i hi k) (sampleRows_at t p _ i hi k) (mixed_at m c t d1 i hi k)

/-- The scaled rows of a point's block. -/
abbrev blockScaled (d0 d1 : Vec Ideal S128x4096 .f32) : FVec Ideal S128x4096 .f32 :=
  scaled (grid0.coords t) (staged m c 0 t d0) (staged m c 1 t d1) (iblk m c 2 t) (iblk m c 3 t) (iblk m c 4 t) (iblk m c 5 t)

theorem scaled_at (d0 d1 : Vec Ideal S128x4096 .f32) (i : Fin 128) (hi : Moved t i.val) (k : Fin 4096) :
    blockScaled m c t d0 d1 (ix2 i k) = wantedScaled m c (ix2 (rowOf t i.val hi) k) := by
  have hu := updated_at m c t d0 d1 i hi
  unfold leavesUpdated updated at hu
  unfold blockScaled scaled
  rw [scales_block, shifts_block]
  by_cases p : k0_cond1 (grid0.coords t) = 1#1
  · rw [dif_pos p] at hu ⊢
    refine (seq_at _ _ _ _ _ _ i k).trans ?_
    exact scaled_eq m c _ k _ _ _ _ hu (gains_at m c t k) (seqRow_at t p _ i.val hi k) (seqRow_at t p _ i.val hi k)
  · rw [dif_neg p] at hu ⊢
    refine (sample_at _ _ _ _ _ _ i k).trans ?_
    exact scaled_eq m c _ k _ _ _ _ hu (gains_at m c t k) (sampleRows_at t p _ i hi k) (sampleRows_at t p _ i hi k)

theorem rounded_at (d0 d1 : Vec Ideal S128x4096 .f32) (i : Fin 128) (hi : Moved t i.val) (k : Fin 4096) :
    leavesRounded m c t d0 d1 (ix2 i k) = wantedRounded m c (ix2 (rowOf t i.val hi) k) :=
  scaled_at m c t d0 d1 i hi k

theorem logits_at (d0 d1 : Vec Ideal S128x4096 .f32) (i : Fin 128) (hi : Moved t i.val) (e : Fin 64) :
    leavesLogits m c t d0 d1 (ix2 i e) = wantedLogits m c (ix2 (rowOf t i.val hi) e) := by
  refine (product_at (blockScaled m c t d0 d1) _ i e).trans (Eq.trans ?_ (FfnNormRefIdeal.Plain.logits_at _ _ _ _ _ _ _ _ e).symm)
  exact Finset.sum_congr rfl fun k _ => congrArg₂ (fun a b : EReal => a * b) (scaled_at m c t d0 d1 i hi k) (router_at m c t k e)

/-! ## The arrays -/

/-- A row the result's transfer moves is one the rows' transfers move, and lies in the block. -/
theorem in_block (i : ℕ) (hi : Moved t i) : i < 128 := moved_in_block (hstart0_0 (grid0.coords t) 0) hi

theorem updated_array (dat : Dat τ (Elt Ideal) Unit ℕ (UR sig nD τ) ℕ cfg0 c)
    (h : ∀ t, ∃ d0 d1, dat.after 7 t = leavesUpdated m c t d0 d1) : dat.arrAt 7 cfg0.N = wantedUpdated m c := by
  refine dat.arrAt_eq_of_covers 7 (wantedUpdated m c) (by decide +kernel) fun t _ y => ?_
  obtain ⟨d0, d1, hd⟩ := h t
  have h0 : Moved t (y (0 : Fin 2)).val := (y (0 : Fin 2)).isLt
  have h1 : (y (1 : Fin 2)).val < 4096 := moved_in_block (hstart0_7 (grid0.coords t) 1) (y (1 : Fin 2)).isLt
  have ey : (cfg0.win 7).xinj (grid0.coords t) y = (ix2 ⟨(y (0 : Fin 2)).val, in_block t _ h0⟩ ⟨(y (1 : Fin 2)).val, h1⟩ : S128x4096.Idx) :=
    funext fun (a : Fin 2) => by fin_cases a <;> rfl
  have ep : ((cfg0.win 7).blk t).view.emb y = (ix2 (rowOf t _ h0) ⟨_, h1⟩ : S8200x4096.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 4096 + 1 * (y (1 : Fin 2)).val = (y (1 : Fin 2)).val; omega
  refine Eq.trans ?_ ((updated_at m c t d0 d1 ⟨_, in_block t _ h0⟩ h0 ⟨_, h1⟩).trans (congrArg (wantedUpdated m c) ep.symm))
  exact (congrFun hd _).trans (congrArg (leavesUpdated m c t d0 d1) ey)

theorem rounded_array (dat : Dat τ (Elt Ideal) Unit ℕ (UR sig nD τ) ℕ cfg0 c)
    (h : ∀ t, ∃ d0 d1, dat.after 8 t = leavesRounded m c t d0 d1) : dat.arrAt 8 cfg0.N = wantedRounded m c := by
  refine dat.arrAt_eq_of_covers 8 (wantedRounded m c) (by decide +kernel) fun t _ y => ?_
  obtain ⟨d0, d1, hd⟩ := h t
  have h0 : Moved t (y (0 : Fin 2)).val := (y (0 : Fin 2)).isLt
  have h1 : (y (1 : Fin 2)).val < 4096 := moved_in_block (hstart0_8 (grid0.coords t) 1) (y (1 : Fin 2)).isLt
  have ey : (cfg0.win 8).xinj (grid0.coords t) y = (ix2 ⟨(y (0 : Fin 2)).val, in_block t _ h0⟩ ⟨(y (1 : Fin 2)).val, h1⟩ : S128x4096.Idx) :=
    funext fun (a : Fin 2) => by fin_cases a <;> rfl
  have ep : ((cfg0.win 8).blk t).view.emb y = (ix2 (rowOf t _ h0) ⟨_, h1⟩ : S8200x4096.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 4096 + 1 * (y (1 : Fin 2)).val = (y (1 : Fin 2)).val; omega
  refine Eq.trans ?_ ((rounded_at m c t d0 d1 ⟨_, in_block t _ h0⟩ h0 ⟨_, h1⟩).trans (congrArg (wantedRounded m c) ep.symm))
  exact (congrFun hd _).trans (congrArg (leavesRounded m c t d0 d1) ey)

theorem logits_array (dat : Dat τ (Elt Ideal) Unit ℕ (UR sig nD τ) ℕ cfg0 c)
    (h : ∀ t, ∃ d0 d1, dat.after 9 t = leavesLogits m c t d0 d1) : dat.arrAt 9 cfg0.N = wantedLogits m c := by
  refine dat.arrAt_eq_of_covers 9 (wantedLogits m c) (by decide +kernel) fun t _ y => ?_
  obtain ⟨d0, d1, hd⟩ := h t
  have h0 : Moved t (y (0 : Fin 2)).val := (y (0 : Fin 2)).isLt
  have h1 : (y (1 : Fin 2)).val < 64 := moved_in_block (hstart0_9 (grid0.coords t) 1) (y (1 : Fin 2)).isLt
  have ey : (cfg0.win 9).xinj (grid0.coords t) y = (ix2 ⟨(y (0 : Fin 2)).val, in_block t _ h0⟩ ⟨(y (1 : Fin 2)).val, h1⟩ : S128x64.Idx) :=
    funext fun (a : Fin 2) => by fin_cases a <;> rfl
  have ep : ((cfg0.win 9).blk t).view.emb y = (ix2 (rowOf t _ h0) ⟨_, h1⟩ : S8200x64.Idx) := by
    refine funext fun (a : Fin 2) => Fin.ext ?_
    fin_cases a
    · show cc0_transform_0 (grid0.coords t) 0 * 128 + 1 * (y (0 : Fin 2)).val = cc0_transform_0 (grid0.coords t) 0 * 128 + (y (0 : Fin 2)).val; omega
    · show 0 * 64 + 1 * (y (1 : Fin 2)).val = (y (1 : Fin 2)).val; omega
  refine Eq.trans ?_ ((logits_at m c t d0 d1 ⟨_, in_block t _ h0⟩ h0 ⟨_, h1⟩).trans (congrArg (wantedLogits m c) ep.symm))
  exact (congrFun hd _).trans (congrArg (leavesLogits m c t d0 d1) ey)

end Cert.FfnNormIdeal.Norm

end
-- ==== Proof.FfnNorm.Claims.lean ====
/-
  The claims about the norm inside a layer: the frames, and the three results equal at the ideal values.
-/
module

public import proofs.«01_k».proof.Defs
public import proofs.«01_k».proof.Proof.Gen.FfnNorm
public import proofs.«01_k».proof.Proof.FfnNorm.Value

@[expose] public section

set_option maxRecDepth 16384

noncomputable section

namespace Cert.FfnNormIdeal.Norm

open Cert.FfnNormIdeal Cert.FfnNormIdeal.Gen
open Idealize.ShloMosaic Idealize.ShloMosaic.TcCoe Idealize.SL.Sem

variable {F : FTy → Type} [FloatOps F]

/-- The frame claim's statement, at any float values. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem framed : Framed F := fun m g _ => quiescent m g

theorem frame_ideal : Cert.quiescent_FfnNormIdeal := framed (F := Ideal)

theorem same_frame : Framed Bits = Cert.quiescent_FfnNorm := by chain_rfl

theorem frame_machine : Cert.quiescent_FfnNorm := Eq.mp same_frame (framed (F := Bits))

theorem frame_reference : Cert.quiescent_FfnNormRefIdeal := fun m g _ => FfnNormRefIdeal.Plain.quiescent m g

theorem equal_results : Cert.algebraic_FfnNormIdeal_FfnNormRefIdeal := by
  intro m g m' g' _ ha
  refine ⟨fun c => wantedUpdated m c, fun c => wantedRounded m c, fun c => wantedLogits m c, ?_, ?_⟩
  · refine (θ_run FfnNormIdeal.defs _ _).mono (fun r h c => ?_) (run m g)
    obtain ⟨dat, ⟨h7, h8, h9⟩, e7, e8, e9⟩ := results_end m h.1 c
    exact ⟨e7.trans (updated_array m c dat h7), e8.trans (rounded_array m c dat h8), e9.trans (logits_array m c dat h9), arguments_kept m r h.1 c⟩
  · refine (θ_run FfnNormRefIdeal.defs _ _).mono (fun r h c => ?_) (FfnNormRefIdeal.Plain.run m' g')
    obtain ⟨a0, a1, a2, a3, a4, a5, a6⟩ := ha c
    refine ⟨(h c).1.trans ?_, (h c).2.1.trans ?_, (h c).2.2.1.trans ?_, (h c).2.2.2⟩
    · exact congr (congr (congrArg FfnNormRefIdeal.Plain.updated a0) a1) a2
    · exact congr (congr (congr (congr (congr (congrArg FfnNormRefIdeal.Plain.rounded a0) a1) a2) a3) a4) a5
    · exact congr (congr (congr (congr (congr (congr (congrArg FfnNormRefIdeal.Plain.logits a0) a1) a2) a3) a4) a5) a6

end Cert.FfnNormIdeal.Norm

end
-- ==== Proof.lean ====
/-
  The claims, put together.
-/
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Flash
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Flash
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Flash
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash
public import proofs.«01_k».proof.Proof.Gen.DownRefIdeal
public import proofs.«01_k».proof.Proof.Gen.GmlpIn
public import proofs.«01_k».proof.Proof.Gen.GmlpIn.Skeleton
public import proofs.«01_k».proof.Proof.Gen.GmlpIn.Launch
public import proofs.«01_k».proof.Proof.Gen.GmlpIn.Points
public import proofs.«01_k».proof.Proof.Gen.GmlpIn.Frame
public import proofs.«01_k».proof.Proof.Gen.GmlpInIdeal
public import proofs.«01_k».proof.Proof.Gen.GmlpInIdeal.Skeleton
public import proofs.«01_k».proof.Proof.Gen.GmlpInIdeal.Launch
public import proofs.«01_k».proof.Proof.Gen.GmlpInIdeal.Points
public import proofs.«01_k».proof.Proof.Gen.GmlpInIdeal.Frame
public import proofs.«01_k».proof.Proof.Gen.GmlpInRefIdeal
public import proofs.«01_k».proof.Proof.Gen.GmlpOut
public import proofs.«01_k».proof.Proof.Gen.GmlpOut.Skeleton
public import proofs.«01_k».proof.Proof.Gen.GmlpOut.Launch
public import proofs.«01_k».proof.Proof.Gen.GmlpOut.Points
public import proofs.«01_k».proof.Proof.Gen.GmlpOut.Frame
public import proofs.«01_k».proof.Proof.Gen.GmlpOutIdeal
public import proofs.«01_k».proof.Proof.Gen.GmlpOutIdeal.Skeleton
public import proofs.«01_k».proof.Proof.Gen.GmlpOutIdeal.Launch
public import proofs.«01_k».proof.Proof.Gen.GmlpOutIdeal.Points
public import proofs.«01_k».proof.Proof.Gen.GmlpOutIdeal.Frame
public import proofs.«01_k».proof.Proof.Gen.GmlpOutRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import proofs.«01_k».proof.Proof.Gen.KvNorm
public import proofs.«01_k».proof.Proof.Gen.KvNorm.Skeleton
public import proofs.«01_k».proof.Proof.Gen.KvNorm.Launch
public import proofs.«01_k».proof.Proof.Gen.KvNorm.Points
public import proofs.«01_k».proof.Proof.Gen.KvNorm.Frame
public import proofs.«01_k».proof.Proof.Gen.KvNormIdeal
public import proofs.«01_k».proof.Proof.Gen.KvNormIdeal.Skeleton
public import proofs.«01_k».proof.Proof.Gen.KvNormIdeal.Launch
public import proofs.«01_k».proof.Proof.Gen.KvNormIdeal.Points
public import proofs.«01_k».proof.Proof.Gen.KvNormIdeal.Frame
public import proofs.«01_k».proof.Proof.Gen.KvNormRefIdeal
public import proofs.«01_k».proof.Proof.Gen.FfnNorm
public import proofs.«01_k».proof.Proof.Gen.FfnNorm.Skeleton
public import proofs.«01_k».proof.Proof.Gen.FfnNorm.Launch
public import proofs.«01_k».proof.Proof.Gen.FfnNorm.Points
public import proofs.«01_k».proof.Proof.Gen.FfnNorm.Frame
public import proofs.«01_k».proof.Proof.Gen.FfnNormIdeal
public import proofs.«01_k».proof.Proof.Gen.FfnNormIdeal.Skeleton
public import proofs.«01_k».proof.Proof.Gen.FfnNormIdeal.Launch
public import proofs.«01_k».proof.Proof.Gen.FfnNormIdeal.Points
public import proofs.«01_k».proof.Proof.Gen.FfnNormIdeal.Frame
public import proofs.«01_k».proof.Proof.Gen.FfnNormRefIdeal
public import proofs.«01_k».proof.Proof.Gen.Pre_up_routed
public import proofs.«01_k».proof.Proof.Gen.Pre_down_routed
public import proofs.«01_k».proof.Proof.Up.Claims
public import proofs.«01_k».proof.Proof.Down.Claims
public import proofs.«01_k».proof.Proof.GmlpIn.Claims
public import proofs.«01_k».proof.Proof.GmlpOut.Claims
public import proofs.«01_k».proof.Proof.Kv.Claims
public import proofs.«01_k».proof.Proof.Final.Claims
public import proofs.«01_k».proof.Proof.Sgu.Claims
public import proofs.«01_k».proof.Proof.Query.Claims
public import proofs.«01_k».proof.Proof.AttnOut.Claims
public import proofs.«01_k».proof.Proof.KvNorm.Claims
public import proofs.«01_k».proof.Proof.FfnNorm.Claims
public import Idealize.ShloMosaic.Adequacy
public import Idealize.ShloMosaic.Init

@[expose] public section

noncomputable section

namespace Cert.Proof

open Idealize.ShloMosaic Idealize.SL.Sem

theorem claim : Cert.Claim :=
  ⟨Cert.Up.Gen.facts, Cert.UpIdeal.Gen.facts, Cert.UpRefIdeal.Gen.facts, Cert.Down.Gen.facts, Cert.DownIdeal.Gen.facts,
    Cert.DownRefIdeal.Gen.facts, Cert.GmlpIn.Gen.facts, Cert.GmlpInIdeal.Gen.facts, Cert.GmlpInRefIdeal.Gen.facts,
    Cert.GmlpOut.Gen.facts, Cert.GmlpOutIdeal.Gen.facts, Cert.GmlpOutRefIdeal.Gen.facts, Cert.Kv.Gen.facts, Cert.KvIdeal.Gen.facts,
    Cert.KvRefIdeal.Gen.facts, Cert.Final.Gen.facts, Cert.FinalIdeal.Gen.facts, Cert.FinalRefIdeal.Gen.facts,
    Cert.Sgu.Gen.facts, Cert.SguIdeal.Gen.facts, Cert.SguRefIdeal.Gen.facts, Cert.Query.Gen.facts, Cert.QueryIdeal.Gen.facts,
    Cert.QueryRefIdeal.Gen.facts, Cert.AttnOut.Gen.facts, Cert.AttnOutIdeal.Gen.facts, Cert.AttnOutRefIdeal.Gen.facts,
    Cert.KvNorm.Gen.facts, Cert.KvNormIdeal.Gen.facts, Cert.KvNormRefIdeal.Gen.facts,
    Cert.FfnNorm.Gen.facts, Cert.FfnNormIdeal.Gen.facts, Cert.FfnNormRefIdeal.Gen.facts,
    Cert.Pre_up_routed.Gen.facts, Cert.Pre_down_routed.Gen.facts,
    Cert.UpIdeal.Routed.frame_machine, Cert.UpIdeal.Routed.frame_ideal, Cert.UpIdeal.Routed.frame_reference,
    Cert.UpIdeal.Routed.frame_reference_routed, Cert.DownIdeal.Routed.frame_machine, Cert.DownIdeal.Routed.frame_ideal,
    Cert.DownIdeal.Routed.frame_reference, Cert.DownIdeal.Routed.frame_reference_routed,
    Cert.GmlpInIdeal.Dense.frame_machine, Cert.GmlpInIdeal.Dense.frame_ideal, Cert.GmlpInIdeal.Dense.frame_reference,
    Cert.GmlpOutIdeal.Dense.frame_machine, Cert.GmlpOutIdeal.Dense.frame_ideal, Cert.GmlpOutIdeal.Dense.frame_reference,
    Cert.KvIdeal.Dense.frame_machine, Cert.KvIdeal.Dense.frame_ideal, Cert.KvIdeal.Dense.frame_reference,
    Cert.FinalIdeal.Norm.frame_machine, Cert.FinalIdeal.Norm.frame_ideal, Cert.FinalIdeal.Norm.frame_reference,
    Cert.SguIdeal.Spatial.frame_machine, Cert.SguIdeal.Spatial.frame_ideal, Cert.SguIdeal.Spatial.frame_reference,
    Cert.QueryIdeal.Dense.frame_machine, Cert.QueryIdeal.Dense.frame_ideal, Cert.QueryIdeal.Dense.frame_reference,
    Cert.AttnOutIdeal.Dense.frame_machine, Cert.AttnOutIdeal.Dense.frame_ideal, Cert.AttnOutIdeal.Dense.frame_reference,
    Cert.KvNormIdeal.Norm.frame_machine, Cert.KvNormIdeal.Norm.frame_ideal, Cert.KvNormIdeal.Norm.frame_reference,
    Cert.FfnNormIdeal.Norm.frame_machine, Cert.FfnNormIdeal.Norm.frame_ideal, Cert.FfnNormIdeal.Norm.frame_reference,
    trivial, Cert.UpIdeal.Routed.equal_results, trivial, Cert.DownIdeal.Routed.equal_results,
    trivial, Cert.GmlpInIdeal.Dense.equal_results, trivial, Cert.GmlpOutIdeal.Dense.equal_results,
    trivial, Cert.KvIdeal.Dense.equal_results, trivial, Cert.FinalIdeal.Norm.equal_results,
    trivial, Cert.SguIdeal.Spatial.equal_results, trivial, Cert.QueryIdeal.Dense.equal_results,
    trivial, Cert.AttnOutIdeal.Dense.equal_results, trivial, Cert.KvNormIdeal.Norm.equal_results,
    trivial, Cert.FfnNormIdeal.Norm.equal_results⟩

end Cert.Proof

end
